-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)) (v7 : (c : Dev Cert.Kernel4Ideal.nD) → Buf (Elt Ideal) ((c.tc : Thread Cert.Kernel4Ideal.nD Cert.Kernel4Ideal.τ).loc Cert.Kernel4Ideal.main_v0_7)) (v8 : (c : Dev Cert.Kernel4Ideal.nD) → Buf (Elt Ideal) ((c.tc : Thread Cert.Kernel4Ideal.nD Cert.Kernel4Ideal.τ).loc Cert.Kernel4Ideal.main_v0_8)) (v9 : (c : Dev Cert.Kernel4Ideal.nD) → Buf (Elt Ideal) ((c.tc : Thread Cert.Kernel4Ideal.nD Cert.Kernel4Ideal.τ).loc Cert.Kernel4Ideal.main_v0_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_v0_7) = v7 c
          ∧ r.2.mem ((c.tc : Thread Cert.Kernel4Ideal.nD Cert.Kernel4Ideal.τ).loc Cert.Kernel4Ideal.main_v0_8) = v8 c
          ∧ r.2.mem ((c.tc : Thread Cert.Kernel4Ideal.nD Cert.Kernel4Ideal.τ).loc Cert.Kernel4Ideal.main_v0_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_v64) = v1 c
          ∧ r.2.mem ((c.tc : Thread Cert.Reference4Ideal.nD Cert.Reference4Ideal.τ).loc Cert.Reference4Ideal.main_v65) = v2 c
          ∧ r.2.mem ((c.tc : Thread Cert.Reference4Ideal.nD Cert.Reference4Ideal.τ).loc Cert.Reference4Ideal.main_v66) = v3 c
          ∧ r.2.mem ((c.tc : Thread Cert.Reference4Ideal.nD Cert.Reference4Ideal.τ).loc Cert.Reference4Ideal.main_v67) = v4 c
          ∧ r.2.mem ((c.tc : Thread Cert.Reference4Ideal.nD Cert.Reference4Ideal.τ).loc Cert.Reference4Ideal.main_v68) = v5 c
          ∧ r.2.mem ((c.tc : Thread Cert.Reference4Ideal.nD Cert.Reference4Ideal.τ).loc Cert.Reference4Ideal.main_v69) = v6 c
          ∧ r.2.mem ((c.tc : Thread Cert.Reference4Ideal.nD Cert.Reference4Ideal.τ).loc Cert.Reference4Ideal.main_v70) = v7 c
          ∧ r.2.mem ((c.tc : Thread Cert.Reference4Ideal.nD Cert.Reference4Ideal.τ).loc Cert.Reference4Ideal.main_v71) = v8 c
          ∧ r.2.mem ((c.tc : Thread Cert.Reference4Ideal.nD Cert.Reference4Ideal.τ).loc Cert.Reference4Ideal.main_v72) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)) (v7 : (c : Dev Cert.Kernel5Ideal.nD) → Buf (Elt Ideal) ((c.tc : Thread Cert.Kernel5Ideal.nD Cert.Kernel5Ideal.τ).loc Cert.Kernel5Ideal.main_v0_7)) (v8 : (c : Dev Cert.Kernel5Ideal.nD) → Buf (Elt Ideal) ((c.tc : Thread Cert.Kernel5Ideal.nD Cert.Kernel5Ideal.τ).loc Cert.Kernel5Ideal.main_v0_8)) (v9 : (c : Dev Cert.Kernel5Ideal.nD) → Buf (Elt Ideal) ((c.tc : Thread Cert.Kernel5Ideal.nD Cert.Kernel5Ideal.τ).loc Cert.Kernel5Ideal.main_v0_9)) (v10 : (c : Dev Cert.Kernel5Ideal.nD) → Buf (Elt Ideal) ((c.tc : Thread Cert.Kernel5Ideal.nD Cert.Kernel5Ideal.τ).loc Cert.Kernel5Ideal.main_v0_10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_v0_7) = v7 c
          ∧ r.2.mem ((c.tc : Thread Cert.Kernel5Ideal.nD Cert.Kernel5Ideal.τ).loc Cert.Kernel5Ideal.main_v0_8) = v8 c
          ∧ r.2.mem ((c.tc : Thread Cert.Kernel5Ideal.nD Cert.Kernel5Ideal.τ).loc Cert.Kernel5Ideal.main_v0_9) = v9 c
          ∧ r.2.mem ((c.tc : Thread Cert.Kernel5Ideal.nD Cert.Kernel5Ideal.τ).loc Cert.Kernel5Ideal.main_v0_10) = v10 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_v70) = v1 c
          ∧ r.2.mem ((c.tc : Thread Cert.Reference5Ideal.nD Cert.Reference5Ideal.τ).loc Cert.Reference5Ideal.main_v71) = v2 c
          ∧ r.2.mem ((c.tc : Thread Cert.Reference5Ideal.nD Cert.Reference5Ideal.τ).loc Cert.Reference5Ideal.main_v72) = v3 c
          ∧ r.2.mem ((c.tc : Thread Cert.Reference5Ideal.nD Cert.Reference5Ideal.τ).loc Cert.Reference5Ideal.main_v50) = v4 c
          ∧ r.2.mem ((c.tc : Thread Cert.Reference5Ideal.nD Cert.Reference5Ideal.τ).loc Cert.Reference5Ideal.main_v73) = v5 c
          ∧ r.2.mem ((c.tc : Thread Cert.Reference5Ideal.nD Cert.Reference5Ideal.τ).loc Cert.Reference5Ideal.main_v74) = v6 c
          ∧ r.2.mem ((c.tc : Thread Cert.Reference5Ideal.nD Cert.Reference5Ideal.τ).loc Cert.Reference5Ideal.main_v75) = v7 c
          ∧ r.2.mem ((c.tc : Thread Cert.Reference5Ideal.nD Cert.Reference5Ideal.τ).loc Cert.Reference5Ideal.main_v76) = v8 c
          ∧ r.2.mem ((c.tc : Thread Cert.Reference5Ideal.nD Cert.Reference5Ideal.τ).loc Cert.Reference5Ideal.main_v77) = v9 c
          ∧ r.2.mem ((c.tc : Thread Cert.Reference5Ideal.nD Cert.Reference5Ideal.τ).loc Cert.Reference5Ideal.main_v78) = v10 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)) (v8 : (c : Dev Cert.Kernel6Ideal.nD) → Buf (Elt Ideal) ((c.tc : Thread Cert.Kernel6Ideal.nD Cert.Kernel6Ideal.τ).loc Cert.Kernel6Ideal.main_v0_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_v0_8) = v8 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_v57) = v1 c
          ∧ r.2.mem ((c.tc : Thread Cert.Reference6Ideal.nD Cert.Reference6Ideal.τ).loc Cert.Reference6Ideal.main_v58) = v2 c
          ∧ r.2.mem ((c.tc : Thread Cert.Reference6Ideal.nD Cert.Reference6Ideal.τ).loc Cert.Reference6Ideal.main_v59) = v3 c
          ∧ r.2.mem ((c.tc : Thread Cert.Reference6Ideal.nD Cert.Reference6Ideal.τ).loc Cert.Reference6Ideal.main_v60) = v4 c
          ∧ r.2.mem ((c.tc : Thread Cert.Reference6Ideal.nD Cert.Reference6Ideal.τ).loc Cert.Reference6Ideal.main_v61) = v5 c
          ∧ r.2.mem ((c.tc : Thread Cert.Reference6Ideal.nD Cert.Reference6Ideal.τ).loc Cert.Reference6Ideal.main_v62) = v6 c
          ∧ r.2.mem ((c.tc : Thread Cert.Reference6Ideal.nD Cert.Reference6Ideal.τ).loc Cert.Reference6Ideal.main_v63) = v7 c
          ∧ r.2.mem ((c.tc : Thread Cert.Reference6Ideal.nD Cert.Reference6Ideal.τ).loc Cert.Reference6Ideal.main_v64) = v8 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)) (v6 : (c : Dev Cert.Kernel7Ideal.nD) → Buf (Elt Ideal) ((c.tc : Thread Cert.Kernel7Ideal.nD Cert.Kernel7Ideal.τ).loc Cert.Kernel7Ideal.main_v0_6)) (v7 : (c : Dev Cert.Kernel7Ideal.nD) → Buf (Elt Ideal) ((c.tc : Thread Cert.Kernel7Ideal.nD Cert.Kernel7Ideal.τ).loc Cert.Kernel7Ideal.main_v0_7)) (v8 : (c : Dev Cert.Kernel7Ideal.nD) → Buf (Elt Ideal) ((c.tc : Thread Cert.Kernel7Ideal.nD Cert.Kernel7Ideal.τ).loc Cert.Kernel7Ideal.main_v0_8)) (v9 : (c : Dev Cert.Kernel7Ideal.nD) → Buf (Elt Ideal) ((c.tc : Thread Cert.Kernel7Ideal.nD Cert.Kernel7Ideal.τ).loc Cert.Kernel7Ideal.main_v0_9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_v0_6) = v6 c
          ∧ r.2.mem ((c.tc : Thread Cert.Kernel7Ideal.nD Cert.Kernel7Ideal.τ).loc Cert.Kernel7Ideal.main_v0_7) = v7 c
          ∧ r.2.mem ((c.tc : Thread Cert.Kernel7Ideal.nD Cert.Kernel7Ideal.τ).loc Cert.Kernel7Ideal.main_v0_8) = v8 c
          ∧ r.2.mem ((c.tc : Thread Cert.Kernel7Ideal.nD Cert.Kernel7Ideal.τ).loc Cert.Kernel7Ideal.main_v0_9) = v9 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_v45) = v1 c
          ∧ r.2.mem ((c.tc : Thread Cert.Reference7Ideal.nD Cert.Reference7Ideal.τ).loc Cert.Reference7Ideal.main_v46) = v2 c
          ∧ r.2.mem ((c.tc : Thread Cert.Reference7Ideal.nD Cert.Reference7Ideal.τ).loc Cert.Reference7Ideal.main_v24) = v3 c
          ∧ r.2.mem ((c.tc : Thread Cert.Reference7Ideal.nD Cert.Reference7Ideal.τ).loc Cert.Reference7Ideal.main_v47) = v4 c
          ∧ r.2.mem ((c.tc : Thread Cert.Reference7Ideal.nD Cert.Reference7Ideal.τ).loc Cert.Reference7Ideal.main_v48) = v5 c
          ∧ r.2.mem ((c.tc : Thread Cert.Reference7Ideal.nD Cert.Reference7Ideal.τ).loc Cert.Reference7Ideal.main_v49) = v6 c
          ∧ r.2.mem ((c.tc : Thread Cert.Reference7Ideal.nD Cert.Reference7Ideal.τ).loc Cert.Reference7Ideal.main_v50) = v7 c
          ∧ r.2.mem ((c.tc : Thread Cert.Reference7Ideal.nD Cert.Reference7Ideal.τ).loc Cert.Reference7Ideal.main_v51) = v8 c
          ∧ r.2.mem ((c.tc : Thread Cert.Reference7Ideal.nD Cert.Reference7Ideal.τ).loc Cert.Reference7Ideal.main_v52) = v9 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_logits.lean ====
abbrev S32x1024x512 : Shape := ⟨3, ![32, 1024, 512]⟩
abbrev S4x4096x1024 : Shape := ⟨3, ![4, 4096, 1024]⟩
abbrev S1024x16384 : Shape := ⟨2, ![1024, 16384]⟩
abbrev S32x128x512 : Shape := ⟨3, ![32, 128, 512]⟩
abbrev S4x4096x128 : Shape := ⟨3, ![4, 4096, 128]⟩
abbrev S_ : Shape := ⟨0, ![]⟩
abbrev S1 : Shape := ⟨1, ![1]⟩
abbrev S4 : Shape := ⟨1, ![4]⟩

class Facts : Prop where
  bitsLt_bf16_f32 : FTy.bits .bf16 < FTy.bits .f32
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S32x128x512 : S_.BroadcastsInDim S32x128x512 (![] : Fin 0 → Fin S32x128x512.rank)
  reducesTo_S32x128x512_S_d0_1_2 : S32x128x512.ReducesTo [0, 1, 2] S_
  bcast_S_S4x4096x128 : S_.BroadcastsInDim S4x4096x128 (![] : Fin 0 → Fin S4x4096x128.rank)
  reducesTo_S4x4096x128_S_d0_1_2 : S4x4096x128.ReducesTo [0, 1, 2] S_
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_v4 : IVec S_ 1) (main_v9 : IVec S_ 1) (main_v14 : IVec S_ 1) (main_v16 : FVec F S4x4096x128 .f32) (main_cst_4 : FVec F S_ .f32) : IVec S4 1 :=
  let main_v17 : FVec F S4x4096x128 .f32 := broadcastInDim S4x4096x128 ![] bcast_S_S4x4096x128 main_cst_4
  let main_v18 : IVec S4x4096x128 1 := cmpf .olt main_v16 main_v17
  let main_c_5 : IVec S_ 1 := constantI S_ 1 1#1
  let main_v19 : IVec S_ 1 := (fun x v => Host.reduce IntOp.andi x v reducesTo_S4x4096x128_S_d0_1_2 h_S_) main_v18 main_c_5
  let main_v20 : IVec S1 1 := broadcastInDim S1 ![] bcast_S_S1 main_v4
  let main_v21 : IVec S1 1 := broadcastInDim S1 ![] bcast_S_S1 main_v9
  let main_v22 : IVec S1 1 := broadcastInDim S1 ![] bcast_S_S1 main_v14
  let main_v23 : IVec S1 1 := broadcastInDim S1 ![] bcast_S_S1 main_v19
  let main_v24 : IVec S4 1 := concatenate S4 0 [⟨S1, main_v20⟩, ⟨S1, main_v21⟩, ⟨S1, main_v22⟩, ⟨S1, main_v23⟩] concatenates_S1_S1_S1_S1_S4_d0
  main_v24

def fn {F : FTy → Type} [FloatOps F] (main_arg0 : FVec F S32x1024x512 .bf16) (main_arg1 : FVec F S4x4096x1024 .bf16) (main_arg2 : FVec F S1024x16384 .bf16) (main_arg3 : FVec F S32x128x512 .bf16) (main_arg4 : FVec F S4x4096x128 .bf16) : IVec S4 1 :=
  let main_v0 : FVec F S32x1024x512 .f32 := (extf .f32 · bitsLt_bf16_f32) main_arg0
  let main_v1 : FVec F S32x1024x512 .f32 := Host.absf main_v0
  let main_cst : FVec F S_ .f32 := constant S_ .f32 0x7F800000#32
  let main_v2 : FVec F S32x1024x512 .f32 := broadcastInDim S32x1024x512 ![] bcast_S_S32x1024x512 main_cst
  let main_v3 : IVec S32x1024x512 1 := cmpf .olt main_v1 main_v2
  let main_c : IVec S_ 1 := constantI S_ 1 1#1
  let main_v4 : IVec S_ 1 := (fun x v => Host.reduce IntOp.andi x v reducesTo_S32x1024x512_S_d0_1_2 h_S_) main_v3 main_c
  let main_v5 : FVec F S4x4096x1024 .f32 := (extf .f32 · bitsLt_bf16_f32) main_arg1
  let main_v6 : FVec F S4x4096x1024 .f32 := Host.absf main_v5
  let main_cst_0 : FVec F S_ .f32 := constant S_ .f32 0x7F800000#32
  let main_v7 : FVec F S4x4096x1024 .f32 := broadcastInDim S4x4096x1024 ![] bcast_S_S4x4096x1024 main_cst_0
  let main_v8 : IVec S4x4096x1024 1 := cmpf .olt main_v6 main_v7
  let main_c_1 : IVec S_ 1 := constantI S_ 1 1#1
  let main_v9 : IVec S_ 1 := (fun x v => Host.reduce IntOp.andi x v reducesTo_S4x4096x1024_S_d0_1_2 h_S_) main_v8 main_c_1
  let main_v10 : FVec F S32x128x512 .f32 := (extf .f32 · bitsLt_bf16_f32) main_arg3
  let main_v11 : FVec F S32x128x512 .f32 := Host.absf main_v10
  let main_cst_2 : FVec F S_ .f32 := constant S_ .f32 0x7F800000#32
  let main_v12 : FVec F S32x128x512 .f32 := broadcastInDim S32x128x512 ![] bcast_S_S32x128x512 main_cst_2
  let main_v13 : IVec S32x128x512 1 := cmpf .olt main_v11 main_v12
  let main_c_3 : IVec S_ 1 := constantI S_ 1 1#1
  let main_v14 : IVec S_ 1 := (fun x v => Host.reduce IntOp.andi x v reducesTo_S32x128x512_S_d0_1_2 h_S_) main_v13 main_c_3
  let main_v15 : FVec F S4x4096x128 .f32 := (extf .f32 · bitsLt_bf16_f32) main_arg4
  let main_v16 : FVec F S4x4096x128 .f32 := Host.absf main_v15
  let main_cst_4 : FVec F S_ .f32 := constant S_ .f32 0x7F800000#32
  fn_part1 (F := F) main_v4 main_v9 main_v14 main_v16 main_cst_4
-- ==== Kernel.lean ====
abbrev S32x1024x512 : Shape := ⟨3, ![32, 1024, 512]⟩
abbrev S4x4096x1024 : Shape := ⟨3, ![4, 4096, 1024]⟩
abbrev S1024x16384 : Shape := ⟨2, ![1024, 16384]⟩
abbrev S32x128x512 : Shape := ⟨3, ![32, 128, 512]⟩
abbrev S4x4096x128 : Shape := ⟨3, ![4, 4096, 128]⟩
abbrev S8x128x512 : Shape := ⟨3, ![8, 128, 512]⟩
abbrev S1x4096x128 : Shape := ⟨3, ![1, 4096, 128]⟩
abbrev S128x4096 : Shape := ⟨2, ![128, 4096]⟩
abbrev S2x8x80x512 : Shape := ⟨4, ![2, 8, 80, 512]⟩
abbrev S2x2x512x640 : Shape := ⟨4, ![2, 2, 512, 640]⟩
abbrev S2x2x1x512 : Shape := ⟨4, ![2, 2, 1, 512]⟩
abbrev S2x512x512 : Shape := ⟨3, ![2, 512, 512]⟩
abbrev S2x1x512 : Shape := ⟨3, ![2, 1, 512]⟩
abbrev S2x80x512 : Shape := ⟨3, ![2, 80, 512]⟩
abbrev S16x512 : Shape := ⟨2, ![16, 512]⟩
abbrev S64x512 : Shape := ⟨2, ![64, 512]⟩
abbrev S80x512 : Shape := ⟨2, ![80, 512]⟩
abbrev S1x1x80x512 : Shape := ⟨4, ![1, 1, 80, 512]⟩
abbrev S128x1 : Shape := ⟨2, ![128, 1]⟩
abbrev S1x128x512 : Shape := ⟨3, ![1, 128, 512]⟩
abbrev S128x512 : Shape := ⟨2, ![128, 512]⟩
abbrev S256x512 : Shape := ⟨2, ![256, 512]⟩
abbrev S1x512x128 : Shape := ⟨3, ![1, 512, 128]⟩
abbrev S512x128 : Shape := ⟨2, ![512, 128]⟩
abbrev S512x256 : Shape := ⟨2, ![512, 256]⟩
abbrev S512x512 : Shape := ⟨2, ![512, 512]⟩
abbrev S1x1x512x512 : Shape := ⟨4, ![1, 1, 512, 512]⟩
abbrev S512 : Shape := ⟨1, ![512]⟩
abbrev S1x512 : Shape := ⟨2, ![1, 512]⟩
abbrev S1x1x1x512 : Shape := ⟨4, ![1, 1, 1, 512]⟩
abbrev S1x1x512 : Shape := ⟨3, ![1, 1, 512]⟩
abbrev S1x80x512 : Shape := ⟨3, ![1, 80, 512]⟩
abbrev S1x512x512 : Shape := ⟨3, ![1, 512, 512]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S80x256 : Shape := ⟨2, ![80, 256]⟩
abbrev S1x1x256 : Shape := ⟨3, ![1, 1, 256]⟩
abbrev S1x80x256 : Shape := ⟨3, ![1, 80, 256]⟩
abbrev S1x512x256 : Shape := ⟨3, ![1, 512, 256]⟩

abbrev nBuf : Space → Nat
  | .hbm => 6
  | .vmem => 18
  | .smem => 0
  | _ => 0

abbrev bufTy : (tb : Table) → Fin (tcTables nBuf tb) → BufTy
  | .hbm, ⟨0, _⟩ => ⟨S32x1024x512, .bf16⟩
  | .hbm, ⟨1, _⟩ => ⟨S4x4096x1024, .bf16⟩
  | .hbm, ⟨2, _⟩ => ⟨S1024x16384, .bf16⟩
  | .hbm, ⟨3, _⟩ => ⟨S32x128x512, .bf16⟩
  | .hbm, ⟨4, _⟩ => ⟨S4x4096x128, .bf16⟩
  | .hbm, ⟨5, _⟩ => ⟨S32x1024x512, .bf16⟩
  | .local _ .vmem, ⟨0, _⟩ => ⟨S8x128x512, .bf16⟩
  | .local _ .vmem, ⟨1, _⟩ => ⟨S8x128x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S128x4096, .bf16⟩
  | .local _ .vmem, ⟨5, _⟩ => ⟨S128x4096, .bf16⟩
  | .local _ .vmem, ⟨6, _⟩ => ⟨S8x128x512, .bf16⟩
  | .local _ .vmem, ⟨7, _⟩ => ⟨S8x128x512, .bf16⟩
  | .local _ .vmem, ⟨8, _⟩ => ⟨S1x4096x128, .bf16⟩
  | .local _ .vmem, ⟨9, _⟩ => ⟨S1x4096x128, .bf16⟩
  | .local _ .vmem, ⟨10, _⟩ => ⟨S8x128x512, .bf16⟩
  | .local _ .vmem, ⟨11, _⟩ => ⟨S8x128x512, .bf16⟩
  | .local _ .vmem, ⟨12, _⟩ => ⟨S2x8x80x512, .bf16⟩
  | .local _ .vmem, ⟨13, _⟩ => ⟨S2x2x512x640, .f32⟩
  | .local _ .vmem, ⟨14, _⟩ => ⟨S2x2x1x512, .f32⟩
  | .local _ .vmem, ⟨15, _⟩ => ⟨S2x512x512, .f32⟩
  | .local _ .vmem, ⟨16, _⟩ => ⟨S2x1x512, .f32⟩
  | .local _ .vmem, ⟨17, _⟩ => ⟨S2x80x512, .f32⟩
  | _, _ => ⟨S32x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_81 : BitVec 32 := 0#32
  let c8_i32 : BitVec 32 := 8#32
  let v87 : BitVec 32 := Scalar.addi c0_i32_81 c8_i32
  let c1_i32 : BitVec 32 := 1#32
  ⟨c0_i32_81, v87, c1_i32⟩
def k0_off1 (k0_t1 : Fin k0_t1_loop.trips) : Fin 3 → Nat :=
  let c0_i32_81 : BitVec 32 := 0#32
  let c1_i32 : BitVec 32 := 1#32
  let arg14 : BitVec 32 := Scf.iv c0_i32_81 c1_i32 k0_t1
  let v89 : Index := Scalar.indexCast arg14
  let c0_83 : Index := 0#32
  let c0_84 : Index := 0#32
  ![v89.toNat, 0, 0]
@[reducible] def k0_t2_loop (k0_t1 : Fin k0_t1_loop.trips) : Scf.Loop 32 :=
  let c0_i32_117 : BitVec 32 := 0#32
  let c0_i32_81 : BitVec 32 := 0#32
  let c1_i32 : BitVec 32 := 1#32
  let arg14 : BitVec 32 := Scf.iv c0_i32_81 c1_i32 k0_t1
  let c1_i32_107 : BitVec 32 := 1#32
  let v145 : BitVec 32 := Scalar.subi arg14 c1_i32_107
  let c0_i32_108 : BitVec 32 := 0#32
  let v146 : BitVec 32 := Scalar.maxsi v145 c0_i32_108
  let c0_i32_110 : BitVec 32 := 0#32
  let v148 : BitVec 1 := Scalar.cmpi .sgt v146 c0_i32_110
  let v149 : BitVec 32 := Scalar.extui v148
  let c0_i32_111 : BitVec 32 := 0#32
  let v150 : BitVec 1 := Scalar.cmpi .slt v146 c0_i32_111
  let v151 : BitVec 32 := Scalar.extui v150
  let v152 : BitVec 32 := Scalar.subi v149 v151
  let c2_i32_109 : BitVec 32 := 2#32
  let c0_i32_112 : BitVec 32 := 0#32
  let v153 : BitVec 1 := Scalar.cmpi .sgt c2_i32_109 c0_i32_112
  let v154 : BitVec 32 := Scalar.extui v153
  let c0_i32_113 : BitVec 32 := 0#32
  let v155 : BitVec 1 := Scalar.cmpi .slt c2_i32_109 c0_i32_113
  let v156 : BitVec 32 := Scalar.extui v155
  let v157 : BitVec 32 := Scalar.subi v154 v156
  let v158 : BitVec 1 := Scalar.cmpi .ne v152 v157
  let v159 : BitVec 32 := Scalar.remsi v146 c2_i32_109
  let c0_i32_114 : BitVec 32 := 0#32
  let v160 : BitVec 1 := Scalar.cmpi .ne v159 c0_i32_114
  let v161 : BitVec 1 := Scalar.andi v158 v160
  let v147 : BitVec 32 := Scalar.divsi v146 c2_i32_109
  let c1_i32_115 : BitVec 32 := 1#32
  let v162 : BitVec 32 := Scalar.subi v147 c1_i32_115
  let v163 : BitVec 32 := Scalar.select v161 v162 v147
  let v164 : BitVec 32 := Scalar.subi v163 c0_i32_117
  let c1_i32_118 : BitVec 32 := 1#32
  let v166 : BitVec 32 := Scalar.divsi v164 c1_i32_118
  let v167 : BitVec 32 := Scalar.muli v166 c1_i32_118
  let v168 : BitVec 32 := Scalar.addi c0_i32_117 v167
  let c1_i32_119 : BitVec 32 := 1#32
  ⟨c0_i32_117, v168, c1_i32_119⟩
def k0_mult1 (k0_t1 : Fin k0_t1_loop.trips) (k0_t2 : Fin (k0_t2_loop k0_t1).trips) : BitVec 32 :=
  let c2_i32_148 : BitVec 32 := 2#32
  let c0_i32_117 : BitVec 32 := 0#32
  let c1_i32_119 : BitVec 32 := 1#32
  let arg15 : BitVec 32 := Scf.iv c0_i32_117 c1_i32_119 k0_t2
  let v218 : BitVec 32 := Scalar.muli c2_i32_148 arg15
  let c1_i32_149 : BitVec 32 := 1#32
  let v219 : BitVec 32 := Scalar.addi v218 c1_i32_149
  let c512_i32 : BitVec 32 := 512#32
  let v220 : BitVec 32 := Scalar.muli v219 c512_i32
  v220
def k0_off2 (k0_t1 : Fin k0_t1_loop.trips) (k0_t2 : Fin (k0_t2_loop k0_t1).trips) (c1_i32_149 : BitVec 32) : Fin 3 → Nat :=
  let c0_150 : Index := 0#32
  let c2_i32_148 : BitVec 32 := 2#32
  let c0_i32_117 : BitVec 32 := 0#32
  let c1_i32_119 : BitVec 32 := 1#32
  let arg15 : BitVec 32 := Scf.iv c0_i32_117 c1_i32_119 k0_t2
  let v218 : BitVec 32 := Scalar.muli c2_i32_148 arg15
  let v219 : BitVec 32 := Scalar.addi v218 c1_i32_149
  let c512_i32 : BitVec 32 := 512#32
  let v220 : BitVec 32 := Scalar.muli v219 c512_i32
  let v221 : BitVec 32 := v220
  let v222 : Index := Scalar.indexCast v221
  let c0_151 : Index := 0#32
  ![0, v222.toNat, 0]
def k0_off3 (k0_t1 : Fin k0_t1_loop.trips) (k0_t2 : Fin (k0_t2_loop k0_t1).trips) : Fin 4 → Nat :=
  let c0_172 : Index := 0#32
  let c2_i32_148 : BitVec 32 := 2#32
  let c0_i32_117 : BitVec 32 := 0#32
  let c1_i32_119 : BitVec 32 := 1#32
  let arg15 : BitVec 32 := Scf.iv c0_i32_117 c1_i32_119 k0_t2
  let v218 : BitVec 32 := Scalar.muli c2_i32_148 arg15
  let v242 : Index := Scalar.indexCast v218
  let c0_173 : Index := 0#32
  let c0_174 : Index := 0#32
  ![0, v242.toNat, 0, 0]
def k0_mult2 (k0_t1 : Fin k0_t1_loop.trips) (k0_t2 : Fin (k0_t2_loop k0_t1).trips) : BitVec 32 :=
  let c2_i32_148 : BitVec 32 := 2#32
  let c0_i32_117 : BitVec 32 := 0#32
  let c1_i32_119 : BitVec 32 := 1#32
  let arg15 : BitVec 32 := Scf.iv c0_i32_117 c1_i32_119 k0_t2
  let v218 : BitVec 32 := Scalar.muli c2_i32_148 arg15
  let c1_i32_149 : BitVec 32 := 1#32
  let v219 : BitVec 32 := Scalar.addi v218 c1_i32_149
  let c512_i32_190 : BitVec 32 := 512#32
  let v270 : BitVec 32 := Scalar.muli v219 c512_i32_190
  v270
def k0_off4 (k0_t1 : Fin k0_t1_loop.trips) (k0_t2 : Fin (k0_t2_loop k0_t1).trips) : Fin 4 → Nat :=
  let c1_213 : Index := 1#32
  let c2_i32_148 : BitVec 32 := 2#32
  let c0_i32_117 : BitVec 32 := 0#32
  let c1_i32_119 : BitVec 32 := 1#32
  let arg15 : BitVec 32 := Scf.iv c0_i32_117 c1_i32_119 k0_t2
  let v218 : BitVec 32 := Scalar.muli c2_i32_148 arg15
  let v292 : Index := Scalar.indexCast v218
  let c0_214 : Index := 0#32
  let c0_215 : Index := 0#32
  ![1, v292.toNat, 0, 0]
def k0_mult3 (k0_t1 : Fin k0_t1_loop.trips) (k0_t2 : Fin (k0_t2_loop k0_t1).trips) : BitVec 32 :=
  let c2_i32_148 : BitVec 32 := 2#32
  let c0_i32_117 : BitVec 32 := 0#32
  let c1_i32_119 : BitVec 32 := 1#32
  let arg15 : BitVec 32 := Scf.iv c0_i32_117 c1_i32_119 k0_t2
  let v218 : BitVec 32 := Scalar.muli c2_i32_148 arg15
  let c2_i32_231 : BitVec 32 := 2#32
  let v320 : BitVec 32 := Scalar.addi v218 c2_i32_231
  let c512_i32_233 : BitVec 32 := 512#32
  let v322 : BitVec 32 := Scalar.muli v320 c512_i32_233
  v322
def k0_off5 (k0_t1 : Fin k0_t1_loop.trips) (k0_t2 : Fin (k0_t2_loop k0_t1).trips) : Fin 4 → Nat :=
  let c0_256 : Index := 0#32
  let c2_i32_148 : BitVec 32 := 2#32
  let c0_i32_117 : BitVec 32 := 0#32
  let c1_i32_119 : BitVec 32 := 1#32
  let arg15 : BitVec 32 := Scf.iv c0_i32_117 c1_i32_119 k0_t2
  let v218 : BitVec 32 := Scalar.muli c2_i32_148 arg15
  let c1_i32_232 : BitVec 32 := 1#32
  let v321 : BitVec 32 := Scalar.addi v218 c1_i32_232
  let v344 : Index := Scalar.indexCast v321
  let c0_257 : Index := 0#32
  let c0_258 : Index := 0#32
  ![0, v344.toNat, 0, 0]
def k0_mult4 (k0_t1 : Fin k0_t1_loop.trips) (k0_t2 : Fin (k0_t2_loop k0_t1).trips) : BitVec 32 :=
  let c2_i32_148 : BitVec 32 := 2#32
  let c0_i32_117 : BitVec 32 := 0#32
  let c1_i32_119 : BitVec 32 := 1#32
  let arg15 : BitVec 32 := Scf.iv c0_i32_117 c1_i32_119 k0_t2
  let v218 : BitVec 32 := Scalar.muli c2_i32_148 arg15
  let c2_i32_231 : BitVec 32 := 2#32
  let v320 : BitVec 32 := Scalar.addi v218 c2_i32_231
  let c512_i32_274 : BitVec 32 := 512#32
  let v372 : BitVec 32 := Scalar.muli v320 c512_i32_274
  v372
def k0_off6 (k0_t1 : Fin k0_t1_loop.trips) (k0_t2 : Fin (k0_t2_loop k0_t1).trips) : Fin 4 → Nat :=
  let c1_297 : Index := 1#32
  let c2_i32_148 : BitVec 32 := 2#32
  let c0_i32_117 : BitVec 32 := 0#32
  let c1_i32_119 : BitVec 32 := 1#32
  let arg15 : BitVec 32 := Scf.iv c0_i32_117 c1_i32_119 k0_t2
  let v218 : BitVec 32 := Scalar.muli c2_i32_148 arg15
  let c1_i32_232 : BitVec 32 := 1#32
  let v321 : BitVec 32 := Scalar.addi v218 c1_i32_232
  let v394 : Index := Scalar.indexCast v321
  let c0_298 : Index := 0#32
  let c0_299 : Index := 0#32
  ![1, v394.toNat, 0, 0]
@[reducible] def k0_t3_loop (k0_t1 : Fin k0_t1_loop.trips) : Scf.Loop 32 :=
  let c0_i32_117 : BitVec 32 := 0#32
  let c0_i32_81 : BitVec 32 := 0#32
  let c1_i32 : BitVec 32 := 1#32
  let arg14 : BitVec 32 := Scf.iv c0_i32_81 c1_i32 k0_t1
  let c1_i32_107 : BitVec 32 := 1#32
  let v145 : BitVec 32 := Scalar.subi arg14 c1_i32_107
  let c0_i32_108 : BitVec 32 := 0#32
  let v146 : BitVec 32 := Scalar.maxsi v145 c0_i32_108
  let c0_i32_110 : BitVec 32 := 0#32
  let v148 : BitVec 1 := Scalar.cmpi .sgt v146 c0_i32_110
  let v149 : BitVec 32 := Scalar.extui v148
  let c0_i32_111 : BitVec 32 := 0#32
  let v150 : BitVec 1 := Scalar.cmpi .slt v146 c0_i32_111
  let v151 : BitVec 32 := Scalar.extui v150
  let v152 : BitVec 32 := Scalar.subi v149 v151
  let c2_i32_109 : BitVec 32 := 2#32
  let c0_i32_112 : BitVec 32 := 0#32
  let v153 : BitVec 1 := Scalar.cmpi .sgt c2_i32_109 c0_i32_112
  let v154 : BitVec 32 := Scalar.extui v153
  let c0_i32_113 : BitVec 32 := 0#32
  let v155 : BitVec 1 := Scalar.cmpi .slt c2_i32_109 c0_i32_113
  let v156 : BitVec 32 := Scalar.extui v155
  let v157 : BitVec 32 := Scalar.subi v154 v156
  let v158 : BitVec 1 := Scalar.cmpi .ne v152 v157
  let v159 : BitVec 32 := Scalar.remsi v146 c2_i32_109
  let c0_i32_114 : BitVec 32 := 0#32
  let v160 : BitVec 1 := Scalar.cmpi .ne v159 c0_i32_114
  let v161 : BitVec 1 := Scalar.andi v158 v160
  let v147 : BitVec 32 := Scalar.divsi v146 c2_i32_109
  let c1_i32_115 : BitVec 32 := 1#32
  let v162 : BitVec 32 := Scalar.subi v147 c1_i32_115
  let v163 : BitVec 32 := Scalar.select v161 v162 v147
  let v164 : BitVec 32 := Scalar.subi v163 c0_i32_117
  let c1_i32_118 : BitVec 32 := 1#32
  let v166 : BitVec 32 := Scalar.divsi v164 c1_i32_118
  let v167 : BitVec 32 := Scalar.muli v166 c1_i32_118
  let v168 : BitVec 32 := Scalar.addi c0_i32_117 v167
  let v165 : BitVec 32 := Scalar.addi c0_i32_117 v164
  let c1_i32_120 : BitVec 32 := 1#32
  ⟨v168, v165, c1_i32_120⟩
def k0_mult5 (k0_t1 : Fin k0_t1_loop.trips) (k0_t3 : Fin (k0_t3_loop k0_t1).trips) : BitVec 32 :=
  let c2_i32_148 : BitVec 32 := 2#32
  let c0_i32_117 : BitVec 32 := 0#32
  let c0_i32_81 : BitVec 32 := 0#32
  let c1_i32 : BitVec 32 := 1#32
  let arg14 : BitVec 32 := Scf.iv c0_i32_81 c1_i32 k0_t1
  let c1_i32_107 : BitVec 32 := 1#32
  let v145 : BitVec 32 := Scalar.subi arg14 c1_i32_107
  let c0_i32_108 : BitVec 32 := 0#32
  let v146 : BitVec 32 := Scalar.maxsi v145 c0_i32_108
  let c0_i32_110 : BitVec 32 := 0#32
  let v148 : BitVec 1 := Scalar.cmpi .sgt v146 c0_i32_110
  let v149 : BitVec 32 := Scalar.extui v148
  let c0_i32_111 : BitVec 32 := 0#32
  let v150 : BitVec 1 := Scalar.cmpi .slt v146 c0_i32_111
  let v151 : BitVec 32 := Scalar.extui v150
  let v152 : BitVec 32 := Scalar.subi v149 v151
  let c2_i32_109 : BitVec 32 := 2#32
  let c0_i32_112 : BitVec 32 := 0#32
  let v153 : BitVec 1 := Scalar.cmpi .sgt c2_i32_109 c0_i32_112
  let v154 : BitVec 32 := Scalar.extui v153
  let c0_i32_113 : BitVec 32 := 0#32
  let v155 : BitVec 1 := Scalar.cmpi .slt c2_i32_109 c0_i32_113
  let v156 : BitVec 32 := Scalar.extui v155
  let v157 : BitVec 32 := Scalar.subi v154 v156
  let v158 : BitVec 1 := Scalar.cmpi .ne v152 v157
  let v159 : BitVec 32 := Scalar.remsi v146 c2_i32_109
  let c0_i32_114 : BitVec 32 := 0#32
  let v160 : BitVec 1 := Scalar.cmpi .ne v159 c0_i32_114
  let v161 : BitVec 1 := Scalar.andi v158 v160
  let v147 : BitVec 32 := Scalar.divsi v146 c2_i32_109
  let c1_i32_115 : BitVec 32 := 1#32
  let v162 : BitVec 32 := Scalar.subi v147 c1_i32_115
  let v163 : BitVec 32 := Scalar.select v161 v162 v147
  let v164 : BitVec 32 := Scalar.subi v163 c0_i32_117
  let c1_i32_118 : BitVec 32 := 1#32
  let v166 : BitVec 32 := Scalar.divsi v164 c1_i32_118
  let v167 : BitVec 32 := Scalar.muli v166 c1_i32_118
  let v168 : BitVec 32 := Scalar.addi c0_i32_117 v167
  let c1_i32_120 : BitVec 32 := 1#32
  let arg15 : BitVec 32 := Scf.iv v168 c1_i32_120 k0_t3
  let v218 : BitVec 32 := Scalar.muli c2_i32_148 arg15
  let c1_i32_149 : BitVec 32 := 1#32
  let v219 : BitVec 32 := Scalar.addi v218 c1_i32_149
  let c512_i32 : BitVec 32 := 512#32
  let v220 : BitVec 32 := Scalar.muli v219 c512_i32
  v220
def k0_off7 (k0_t1 : Fin k0_t1_loop.trips) (k0_t3 : Fin (k0_t3_loop k0_t1).trips) (c1_i32_149 : BitVec 32) : Fin 3 → Nat :=
  let c0_150 : Index := 0#32
  let c2_i32_148 : BitVec 32 := 2#32
  let c0_i32_117 : BitVec 32 := 0#32
  let c0_i32_81 : BitVec 32 := 0#32
  let c1_i32 : BitVec 32 := 1#32
  let arg14 : BitVec 32 := Scf.iv c0_i32_81 c1_i32 k0_t1
  let c1_i32_107 : BitVec 32 := 1#32
  let v145 : BitVec 32 := Scalar.subi arg14 c1_i32_107
  let c0_i32_108 : BitVec 32 := 0#32
  let v146 : BitVec 32 := Scalar.maxsi v145 c0_i32_108
  let c0_i32_110 : BitVec 32 := 0#32
  let v148 : BitVec 1 := Scalar.cmpi .sgt v146 c0_i32_110
  let v149 : BitVec 32 := Scalar.extui v148
  let c0_i32_111 : BitVec 32 := 0#32
  let v150 : BitVec 1 := Scalar.cmpi .slt v146 c0_i32_111
  let v151 : BitVec 32 := Scalar.extui v150
  let v152 : BitVec 32 := Scalar.subi v149 v151
  let c2_i32_109 : BitVec 32 := 2#32
  let c0_i32_112 : BitVec 32 := 0#32
  let v153 : BitVec 1 := Scalar.cmpi .sgt c2_i32_109 c0_i32_112
  let v154 : BitVec 32 := Scalar.extui v153
  let c0_i32_113 : BitVec 32 := 0#32
  let v155 : BitVec 1 := Scalar.cmpi .slt c2_i32_109 c0_i32_113
  let v156 : BitVec 32 := Scalar.extui v155
  let v157 : BitVec 32 := Scalar.subi v154 v156
  let v158 : BitVec 1 := Scalar.cmpi .ne v152 v157
  let v159 : BitVec 32 := Scalar.remsi v146 c2_i32_109
  let c0_i32_114 : BitVec 32 := 0#32
  let v160 : BitVec 1 := Scalar.cmpi .ne v159 c0_i32_114
  let v161 : BitVec 1 := Scalar.andi v158 v160
  let v147 : BitVec 32 := Scalar.divsi v146 c2_i32_109
  let c1_i32_115 : BitVec 32 := 1#32
  let v162 : BitVec 32 := Scalar.subi v147 c1_i32_115
  let v163 : BitVec 32 := Scalar.select v161 v162 v147
  let v164 : BitVec 32 := Scalar.subi v163 c0_i32_117
  let c1_i32_118 : BitVec 32 := 1#32
  let v166 : BitVec 32 := Scalar.divsi v164 c1_i32_118
  let v167 : BitVec 32 := Scalar.muli v166 c1_i32_118
  let v168 : BitVec 32 := Scalar.addi c0_i32_117 v167
  let c1_i32_120 : BitVec 32 := 1#32
  let arg15 : BitVec 32 := Scf.iv v168 c1_i32_120 k0_t3
  let v218 : BitVec 32 := Scalar.muli c2_i32_148 arg15
  let v219 : BitVec 32 := Scalar.addi v218 c1_i32_149
  let c512_i32 : BitVec 32 := 512#32
  let v220 : BitVec 32 := Scalar.muli v219 c512_i32
  let v221 : BitVec 32 := v220
  let v222 : Index := Scalar.indexCast v221
  let c0_151 : Index := 0#32
  ![0, v222.toNat, 0]
def k0_off8 (k0_t1 : Fin k0_t1_loop.trips) (k0_t3 : Fin (k0_t3_loop k0_t1).trips) : Fin 4 → Nat :=
  let c0_172 : Index := 0#32
  let c2_i32_148 : BitVec 32 := 2#32
  let c0_i32_117 : BitVec 32 := 0#32
  let c0_i32_81 : BitVec 32 := 0#32
  let c1_i32 : BitVec 32 := 1#32
  let arg14 : BitVec 32 := Scf.iv c0_i32_81 c1_i32 k0_t1
  let c1_i32_107 : BitVec 32 := 1#32
  let v145 : BitVec 32 := Scalar.subi arg14 c1_i32_107
  let c0_i32_108 : BitVec 32 := 0#32
  let v146 : BitVec 32 := Scalar.maxsi v145 c0_i32_108
  let c0_i32_110 : BitVec 32 := 0#32
  let v148 : BitVec 1 := Scalar.cmpi .sgt v146 c0_i32_110
  let v149 : BitVec 32 := Scalar.extui v148
  let c0_i32_111 : BitVec 32 := 0#32
  let v150 : BitVec 1 := Scalar.cmpi .slt v146 c0_i32_111
  let v151 : BitVec 32 := Scalar.extui v150
  let v152 : BitVec 32 := Scalar.subi v149 v151
  let c2_i32_109 : BitVec 32 := 2#32
  let c0_i32_112 : BitVec 32 := 0#32
  let v153 : BitVec 1 := Scalar.cmpi .sgt c2_i32_109 c0_i32_112
  let v154 : BitVec 32 := Scalar.extui v153
  let c0_i32_113 : BitVec 32 := 0#32
  let v155 : BitVec 1 := Scalar.cmpi .slt c2_i32_109 c0_i32_113
  let v156 : BitVec 32 := Scalar.extui v155
  let v157 : BitVec 32 := Scalar.subi v154 v156
  let v158 : BitVec 1 := Scalar.cmpi .ne v152 v157
  let v159 : BitVec 32 := Scalar.remsi v146 c2_i32_109
  let c0_i32_114 : BitVec 32 := 0#32
  let v160 : BitVec 1 := Scalar.cmpi .ne v159 c0_i32_114
  let v161 : BitVec 1 := Scalar.andi v158 v160
  let v147 : BitVec 32 := Scalar.divsi v146 c2_i32_109
  let c1_i32_115 : BitVec 32 := 1#32
  let v162 : BitVec 32 := Scalar.subi v147 c1_i32_115
  let v163 : BitVec 32 := Scalar.select v161 v162 v147
  let v164 : BitVec 32 := Scalar.subi v163 c0_i32_117
  let c1_i32_118 : BitVec 32 := 1#32
  let v166 : BitVec 32 := Scalar.divsi v164 c1_i32_118
  let v167 : BitVec 32 := Scalar.muli v166 c1_i32_118
  let v168 : BitVec 32 := Scalar.addi c0_i32_117 v167
  let c1_i32_120 : BitVec 32 := 1#32
  let arg15 : BitVec 32 := Scf.iv v168 c1_i32_120 k0_t3
  let v218 : BitVec 32 := Scalar.muli c2_i32_148 arg15
  let v242 : Index := Scalar.indexCast v218
  let c0_173 : Index := 0#32
  let c0_174 : Index := 0#32
  ![0, v242.toNat, 0, 0]
def k0_mult6 (k0_t1 : Fin k0_t1_loop.trips) (k0_t3 : Fin (k0_t3_loop k0_t1).trips) : BitVec 32 :=
  let c2_i32_148 : BitVec 32 := 2#32
  let c0_i32_117 : BitVec 32 := 0#32
  let c0_i32_81 : BitVec 32 := 0#32
  let c1_i32 : BitVec 32 := 1#32
  let arg14 : BitVec 32 := Scf.iv c0_i32_81 c1_i32 k0_t1
  let c1_i32_107 : BitVec 32 := 1#32
  let v145 : BitVec 32 := Scalar.subi arg14 c1_i32_107
  let c0_i32_108 : BitVec 32 := 0#32
  let v146 : BitVec 32 := Scalar.maxsi v145 c0_i32_108
  let c0_i32_110 : BitVec 32 := 0#32
  let v148 : BitVec 1 := Scalar.cmpi .sgt v146 c0_i32_110
  let v149 : BitVec 32 := Scalar.extui v148
  let c0_i32_111 : BitVec 32 := 0#32
  let v150 : BitVec 1 := Scalar.cmpi .slt v146 c0_i32_111
  let v151 : BitVec 32 := Scalar.extui v150
  let v152 : BitVec 32 := Scalar.subi v149 v151
  let c2_i32_109 : BitVec 32 := 2#32
  let c0_i32_112 : BitVec 32 := 0#32
  let v153 : BitVec 1 := Scalar.cmpi .sgt c2_i32_109 c0_i32_112
  let v154 : BitVec 32 := Scalar.extui v153
  let c0_i32_113 : BitVec 32 := 0#32
  let v155 : BitVec 1 := Scalar.cmpi .slt c2_i32_109 c0_i32_113
  let v156 : BitVec 32 := Scalar.extui v155
  let v157 : BitVec 32 := Scalar.subi v154 v156
  let v158 : BitVec 1 := Scalar.cmpi .ne v152 v157
  let v159 : BitVec 32 := Scalar.remsi v146 c2_i32_109
  let c0_i32_114 : BitVec 32 := 0#32
  let v160 : BitVec 1 := Scalar.cmpi .ne v159 c0_i32_114
  let v161 : BitVec 1 := Scalar.andi v158 v160
  let v147 : BitVec 32 := Scalar.divsi v146 c2_i32_109
  let c1_i32_115 : BitVec 32 := 1#32
  let v162 : BitVec 32 := Scalar.subi v147 c1_i32_115
  let v163 : BitVec 32 := Scalar.select v161 v162 v147
  let v164 : BitVec 32 := Scalar.subi v163 c0_i32_117
  let c1_i32_118 : BitVec 32 := 1#32
  let v166 : BitVec 32 := Scalar.divsi v164 c1_i32_118
  let v167 : BitVec 32 := Scalar.muli v166 c1_i32_118
  let v168 : BitVec 32 := Scalar.addi c0_i32_117 v167
  let c1_i32_120 : BitVec 32 := 1#32
  let arg15 : BitVec 32 := Scf.iv v168 c1_i32_120 k0_t3
  let v218 : BitVec 32 := Scalar.muli c2_i32_148 arg15
  let c1_i32_149 : BitVec 32 := 1#32
  let v219 : BitVec 32 := Scalar.addi v218 c1_i32_149
  let c512_i32_190 : BitVec 32 := 512#32
  let v270 : BitVec 32 := Scalar.muli v219 c512_i32_190
  v270
def k0_off9 (k0_t1 : Fin k0_t1_loop.trips) (k0_t3 : Fin (k0_t3_loop k0_t1).trips) : Fin 4 → Nat :=
  let c1_213 : Index := 1#32
  let c2_i32_148 : BitVec 32 := 2#32
  let c0_i32_117 : BitVec 32 := 0#32
  let c0_i32_81 : BitVec 32 := 0#32
  let c1_i32 : BitVec 32 := 1#32
  let arg14 : BitVec 32 := Scf.iv c0_i32_81 c1_i32 k0_t1
  let c1_i32_107 : BitVec 32 := 1#32
  let v145 : BitVec 32 := Scalar.subi arg14 c1_i32_107
  let c0_i32_108 : BitVec 32 := 0#32
  let v146 : BitVec 32 := Scalar.maxsi v145 c0_i32_108
  let c0_i32_110 : BitVec 32 := 0#32
  let v148 : BitVec 1 := Scalar.cmpi .sgt v146 c0_i32_110
  let v149 : BitVec 32 := Scalar.extui v148
  let c0_i32_111 : BitVec 32 := 0#32
  let v150 : BitVec 1 := Scalar.cmpi .slt v146 c0_i32_111
  let v151 : BitVec 32 := Scalar.extui v150
  let v152 : BitVec 32 := Scalar.subi v149 v151
  let c2_i32_109 : BitVec 32 := 2#32
  let c0_i32_112 : BitVec 32 := 0#32
  let v153 : BitVec 1 := Scalar.cmpi .sgt c2_i32_109 c0_i32_112
  let v154 : BitVec 32 := Scalar.extui v153
  let c0_i32_113 : BitVec 32 := 0#32
  let v155 : BitVec 1 := Scalar.cmpi .slt c2_i32_109 c0_i32_113
  let v156 : BitVec 32 := Scalar.extui v155
  let v157 : BitVec 32 := Scalar.subi v154 v156
  let v158 : BitVec 1 := Scalar.cmpi .ne v152 v157
  let v159 : BitVec 32 := Scalar.remsi v146 c2_i32_109
  let c0_i32_114 : BitVec 32 := 0#32
  let v160 : BitVec 1 := Scalar.cmpi .ne v159 c0_i32_114
  let v161 : BitVec 1 := Scalar.andi v158 v160
  let v147 : BitVec 32 := Scalar.divsi v146 c2_i32_109
  let c1_i32_115 : BitVec 32 := 1#32
  let v162 : BitVec 32 := Scalar.subi v147 c1_i32_115
  let v163 : BitVec 32 := Scalar.select v161 v162 v147
  let v164 : BitVec 32 := Scalar.subi v163 c0_i32_117
  let c1_i32_118 : BitVec 32 := 1#32
  let v166 : BitVec 32 := Scalar.divsi v164 c1_i32_118
  let v167 : BitVec 32 := Scalar.muli v166 c1_i32_118
  let v168 : BitVec 32 := Scalar.addi c0_i32_117 v167
  let c1_i32_120 : BitVec 32 := 1#32
  let arg15 : BitVec 32 := Scf.iv v168 c1_i32_120 k0_t3
  let v218 : BitVec 32 := Scalar.muli c2_i32_148 arg15
  let v292 : Index := Scalar.indexCast v218
  let c0_214 : Index := 0#32
  let c0_215 : Index := 0#32
  ![1, v292.toNat, 0, 0]
def k0_mult7 (k0_t1 : Fin k0_t1_loop.trips) (k0_t3 : Fin (k0_t3_loop k0_t1).trips) : BitVec 32 :=
  let c2_i32_148 : BitVec 32 := 2#32
  let c0_i32_117 : BitVec 32 := 0#32
  let c0_i32_81 : BitVec 32 := 0#32
  let c1_i32 : BitVec 32 := 1#32
  let arg14 : BitVec 32 := Scf.iv c0_i32_81 c1_i32 k0_t1
  let c1_i32_107 : BitVec 32 := 1#32
  let v145 : BitVec 32 := Scalar.subi arg14 c1_i32_107
  let c0_i32_108 : BitVec 32 := 0#32
  let v146 : BitVec 32 := Scalar.maxsi v145 c0_i32_108
  let c0_i32_110 : BitVec 32 := 0#32
  let v148 : BitVec 1 := Scalar.cmpi .sgt v146 c0_i32_110
  let v149 : BitVec 32 := Scalar.extui v148
  let c0_i32_111 : BitVec 32 := 0#32
  let v150 : BitVec 1 := Scalar.cmpi .slt v146 c0_i32_111
  let v151 : BitVec 32 := Scalar.extui v150
  let v152 : BitVec 32 := Scalar.subi v149 v151
  let c2_i32_109 : BitVec 32 := 2#32
  let c0_i32_112 : BitVec 32 := 0#32
  let v153 : BitVec 1 := Scalar.cmpi .sgt c2_i32_109 c0_i32_112
  let v154 : BitVec 32 := Scalar.extui v153
  let c0_i32_113 : BitVec 32 := 0#32
  let v155 : BitVec 1 := Scalar.cmpi .slt c2_i32_109 c0_i32_113
  let v156 : BitVec 32 := Scalar.extui v155
  let v157 : BitVec 32 := Scalar.subi v154 v156
  let v158 : BitVec 1 := Scalar.cmpi .ne v152 v157
  let v159 : BitVec 32 := Scalar.remsi v146 c2_i32_109
  let c0_i32_114 : BitVec 32 := 0#32
  let v160 : BitVec 1 := Scalar.cmpi .ne v159 c0_i32_114
  let v161 : BitVec 1 := Scalar.andi v158 v160
  let v147 : BitVec 32 := Scalar.divsi v146 c2_i32_109
  let c1_i32_115 : BitVec 32 := 1#32
  let v162 : BitVec 32 := Scalar.subi v147 c1_i32_115
  let v163 : BitVec 32 := Scalar.select v161 v162 v147
  let v164 : BitVec 32 := Scalar.subi v163 c0_i32_117
  let c1_i32_118 : BitVec 32 := 1#32
  let v166 : BitVec 32 := Scalar.divsi v164 c1_i32_118
  let v167 : BitVec 32 := Scalar.muli v166 c1_i32_118
  let v168 : BitVec 32 := Scalar.addi c0_i32_117 v167
  let c1_i32_120 : BitVec 32 := 1#32
  let arg15 : BitVec 32 := Scf.iv v168 c1_i32_120 k0_t3
  let v218 : BitVec 32 := Scalar.muli c2_i32_148 arg15
  let c2_i32_231 : BitVec 32 := 2#32
  let v320 : BitVec 32 := Scalar.addi v218 c2_i32_231
  let c512_i32_233 : BitVec 32 := 512#32
  let v322 : BitVec 32 := Scalar.muli v320 c512_i32_233
  v322
def k0_off10 (k0_t1 : Fin k0_t1_loop.trips) (k0_t3 : Fin (k0_t3_loop k0_t1).trips) : Fin 4 → Nat :=
  let c0_256 : Index := 0#32
  let c2_i32_148 : BitVec 32 := 2#32
  let c0_i32_117 : BitVec 32 := 0#32
  let c0_i32_81 : BitVec 32 := 0#32
  let c1_i32 : BitVec 32 := 1#32
  let arg14 : BitVec 32 := Scf.iv c0_i32_81 c1_i32 k0_t1
  let c1_i32_107 : BitVec 32 := 1#32
  let v145 : BitVec 32 := Scalar.subi arg14 c1_i32_107
  let c0_i32_108 : BitVec 32 := 0#32
  let v146 : BitVec 32 := Scalar.maxsi v145 c0_i32_108
  let c0_i32_110 : BitVec 32 := 0#32
  let v148 : BitVec 1 := Scalar.cmpi .sgt v146 c0_i32_110
  let v149 : BitVec 32 := Scalar.extui v148
  let c0_i32_111 : BitVec 32 := 0#32
  let v150 : BitVec 1 := Scalar.cmpi .slt v146 c0_i32_111
  let v151 : BitVec 32 := Scalar.extui v150
  let v152 : BitVec 32 := Scalar.subi v149 v151
  let c2_i32_109 : BitVec 32 := 2#32
  let c0_i32_112 : BitVec 32 := 0#32
  let v153 : BitVec 1 := Scalar.cmpi .sgt c2_i32_109 c0_i32_112
  let v154 : BitVec 32 := Scalar.extui v153
  let c0_i32_113 : BitVec 32 := 0#32
  let v155 : BitVec 1 := Scalar.cmpi .slt c2_i32_109 c0_i32_113
  let v156 : BitVec 32 := Scalar.extui v155
  let v157 : BitVec 32 := Scalar.subi v154 v156
  let v158 : BitVec 1 := Scalar.cmpi .ne v152 v157
  let v159 : BitVec 32 := Scalar.remsi v146 c2_i32_109
  let c0_i32_114 : BitVec 32 := 0#32
  let v160 : BitVec 1 := Scalar.cmpi .ne v159 c0_i32_114
  let v161 : BitVec 1 := Scalar.andi v158 v160
  let v147 : BitVec 32 := Scalar.divsi v146 c2_i32_109
  let c1_i32_115 : BitVec 32 := 1#32
  let v162 : BitVec 32 := Scalar.subi v147 c1_i32_115
  let v163 : BitVec 32 := Scalar.select v161 v162 v147
  let v164 : BitVec 32 := Scalar.subi v163 c0_i32_117
  let c1_i32_118 : BitVec 32 := 1#32
  let v166 : BitVec 32 := Scalar.divsi v164 c1_i32_118
  let v167 : BitVec 32 := Scalar.muli v166 c1_i32_118
  let v168 : BitVec 32 := Scalar.addi c0_i32_117 v167
  let c1_i32_120 : BitVec 32 := 1#32
  let arg15 : BitVec 32 := Scf.iv v168 c1_i32_120 k0_t3
  let v218 : BitVec 32 := Scalar.muli c2_i32_148 arg15
  let c1_i32_232 : BitVec 32 := 1#32
  let v321 : BitVec 32 := Scalar.addi v218 c1_i32_232
  let v344 : Index := Scalar.indexCast v321
  let c0_257 : Index := 0#32
  let c0_258 : Index := 0#32
  ![0, v344.toNat, 0, 0]
def k0_mult8 (k0_t1 : Fin k0_t1_loop.trips) (k0_t3 : Fin (k0_t3_loop k0_t1).trips) : BitVec 32 :=
  let c2_i32_148 : BitVec 32 := 2#32
  let c0_i32_117 : BitVec 32 := 0#32
  let c0_i32_81 : BitVec 32 := 0#32
  let c1_i32 : BitVec 32 := 1#32
  let arg14 : BitVec 32 := Scf.iv c0_i32_81 c1_i32 k0_t1
  let c1_i32_107 : BitVec 32 := 1#32
  let v145 : BitVec 32 := Scalar.subi arg14 c1_i32_107
  let c0_i32_108 : BitVec 32 := 0#32
  let v146 : BitVec 32 := Scalar.maxsi v145 c0_i32_108
  let c0_i32_110 : BitVec 32 := 0#32
  let v148 : BitVec 1 := Scalar.cmpi .sgt v146 c0_i32_110
  let v149 : BitVec 32 := Scalar.extui v148
  let c0_i32_111 : BitVec 32 := 0#32
  let v150 : BitVec 1 := Scalar.cmpi .slt v146 c0_i32_111
  let v151 : BitVec 32 := Scalar.extui v150
  let v152 : BitVec 32 := Scalar.subi v149 v151
  let c2_i32_109 : BitVec 32 := 2#32
  let c0_i32_112 : BitVec 32 := 0#32
  let v153 : BitVec 1 := Scalar.cmpi .sgt c2_i32_109 c0_i32_112
  let v154 : BitVec 32 := Scalar.extui v153
  let c0_i32_113 : BitVec 32 := 0#32
  let v155 : BitVec 1 := Scalar.cmpi .slt c2_i32_109 c0_i32_113
  let v156 : BitVec 32 := Scalar.extui v155
  let v157 : BitVec 32 := Scalar.subi v154 v156
  let v158 : BitVec 1 := Scalar.cmpi .ne v152 v157
  let v159 : BitVec 32 := Scalar.remsi v146 c2_i32_109
  let c0_i32_114 : BitVec 32 := 0#32
  let v160 : BitVec 1 := Scalar.cmpi .ne v159 c0_i32_114
  let v161 : BitVec 1 := Scalar.andi v158 v160
  let v147 : BitVec 32 := Scalar.divsi v146 c2_i32_109
  let c1_i32_115 : BitVec 32 := 1#32
  let v162 : BitVec 32 := Scalar.subi v147 c1_i32_115
  let v163 : BitVec 32 := Scalar.select v161 v162 v147
  let v164 : BitVec 32 := Scalar.subi v163 c0_i32_117
  let c1_i32_118 : BitVec 32 := 1#32
  let v166 : BitVec 32 := Scalar.divsi v164 c1_i32_118
  let v167 : BitVec 32 := Scalar.muli v166 c1_i32_118
  let v168 : BitVec 32 := Scalar.addi c0_i32_117 v167
  let c1_i32_120 : BitVec 32 := 1#32
  let arg15 : BitVec 32 := Scf.iv v168 c1_i32_120 k0_t3
  let v218 : BitVec 32 := Scalar.muli c2_i32_148 arg15
  let c2_i32_231 : BitVec 32 := 2#32
  let v320 : BitVec 32 := Scalar.addi v218 c2_i32_231
  let c512_i32_274 : BitVec 32 := 512#32
  let v372 : BitVec 32 := Scalar.muli v320 c512_i32_274
  v372
def k0_off11 (k0_t1 : Fin k0_t1_loop.trips) (k0_t3 : Fin (k0_t3_loop k0_t1).trips) : Fin 4 → Nat :=
  let c1_297 : Index := 1#32
  let c2_i32_148 : BitVec 32 := 2#32
  let c0_i32_117 : BitVec 32 := 0#32
  let c0_i32_81 : BitVec 32 := 0#32
  let c1_i32 : BitVec 32 := 1#32
  let arg14 : BitVec 32 := Scf.iv c0_i32_81 c1_i32 k0_t1
  let c1_i32_107 : BitVec 32 := 1#32
  let v145 : BitVec 32 := Scalar.subi arg14 c1_i32_107
  let c0_i32_108 : BitVec 32 := 0#32
  let v146 : BitVec 32 := Scalar.maxsi v145 c0_i32_108
  let c0_i32_110 : BitVec 32 := 0#32
  let v148 : BitVec 1 := Scalar.cmpi .sgt v146 c0_i32_110
  let v149 : BitVec 32 := Scalar.extui v148
  let c0_i32_111 : BitVec 32 := 0#32
  let v150 : BitVec 1 := Scalar.cmpi .slt v146 c0_i32_111
  let v151 : BitVec 32 := Scalar.extui v150
  let v152 : BitVec 32 := Scalar.subi v149 v151
  let c2_i32_109 : BitVec 32 := 2#32
  let c0_i32_112 : BitVec 32 := 0#32
  let v153 : BitVec 1 := Scalar.cmpi .sgt c2_i32_109 c0_i32_112
  let v154 : BitVec 32 := Scalar.extui v153
  let c0_i32_113 : BitVec 32 := 0#32
  let v155 : BitVec 1 := Scalar.cmpi .slt c2_i32_109 c0_i32_113
  let v156 : BitVec 32 := Scalar.extui v155
  let v157 : BitVec 32 := Scalar.subi v154 v156
  let v158 : BitVec 1 := Scalar.cmpi .ne v152 v157
  let v159 : BitVec 32 := Scalar.remsi v146 c2_i32_109
  let c0_i32_114 : BitVec 32 := 0#32
  let v160 : BitVec 1 := Scalar.cmpi .ne v159 c0_i32_114
  let v161 : BitVec 1 := Scalar.andi v158 v160
  let v147 : BitVec 32 := Scalar.divsi v146 c2_i32_109
  let c1_i32_115 : BitVec 32 := 1#32
  let v162 : BitVec 32 := Scalar.subi v147 c1_i32_115
  let v163 : BitVec 32 := Scalar.select v161 v162 v147
  let v164 : BitVec 32 := Scalar.subi v163 c0_i32_117
  let c1_i32_118 : BitVec 32 := 1#32
  let v166 : BitVec 32 := Scalar.divsi v164 c1_i32_118
  let v167 : BitVec 32 := Scalar.muli v166 c1_i32_118
  let v168 : BitVec 32 := Scalar.addi c0_i32_117 v167
  let c1_i32_120 : BitVec 32 := 1#32
  let arg15 : BitVec 32 := Scf.iv v168 c1_i32_120 k0_t3
  let v218 : BitVec 32 := Scalar.muli c2_i32_148 arg15
  let c1_i32_232 : BitVec 32 := 1#32
  let v321 : BitVec 32 := Scalar.addi v218 c1_i32_232
  let v394 : Index := Scalar.indexCast v321
  let c0_298 : Index := 0#32
  let c0_299 : Index := 0#32
  ![1, v394.toNat, 0, 0]
def k0_cond1 (k0_t1 : Fin k0_t1_loop.trips) : BitVec 1 :=
  let c0_i32_81 : BitVec 32 := 0#32
  let c1_i32 : BitVec 32 := 1#32
  let arg14 : BitVec 32 := Scf.iv c0_i32_81 c1_i32 k0_t1
  let c2_i32_121 : BitVec 32 := 2#32
  let c0_i32_122 : BitVec 32 := 0#32
  let v169 : BitVec 1 := Scalar.cmpi .eq c2_i32_121 c0_i32_122
  let c1_i32_123 : BitVec 32 := 1#32
  let v170 : BitVec 32 := Scalar.select v169 c1_i32_123 c2_i32_121
  let v171 : BitVec 32 := Scalar.remsi arg14 v170
  let c0_i32_125 : BitVec 32 := 0#32
  let v173 : BitVec 1 := Scalar.cmpi .slt v171 c0_i32_125
  let c0_i32_126 : BitVec 32 := 0#32
  let v174 : BitVec 1 := Scalar.cmpi .slt v170 c0_i32_126
  let v175 : BitVec 1 := Scalar.xori v173 v174
  let c0_i32_124 : BitVec 32 := 0#32
  let v172 : BitVec 1 := Scalar.cmpi .ne v171 c0_i32_124
  let v176 : BitVec 1 := Scalar.andi v175 v172
  let v177 : BitVec 32 := Scalar.addi v171 v170
  let v178 : BitVec 32 := Scalar.select v176 v177 v171
  let c1_i32_127 : BitVec 32 := 1#32
  let v179 : BitVec 1 := Scalar.cmpi .eq v178 c1_i32_127
  let v180 : BitVec 32 := Scalar.extui v179
  let c0_i32_128 : BitVec 32 := 0#32
  let v181 : BitVec 1 := Scalar.cmpi .ne v180 c0_i32_128
  v181

def k0_mult9 (k0_t1 : Fin k0_t1_loop.trips) : BitVec 32 :=
  let c0_i32_81 : BitVec 32 := 0#32
  let c1_i32 : BitVec 32 := 1#32
  let arg14 : BitVec 32 := Scf.iv c0_i32_81 c1_i32 k0_t1
  let c512_i32 : BitVec 32 := 512#32
  let v219 : BitVec 32 := Scalar.muli arg14 c512_i32
  v219
def k0_off12 (k0_t1 : Fin k0_t1_loop.trips) : Fin 3 → Nat :=
  let c0_149 : Index := 0#32
  let c0_i32_81 : BitVec 32 := 0#32
  let c1_i32 : BitVec 32 := 1#32
  let arg14 : BitVec 32 := Scf.iv c0_i32_81 c1_i32 k0_t1
  let c512_i32 : BitVec 32 := 512#32
  let v219 : BitVec 32 := Scalar.muli arg14 c512_i32
  let v220 : BitVec 32 := v219
  let v221 : Index := Scalar.indexCast v220
  let c0_150 : Index := 0#32
  ![0, v221.toNat, 0]
def k0_off13 (k0_t1 : Fin k0_t1_loop.trips) : Fin 4 → Nat :=
  let c0_165 : Index := 0#32
  let c0_i32_81 : BitVec 32 := 0#32
  let c1_i32 : BitVec 32 := 1#32
  let arg14 : BitVec 32 := Scf.iv c0_i32_81 c1_i32 k0_t1
  let c1_i32_148 : BitVec 32 := 1#32
  let v218 : BitVec 32 := Scalar.subi arg14 c1_i32_148
  let v236 : Index := Scalar.indexCast v218
  let c0_166 : Index := 0#32
  let c0_167 : Index := 0#32
  ![0, v236.toNat, 0, 0]
def k0_mult10 (k0_t1 : Fin k0_t1_loop.trips) : BitVec 32 :=
  let c0_i32_81 : BitVec 32 := 0#32
  let c1_i32 : BitVec 32 := 1#32
  let arg14 : BitVec 32 := Scf.iv c0_i32_81 c1_i32 k0_t1
  let c512_i32_183 : BitVec 32 := 512#32
  let v264 : BitVec 32 := Scalar.muli arg14 c512_i32_183
  v264
def k0_off14 (k0_t1 : Fin k0_t1_loop.trips) : Fin 4 → Nat :=
  let c1_200 : Index := 1#32
  let c0_i32_81 : BitVec 32 := 0#32
  let c1_i32 : BitVec 32 := 1#32
  let arg14 : BitVec 32 := Scf.iv c0_i32_81 c1_i32 k0_t1
  let c1_i32_148 : BitVec 32 := 1#32
  let v218 : BitVec 32 := Scalar.subi arg14 c1_i32_148
  let v281 : Index := Scalar.indexCast v218
  let c0_201 : Index := 0#32
  let c0_202 : Index := 0#32
  ![1, v281.toNat, 0, 0]
def k0_off15 (k0_t1 : Fin k0_t1_loop.trips) : Fin 3 → Nat :=
  let c0_i32_81 : BitVec 32 := 0#32
  let c1_i32 : BitVec 32 := 1#32
  let arg14 : BitVec 32 := Scf.iv c0_i32_81 c1_i32 k0_t1
  let c1_i32_218 : BitVec 32 := 1#32
  let v309 : BitVec 32 := Scalar.addi arg14 c1_i32_218
  let c7_i32 : BitVec 32 := 7#32
  let v310 : BitVec 32 := Scalar.minsi v309 c7_i32
  let v311 : Index := Scalar.indexCast v310
  let c0_219 : Index := 0#32
  let c0_220 : Index := 0#32
  ![v311.toNat, 0, 0]
def k0_mult11 : BitVec 32 :=
  let c0_i32_237 : BitVec 32 := 0#32
  c0_i32_237
def k0_mult12 : BitVec 32 :=
  let c0_i32_252 : BitVec 32 := 0#32
  c0_i32_252
def k0_off16 (k0_t1 : Fin k0_t1_loop.trips) : Fin 4 → Nat :=
  let c0_267 : Index := 0#32
  let c0_i32_81 : BitVec 32 := 0#32
  let c1_i32 : BitVec 32 := 1#32
  let arg14 : BitVec 32 := Scf.iv c0_i32_81 c1_i32 k0_t1
  let v401 : Index := Scalar.indexCast arg14
  let c0_268 : Index := 0#32
  let c0_269 : Index := 0#32
  ![0, v401.toNat, 0, 0]
def k0_off17 (k0_t1 : Fin k0_t1_loop.trips) : Fin 4 → Nat :=
  let c1_309 : Index := 1#32
  let c0_i32_81 : BitVec 32 := 0#32
  let c1_i32 : BitVec 32 := 1#32
  let arg14 : BitVec 32 := Scf.iv c0_i32_81 c1_i32 k0_t1
  let v467 : Index := Scalar.indexCast arg14
  let c0_310 : Index := 0#32
  let c0_311 : Index := 0#32
  ![1, v467.toNat, 0, 0]
def k0_cond2 (k0_t1 : Fin k0_t1_loop.trips) : BitVec 1 :=
  let c0_i32_81 : BitVec 32 := 0#32
  let c1_i32 : BitVec 32 := 1#32
  let arg14 : BitVec 32 := Scf.iv c0_i32_81 c1_i32 k0_t1
  let c2_i32_129 : BitVec 32 := 2#32
  let c0_i32_130 : BitVec 32 := 0#32
  let v182 : BitVec 1 := Scalar.cmpi .eq c2_i32_129 c0_i32_130
  let c1_i32_131 : BitVec 32 := 1#32
  let v183 : BitVec 32 := Scalar.select v182 c1_i32_131 c2_i32_129
  let v184 : BitVec 32 := Scalar.remsi arg14 v183
  let c0_i32_133 : BitVec 32 := 0#32
  let v186 : BitVec 1 := Scalar.cmpi .slt v184 c0_i32_133
  let c0_i32_134 : BitVec 32 := 0#32
  let v187 : BitVec 1 := Scalar.cmpi .slt v183 c0_i32_134
  let v188 : BitVec 1 := Scalar.xori v186 v187
  let c0_i32_132 : BitVec 32 := 0#32
  let v185 : BitVec 1 := Scalar.cmpi .ne v184 c0_i32_132
  let v189 : BitVec 1 := Scalar.andi v188 v185
  let v190 : BitVec 32 := Scalar.addi v184 v183
  let v191 : BitVec 32 := Scalar.select v189 v190 v184
  let c0_i32_135 : BitVec 32 := 0#32
  let v192 : BitVec 1 := Scalar.cmpi .eq v191 c0_i32_135
  let c0_i32_136 : BitVec 32 := 0#32
  let v193 : BitVec 1 := Scalar.cmpi .sgt arg14 c0_i32_136
  let v194 : BitVec 1 := Scalar.andi v192 v193
  let v195 : BitVec 32 := Scalar.extui v194
  let c0_i32_137 : BitVec 32 := 0#32
  let v196 : BitVec 1 := Scalar.cmpi .ne v195 c0_i32_137
  v196

def k0_mult13 (k0_t1 : Fin k0_t1_loop.trips) : BitVec 32 :=
  let c0_i32_81 : BitVec 32 := 0#32
  let c1_i32 : BitVec 32 := 1#32
  let arg14 : BitVec 32 := Scf.iv c0_i32_81 c1_i32 k0_t1
  let c1_i32_148 : BitVec 32 := 1#32
  let v218 : BitVec 32 := Scalar.subi arg14 c1_i32_148
  let c512_i32 : BitVec 32 := 512#32
  let v220 : BitVec 32 := Scalar.muli v218 c512_i32
  v220
def k0_off18 (k0_t1 : Fin k0_t1_loop.trips) : Fin 3 → Nat :=
  let c0_150 : Index := 0#32
  let c0_i32_81 : BitVec 32 := 0#32
  let c1_i32 : BitVec 32 := 1#32
  let arg14 : BitVec 32 := Scf.iv c0_i32_81 c1_i32 k0_t1
  let c1_i32_148 : BitVec 32 := 1#32
  let v218 : BitVec 32 := Scalar.subi arg14 c1_i32_148
  let c512_i32 : BitVec 32 := 512#32
  let v220 : BitVec 32 := Scalar.muli v218 c512_i32
  let v221 : BitVec 32 := v220
  let v222 : Index := Scalar.indexCast v221
  let c0_151 : Index := 0#32
  ![0, v222.toNat, 0]
def k0_off19 (k0_t1 : Fin k0_t1_loop.trips) (c2_i32_149 : BitVec 32) : Fin 4 → Nat :=
  let c0_172 : Index := 0#32
  let c0_i32_81 : BitVec 32 := 0#32
  let c1_i32 : BitVec 32 := 1#32
  let arg14 : BitVec 32 := Scf.iv c0_i32_81 c1_i32 k0_t1
  let v219 : BitVec 32 := Scalar.subi arg14 c2_i32_149
  let v242 : Index := Scalar.indexCast v219
  let c0_173 : Index := 0#32
  let c0_174 : Index := 0#32
  ![0, v242.toNat, 0, 0]
def k0_mult14 (k0_t1 : Fin k0_t1_loop.trips) : BitVec 32 :=
  let c0_i32_81 : BitVec 32 := 0#32
  let c1_i32 : BitVec 32 := 1#32
  let arg14 : BitVec 32 := Scf.iv c0_i32_81 c1_i32 k0_t1
  let c1_i32_148 : BitVec 32 := 1#32
  let v218 : BitVec 32 := Scalar.subi arg14 c1_i32_148
  let c512_i32_190 : BitVec 32 := 512#32
  let v270 : BitVec 32 := Scalar.muli v218 c512_i32_190
  v270
def k0_off20 (k0_t1 : Fin k0_t1_loop.trips) (c2_i32_149 : BitVec 32) : Fin 4 → Nat :=
  let c1_213 : Index := 1#32
  let c0_i32_81 : BitVec 32 := 0#32
  let c1_i32 : BitVec 32 := 1#32
  let arg14 : BitVec 32 := Scf.iv c0_i32_81 c1_i32 k0_t1
  let v219 : BitVec 32 := Scalar.subi arg14 c2_i32_149
  let v292 : Index := Scalar.indexCast v219
  let c0_214 : Index := 0#32
  let c0_215 : Index := 0#32
  ![1, v292.toNat, 0, 0]
def k0_mult15 (k0_t1 : Fin k0_t1_loop.trips) : BitVec 32 :=
  let c0_i32_81 : BitVec 32 := 0#32
  let c1_i32 : BitVec 32 := 1#32
  let arg14 : BitVec 32 := Scf.iv c0_i32_81 c1_i32 k0_t1
  let c512_i32_232 : BitVec 32 := 512#32
  let v321 : BitVec 32 := Scalar.muli arg14 c512_i32_232
  v321
def k0_off21 (k0_t1 : Fin k0_t1_loop.trips) : Fin 3 → Nat :=
  let c0_233 : Index := 0#32
  let c0_i32_81 : BitVec 32 := 0#32
  let c1_i32 : BitVec 32 := 1#32
  let arg14 : BitVec 32 := Scf.iv c0_i32_81 c1_i32 k0_t1
  let c512_i32_232 : BitVec 32 := 512#32
  let v321 : BitVec 32 := Scalar.muli arg14 c512_i32_232
  let v322 : BitVec 32 := v321
  let v323 : Index := Scalar.indexCast v322
  let c0_234 : Index := 0#32
  ![0, v323.toNat, 0]
def k0_mult16 (k0_t1 : Fin k0_t1_loop.trips) : BitVec 32 :=
  let c0_i32_81 : BitVec 32 := 0#32
  let c1_i32 : BitVec 32 := 1#32
  let arg14 : BitVec 32 := Scf.iv c0_i32_81 c1_i32 k0_t1
  let c512_i32_267 : BitVec 32 := 512#32
  let v366 : BitVec 32 := Scalar.muli arg14 c512_i32_267
  v366
def k0_off22 (k0_t1 : Fin k0_t1_loop.trips) : Fin 3 → Nat :=
  let c0_i32_81 : BitVec 32 := 0#32
  let c1_i32 : BitVec 32 := 1#32
  let arg14 : BitVec 32 := Scf.iv c0_i32_81 c1_i32 k0_t1
  let c1_i32_302 : BitVec 32 := 1#32
  let v411 : BitVec 32 := Scalar.addi arg14 c1_i32_302
  let c7_i32 : BitVec 32 := 7#32
  let v412 : BitVec 32 := Scalar.minsi v411 c7_i32
  let v413 : Index := Scalar.indexCast v412
  let c0_303 : Index := 0#32
  let c0_304 : Index := 0#32
  ![v413.toNat, 0, 0]
def k0_mult17 : BitVec 32 :=
  let c0_i32_321 : BitVec 32 := 0#32
  c0_i32_321
def k0_mult18 : BitVec 32 :=
  let c0_i32_336 : BitVec 32 := 0#32
  c0_i32_336
def k0_off23 (k0_t1 : Fin k0_t1_loop.trips) : Fin 4 → Nat :=
  let c0_351 : Index := 0#32
  let c0_i32_81 : BitVec 32 := 0#32
  let c1_i32 : BitVec 32 := 1#32
  let arg14 : BitVec 32 := Scf.iv c0_i32_81 c1_i32 k0_t1
  let v503 : Index := Scalar.indexCast arg14
  let c0_352 : Index := 0#32
  let c0_353 : Index := 0#32
  ![0, v503.toNat, 0, 0]
def k0_off24 (k0_t1 : Fin k0_t1_loop.trips) : Fin 4 → Nat :=
  let c1_393 : Index := 1#32
  let c0_i32_81 : BitVec 32 := 0#32
  let c1_i32 : BitVec 32 := 1#32
  let arg14 : BitVec 32 := Scf.iv c0_i32_81 c1_i32 k0_t1
  let v569 : Index := Scalar.indexCast arg14
  let c0_394 : Index := 0#32
  let c0_395 : Index := 0#32
  ![1, v569.toNat, 0, 0]
def k0_cond3 (k0_t1 : Fin k0_t1_loop.trips) : BitVec 1 :=
  let c0_i32_81 : BitVec 32 := 0#32
  let c1_i32 : BitVec 32 := 1#32
  let arg14 : BitVec 32 := Scf.iv c0_i32_81 c1_i32 k0_t1
  let c0_i32_138 : BitVec 32 := 0#32
  let v197 : BitVec 1 := Scalar.cmpi .eq arg14 c0_i32_138
  let v198 : BitVec 32 := Scalar.extui v197
  let c0_i32_139 : BitVec 32 := 0#32
  let v199 : BitVec 1 := Scalar.cmpi .ne v198 c0_i32_139
  v199

def k0_mult19 (k0_t1 : Fin k0_t1_loop.trips) : BitVec 32 :=
  let c0_i32_81 : BitVec 32 := 0#32
  let c1_i32 : BitVec 32 := 1#32
  let arg14 : BitVec 32 := Scf.iv c0_i32_81 c1_i32 k0_t1
  let c512_i32 : BitVec 32 := 512#32
  let v218 : BitVec 32 := Scalar.muli arg14 c512_i32
  v218
def k0_off25 (k0_t1 : Fin k0_t1_loop.trips) : Fin 3 → Nat :=
  let c0_148 : Index := 0#32
  let c0_i32_81 : BitVec 32 := 0#32
  let c1_i32 : BitVec 32 := 1#32
  let arg14 : BitVec 32 := Scf.iv c0_i32_81 c1_i32 k0_t1
  let c512_i32 : BitVec 32 := 512#32
  let v218 : BitVec 32 := Scalar.muli arg14 c512_i32
  let v219 : BitVec 32 := v218
  let v220 : Index := Scalar.indexCast v219
  let c0_149 : Index := 0#32
  ![0, v220.toNat, 0]
def k0_mult20 (k0_t1 : Fin k0_t1_loop.trips) : BitVec 32 :=
  let c0_i32_81 : BitVec 32 := 0#32
  let c1_i32 : BitVec 32 := 1#32
  let arg14 : BitVec 32 := Scf.iv c0_i32_81 c1_i32 k0_t1
  let c512_i32_156 : BitVec 32 := 512#32
  let v231 : BitVec 32 := Scalar.muli arg14 c512_i32_156
  v231
def k0_off26 (k0_t1 : Fin k0_t1_loop.trips) : Fin 3 → Nat :=
  let c0_i32_81 : BitVec 32 := 0#32
  let c1_i32 : BitVec 32 := 1#32
  let arg14 : BitVec 32 := Scf.iv c0_i32_81 c1_i32 k0_t1
  let c1_i32_165 : BitVec 32 := 1#32
  let v244 : BitVec 32 := Scalar.addi arg14 c1_i32_165
  let c7_i32 : BitVec 32 := 7#32
  let v245 : BitVec 32 := Scalar.minsi v244 c7_i32
  let v246 : Index := Scalar.indexCast v245
  let c0_166 : Index := 0#32
  let c0_167 : Index := 0#32
  ![v246.toNat, 0, 0]
def k0_mult21 : BitVec 32 :=
  let c0_i32_184 : BitVec 32 := 0#32
  c0_i32_184
def k0_mult22 : BitVec 32 :=
  let c0_i32_199 : BitVec 32 := 0#32
  c0_i32_199
def k0_off27 (k0_t1 : Fin k0_t1_loop.trips) : Fin 4 → Nat :=
  let c0_214 : Index := 0#32
  let c0_i32_81 : BitVec 32 := 0#32
  let c1_i32 : BitVec 32 := 1#32
  let arg14 : BitVec 32 := Scf.iv c0_i32_81 c1_i32 k0_t1
  let v336 : Index := Scalar.indexCast arg14
  let c0_215 : Index := 0#32
  let c0_216 : Index := 0#32
  ![0, v336.toNat, 0, 0]
def k0_off28 (k0_t1 : Fin k0_t1_loop.trips) : Fin 4 → Nat :=
  let c1_256 : Index := 1#32
  let c0_i32_81 : BitVec 32 := 0#32
  let c1_i32 : BitVec 32 := 1#32
  let arg14 : BitVec 32 := Scf.iv c0_i32_81 c1_i32 k0_t1
  let v402 : Index := Scalar.indexCast arg14
  let c0_257 : Index := 0#32
  let c0_258 : Index := 0#32
  ![1, v402.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32x1024x512 : Shape := ⟨3, ![32, 1024, 512]⟩
abbrev S4x4096x1024 : Shape := ⟨3, ![4, 4096, 1024]⟩
abbrev S1024x16384 : Shape := ⟨2, ![1024, 16384]⟩
abbrev S32x128x512 : Shape := ⟨3, ![32, 128, 512]⟩
abbrev S4x4096x128 : Shape := ⟨3, ![4, 4096, 128]⟩
abbrev S4x8x16x64x512 : Shape := ⟨5, ![4, 8, 16, 64, 512]⟩
abbrev S4x16x8x512x64 : Shape := ⟨5, ![4, 16, 8, 512, 64]⟩
abbrev S4x16x4096x64 : Shape := ⟨4, ![4, 16, 4096, 64]⟩
abbrev S4x4096x16x64 : Shape := ⟨4, ![4, 4096, 16, 64]⟩
abbrev S16x64x4x4096 : Shape := ⟨4, ![16, 64, 4, 4096]⟩
abbrev S4x8x16x8x512 : Shape := ⟨5, ![4, 8, 16, 8, 512]⟩
abbrev S4x16x8x512x8 : Shape := ⟨5, ![4, 16, 8, 512, 8]⟩
abbrev S4x16x4096x8 : Shape := ⟨4, ![4, 16, 4096, 8]⟩
abbrev S4x4096x16x8 : Shape := ⟨4, ![4, 4096, 16, 8]⟩
abbrev S4x16x4096x4096 : Shape := ⟨4, ![4, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x4096 : Shape := ⟨3, ![4, 16, 4096]⟩
abbrev S4x16x4096x1 : Shape := ⟨4, ![4, 16, 4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S32x1024x512, .bf16⟩
  | .hbm, ⟨1, _⟩ => ⟨S4x4096x1024, .bf16⟩
  | .hbm, ⟨2, _⟩ => ⟨S1024x16384, .bf16⟩
  | .hbm, ⟨3, _⟩ => ⟨S32x128x512, .bf16⟩
  | .hbm, ⟨4, _⟩ => ⟨S4x4096x128, .bf16⟩
  | .hbm, ⟨5, _⟩ => ⟨S32x1024x512, .f32⟩
  | .hbm, ⟨6, _⟩ => ⟨S4x8x16x64x512, .f32⟩
  | .hbm, ⟨7, _⟩ => ⟨S4x16x8x512x64, .f32⟩
  | .hbm, ⟨8, _⟩ => ⟨S4x16x4096x64, .f32⟩
  | .hbm, ⟨9, _⟩ => ⟨S4x4096x1024, .f32⟩
  | .hbm, ⟨10, _⟩ => ⟨S4x4096x16x64, .f32⟩
  | .hbm, ⟨11, _⟩ => ⟨S4x16x4096x64, .f32⟩
  | .hbm, ⟨12, _⟩ => ⟨S1024x16384, .f32⟩
  | .hbm, ⟨13, _⟩ => ⟨S16x64x4x4096, .f32⟩
  | .hbm, ⟨14, _⟩ => ⟨S4x16x4096x64, .f32⟩
  | .hbm, ⟨15, _⟩ => ⟨S32x128x512, .f32⟩
  | .hbm, ⟨16, _⟩ => ⟨S4x8x16x8x512, .f32⟩
  | .hbm, ⟨17, _⟩ => ⟨S4x16x8x512x8, .f32⟩
  | .hbm, ⟨18, _⟩ => ⟨S4x16x4096x8, .f32⟩
  | .hbm, ⟨19, _⟩ => ⟨S4x4096x128, .f32⟩
  | .hbm, ⟨20, _⟩ => ⟨S4x4096x16x8, .f32⟩
  | .hbm, ⟨21, _⟩ => ⟨S4x16x4096x8, .f32⟩
  | .hbm, ⟨22, _⟩ => ⟨S4x16x4096x4096, .f32⟩
  | .hbm, ⟨23, _⟩ => ⟨S4x16x4096x4096, .f32⟩
  | .hbm, ⟨24, _⟩ => ⟨S4x16x4096x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x16x4096x4096, .f32⟩
  | .hbm, ⟨29, _⟩ => ⟨S4x16x4096x4096, .f32⟩
  | .hbm, ⟨30, _⟩ => ⟨S4096, .i32⟩
  | .hbm, ⟨31, _⟩ => ⟨S1x4096, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S_, .f32⟩
  | .hbm, ⟨37, _⟩ => ⟨S_, .f32⟩
  | .hbm, ⟨38, _⟩ => ⟨S4x16x4096x4096, .i1⟩
  | .hbm, ⟨39, _⟩ => ⟨S4x16x4096x4096, .f32⟩
  | .hbm, ⟨40, _⟩ => ⟨S4x16x4096x4096, .f32⟩
  | .hbm, ⟨41, _⟩ => ⟨S_, .f32⟩
  | .hbm, ⟨42, _⟩ => ⟨S4x16x4096, .f32⟩
  | .hbm, ⟨43, _⟩ => ⟨S_, .f32⟩
  | .hbm, ⟨44, _⟩ => ⟨S4x16x4096, .f32⟩
  | .hbm, ⟨45, _⟩ => ⟨S4x16x4096, .f32⟩
  | .hbm, ⟨46, _⟩ => ⟨S4x16x4096x1, .f32⟩
  | .hbm, ⟨47, _⟩ => ⟨S4x16x4096x4096, .f32⟩
  | .hbm, ⟨48, _⟩ => ⟨S4x16x4096x4096, .f32⟩
  | .hbm, ⟨49, _⟩ => ⟨S4x16x4096x4096, .f32⟩
  | .hbm, ⟨50, _⟩ => ⟨S_, .f32⟩
  | .hbm, ⟨51, _⟩ => ⟨S4x16x4096, .f32⟩
  | .hbm, ⟨52, _⟩ => ⟨S4x16x4096x1, .f32⟩
  | .hbm, ⟨53, _⟩ => ⟨S4x16x4096x4096, .f32⟩
  | .hbm, ⟨54, _⟩ => ⟨S4x16x4096x4096, .f32⟩
  | .hbm, ⟨55, _⟩ => ⟨S4x16x4096x64, .f32⟩
  | .hbm, ⟨56, _⟩ => ⟨S4x16x8x512x64, .f32⟩
  | .hbm, ⟨57, _⟩ => ⟨S4x8x16x64x512, .f32⟩
  | .hbm, ⟨58, _⟩ => ⟨S32x1024x512, .f32⟩
  | .hbm, ⟨59, _⟩ => ⟨S32x1024x512, .bf16⟩
  | _, _ => ⟨S32x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Kernel2.lean ====
abbrev S16384x1024 : Shape := ⟨2, ![16384, 1024]⟩
abbrev S32x1024x512 : Shape := ⟨3, ![32, 1024, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S32x1024x512, .bf16⟩
  | .hbm, ⟨2, _⟩ => ⟨S1024x1024, .bf16⟩
  | .hbm, ⟨3, _⟩ => ⟨S1x1024, .f32⟩
  | .hbm, ⟨4, _⟩ => ⟨S1024x5632, .bf16⟩
  | .hbm, ⟨5, _⟩ => ⟨S2816x1024, .bf16⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S32x1024x512 : Shape := ⟨3, ![32, 1024, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S32x512x1024 : Shape := ⟨3, ![32, 512, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S32x1024x512, .bf16⟩
  | .hbm, ⟨2, _⟩ => ⟨S1024x1024, .bf16⟩
  | .hbm, ⟨3, _⟩ => ⟨S1x1024, .f32⟩
  | .hbm, ⟨4, _⟩ => ⟨S1024x5632, .bf16⟩
  | .hbm, ⟨5, _⟩ => ⟨S2816x1024, .bf16⟩
  | .hbm, ⟨6, _⟩ => ⟨S32x1024x512, .f32⟩
  | .hbm, ⟨7, _⟩ => ⟨S32x512x1024, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x5632, .f32⟩
  | .hbm, ⟨28, _⟩ => ⟨S16384x5632, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S2816x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Kernel3.lean ====
abbrev S16384x1024 : Shape := ⟨2, ![16384, 1024]⟩
abbrev S32x1024x512 : Shape := ⟨3, ![32, 1024, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S4x16384x256 : Shape := ⟨3, ![4, 16384, 256]⟩
abbrev S256x1024 : Shape := ⟨2, ![256, 1024]⟩
abbrev S512x1024 : Shape := ⟨2, ![512, 1024]⟩
abbrev S1x1024x512 : Shape := ⟨3, ![1, 1024, 512]⟩
abbrev S1x512x256 : Shape := ⟨3, ![1, 512, 256]⟩
abbrev S1024x512 : Shape := ⟨2, ![1024, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x256 : Shape := ⟨2, ![256, 256]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S32x1024x512, .bf16⟩
  | .hbm, ⟨2, _⟩ => ⟨S1024x1024, .bf16⟩
  | .hbm, ⟨3, _⟩ => ⟨S1x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S1024x1024, .bf16⟩
  | .hbm, ⟨8, _⟩ => ⟨S4x16384x256, .f32⟩
  | .hbm, ⟨9, _⟩ => ⟨S256x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .bf16⟩
  | .local _ .vmem, ⟨10, _⟩ => ⟨S1x512x256, .f32⟩
  | .local _ .vmem, ⟨11, _⟩ => ⟨S1x512x256, .f32⟩
  | .local _ .vmem, ⟨12, _⟩ => ⟨S256x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S32x1024x512 : Shape := ⟨3, ![32, 1024, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S4x16384x256 : Shape := ⟨3, ![4, 16384, 256]⟩
abbrev S256x1024 : Shape := ⟨2, ![256, 1024]⟩
abbrev S32x512x1024 : Shape := ⟨3, ![32, 512, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S1x16384x256 : Shape := ⟨3, ![1, 16384, 256]⟩
abbrev S16384x256 : Shape := ⟨2, ![16384, 256]⟩

abbrev nBuf : Space → Nat
  | .hbm => 95
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S32x1024x512, .bf16⟩
  | .hbm, ⟨2, _⟩ => ⟨S1024x1024, .bf16⟩
  | .hbm, ⟨3, _⟩ => ⟨S1x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S1024x1024, .bf16⟩
  | .hbm, ⟨8, _⟩ => ⟨S4x16384x256, .f32⟩
  | .hbm, ⟨9, _⟩ => ⟨S256x1024, .bf16⟩
  | .hbm, ⟨10, _⟩ => ⟨S1x1024, .f32⟩
  | .hbm, ⟨11, _⟩ => ⟨S32x1024x512, .f32⟩
  | .hbm, ⟨12, _⟩ => ⟨S32x512x1024, .f32⟩
  | .hbm, ⟨13, _⟩ => ⟨S16384x1024, .f32⟩
  | .hbm, ⟨14, _⟩ => ⟨S1024x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S1024x5632, .f32⟩
  | .hbm, ⟨33, _⟩ => ⟨S16384x5632, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S2816x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S1024x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384x1024, .f32⟩
  | .hbm, ⟨73, _⟩ => ⟨S16384x1024, .f32⟩
  | .hbm, ⟨74, _⟩ => ⟨S1x16384x256, .f32⟩
  | .hbm, ⟨75, _⟩ => ⟨S16384x256, .f32⟩
  | .hbm, ⟨76, _⟩ => ⟨S256x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S16384x1, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1024x1024 : Shape := ⟨2, ![1024, 1024]⟩
abbrev S4x16384x256 : Shape := ⟨3, ![4, 16384, 256]⟩
abbrev S256x1024 : Shape := ⟨2, ![256, 1024]⟩
abbrev S3072x1024 : Shape := ⟨2, ![3072, 1024]⟩
abbrev S2x1024x1024 : Shape := ⟨3, ![2, 1024, 1024]⟩
abbrev S4x1024x5632 : Shape := ⟨3, ![4, 1024, 5632]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S2x3088x1024 : Shape := ⟨3, ![2, 3088, 1024]⟩
abbrev S32x1024x512 : Shape := ⟨3, ![32, 1024, 512]⟩
abbrev S1024x16384 : Shape := ⟨2, ![1024, 16384]⟩
abbrev S1024x5632 : Shape := ⟨2, ![1024, 5632]⟩
abbrev S2816x1024 : Shape := ⟨2, ![2816, 1024]⟩
abbrev S512x1024 : Shape := ⟨2, ![512, 1024]⟩
abbrev S1x512x256 : Shape := ⟨3, ![1, 512, 256]⟩
abbrev S1x32x1024 : Shape := ⟨3, ![1, 32, 1024]⟩
abbrev S1x32x5632 : Shape := ⟨3, ![1, 32, 5632]⟩
abbrev S1x176x1024 : Shape := ⟨3, ![1, 176, 1024]⟩
abbrev S1x16x1024 : Shape := ⟨3, ![1, 16, 1024]⟩
abbrev S1x96x1024 : Shape := ⟨3, ![1, 96, 1024]⟩
abbrev S1x1024x512 : Shape := ⟨3, ![1, 1024, 512]⟩
abbrev S1024x512 : Shape := ⟨2, ![1024, 512]⟩
abbrev S32x1024 : Shape := ⟨2, ![32, 1024]⟩
abbrev S32x5632 : Shape := ⟨2, ![32, 5632]⟩
abbrev S176x1024 : Shape := ⟨2, ![176, 1024]⟩
abbrev S16x1024 : Shape := ⟨2, ![16, 1024]⟩
abbrev S96x1024 : Shape := ⟨2, ![96, 1024]⟩
abbrev S512 : Shape := ⟨1, ![512]⟩
abbrev S512x1 : Shape := ⟨2, ![512, 1]⟩
abbrev S512x256 : Shape := ⟨2, ![512, 256]⟩
abbrev S1024x256 : Shape := ⟨2, ![1024, 256]⟩
abbrev S256x256 : Shape := ⟨2, ![256, 256]⟩
abbrev S512x512 : Shape := ⟨2, ![512, 512]⟩
abbrev S1x512x512 : Shape := ⟨3, ![1, 512, 512]⟩
abbrev S96x1 : Shape := ⟨2, ![96, 1]⟩

abbrev nBuf : Space → Nat
  | .hbm => 23
  | .vmem => 41
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S4x16384x256, .f32⟩
  | .hbm, ⟨4, _⟩ => ⟨S256x1024, .bf16⟩
  | .hbm, ⟨5, _⟩ => ⟨S1x1024, .f32⟩
  | .hbm, ⟨6, _⟩ => ⟨S3072x1024, .bf16⟩
  | .hbm, ⟨7, _⟩ => ⟨S2x1024x1024, .f32⟩
  | .hbm, ⟨8, _⟩ => ⟨S4x1024x5632, .f32⟩
  | .hbm, ⟨9, _⟩ => ⟨S4x2816x1024, .f32⟩
  | .hbm, ⟨10, _⟩ => ⟨S4x1024x1024, .f32⟩
  | .hbm, ⟨11, _⟩ => ⟨S4x256x1024, .f32⟩
  | .hbm, ⟨12, _⟩ => ⟨S2x3088x1024, .f32⟩
  | .hbm, ⟨13, _⟩ => ⟨S16384x1024, .f32⟩
  | .hbm, ⟨14, _⟩ => ⟨S32x1024x512, .bf16⟩
  | .hbm, ⟨15, _⟩ => ⟨S16384x1024, .bf16⟩
  | .hbm, ⟨16, _⟩ => ⟨S1024x16384, .bf16⟩
  | .hbm, ⟨17, _⟩ => ⟨S1024x1024, .bf16⟩
  | .hbm, ⟨18, _⟩ => ⟨S1024x5632, .bf16⟩
  | .hbm, ⟨19, _⟩ => ⟨S2816x1024, .bf16⟩
  | .hbm, ⟨20, _⟩ => ⟨S1024x1024, .bf16⟩
  | .hbm, ⟨21, _⟩ => ⟨S256x1024, .bf16⟩
  | .hbm, ⟨22, _⟩ => ⟨S3072x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x512x256, .f32⟩
  | .local _ .vmem, ⟨5, _⟩ => ⟨S1x512x256, .f32⟩
  | .local _ .vmem, ⟨6, _⟩ => ⟨S256x1024, .bf16⟩
  | .local _ .vmem, ⟨7, _⟩ => ⟨S1x1024, .f32⟩
  | .local _ .vmem, ⟨8, _⟩ => ⟨S3072x1024, .bf16⟩
  | .local _ .vmem, ⟨9, _⟩ => ⟨S1x32x1024, .f32⟩
  | .local _ .vmem, ⟨10, _⟩ => ⟨S1x32x1024, .f32⟩
  | .local _ .vmem, ⟨11, _⟩ => ⟨S1x32x5632, .f32⟩
  | .local _ .vmem, ⟨12, _⟩ => ⟨S1x32x5632, .f32⟩
  | .local _ .vmem, ⟨13, _⟩ => ⟨S1x176x1024, .f32⟩
  | .local _ .vmem, ⟨14, _⟩ => ⟨S1x176x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x16x1024, .f32⟩
  | .local _ .vmem, ⟨18, _⟩ => ⟨S1x16x1024, .f32⟩
  | .local _ .vmem, ⟨19, _⟩ => ⟨S1x96x1024, .f32⟩
  | .local _ .vmem, ⟨20, _⟩ => ⟨S1x96x1024, .f32⟩
  | .local _ .vmem, ⟨21, _⟩ => ⟨S512x1024, .f32⟩
  | .local _ .vmem, ⟨22, _⟩ => ⟨S512x1024, .f32⟩
  | .local _ .vmem, ⟨23, _⟩ => ⟨S1x1024x512, .bf16⟩
  | .local _ .vmem, ⟨24, _⟩ => ⟨S1x1024x512, .bf16⟩
  | .local _ .vmem, ⟨25, _⟩ => ⟨S512x1024, .bf16⟩
  | .local _ .vmem, ⟨26, _⟩ => ⟨S512x1024, .bf16⟩
  | .local _ .vmem, ⟨27, _⟩ => ⟨S1024x512, .bf16⟩
  | .local _ .vmem, ⟨28, _⟩ => ⟨S1024x512, .bf16⟩
  | .local _ .vmem, ⟨29, _⟩ => ⟨S32x1024, .bf16⟩
  | .local _ .vmem, ⟨30, _⟩ => ⟨S32x1024, .bf16⟩
  | .local _ .vmem, ⟨31, _⟩ => ⟨S32x5632, .bf16⟩
  | .local _ .vmem, ⟨32, _⟩ => ⟨S32x5632, .bf16⟩
  | .local _ .vmem, ⟨33, _⟩ => ⟨S176x1024, .bf16⟩
  | .local _ .vmem, ⟨34, _⟩ => ⟨S176x1024, .bf16⟩
  | .local _ .vmem, ⟨35, _⟩ => ⟨S32x1024, .bf16⟩
  | .local _ .vmem, ⟨36, _⟩ => ⟨S32x1024, .bf16⟩
  | .local _ .vmem, ⟨37, _⟩ => ⟨S16x1024, .bf16⟩
  | .local _ .vmem, ⟨38, _⟩ => ⟨S16x1024, .bf16⟩
  | .local _ .vmem, ⟨39, _⟩ => ⟨S96x1024, .bf16⟩
  | .local _ .vmem, ⟨40, _⟩ => ⟨S96x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev main_v0_8 : Ref sig .tc := ⟨.hbm, 21, rfl⟩
abbrev main_v0_9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let c0_i32_7 : BitVec 32 := 0#32
  ![c1_i32_5.toNat, v16.toNat, c0_i32_6.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  ![c1_i32_4.toNat, v16.toNat, c0_i32_5.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let c0_i32_7 : BitVec 32 := 0#32
  ![c1_i32_5.toNat, v16.toNat, c0_i32_6.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  ![c1_i32_4.toNat, v16.toNat, c0_i32_5.toNat]

def cc0_transform_12 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let c0_i32_7 : BitVec 32 := 0#32
  ![c1_i32_5.toNat, v16.toNat, c0_i32_6.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_18 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_19 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_20 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_21 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_22 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x96x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x5632 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S176x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S96x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference4Ideal.lean ====
abbrev S16384x1024 : Shape := ⟨2, ![16384, 1024]⟩
abbrev S1x1024 : Shape := ⟨2, ![1, 1024]⟩
abbrev S1024x1024 : Shape := ⟨2, ![1024, 1024]⟩
abbrev S4x16384x256 : Shape := ⟨3, ![4, 16384, 256]⟩
abbrev S256x1024 : Shape := ⟨2, ![256, 1024]⟩
abbrev S3072x1024 : Shape := ⟨2, ![3072, 1024]⟩
abbrev S2x1024x1024 : Shape := ⟨3, ![2, 1024, 1024]⟩
abbrev S4x1024x5632 : Shape := ⟨3, ![4, 1024, 5632]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S2x3088x1024 : Shape := ⟨3, ![2, 3088, 1024]⟩
abbrev S_ : Shape := ⟨0, ![]⟩
abbrev S16384 : Shape := ⟨1, ![16384]⟩
abbrev S16384x1 : Shape := ⟨2, ![16384, 1]⟩
abbrev S1x16384x256 : Shape := ⟨3, ![1, 16384, 256]⟩
abbrev S16384x256 : Shape := ⟨2, ![16384, 256]⟩
abbrev S1024x3072 : Shape := ⟨2, ![1024, 3072]⟩
abbrev S16384x3072 : Shape := ⟨2, ![16384, 3072]⟩
abbrev S32x512x1024 : Shape := ⟨3, ![32, 512, 1024]⟩
abbrev S32x1024x512 : Shape := ⟨3, ![32, 1024, 512]⟩
abbrev S1x3072x1024 : Shape := ⟨3, ![1, 3072, 1024]⟩
abbrev S2048x1024 : Shape := ⟨2, ![2048, 1024]⟩
abbrev S1x1024x1024 : Shape := ⟨3, ![1, 1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x256x1024 : Shape := ⟨3, ![1, 256, 1024]⟩
abbrev S1024x16384 : Shape := ⟨2, ![1024, 16384]⟩

abbrev nBuf : Space → Nat
  | .hbm => 95
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S4x16384x256, .f32⟩
  | .hbm, ⟨4, _⟩ => ⟨S256x1024, .bf16⟩
  | .hbm, ⟨5, _⟩ => ⟨S1x1024, .f32⟩
  | .hbm, ⟨6, _⟩ => ⟨S3072x1024, .bf16⟩
  | .hbm, ⟨7, _⟩ => ⟨S2x1024x1024, .f32⟩
  | .hbm, ⟨8, _⟩ => ⟨S4x1024x5632, .f32⟩
  | .hbm, ⟨9, _⟩ => ⟨S4x2816x1024, .f32⟩
  | .hbm, ⟨10, _⟩ => ⟨S4x1024x1024, .f32⟩
  | .hbm, ⟨11, _⟩ => ⟨S4x256x1024, .f32⟩
  | .hbm, ⟨12, _⟩ => ⟨S2x3088x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1024x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S1x16384x256, .f32⟩
  | .hbm, ⟨39, _⟩ => ⟨S16384x256, .f32⟩
  | .hbm, ⟨40, _⟩ => ⟨S256x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S3072x1024, .f32⟩
  | .hbm, ⟨60, _⟩ => ⟨S1024x3072, .f32⟩
  | .hbm, ⟨61, _⟩ => ⟨S16384x3072, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S32x512x1024, .f32⟩
  | .hbm, ⟨66, _⟩ => ⟨S32x1024x512, .f32⟩
  | .hbm, ⟨67, _⟩ => ⟨S1x3072x1024, .f32⟩
  | .hbm, ⟨68, _⟩ => ⟨S3072x1024, .f32⟩
  | .hbm, ⟨69, _⟩ => ⟨S1024x1024, .f32⟩
  | .hbm, ⟨70, _⟩ => ⟨S_, .f32⟩
  | .hbm, ⟨71, _⟩ => ⟨S1024x1024, .f32⟩
  | .hbm, ⟨72, _⟩ => ⟨S1024x1024, .f32⟩
  | .hbm, ⟨73, _⟩ => ⟨S2048x1024, .f32⟩
  | .hbm, ⟨74, _⟩ => ⟨S3072x1024, .f32⟩
  | .hbm, ⟨75, _⟩ => ⟨S1x1024x1024, .f32⟩
  | .hbm, ⟨76, _⟩ => ⟨S1024x1024, .f32⟩
  | .hbm, ⟨77, _⟩ => ⟨S1x1024x5632, .f32⟩
  | .hbm, ⟨78, _⟩ => ⟨S1024x5632, .f32⟩
  | .hbm, ⟨79, _⟩ => ⟨S1x2816x1024, .f32⟩
  | .hbm, ⟨80, _⟩ => ⟨S2816x1024, .f32⟩
  | .hbm, ⟨81, _⟩ => ⟨S1x1024x1024, .f32⟩
  | .hbm, ⟨82, _⟩ => ⟨S1024x1024, .f32⟩
  | .hbm, ⟨83, _⟩ => ⟨S1x256x1024, .f32⟩
  | .hbm, ⟨84, _⟩ => ⟨S256x1024, .f32⟩
  | .hbm, ⟨85, _⟩ => ⟨S1024x16384, .f32⟩
  | .hbm, ⟨86, _⟩ => ⟨S32x1024x512, .bf16⟩
  | .hbm, ⟨87, _⟩ => ⟨S16384x1024, .bf16⟩
  | .hbm, ⟨88, _⟩ => ⟨S1024x16384, .bf16⟩
  | .hbm, ⟨89, _⟩ => ⟨S1024x1024, .bf16⟩
  | .hbm, ⟨90, _⟩ => ⟨S1024x5632, .bf16⟩
  | .hbm, ⟨91, _⟩ => ⟨S2816x1024, .bf16⟩
  | .hbm, ⟨92, _⟩ => ⟨S1024x1024, .bf16⟩
  | .hbm, ⟨93, _⟩ => ⟨S256x1024, .bf16⟩
  | .hbm, ⟨94, _⟩ => ⟨S3072x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Kernel5.lean ====
abbrev S16384x1024 : Shape := ⟨2, ![16384, 1024]⟩
abbrev S1x1024 : Shape := ⟨2, ![1, 1024]⟩
abbrev S1024x1024 : Shape := ⟨2, ![1024, 1024]⟩
abbrev S4x16384x256 : Shape := ⟨3, ![4, 16384, 256]⟩
abbrev S256x1024 : Shape := ⟨2, ![256, 1024]⟩
abbrev S3072x1024 : Shape := ⟨2, ![3072, 1024]⟩
abbrev S128x1024 : Shape := ⟨2, ![128, 1024]⟩
abbrev S1x128 : Shape := ⟨2, ![1, 128]⟩
abbrev S2x1024x1024 : Shape := ⟨3, ![2, 1024, 1024]⟩
abbrev S4x1024x5632 : Shape := ⟨3, ![4, 1024, 5632]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S2x1024x3072 : Shape := ⟨3, ![2, 1024, 3072]⟩
abbrev S32x1024x512 : Shape := ⟨3, ![32, 1024, 512]⟩
abbrev S1024x16384 : Shape := ⟨2, ![1024, 16384]⟩
abbrev S16384x128 : Shape := ⟨2, ![16384, 128]⟩
abbrev S1024x5632 : Shape := ⟨2, ![1024, 5632]⟩
abbrev S2816x1024 : Shape := ⟨2, ![2816, 1024]⟩
abbrev S512x1024 : Shape := ⟨2, ![512, 1024]⟩
abbrev S1x512x256 : Shape := ⟨3, ![1, 512, 256]⟩
abbrev S1x32x1024 : Shape := ⟨3, ![1, 32, 1024]⟩
abbrev S1x32x5632 : Shape := ⟨3, ![1, 32, 5632]⟩
abbrev S1x176x1024 : Shape := ⟨3, ![1, 176, 1024]⟩
abbrev S1x16x1024 : Shape := ⟨3, ![1, 16, 1024]⟩
abbrev S1x128x3072 : Shape := ⟨3, ![1, 128, 3072]⟩
abbrev S1x1024x512 : Shape := ⟨3, ![1, 1024, 512]⟩
abbrev S1024x512 : Shape := ⟨2, ![1024, 512]⟩
abbrev S512x128 : Shape := ⟨2, ![512, 128]⟩
abbrev S32x1024 : Shape := ⟨2, ![32, 1024]⟩
abbrev S32x5632 : Shape := ⟨2, ![32, 5632]⟩
abbrev S176x1024 : Shape := ⟨2, ![176, 1024]⟩
abbrev S16x1024 : Shape := ⟨2, ![16, 1024]⟩
abbrev S3072x128 : Shape := ⟨2, ![3072, 128]⟩
abbrev S512 : Shape := ⟨1, ![512]⟩
abbrev S512x1 : Shape := ⟨2, ![512, 1]⟩
abbrev S512x256 : Shape := ⟨2, ![512, 256]⟩
abbrev S1024x256 : Shape := ⟨2, ![1024, 256]⟩
abbrev S256x256 : Shape := ⟨2, ![256, 256]⟩
abbrev S512x512 : Shape := ⟨2, ![512, 512]⟩
abbrev S1x512x512 : Shape := ⟨3, ![1, 512, 512]⟩
abbrev S128x3072 : Shape := ⟨2, ![128, 3072]⟩
abbrev S3072x1 : Shape := ⟨2, ![3072, 1]⟩

abbrev nBuf : Space → Nat
  | .hbm => 26
  | .vmem => 45
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S4x16384x256, .f32⟩
  | .hbm, ⟨4, _⟩ => ⟨S256x1024, .bf16⟩
  | .hbm, ⟨5, _⟩ => ⟨S1x1024, .f32⟩
  | .hbm, ⟨6, _⟩ => ⟨S3072x1024, .bf16⟩
  | .hbm, ⟨7, _⟩ => ⟨S128x1024, .f32⟩
  | .hbm, ⟨8, _⟩ => ⟨S1x128, .f32⟩
  | .hbm, ⟨9, _⟩ => ⟨S2x1024x1024, .f32⟩
  | .hbm, ⟨10, _⟩ => ⟨S4x1024x5632, .f32⟩
  | .hbm, ⟨11, _⟩ => ⟨S4x2816x1024, .f32⟩
  | .hbm, ⟨12, _⟩ => ⟨S4x1024x1024, .f32⟩
  | .hbm, ⟨13, _⟩ => ⟨S4x256x1024, .f32⟩
  | .hbm, ⟨14, _⟩ => ⟨S2x1024x3072, .f32⟩
  | .hbm, ⟨15, _⟩ => ⟨S16384x1024, .f32⟩
  | .hbm, ⟨16, _⟩ => ⟨S32x1024x512, .bf16⟩
  | .hbm, ⟨17, _⟩ => ⟨S16384x1024, .bf16⟩
  | .hbm, ⟨18, _⟩ => ⟨S1024x16384, .bf16⟩
  | .hbm, ⟨19, _⟩ => ⟨S16384x128, .f32⟩
  | .hbm, ⟨20, _⟩ => ⟨S1024x1024, .bf16⟩
  | .hbm, ⟨21, _⟩ => ⟨S1024x5632, .bf16⟩
  | .hbm, ⟨22, _⟩ => ⟨S2816x1024, .bf16⟩
  | .hbm, ⟨23, _⟩ => ⟨S1024x1024, .bf16⟩
  | .hbm, ⟨24, _⟩ => ⟨S256x1024, .bf16⟩
  | .hbm, ⟨25, _⟩ => ⟨S3072x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x512x256, .f32⟩
  | .local _ .vmem, ⟨5, _⟩ => ⟨S1x512x256, .f32⟩
  | .local _ .vmem, ⟨6, _⟩ => ⟨S256x1024, .bf16⟩
  | .local _ .vmem, ⟨7, _⟩ => ⟨S1x1024, .f32⟩
  | .local _ .vmem, ⟨8, _⟩ => ⟨S3072x1024, .bf16⟩
  | .local _ .vmem, ⟨9, _⟩ => ⟨S128x1024, .f32⟩
  | .local _ .vmem, ⟨10, _⟩ => ⟨S1x128, .f32⟩
  | .local _ .vmem, ⟨11, _⟩ => ⟨S1x32x1024, .f32⟩
  | .local _ .vmem, ⟨12, _⟩ => ⟨S1x32x1024, .f32⟩
  | .local _ .vmem, ⟨13, _⟩ => ⟨S1x32x5632, .f32⟩
  | .local _ .vmem, ⟨14, _⟩ => ⟨S1x32x5632, .f32⟩
  | .local _ .vmem, ⟨15, _⟩ => ⟨S1x176x1024, .f32⟩
  | .local _ .vmem, ⟨16, _⟩ => ⟨S1x176x1024, .f32⟩
  | .local _ .vmem, ⟨17, _⟩ => ⟨S1x32x1024, .f32⟩
  | .local _ .vmem, ⟨18, _⟩ => ⟨S1x32x1024, .f32⟩
  | .local _ .vmem, ⟨19, _⟩ => ⟨S1x16x1024, .f32⟩
  | .local _ .vmem, ⟨20, _⟩ => ⟨S1x16x1024, .f32⟩
  | .local _ .vmem, ⟨21, _⟩ => ⟨S1x128x3072, .f32⟩
  | .local _ .vmem, ⟨22, _⟩ => ⟨S1x128x3072, .f32⟩
  | .local _ .vmem, ⟨23, _⟩ => ⟨S512x1024, .f32⟩
  | .local _ .vmem, ⟨24, _⟩ => ⟨S512x1024, .f32⟩
  | .local _ .vmem, ⟨25, _⟩ => ⟨S1x1024x512, .bf16⟩
  | .local _ .vmem, ⟨26, _⟩ => ⟨S1x1024x512, .bf16⟩
  | .local _ .vmem, ⟨27, _⟩ => ⟨S512x1024, .bf16⟩
  | .local _ .vmem, ⟨28, _⟩ => ⟨S512x1024, .bf16⟩
  | .local _ .vmem, ⟨29, _⟩ => ⟨S1024x512, .bf16⟩
  | .local _ .vmem, ⟨30, _⟩ => ⟨S1024x512, .bf16⟩
  | .local _ .vmem, ⟨31, _⟩ => ⟨S512x128, .f32⟩
  | .local _ .vmem, ⟨32, _⟩ => ⟨S512x128, .f32⟩
  | .local _ .vmem, ⟨33, _⟩ => ⟨S32x1024, .bf16⟩
  | .local _ .vmem, ⟨34, _⟩ => ⟨S32x1024, .bf16⟩
  | .local _ .vmem, ⟨35, _⟩ => ⟨S32x5632, .bf16⟩
  | .local _ .vmem, ⟨36, _⟩ => ⟨S32x5632, .bf16⟩
  | .local _ .vmem, ⟨37, _⟩ => ⟨S176x1024, .bf16⟩
  | .local _ .vmem, ⟨38, _⟩ => ⟨S176x1024, .bf16⟩
  | .local _ .vmem, ⟨39, _⟩ => ⟨S32x1024, .bf16⟩
  | .local _ .vmem, ⟨40, _⟩ => ⟨S32x1024, .bf16⟩
  | .local _ .vmem, ⟨41, _⟩ => ⟨S16x1024, .bf16⟩
  | .local _ .vmem, ⟨42, _⟩ => ⟨S16x1024, .bf16⟩
  | .local _ .vmem, ⟨43, _⟩ => ⟨S3072x128, .bf16⟩
  | .local _ .vmem, ⟨44, _⟩ => ⟨S3072x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev main_v0_9 : Ref sig .tc := ⟨.hbm, 24, rfl⟩
abbrev main_v0_10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let c0_i32_7 : BitVec 32 := 0#32
  ![c1_i32_5.toNat, v16.toNat, c0_i32_6.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let c0_i32_6 : BitVec 32 := 0#32
  ![c2_i32.toNat, v16.toNat, c0_i32_5.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let c0_i32_6 : BitVec 32 := 0#32
  ![c2_i32_4.toNat, v16.toNat, c0_i32_5.toNat]

def cc0_transform_12 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let c0_i32_6 : BitVec 32 := 0#32
  ![c2_i32.toNat, v16.toNat, c0_i32_5.toNat]

def cc0_transform_13 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let c0_i32_6 : BitVec 32 := 0#32
  ![c2_i32_4.toNat, v16.toNat, c0_i32_5.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  ![c1_i32_4.toNat, v16.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_21 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_22 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_23 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_24 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_25 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x5632 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S176x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S32x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S16x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S3072x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference5Ideal.lean ====
abbrev S16384x1024 : Shape := ⟨2, ![16384, 1024]⟩
abbrev S1x1024 : Shape := ⟨2, ![1, 1024]⟩
abbrev S1024x1024 : Shape := ⟨2, ![1024, 1024]⟩
abbrev S4x16384x256 : Shape := ⟨3, ![4, 16384, 256]⟩
abbrev S256x1024 : Shape := ⟨2, ![256, 1024]⟩
abbrev S3072x1024 : Shape := ⟨2, ![3072, 1024]⟩
abbrev S128x1024 : Shape := ⟨2, ![128, 1024]⟩
abbrev S1x128 : Shape := ⟨2, ![1, 128]⟩
abbrev S2x1024x1024 : Shape := ⟨3, ![2, 1024, 1024]⟩
abbrev S4x1024x5632 : Shape := ⟨3, ![4, 1024, 5632]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S2x1024x3072 : Shape := ⟨3, ![2, 1024, 3072]⟩
abbrev S_ : Shape := ⟨0, ![]⟩
abbrev S16384 : Shape := ⟨1, ![16384]⟩
abbrev S16384x1 : Shape := ⟨2, ![16384, 1]⟩
abbrev S1x16384x256 : Shape := ⟨3, ![1, 16384, 256]⟩
abbrev S16384x256 : Shape := ⟨2, ![16384, 256]⟩
abbrev S1024x3072 : Shape := ⟨2, ![1024, 3072]⟩
abbrev S16384x3072 : Shape := ⟨2, ![16384, 3072]⟩
abbrev S32x512x1024 : Shape := ⟨3, ![32, 512, 1024]⟩
abbrev S32x1024x512 : Shape := ⟨3, ![32, 1024, 512]⟩
abbrev S1024x128 : Shape := ⟨2, ![1024, 128]⟩
abbrev S16384x128 : Shape := ⟨2, ![16384, 128]⟩
abbrev S1x1024x3072 : Shape := ⟨3, ![1, 1024, 3072]⟩
abbrev S2048x1024 : Shape := ⟨2, ![2048, 1024]⟩
abbrev S1x1024x1024 : Shape := ⟨3, ![1, 1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x256x1024 : Shape := ⟨3, ![1, 256, 1024]⟩
abbrev S1024x16384 : Shape := ⟨2, ![1024, 16384]⟩

abbrev nBuf : Space → Nat
  | .hbm => 118
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S4x16384x256, .f32⟩
  | .hbm, ⟨4, _⟩ => ⟨S256x1024, .bf16⟩
  | .hbm, ⟨5, _⟩ => ⟨S1x1024, .f32⟩
  | .hbm, ⟨6, _⟩ => ⟨S3072x1024, .bf16⟩
  | .hbm, ⟨7, _⟩ => ⟨S128x1024, .f32⟩
  | .hbm, ⟨8, _⟩ => ⟨S1x128, .f32⟩
  | .hbm, ⟨9, _⟩ => ⟨S2x1024x1024, .f32⟩
  | .hbm, ⟨10, _⟩ => ⟨S4x1024x5632, .f32⟩
  | .hbm, ⟨11, _⟩ => ⟨S4x2816x1024, .f32⟩
  | .hbm, ⟨12, _⟩ => ⟨S4x1024x1024, .f32⟩
  | .hbm, ⟨13, _⟩ => ⟨S4x256x1024, .f32⟩
  | .hbm, ⟨14, _⟩ => ⟨S2x1024x3072, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1024x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S1x16384x256, .f32⟩
  | .hbm, ⟨41, _⟩ => ⟨S16384x256, .f32⟩
  | .hbm, ⟨42, _⟩ => ⟨S256x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S3072x1024, .f32⟩
  | .hbm, ⟨62, _⟩ => ⟨S1024x3072, .f32⟩
  | .hbm, ⟨63, _⟩ => ⟨S16384x3072, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S32x512x1024, .f32⟩
  | .hbm, ⟨68, _⟩ => ⟨S32x1024x512, .f32⟩
  | .hbm, ⟨69, _⟩ => ⟨S1024x128, .f32⟩
  | .hbm, ⟨70, _⟩ => ⟨S16384x128, .f32⟩
  | .hbm, ⟨71, _⟩ => ⟨S16384x128, .f32⟩
  | .hbm, ⟨72, _⟩ => ⟨S16384x128, .f32⟩
  | .hbm, ⟨73, _⟩ => ⟨S16384x128, .f32⟩
  | .hbm, ⟨74, _⟩ => ⟨S_, .f32⟩
  | .hbm, ⟨75, _⟩ => ⟨S16384x128, .f32⟩
  | .hbm, ⟨76, _⟩ => ⟨S16384x128, .f32⟩
  | .hbm, ⟨77, _⟩ => ⟨S16384x128, .f32⟩
  | .hbm, ⟨78, _⟩ => ⟨S16384x128, .f32⟩
  | .hbm, ⟨79, _⟩ => ⟨S16384x128, .i1⟩
  | .hbm, ⟨80, _⟩ => ⟨S16384x128, .f32⟩
  | .hbm, ⟨81, _⟩ => ⟨S16384x128, .f32⟩
  | .hbm, ⟨82, _⟩ => ⟨S16384x128, .f32⟩
  | .hbm, ⟨83, _⟩ => ⟨S16384x128, .f32⟩
  | .hbm, ⟨84, _⟩ => ⟨S16384x128, .f32⟩
  | .hbm, ⟨85, _⟩ => ⟨S16384x128, .f32⟩
  | .hbm, ⟨86, _⟩ => ⟨S16384x128, .f32⟩
  | .hbm, ⟨87, _⟩ => ⟨S16384x128, .f32⟩
  | .hbm, ⟨88, _⟩ => ⟨S16384x128, .f32⟩
  | .hbm, ⟨89, _⟩ => ⟨S1x1024x3072, .f32⟩
  | .hbm, ⟨90, _⟩ => ⟨S1024x3072, .f32⟩
  | .hbm, ⟨91, _⟩ => ⟨S3072x1024, .f32⟩
  | .hbm, ⟨92, _⟩ => ⟨S1024x1024, .f32⟩
  | .hbm, ⟨93, _⟩ => ⟨S_, .f32⟩
  | .hbm, ⟨94, _⟩ => ⟨S1024x1024, .f32⟩
  | .hbm, ⟨95, _⟩ => ⟨S1024x1024, .f32⟩
  | .hbm, ⟨96, _⟩ => ⟨S2048x1024, .f32⟩
  | .hbm, ⟨97, _⟩ => ⟨S3072x1024, .f32⟩
  | .hbm, ⟨98, _⟩ => ⟨S1x1024x1024, .f32⟩
  | .hbm, ⟨99, _⟩ => ⟨S1024x1024, .f32⟩
  | .hbm, ⟨100, _⟩ => ⟨S1x1024x5632, .f32⟩
  | .hbm, ⟨101, _⟩ => ⟨S1024x5632, .f32⟩
  | .hbm, ⟨102, _⟩ => ⟨S1x2816x1024, .f32⟩
  | .hbm, ⟨103, _⟩ => ⟨S2816x1024, .f32⟩
  | .hbm, ⟨104, _⟩ => ⟨S1x1024x1024, .f32⟩
  | .hbm, ⟨105, _⟩ => ⟨S1024x1024, .f32⟩
  | .hbm, ⟨106, _⟩ => ⟨S1x256x1024, .f32⟩
  | .hbm, ⟨107, _⟩ => ⟨S256x1024, .f32⟩
  | .hbm, ⟨108, _⟩ => ⟨S1024x16384, .f32⟩
  | .hbm, ⟨109, _⟩ => ⟨S32x1024x512, .bf16⟩
  | .hbm, ⟨110, _⟩ => ⟨S16384x1024, .bf16⟩
  | .hbm, ⟨111, _⟩ => ⟨S1024x16384, .bf16⟩
  | .hbm, ⟨112, _⟩ => ⟨S1024x1024, .bf16⟩
  | .hbm, ⟨113, _⟩ => ⟨S1024x5632, .bf16⟩
  | .hbm, ⟨114, _⟩ => ⟨S2816x1024, .bf16⟩
  | .hbm, ⟨115, _⟩ => ⟨S1024x1024, .bf16⟩
  | .hbm, ⟨116, _⟩ => ⟨S256x1024, .bf16⟩
  | .hbm, ⟨117, _⟩ => ⟨S3072x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call0_v0 : Ref sig .tc := ⟨.hbm, 73, rfl⟩
abbrev main_call0_call0_cst : Ref sig .tc := ⟨.hbm, 74, rfl⟩
abbrev main_call0_call0_v0 : Ref sig .tc := ⟨.hbm, 75, rfl⟩
abbrev main_call0_call0_v1 : Ref sig .tc := ⟨.hbm, 76, rfl⟩
abbrev main_call0_call0_v2 : Ref sig .tc := ⟨.hbm, 77, rfl⟩
abbrev main_call0_call0_v3 : Ref sig .tc := ⟨.hbm, 78, rfl⟩
abbrev main_call0_call0_v4 : Ref sig .tc := ⟨.hbm, 79, rfl⟩
abbrev main_call0_call0_v5 : Ref sig .tc := ⟨.hbm, 80, rfl⟩
abbrev main_call0_call0_v6 : Ref sig .tc := ⟨.hbm, 81, rfl⟩
abbrev main_call0_call0_v7 : Ref sig .tc := ⟨.hbm, 82, rfl⟩
abbrev main_call0_call0_v8 : Ref sig .tc := ⟨.hbm, 83, rfl⟩
abbrev main_call0_call0_v9 : Ref sig .tc := ⟨.hbm, 84, rfl⟩
abbrev main_call0_call0_v10 : Ref sig .tc := ⟨.hbm, 85, rfl⟩
abbrev main_call0_call0_v11 : Ref sig .tc := ⟨.hbm, 86, rfl⟩
abbrev main_call0_v1 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_7 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩

abbrev nD : Nat := 1
abbrev τ : Topo := Topo.v7x

variable {F : FTy → Type} [FloatOps F]
-- ==== Kernel6.lean ====
abbrev S16384x1024 : Shape := ⟨2, ![16384, 1024]⟩
abbrev S1x1024 : Shape := ⟨2, ![1, 1024]⟩
abbrev S1024x1024 : Shape := ⟨2, ![1024, 1024]⟩
abbrev S4x16384x256 : Shape := ⟨3, ![4, 16384, 256]⟩
abbrev S256x1024 : Shape := ⟨2, ![256, 1024]⟩
abbrev S3072x1024 : Shape := ⟨2, ![3072, 1024]⟩
abbrev S2x1024x1024 : Shape := ⟨3, ![2, 1024, 1024]⟩
abbrev S4x1024x5632 : Shape := ⟨3, ![4, 1024, 5632]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S32x1024x512 : Shape := ⟨3, ![32, 1024, 512]⟩
abbrev S1024x16384 : Shape := ⟨2, ![1024, 16384]⟩
abbrev S1024x5632 : Shape := ⟨2, ![1024, 5632]⟩
abbrev S2816x1024 : Shape := ⟨2, ![2816, 1024]⟩
abbrev S512x1024 : Shape := ⟨2, ![512, 1024]⟩
abbrev S1x512x256 : Shape := ⟨3, ![1, 512, 256]⟩
abbrev S1x32x1024 : Shape := ⟨3, ![1, 32, 1024]⟩
abbrev S1x32x5632 : Shape := ⟨3, ![1, 32, 5632]⟩
abbrev S1x176x1024 : Shape := ⟨3, ![1, 176, 1024]⟩
abbrev S1x16x1024 : Shape := ⟨3, ![1, 16, 1024]⟩
abbrev S1x1024x512 : Shape := ⟨3, ![1, 1024, 512]⟩
abbrev S1024x512 : Shape := ⟨2, ![1024, 512]⟩
abbrev S32x1024 : Shape := ⟨2, ![32, 1024]⟩
abbrev S32x5632 : Shape := ⟨2, ![32, 5632]⟩
abbrev S176x1024 : Shape := ⟨2, ![176, 1024]⟩
abbrev S16x1024 : Shape := ⟨2, ![16, 1024]⟩
abbrev S512 : Shape := ⟨1, ![512]⟩
abbrev S512x1 : Shape := ⟨2, ![512, 1]⟩
abbrev S512x256 : Shape := ⟨2, ![512, 256]⟩
abbrev S1024x256 : Shape := ⟨2, ![1024, 256]⟩
abbrev S256x256 : Shape := ⟨2, ![256, 256]⟩
abbrev S512x512 : Shape := ⟨2, ![512, 512]⟩
abbrev S1x512x512 : Shape := ⟨3, ![1, 512, 512]⟩

abbrev nBuf : Space → Nat
  | .hbm => 21
  | .vmem => 37
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S4x16384x256, .f32⟩
  | .hbm, ⟨4, _⟩ => ⟨S256x1024, .bf16⟩
  | .hbm, ⟨5, _⟩ => ⟨S1x1024, .f32⟩
  | .hbm, ⟨6, _⟩ => ⟨S3072x1024, .bf16⟩
  | .hbm, ⟨7, _⟩ => ⟨S2x1024x1024, .f32⟩
  | .hbm, ⟨8, _⟩ => ⟨S4x1024x5632, .f32⟩
  | .hbm, ⟨9, _⟩ => ⟨S4x2816x1024, .f32⟩
  | .hbm, ⟨10, _⟩ => ⟨S4x1024x1024, .f32⟩
  | .hbm, ⟨11, _⟩ => ⟨S4x256x1024, .f32⟩
  | .hbm, ⟨12, _⟩ => ⟨S16384x1024, .f32⟩
  | .hbm, ⟨13, _⟩ => ⟨S32x1024x512, .bf16⟩
  | .hbm, ⟨14, _⟩ => ⟨S16384x1024, .bf16⟩
  | .hbm, ⟨15, _⟩ => ⟨S1024x16384, .bf16⟩
  | .hbm, ⟨16, _⟩ => ⟨S1024x1024, .bf16⟩
  | .hbm, ⟨17, _⟩ => ⟨S1024x5632, .bf16⟩
  | .hbm, ⟨18, _⟩ => ⟨S2816x1024, .bf16⟩
  | .hbm, ⟨19, _⟩ => ⟨S1024x1024, .bf16⟩
  | .hbm, ⟨20, _⟩ => ⟨S256x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x512x256, .f32⟩
  | .local _ .vmem, ⟨5, _⟩ => ⟨S1x512x256, .f32⟩
  | .local _ .vmem, ⟨6, _⟩ => ⟨S256x1024, .bf16⟩
  | .local _ .vmem, ⟨7, _⟩ => ⟨S1x1024, .f32⟩
  | .local _ .vmem, ⟨8, _⟩ => ⟨S3072x1024, .bf16⟩
  | .local _ .vmem, ⟨9, _⟩ => ⟨S1x32x1024, .f32⟩
  | .local _ .vmem, ⟨10, _⟩ => ⟨S1x32x1024, .f32⟩
  | .local _ .vmem, ⟨11, _⟩ => ⟨S1x32x5632, .f32⟩
  | .local _ .vmem, ⟨12, _⟩ => ⟨S1x32x5632, .f32⟩
  | .local _ .vmem, ⟨13, _⟩ => ⟨S1x176x1024, .f32⟩
  | .local _ .vmem, ⟨14, _⟩ => ⟨S1x176x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x16x1024, .f32⟩
  | .local _ .vmem, ⟨18, _⟩ => ⟨S1x16x1024, .f32⟩
  | .local _ .vmem, ⟨19, _⟩ => ⟨S512x1024, .f32⟩
  | .local _ .vmem, ⟨20, _⟩ => ⟨S512x1024, .f32⟩
  | .local _ .vmem, ⟨21, _⟩ => ⟨S1x1024x512, .bf16⟩
  | .local _ .vmem, ⟨22, _⟩ => ⟨S1x1024x512, .bf16⟩
  | .local _ .vmem, ⟨23, _⟩ => ⟨S512x1024, .bf16⟩
  | .local _ .vmem, ⟨24, _⟩ => ⟨S512x1024, .bf16⟩
  | .local _ .vmem, ⟨25, _⟩ => ⟨S1024x512, .bf16⟩
  | .local _ .vmem, ⟨26, _⟩ => ⟨S1024x512, .bf16⟩
  | .local _ .vmem, ⟨27, _⟩ => ⟨S32x1024, .bf16⟩
  | .local _ .vmem, ⟨28, _⟩ => ⟨S32x1024, .bf16⟩
  | .local _ .vmem, ⟨29, _⟩ => ⟨S32x5632, .bf16⟩
  | .local _ .vmem, ⟨30, _⟩ => ⟨S32x5632, .bf16⟩
  | .local _ .vmem, ⟨31, _⟩ => ⟨S176x1024, .bf16⟩
  | .local _ .vmem, ⟨32, _⟩ => ⟨S176x1024, .bf16⟩
  | .local _ .vmem, ⟨33, _⟩ => ⟨S32x1024, .bf16⟩
  | .local _ .vmem, ⟨34, _⟩ => ⟨S32x1024, .bf16⟩
  | .local _ .vmem, ⟨35, _⟩ => ⟨S16x1024, .bf16⟩
  | .local _ .vmem, ⟨36, _⟩ => ⟨S16x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let c0_i32_7 : BitVec 32 := 0#32
  ![c1_i32_5.toNat, v16.toNat, c0_i32_6.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let c0_i32_5 : BitVec 32 := 0#32
  let c0_i32_6 : BitVec 32 := 0#32
  ![c3_i32.toNat, v16.toNat, c0_i32_5.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  ![c3_i32.toNat, v16.toNat, c0_i32_4.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let c0_i32_5 : BitVec 32 := 0#32
  let c0_i32_6 : BitVec 32 := 0#32
  ![c3_i32.toNat, v16.toNat, c0_i32_5.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  ![c3_i32.toNat, v16.toNat, c0_i32_4.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_17 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_18 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_19 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_20 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x5632 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S176x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S16x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference6Ideal.lean ====
abbrev S16384x1024 : Shape := ⟨2, ![16384, 1024]⟩
abbrev S1x1024 : Shape := ⟨2, ![1, 1024]⟩
abbrev S1024x1024 : Shape := ⟨2, ![1024, 1024]⟩
abbrev S4x16384x256 : Shape := ⟨3, ![4, 16384, 256]⟩
abbrev S256x1024 : Shape := ⟨2, ![256, 1024]⟩
abbrev S3072x1024 : Shape := ⟨2, ![3072, 1024]⟩
abbrev S2x1024x1024 : Shape := ⟨3, ![2, 1024, 1024]⟩
abbrev S4x1024x5632 : Shape := ⟨3, ![4, 1024, 5632]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S_ : Shape := ⟨0, ![]⟩
abbrev S16384 : Shape := ⟨1, ![16384]⟩
abbrev S16384x1 : Shape := ⟨2, ![16384, 1]⟩
abbrev S1x16384x256 : Shape := ⟨3, ![1, 16384, 256]⟩
abbrev S16384x256 : Shape := ⟨2, ![16384, 256]⟩
abbrev S1024x3072 : Shape := ⟨2, ![1024, 3072]⟩
abbrev S16384x3072 : Shape := ⟨2, ![16384, 3072]⟩
abbrev S32x512x1024 : Shape := ⟨3, ![32, 512, 1024]⟩
abbrev S32x1024x512 : Shape := ⟨3, ![32, 1024, 512]⟩
abbrev S1x1024x1024 : Shape := ⟨3, ![1, 1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x256x1024 : Shape := ⟨3, ![1, 256, 1024]⟩
abbrev S1024x16384 : Shape := ⟨2, ![1024, 16384]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1024, .bf16⟩
  | .hbm, ⟨3, _⟩ => ⟨S4x16384x256, .f32⟩
  | .hbm, ⟨4, _⟩ => ⟨S256x1024, .bf16⟩
  | .hbm, ⟨5, _⟩ => ⟨S1x1024, .f32⟩
  | .hbm, ⟨6, _⟩ => ⟨S3072x1024, .bf16⟩
  | .hbm, ⟨7, _⟩ => ⟨S2x1024x1024, .f32⟩
  | .hbm, ⟨8, _⟩ => ⟨S4x1024x5632, .f32⟩
  | .hbm, ⟨9, _⟩ => ⟨S4x2816x1024, .f32⟩
  | .hbm, ⟨10, _⟩ => ⟨S4x1024x1024, .f32⟩
  | .hbm, ⟨11, _⟩ => ⟨S4x256x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S1x16384x256, .f32⟩
  | .hbm, ⟨38, _⟩ => ⟨S16384x256, .f32⟩
  | .hbm, ⟨39, _⟩ => ⟨S256x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S3072x1024, .f32⟩
  | .hbm, ⟨59, _⟩ => ⟨S1024x3072, .f32⟩
  | .hbm, ⟨60, _⟩ => ⟨S16384x3072, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S32x512x1024, .f32⟩
  | .hbm, ⟨65, _⟩ => ⟨S32x1024x512, .f32⟩
  | .hbm, ⟨66, _⟩ => ⟨S1x1024x1024, .f32⟩
  | .hbm, ⟨67, _⟩ => ⟨S1024x1024, .f32⟩
  | .hbm, ⟨68, _⟩ => ⟨S1x1024x5632, .f32⟩
  | .hbm, ⟨69, _⟩ => ⟨S1024x5632, .f32⟩
  | .hbm, ⟨70, _⟩ => ⟨S1x2816x1024, .f32⟩
  | .hbm, ⟨71, _⟩ => ⟨S2816x1024, .f32⟩
  | .hbm, ⟨72, _⟩ => ⟨S1x1024x1024, .f32⟩
  | .hbm, ⟨73, _⟩ => ⟨S1024x1024, .f32⟩
  | .hbm, ⟨74, _⟩ => ⟨S1x256x1024, .f32⟩
  | .hbm, ⟨75, _⟩ => ⟨S256x1024, .f32⟩
  | .hbm, ⟨76, _⟩ => ⟨S1024x16384, .f32⟩
  | .hbm, ⟨77, _⟩ => ⟨S32x1024x512, .bf16⟩
  | .hbm, ⟨78, _⟩ => ⟨S16384x1024, .bf16⟩
  | .hbm, ⟨79, _⟩ => ⟨S1024x16384, .bf16⟩
  | .hbm, ⟨80, _⟩ => ⟨S1024x1024, .bf16⟩
  | .hbm, ⟨81, _⟩ => ⟨S1024x5632, .bf16⟩
  | .hbm, ⟨82, _⟩ => ⟨S2816x1024, .bf16⟩
  | .hbm, ⟨83, _⟩ => ⟨S1024x1024, .bf16⟩
  | .hbm, ⟨84, _⟩ => ⟨S256x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Kernel7.lean ====
abbrev S16384x1024 : Shape := ⟨2, ![16384, 1024]⟩
abbrev S1x1024 : Shape := ⟨2, ![1, 1024]⟩
abbrev S3072x1024 : Shape := ⟨2, ![3072, 1024]⟩
abbrev S128x1024 : Shape := ⟨2, ![128, 1024]⟩
abbrev S1x128 : Shape := ⟨2, ![1, 128]⟩
abbrev S2x1024x1024 : Shape := ⟨3, ![2, 1024, 1024]⟩
abbrev S4x1024x5632 : Shape := ⟨3, ![4, 1024, 5632]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S2x1024x3072 : Shape := ⟨3, ![2, 1024, 3072]⟩
abbrev S32x1024x512 : Shape := ⟨3, ![32, 1024, 512]⟩
abbrev S1024x16384 : Shape := ⟨2, ![1024, 16384]⟩
abbrev S16384x128 : Shape := ⟨2, ![16384, 128]⟩
abbrev S1024x1024 : Shape := ⟨2, ![1024, 1024]⟩
abbrev S1024x5632 : Shape := ⟨2, ![1024, 5632]⟩
abbrev S2816x1024 : Shape := ⟨2, ![2816, 1024]⟩
abbrev S256x1024 : Shape := ⟨2, ![256, 1024]⟩
abbrev S512x1024 : Shape := ⟨2, ![512, 1024]⟩
abbrev S1x32x1024 : Shape := ⟨3, ![1, 32, 1024]⟩
abbrev S1x32x5632 : Shape := ⟨3, ![1, 32, 5632]⟩
abbrev S1x176x1024 : Shape := ⟨3, ![1, 176, 1024]⟩
abbrev S1x16x1024 : Shape := ⟨3, ![1, 16, 1024]⟩
abbrev S1x128x3072 : Shape := ⟨3, ![1, 128, 3072]⟩
abbrev S1x1024x512 : Shape := ⟨3, ![1, 1024, 512]⟩
abbrev S1024x512 : Shape := ⟨2, ![1024, 512]⟩
abbrev S512x128 : Shape := ⟨2, ![512, 128]⟩
abbrev S32x1024 : Shape := ⟨2, ![32, 1024]⟩
abbrev S32x5632 : Shape := ⟨2, ![32, 5632]⟩
abbrev S176x1024 : Shape := ⟨2, ![176, 1024]⟩
abbrev S16x1024 : Shape := ⟨2, ![16, 1024]⟩
abbrev S3072x128 : Shape := ⟨2, ![3072, 128]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩
abbrev S128x3072 : Shape := ⟨2, ![128, 3072]⟩
abbrev S3072x1 : Shape := ⟨2, ![3072, 1]⟩

abbrev nBuf : Space → Nat
  | .hbm => 21
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S3072x1024, .bf16⟩
  | .hbm, ⟨3, _⟩ => ⟨S128x1024, .f32⟩
  | .hbm, ⟨4, _⟩ => ⟨S1x128, .f32⟩
  | .hbm, ⟨5, _⟩ => ⟨S2x1024x1024, .f32⟩
  | .hbm, ⟨6, _⟩ => ⟨S4x1024x5632, .f32⟩
  | .hbm, ⟨7, _⟩ => ⟨S4x2816x1024, .f32⟩
  | .hbm, ⟨8, _⟩ => ⟨S4x1024x1024, .f32⟩
  | .hbm, ⟨9, _⟩ => ⟨S4x256x1024, .f32⟩
  | .hbm, ⟨10, _⟩ => ⟨S2x1024x3072, .f32⟩
  | .hbm, ⟨11, _⟩ => ⟨S32x1024x512, .bf16⟩
  | .hbm, ⟨12, _⟩ => ⟨S16384x1024, .bf16⟩
  | .hbm, ⟨13, _⟩ => ⟨S1024x16384, .bf16⟩
  | .hbm, ⟨14, _⟩ => ⟨S16384x128, .f32⟩
  | .hbm, ⟨15, _⟩ => ⟨S1024x1024, .bf16⟩
  | .hbm, ⟨16, _⟩ => ⟨S1024x5632, .bf16⟩
  | .hbm, ⟨17, _⟩ => ⟨S2816x1024, .bf16⟩
  | .hbm, ⟨18, _⟩ => ⟨S1024x1024, .bf16⟩
  | .hbm, ⟨19, _⟩ => ⟨S256x1024, .bf16⟩
  | .hbm, ⟨20, _⟩ => ⟨S3072x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3072x1024, .bf16⟩
  | .local _ .vmem, ⟨4, _⟩ => ⟨S128x1024, .f32⟩
  | .local _ .vmem, ⟨5, _⟩ => ⟨S1x128, .f32⟩
  | .local _ .vmem, ⟨6, _⟩ => ⟨S1x32x1024, .f32⟩
  | .local _ .vmem, ⟨7, _⟩ => ⟨S1x32x1024, .f32⟩
  | .local _ .vmem, ⟨8, _⟩ => ⟨S1x32x5632, .f32⟩
  | .local _ .vmem, ⟨9, _⟩ => ⟨S1x32x5632, .f32⟩
  | .local _ .vmem, ⟨10, _⟩ => ⟨S1x176x1024, .f32⟩
  | .local _ .vmem, ⟨11, _⟩ => ⟨S1x176x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x16x1024, .f32⟩
  | .local _ .vmem, ⟨15, _⟩ => ⟨S1x16x1024, .f32⟩
  | .local _ .vmem, ⟨16, _⟩ => ⟨S1x128x3072, .f32⟩
  | .local _ .vmem, ⟨17, _⟩ => ⟨S1x128x3072, .f32⟩
  | .local _ .vmem, ⟨18, _⟩ => ⟨S1x1024x512, .bf16⟩
  | .local _ .vmem, ⟨19, _⟩ => ⟨S1x1024x512, .bf16⟩
  | .local _ .vmem, ⟨20, _⟩ => ⟨S512x1024, .bf16⟩
  | .local _ .vmem, ⟨21, _⟩ => ⟨S512x1024, .bf16⟩
  | .local _ .vmem, ⟨22, _⟩ => ⟨S1024x512, .bf16⟩
  | .local _ .vmem, ⟨23, _⟩ => ⟨S1024x512, .bf16⟩
  | .local _ .vmem, ⟨24, _⟩ => ⟨S512x128, .f32⟩
  | .local _ .vmem, ⟨25, _⟩ => ⟨S512x128, .f32⟩
  | .local _ .vmem, ⟨26, _⟩ => ⟨S32x1024, .bf16⟩
  | .local _ .vmem, ⟨27, _⟩ => ⟨S32x1024, .bf16⟩
  | .local _ .vmem, ⟨28, _⟩ => ⟨S32x5632, .bf16⟩
  | .local _ .vmem, ⟨29, _⟩ => ⟨S32x5632, .bf16⟩
  | .local _ .vmem, ⟨30, _⟩ => ⟨S176x1024, .bf16⟩
  | .local _ .vmem, ⟨31, _⟩ => ⟨S176x1024, .bf16⟩
  | .local _ .vmem, ⟨32, _⟩ => ⟨S32x1024, .bf16⟩
  | .local _ .vmem, ⟨33, _⟩ => ⟨S32x1024, .bf16⟩
  | .local _ .vmem, ⟨34, _⟩ => ⟨S16x1024, .bf16⟩
  | .local _ .vmem, ⟨35, _⟩ => ⟨S16x1024, .bf16⟩
  | .local _ .vmem, ⟨36, _⟩ => ⟨S3072x128, .bf16⟩
  | .local _ .vmem, ⟨37, _⟩ => ⟨S3072x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_16 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_17 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_18 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_19 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_20 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x5632 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S176x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S3072x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference7Ideal.lean ====
abbrev S16384x1024 : Shape := ⟨2, ![16384, 1024]⟩
abbrev S1x1024 : Shape := ⟨2, ![1, 1024]⟩
abbrev S3072x1024 : Shape := ⟨2, ![3072, 1024]⟩
abbrev S128x1024 : Shape := ⟨2, ![128, 1024]⟩
abbrev S1x128 : Shape := ⟨2, ![1, 128]⟩
abbrev S2x1024x1024 : Shape := ⟨3, ![2, 1024, 1024]⟩
abbrev S4x1024x5632 : Shape := ⟨3, ![4, 1024, 5632]⟩
abbrev S4x2816x1024 : Shape := ⟨3, ![4, 2816, 1024]⟩
abbrev S4x1024x1024 : Shape := ⟨3, ![4, 1024, 1024]⟩
abbrev S4x256x1024 : Shape := ⟨3, ![4, 256, 1024]⟩
abbrev S2x1024x3072 : Shape := ⟨3, ![2, 1024, 3072]⟩
abbrev S_ : Shape := ⟨0, ![]⟩
abbrev S16384 : Shape := ⟨1, ![16384]⟩
abbrev S16384x1 : Shape := ⟨2, ![16384, 1]⟩
abbrev S1024x3072 : Shape := ⟨2, ![1024, 3072]⟩
abbrev S16384x3072 : Shape := ⟨2, ![16384, 3072]⟩
abbrev S32x512x1024 : Shape := ⟨3, ![32, 512, 1024]⟩
abbrev S32x1024x512 : Shape := ⟨3, ![32, 1024, 512]⟩
abbrev S1024x128 : Shape := ⟨2, ![1024, 128]⟩
abbrev S16384x128 : Shape := ⟨2, ![16384, 128]⟩
abbrev S1x1024x3072 : Shape := ⟨3, ![1, 1024, 3072]⟩
abbrev S1024x1024 : Shape := ⟨2, ![1024, 1024]⟩
abbrev S2048x1024 : Shape := ⟨2, ![2048, 1024]⟩
abbrev S1x1024x1024 : Shape := ⟨3, ![1, 1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x256x1024 : Shape := ⟨3, ![1, 256, 1024]⟩
abbrev S256x1024 : Shape := ⟨2, ![256, 1024]⟩
abbrev S1024x16384 : Shape := ⟨2, ![1024, 16384]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S3072x1024, .bf16⟩
  | .hbm, ⟨3, _⟩ => ⟨S128x1024, .f32⟩
  | .hbm, ⟨4, _⟩ => ⟨S1x128, .f32⟩
  | .hbm, ⟨5, _⟩ => ⟨S2x1024x1024, .f32⟩
  | .hbm, ⟨6, _⟩ => ⟨S4x1024x5632, .f32⟩
  | .hbm, ⟨7, _⟩ => ⟨S4x2816x1024, .f32⟩
  | .hbm, ⟨8, _⟩ => ⟨S4x1024x1024, .f32⟩
  | .hbm, ⟨9, _⟩ => ⟨S4x256x1024, .f32⟩
  | .hbm, ⟨10, _⟩ => ⟨S2x1024x3072, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S3072x1024, .f32⟩
  | .hbm, ⟨27, _⟩ => ⟨S1024x3072, .f32⟩
  | .hbm, ⟨28, _⟩ => ⟨S16384x3072, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S32x512x1024, .f32⟩
  | .hbm, ⟨33, _⟩ => ⟨S32x1024x512, .f32⟩
  | .hbm, ⟨34, _⟩ => ⟨S1024x128, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S_, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S16384x128, .i1⟩
  | .hbm, ⟨45, _⟩ => ⟨S16384x128, .f32⟩
  | .hbm, ⟨46, _⟩ => ⟨S16384x128, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S16384x128, .f32⟩
  | .hbm, ⟨51, _⟩ => ⟨S16384x128, .f32⟩
  | .hbm, ⟨52, _⟩ => ⟨S16384x128, .f32⟩
  | .hbm, ⟨53, _⟩ => ⟨S16384x128, .f32⟩
  | .hbm, ⟨54, _⟩ => ⟨S1x1024x3072, .f32⟩
  | .hbm, ⟨55, _⟩ => ⟨S1024x3072, .f32⟩
  | .hbm, ⟨56, _⟩ => ⟨S3072x1024, .f32⟩
  | .hbm, ⟨57, _⟩ => ⟨S1024x1024, .f32⟩
  | .hbm, ⟨58, _⟩ => ⟨S_, .f32⟩
  | .hbm, ⟨59, _⟩ => ⟨S1024x1024, .f32⟩
  | .hbm, ⟨60, _⟩ => ⟨S1024x1024, .f32⟩
  | .hbm, ⟨61, _⟩ => ⟨S2048x1024, .f32⟩
  | .hbm, ⟨62, _⟩ => ⟨S3072x1024, .f32⟩
  | .hbm, ⟨63, _⟩ => ⟨S1x1024x1024, .f32⟩
  | .hbm, ⟨64, _⟩ => ⟨S1024x1024, .f32⟩
  | .hbm, ⟨65, _⟩ => ⟨S1x1024x5632, .f32⟩
  | .hbm, ⟨66, _⟩ => ⟨S1024x5632, .f32⟩
  | .hbm, ⟨67, _⟩ => ⟨S1x2816x1024, .f32⟩
  | .hbm, ⟨68, _⟩ => ⟨S2816x1024, .f32⟩
  | .hbm, ⟨69, _⟩ => ⟨S1x1024x1024, .f32⟩
  | .hbm, ⟨70, _⟩ => ⟨S1024x1024, .f32⟩
  | .hbm, ⟨71, _⟩ => ⟨S1x256x1024, .f32⟩
  | .hbm, ⟨72, _⟩ => ⟨S256x1024, .f32⟩
  | .hbm, ⟨73, _⟩ => ⟨S1024x16384, .f32⟩
  | .hbm, ⟨74, _⟩ => ⟨S32x1024x512, .bf16⟩
  | .hbm, ⟨75, _⟩ => ⟨S16384x1024, .bf16⟩
  | .hbm, ⟨76, _⟩ => ⟨S1024x16384, .bf16⟩
  | .hbm, ⟨77, _⟩ => ⟨S1024x1024, .bf16⟩
  | .hbm, ⟨78, _⟩ => ⟨S1024x5632, .bf16⟩
  | .hbm, ⟨79, _⟩ => ⟨S2816x1024, .bf16⟩
  | .hbm, ⟨80, _⟩ => ⟨S1024x1024, .bf16⟩
  | .hbm, ⟨81, _⟩ => ⟨S256x1024, .bf16⟩
  | .hbm, ⟨82, _⟩ => ⟨S3072x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_v0 : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_v1 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_2 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]
-- ==== Proof.Ref.Math.lean ====
module

public import Idealize.ShloMosaic.PureOps.Ideal
public import Idealize.ShloMosaic.PureOps.Ideal.Laws
public import Mathlib.Analysis.SpecialFunctions.Pow.Real
public import Mathlib.Analysis.SpecialFunctions.Log.Basic

@[expose] public section

noncomputable section

namespace Cert.Fox

open Idealize.ShloMosaic

/-- The sum over the first `p` keys of the value times two to the score less `m`. -/
def acc (σ : ℕ → ℝ) (v : ℕ → EReal) (p : ℕ) (m : EReal) : EReal :=
  ∑ k ∈ Finset.range p, v k * Ideal.exp2 ((σ k : EReal) - m)

/-- The running maximum is minus infinity before any key, a real number after. -/
def Good (p : ℕ) (m : EReal) : Prop := (p = 0 ∧ m = ⊥) ∨ ∃ μ : ℝ, m = (μ : EReal)

/-- The average of the values of the first `n` keys under the softmax of their scores. -/
def att (σ : ℕ → ℝ) (v : ℕ → EReal) (n : ℕ) : EReal :=
  ∑ k ∈ Finset.range n, v k * (((2 : ℝ) ^ (σ k) / ∑ j ∈ Finset.range n, (2 : ℝ) ^ (σ j) : ℝ) : EReal)

/-- The maximum held for subtraction, zero in place of minus infinity. -/
def safe (m : EReal) : EReal := if m = ⊥ then 0 else m

theorem safe_coe (μ : ℝ) : safe (μ : EReal) = μ := if_neg (EReal.coe_ne_bot μ)

theorem sum_fin_lt {N cnt : ℕ} (h : cnt ≤ N) (f : Fin N → EReal) (g : ℕ → EReal)
    (h1 : ∀ i : Fin N, i.val < cnt → f i = g i.val) (h0 : ∀ i : Fin N, ¬ i.val < cnt → f i = 0) :
    ∑ i, f i = ∑ k ∈ Finset.range cnt, g k := by
  have e : ∀ i : Fin N, f i = (fun k => if k < cnt then g k else 0) i.val := by
    intro i
    by_cases hi : i.val < cnt
    · simp [hi, h1 i hi]
    · simp [hi, h0 i hi]
  rw [Finset.sum_congr rfl (fun i _ => e i), Fin.sum_univ_eq_sum_range (fun k => if k < cnt then g k else 0) N,
    ← Finset.sum_filter]
  congr 1
  ext k
  simp
  omega

theorem fold_ne_top {N : ℕ} (s : Fin N → EReal) (h : ∀ i, s i ≠ ⊤) :
    (Finset.univ : Finset (Fin N)).fold max ⊥ s ≠ ⊤ := by
  have : (Finset.univ : Finset (Fin N)).fold max ⊥ s < ⊤ := by
    rw [Finset.fold_max_lt]
    exact ⟨bot_lt_top, fun i _ => lt_top_iff_ne_top.2 (h i)⟩
  exact this.ne

theorem fold_real {N : ℕ} (s : Fin N → EReal) (h : ∀ i, s i ≠ ⊤) (i0 : Fin N) (h0 : s i0 ≠ ⊥) :
    ∃ r : ℝ, (Finset.univ : Finset (Fin N)).fold max ⊥ s = (r : EReal) := by
  have h1 := fold_ne_top s h
  have h2 : (Finset.univ : Finset (Fin N)).fold max ⊥ s ≠ ⊥ := by
    have : s i0 ≤ (Finset.univ : Finset (Fin N)).fold max ⊥ s := by
      rw [Finset.le_fold_max]
      exact Or.inr ⟨i0, Finset.mem_univ _, le_rfl⟩
    intro h; rw [h] at this
    exact h0 (le_bot_iff.1 this)
  exact ⟨_, (EReal.coe_toReal h1 h2).symm⟩

theorem exp2_sub (a b : ℝ) : Ideal.exp2 ((a : EReal) - (b : EReal)) = (((2 : ℝ) ^ (a - b) : ℝ) : EReal) := by
  rw [← EReal.coe_sub, Ideal.exp2_coe]; rfl

theorem mul_sum_real {ι : Type} (s : Finset ι) (f : ι → EReal) (c : ℝ) (hc : 0 ≤ c) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem rescale (σ : ℕ → ℝ) (v : ℕ → EReal) (p : ℕ) (m : EReal) (hm : Good p m) (μ : ℝ) :
    Ideal.exp2 (m - (μ : EReal)) * acc σ v p m = acc σ v p (μ : EReal) := by
  rcases hm with ⟨rfl, rfl⟩ | ⟨ν, rfl⟩
  · simp [acc]
  · unfold acc
    rw [exp2_sub, mul_sum_real _ _ _ (Real.rpow_nonneg (by norm_num) _)]
    refine Finset.sum_congr rfl fun k _ => ?_
    rw [exp2_sub, exp2_sub, mul_left_comm, ← EReal.coe_mul, ← Real.rpow_add (by norm_num)]
    congr 3
    ring

/-- One block of keys folded into the running maximum and the running sum. -/
theorem fold_step (σ : ℕ → ℝ) (v : ℕ → EReal) {N cnt p : ℕ} (hc : cnt ≤ N) (h0 : 0 < cnt) (s vv : Fin N → EReal)
    (hs : ∀ i : Fin N, i.val < cnt → s i = (σ (p + i.val) : EReal)) (hs' : ∀ i : Fin N, ¬ i.val < cnt → s i = ⊥)
    (hv : ∀ i : Fin N, i.val < cnt → vv i = v (p + i.val)) (m : EReal) (hm : Good p m) :
    Good (p + cnt) (max m ((Finset.univ : Finset (Fin N)).fold max ⊥ s)) ∧
    Ideal.exp2 (m - safe (max m ((Finset.univ : Finset (Fin N)).fold max ⊥ s))) * acc σ v p m
        + ∑ i, vv i * Ideal.exp2 (s i - safe (max m ((Finset.univ : Finset (Fin N)).fold max ⊥ s)))
      = acc σ v (p + cnt) (max m ((Finset.univ : Finset (Fin N)).fold max ⊥ s)) := by
  obtain ⟨r, hr⟩ := fold_real s (fun i => by
    by_cases hi : i.val < cnt
    · rw [hs i hi]; exact EReal.coe_ne_top _
    · rw [hs' i hi]; exact bot_ne_top) ⟨0, by omega⟩ (by rw [hs _ h0]; exact EReal.coe_ne_bot _)
  rw [hr]
  have hμ : ∃ μ : ℝ, max m (r : EReal) = (μ : EReal) := by
    rcases hm with ⟨_, rfl⟩ | ⟨ν, rfl⟩
    · exact ⟨r, by simp⟩
    · rcases le_total ν r with h | h
      · exact ⟨r, max_eq_right (EReal.coe_le_coe_iff.2 h)⟩
      · exact ⟨ν, max_eq_left (EReal.coe_le_coe_iff.2 h)⟩
  obtain ⟨μ, hμ⟩ := hμ
  rw [hμ, safe_coe, rescale σ v p m hm μ]
  refine ⟨Or.inr ⟨μ, rfl⟩, ?_⟩
  unfold acc
  rw [Finset.sum_range_add, sum_fin_lt hc _ (fun k => v (p + k) * Ideal.exp2 ((σ (p + k) : EReal) - μ))]
  · intro i hi; rw [hs i hi, hv i hi]
  · intro i hi; rw [hs' i hi]
    rw [EReal.bot_sub]; simp

/-- The running sum divided by the running sum of ones is the softmax average. -/
theorem acc_div (σ : ℕ → ℝ) (v : ℕ → EReal) {n : ℕ} (hn : 0 < n) (m : EReal) (hm : Good n m) :
    Ideal.div (acc σ v n m) (acc σ (fun _ => 1) n m) = att σ v n := by
  obtain ⟨rfl, _⟩ | ⟨μ, rfl⟩ := hm
  · omega
  have hpos : 0 < ∑ j ∈ Finset.range n, (2 : ℝ) ^ (σ j) :=
    Finset.sum_pos (fun k _ => Real.rpow_pos_of_pos (by norm_num) _) ⟨0, by simpa using hn⟩
  have hd : acc σ (fun _ => 1) n (μ : EReal) = (((∑ j ∈ Finset.range n, (2 : ℝ) ^ (σ j)) * (2 : ℝ) ^ (-μ) : ℝ) : EReal) := by
    unfold acc
    rw [Finset.sum_mul, coe_sum]
    refine Finset.sum_congr rfl fun k _ => ?_
    rw [one_mul, exp2_sub, sub_eq_add_neg, Real.rpow_add (by norm_num)]
  have h2 : (0 : ℝ) < (2 : ℝ) ^ (-μ) := Real.rpow_pos_of_pos (by norm_num) _
  rw [hd, Ideal.div_coe (mul_pos hpos h2).ne', mul_comm]
  unfold acc att
  rw [mul_sum_real _ _ _ (by positivity)]
  refine Finset.sum_congr rfl fun k _ => ?_
  rw [exp2_sub, mul_left_comm, ← EReal.coe_mul, sub_eq_add_neg, Real.rpow_add (by norm_num)]
  congr 2
  field_simp

/-- The softmax of the scores in the natural base, each key's weight divided before the sum. -/
theorem soft_eq (σ : ℕ → ℝ) (v : ℕ → EReal) {N n : ℕ} (hn : n ≤ N) (h0 : 0 < n) (x vv : Fin N → EReal)
    (hx : ∀ i : Fin N, i.val < n → x i = ((σ i.val * Real.log 2 : ℝ) : EReal)) (hx' : ∀ i : Fin N, ¬ i.val < n → x i = ⊥)
    (hv : ∀ i : Fin N, i.val < n → vv i = v i.val) (M : EReal)
    (hM : M = (Finset.univ : Finset (Fin N)).fold max ⊥ x) :
    ∑ i, Ideal.div (Ideal.exp (x i - M)) (∑ j, Ideal.exp (x j - M)) * vv i = att σ v n := by
  obtain ⟨r, hr⟩ := fold_real x (fun i => by
    by_cases hi : i.val < n
    · rw [hx i hi]; exact EReal.coe_ne_top _
    · rw [hx' i hi]; exact bot_ne_top) ⟨0, by omega⟩ (by rw [hx _ h0]; exact EReal.coe_ne_bot _)
  rw [hr] at hM; subst hM
  have he : ∀ i : Fin N, i.val < n → Ideal.exp (x i - (r : EReal)) = (((2 : ℝ) ^ (σ i.val) * Real.exp (-r) : ℝ) : EReal) := by
    intro i hi
    rw [hx i hi, ← EReal.coe_sub, Ideal.exp_coe, sub_eq_add_neg, Real.exp_add, Real.rpow_def_of_pos (by norm_num), mul_comm (Real.log 2)]
  have hz : ∀ i : Fin N, ¬ i.val < n → Ideal.exp (x i - (r : EReal)) = 0 := by
    intro i hi; rw [hx' i hi, EReal.bot_sub, Ideal.exp_bot]
  have hd : ∑ j, Ideal.exp (x j - (r : EReal)) = (((∑ j ∈ Finset.range n, (2 : ℝ) ^ (σ j)) * Real.exp (-r) : ℝ) : EReal) := by
    rw [sum_fin_lt hn _ (fun k => (((2 : ℝ) ^ (σ k) * Real.exp (-r) : ℝ) : EReal)) he hz, Finset.sum_mul, coe_sum]
  have hpos : 0 < ∑ j ∈ Finset.range n, (2 : ℝ) ^ (σ j) :=
    Finset.sum_pos (fun k _ => Real.rpow_pos_of_pos (by norm_num) _) ⟨0, by simpa using h0⟩
  have h2 : (0 : ℝ) < Real.exp (-r) := Real.exp_pos _
  rw [hd]
  unfold att
  refine sum_fin_lt hn _ _ ?_ ?_
  · intro i hi
    rw [he i hi, hv i hi, Ideal.div_coe (mul_pos hpos h2).ne', mul_comm, ← EReal.coe_mul]
    congr 2
    field_simp
  · intro i hi
    rw [hz i hi, Ideal.div_coe (mul_pos hpos h2).ne', zero_mul, zero_mul]

end Cert.Fox

end

end
-- ==== Proof.Ref.Value.lean ====
module

public import proofs.«01_k».proof.Proof.Gen.ReferenceIdeal.Run
public import proofs.«01_k».proof.Proof.Gen.ReferenceIdeal.Read
public import proofs.«01_k».proof.Proof.Ref.Math
public import Idealize.ShloMosaic.Lib.Pointwise
public import Idealize.ShloMosaic.Lib.WordCmp

@[expose] public section

set_option maxRecDepth 16384

noncomputable section

namespace Cert.ReferenceIdeal.Fox

open Cert.ReferenceIdeal Cert.ReferenceIdeal.Gen Cert.ReferenceIdeal.Read
open Idealize.ShloMosaic Cert.Fox

/-- An entry of an array of three axes at natural coordinates. -/
def at3 {a b c : ℕ} [NeZero a] [NeZero b] [NeZero c] (X : (⟨3, ![a, b, c]⟩ : Shape).Idx → EReal) (i j k : ℕ) : EReal :=
  X (ix3 (Fin.ofNat a i) (Fin.ofNat b j) (Fin.ofNat c k))
/-- An entry of an array of two axes at natural coordinates. -/
def at2 {a b : ℕ} [NeZero a] [NeZero b] (X : (⟨2, ![a, b]⟩ : Shape).Idx → EReal) (i j : ℕ) : EReal :=
  X (ix2 (Fin.ofNat a i) (Fin.ofNat b j))

variable (x0 : S32x1024x512.Idx → EReal) (x1 : S4x4096x1024.Idx → EReal) (x2 : S1024x16384.Idx → EReal)
  (x3 : S32x128x512.Idx → EReal) (x4 : S4x4096x128.Idx → EReal)

/-- The score of key `k` for query `t` of head `H` of batch row `b`. -/
def rsc (b H t k : ℕ) : EReal :=
  ∑ d ∈ Finset.range 64, at3 x0 (8 * b + t / 512) (64 * H + d) (t % 512) * at3 x1 b k (64 * H + d)
    + ∑ g ∈ Finset.range 8, at3 x3 (8 * b + t / 512) (8 * H + g) (t % 512) * at3 x4 b k (8 * H + g)

theorem v2_at (b : Fin 4) (q : Fin 8) (H : Fin 16) (y : Fin 512) (d : Fin 64) :
    val_main_v2 (F := Ideal) x0 (ix5 b H q y d) = at3 x0 (8 * b.val + q.val) (64 * H.val + d.val) y.val := by
  rw [val_main_v2_apply, val_main_v1_apply]
  show x0 _ = x0 _
  congr 1
  funext a
  match a with
  | ⟨0, _⟩ => exact Fin.ext (by show ((((b.val * 8 + q.val) * 16 + H.val) * 64 + d.val) * 512 + y.val) / 524288 = (8 * b.val + q.val) % 32; omega)
  | ⟨1, _⟩ => exact Fin.ext (by show ((((b.val * 8 + q.val) * 16 + H.val) * 64 + d.val) * 512 + y.val) / 512 % 1024 = (64 * H.val + d.val) % 1024; omega)
  | ⟨2, _⟩ => exact Fin.ext (by show ((((b.val * 8 + q.val) * 16 + H.val) * 64 + d.val) * 512 + y.val) % 512 = y.val % 512; omega)

theorem v3_at (b : Fin 4) (H : Fin 16) (t : Fin 4096) (d : Fin 64) :
    val_main_v3 (F := Ideal) x0 (ix4 b H t d) = at3 x0 (8 * b.val + t.val / 512) (64 * H.val + d.val) (t.val % 512) := by
  have e3 : idx_main_v3 (ix4 b H t d) = ix5 b H ⟨t.val / 512, by omega⟩ ⟨t.val % 512, by omega⟩ d := by
    funext a
    match a with
    | ⟨0, _⟩ => exact Fin.ext (by show (((b.val * 16 + H.val) * 4096 + t.val) * 64 + d.val) / 4194304 = b.val; omega)
    | ⟨1, _⟩ => exact Fin.ext (by show (((b.val * 16 + H.val) * 4096 + t.val) * 64 + d.val) / 262144 % 16 = H.val; omega)
    | ⟨2, _⟩ => exact Fin.ext (by show (((b.val * 16 + H.val) * 4096 + t.val) * 64 + d.val) / 32768 % 8 = t.val / 512; omega)
    | ⟨3, _⟩ => exact Fin.ext (by show (((b.val * 16 + H.val) * 4096 + t.val) * 64 + d.val) / 64 % 512 = t.val % 512; omega)
    | ⟨4, _⟩ => exact Fin.ext (by show (((b.val * 16 + H.val) * 4096 + t.val) * 64 + d.val) % 64 = d.val; omega)
  rw [val_main_v3_apply, e3, v2_at]

theorem v12_at (b : Fin 4) (q : Fin 8) (H : Fin 16) (y : Fin 512) (d : Fin 8) :
    val_main_v12 (F := Ideal) x3 (ix5 b H q y d) = at3 x3 (8 * b.val + q.val) (8 * H.val + d.val) y.val := by
  rw [val_main_v12_apply, val_main_v11_apply]
  show x3 _ = x3 _
  congr 1
  funext a
  match a with
  | ⟨0, _⟩ => exact Fin.ext (by show ((((b.val * 8 + q.val) * 16 + H.val) * 8 + d.val) * 512 + y.val) / 65536 = (8 * b.val + q.val) % 32; omega)
  | ⟨1, _⟩ => exact Fin.ext (by show ((((b.val * 8 + q.val) * 16 + H.val) * 8 + d.val) * 512 + y.val) / 512 % 128 = (8 * H.val + d.val) % 128; omega)
  | ⟨2, _⟩ => exact Fin.ext (by show ((((b.val * 8 + q.val) * 16 + H.val) * 8 + d.val) * 512 + y.val) % 512 = y.val % 512; omega)

theorem v13_at (b : Fin 4) (H : Fin 16) (t : Fin 4096) (d : Fin 8) :
    val_main_v13 (F := Ideal) x3 (ix4 b H t d) = at3 x3 (8 * b.val + t.val / 512) (8 * H.val + d.val) (t.val % 512) := by
  have e3 : idx_main_v13 (ix4 b H t d) = ix5 b H ⟨t.val / 512, by omega⟩ ⟨t.val % 512, by omega⟩ d := by
    funext a
    match a with
    | ⟨0, _⟩ => exact Fin.ext (by show (((b.val * 16 + H.val) * 4096 + t.val) * 8 + d.val) / 524288 = b.val; omega)
    | ⟨1, _⟩ => exact Fin.ext (by show (((b.val * 16 + H.val) * 4096 + t.val) * 8 + d.val) / 32768 % 16 = H.val; omega)
    | ⟨2, _⟩ => exact Fin.ext (by show (((b.val * 16 + H.val) * 4096 + t.val) * 8 + d.val) / 4096 % 8 = t.val / 512; omega)
    | ⟨3, _⟩ => exact Fin.ext (by show (((b.val * 16 + H.val) * 4096 + t.val) * 8 + d.val) / 8 % 512 = t.val % 512; omega)
    | ⟨4, _⟩ => exact Fin.ext (by show (((b.val * 16 + H.val) * 4096 + t.val) * 8 + d.val) % 8 = d.val; omega)
  rw [val_main_v13_apply, e3, v12_at]

theorem v6_at (b : Fin 4) (H : Fin 16) (k : Fin 4096) (d : Fin 64) :
    val_main_v6 (F := Ideal) x1 (ix4 b H k d) = at3 x1 b.val k.val (64 * H.val + d.val) := by
  rw [val_main_v6_apply, val_main_v5_apply]
  show x1 _ = x1 _
  congr 1
  funext a
  match a with
  | ⟨0, _⟩ => exact Fin.ext (by show (((b.val * 4096 + k.val) * 16 + H.val) * 64 + d.val) / 4194304 = b.val % 4; omega)
  | ⟨1, _⟩ => exact Fin.ext (by show (((b.val * 4096 + k.val) * 16 + H.val) * 64 + d.val) / 1024 % 4096 = k.val % 4096; omega)
  | ⟨2, _⟩ => exact Fin.ext (by show (((b.val * 4096 + k.val) * 16 + H.val) * 64 + d.val) % 1024 = (64 * H.val + d.val) % 1024; omega)

theorem v16_at (b : Fin 4) (H : Fin 16) (k : Fin 4096) (d : Fin 8) :
    val_main_v16 (F := Ideal) x4 (ix4 b H k d) = at3 x4 b.val k.val (8 * H.val + d.val) := by
  rw [val_main_v16_apply, val_main_v15_apply]
  show x4 _ = x4 _
  congr 1
  funext a
  match a with
  | ⟨0, _⟩ => exact Fin.ext (by show (((b.val * 4096 + k.val) * 16 + H.val) * 8 + d.val) / 524288 = b.val % 4; omega)
  | ⟨1, _⟩ => exact Fin.ext (by show (((b.val * 4096 + k.val) * 16 + H.val) * 8 + d.val) / 128 % 4096 = k.val % 4096; omega)
  | ⟨2, _⟩ => exact Fin.ext (by show (((b.val * 4096 + k.val) * 16 + H.val) * 8 + d.val) % 128 = (8 * H.val + d.val) % 128; omega)

theorem v9_at (b : Fin 4) (H : Fin 16) (k : Fin 4096) (d : Fin 64) :
    val_main_v9 (F := Ideal) x2 (ix4 b H k d) = at2 x2 (64 * H.val + d.val) (4096 * b.val + k.val) := by
  rw [val_main_v9_apply, val_main_v8_apply]
  show x2 _ = x2 _
  congr 1
  funext a
  match a with
  | ⟨0, _⟩ => exact Fin.ext (by show (((H.val * 64 + d.val) * 4 + b.val) * 4096 + k.val) / 16384 = (64 * H.val + d.val) % 1024; omega)
  | ⟨1, _⟩ => exact Fin.ext (by show (((H.val * 64 + d.val) * 4 + b.val) * 4096 + k.val) % 16384 = (4096 * b.val + k.val) % 16384; omega)

theorem v19_at (b : Fin 4) (H : Fin 16) (t k : Fin 4096) :
    val_main_v19 (F := Ideal) x0 x1 x3 x4 (ix4 b H t k) = rsc x0 x1 x3 x4 b.val H.val t.val k.val := by
  have e1 : val_main_v17 (F := Ideal) x0 x1 (ix4 b H t k)
      = ∑ d ∈ Finset.range 64, at3 x0 (8 * b.val + t.val / 512) (64 * H.val + d) (t.val % 512) * at3 x1 b.val k.val (64 * H.val + d) := by
    rw [val_main_v17_apply, ← Fin.sum_univ_eq_sum_range (fun d => at3 x0 (8 * b.val + t.val / 512) (64 * H.val + d) (t.val % 512) * at3 x1 b.val k.val (64 * H.val + d)) 64]
    refine Finset.sum_congr rfl fun d _ => ?_
    rw [← v3_at, ← v6_at]
    congr 2 <;> (funext a; fin_cases a <;> rfl)
  have e2 : val_main_v18 (F := Ideal) x3 x4 (ix4 b H t k)
      = ∑ d ∈ Finset.range 8, at3 x3 (8 * b.val + t.val / 512) (8 * H.val + d) (t.val % 512) * at3 x4 b.val k.val (8 * H.val + d) := by
    rw [val_main_v18_apply, ← Fin.sum_univ_eq_sum_range (fun d => at3 x3 (8 * b.val + t.val / 512) (8 * H.val + d) (t.val % 512) * at3 x4 b.val k.val (8 * H.val + d)) 8]
    refine Finset.sum_congr rfl fun d _ => ?_
    rw [← v13_at, ← v16_at]
    congr 2 <;> (funext a; fin_cases a <;> rfl)
  rw [val_main_v19_apply, e1, e2]
  rfl

theorem neg_inf : Ideal.ofBits FTy.f32 4286578688#32 = ⊥ := by
  simp [Ideal.ofBits, Ideal.ieee]

theorem two_bits : Ideal.ofBits FTy.f32 0x40000000#32 = ((2 : ℝ) : EReal) := by
  simp [Ideal.ofBits, Ideal.ieee]
  rw [← EReal.coe_mul]
  norm_num

theorem log_two (i : S4x16x4096x4096.Idx) : val_main_v22 (F := Ideal) i = ((Real.log 2 : ℝ) : EReal) := by
  rw [val_main_v22_apply, val_main_v21_apply, val_main_v20_apply, val_main_cst_apply]
  show Ideal.log (Ideal.ofBits FTy.f32 0x40000000#32) = _
  rw [two_bits, Ideal.log_coe, if_neg (by norm_num)]

theorem v30_at (b : Fin 4) (H : Fin 16) (t k : Fin 4096) :
    val_main_v30 (F := Ideal) x0 x1 x3 x4 (ix4 b H t k)
      = if k.val < t.val + 1 then rsc x0 x1 x3 x4 b.val H.val t.val k.val * ((Real.log 2 : ℝ) : EReal) else ⊥ := by
  rw [val_main_v30_apply, val_main_call0_v1_apply, val_main_v29_apply, val_main_v27_apply, val_main_v28_apply, val_main_v25_apply, val_main_v26_apply,
    val_main_v24_apply, val_main_v24_apply, val_main_v23_apply, v19_at, log_two, val_main_call0_v2_apply, val_main_call0_v0_apply, val_main_cst_0_apply]
  show Scalar.select (IntOp.cmpi .sle (BitVec.ofNat 32 k.val) (BitVec.ofNat 32 t.val)) _ (Ideal.ofBits FTy.f32 4286578688#32) = _
  rw [WordCmp.cmpi_sle_ofNat (by omega) (by omega), neg_inf]
  by_cases h : k.val < t.val + 1
  · rw [if_pos h, decide_eq_true (by omega)]; rfl
  · rw [if_neg h, decide_eq_false (by omega)]; rfl

theorem v31_at (b : Fin 4) (H : Fin 16) (t : Fin 4096) :
    val_main_v31 (F := Ideal) x0 x1 x3 x4 (ix3 b H t)
      = (Finset.univ : Finset (Fin 4096)).fold max ⊥ fun k => val_main_v30 (F := Ideal) x0 x1 x3 x4 (ix4 b H t k) := by
  unfold val_main_v31
  generalize val_main_v30 (F := Ideal) x0 x1 x3 x4 = X
  pointwise [val_main_cst_1]
  rw [neg_inf]

theorem v33_at (b : Fin 4) (H : Fin 16) (t : Fin 4096) :
    val_main_v33 (F := Ideal) x0 x1 x3 x4 (ix3 b H t)
      = (Finset.univ : Finset (Fin 4096)).fold max ⊥ fun k => val_main_v30 (F := Ideal) x0 x1 x3 x4 (ix4 b H t k) := by
  rw [val_main_v33_apply, v31_at, val_main_v32_apply, val_main_cst_2_apply]
  show max (Ideal.ofBits FTy.f32 4286578688#32) _ = _
  rw [neg_inf]
  exact max_eq_right bot_le

theorem v37_at (b : Fin 4) (H : Fin 16) (t k : Fin 4096) :
    val_main_v37 (F := Ideal) x0 x1 x3 x4 (ix4 b H t k)
      = Ideal.exp (val_main_v30 (F := Ideal) x0 x1 x3 x4 (ix4 b H t k)
        - (Finset.univ : Finset (Fin 4096)).fold max ⊥ fun k => val_main_v30 (F := Ideal) x0 x1 x3 x4 (ix4 b H t k)) := by
  rw [val_main_v37_apply, val_main_v36_apply, val_main_v35_apply, val_main_v34_apply, ← v33_at]
  show Ideal.exp (_ - _) = Ideal.exp (_ - _)
  congr 3
  funext a; fin_cases a <;> rfl

theorem v41_at (b : Fin 4) (H : Fin 16) (t k : Fin 4096) :
    val_main_v41 (F := Ideal) x0 x1 x3 x4 (ix4 b H t k)
      = Ideal.div (val_main_v37 (F := Ideal) x0 x1 x3 x4 (ix4 b H t k)) (∑ j : Fin 4096, val_main_v37 (F := Ideal) x0 x1 x3 x4 (ix4 b H t j)) := by
  rw [val_main_v41_apply, val_main_v40_apply, val_main_v39_apply, val_main_v38_apply, val_main_cst_3_apply]
  show Ideal.div _ (Ideal.ofBits FTy.f32 0x00000000#32 + _) = _
  rw [show Ideal.ofBits FTy.f32 0x00000000#32 = 0 from Ideal.ofBits_zero_f32, zero_add]
  refine congrArg (Ideal.div _) (Finset.sum_congr rfl fun j _ => ?_)
  refine congrArg (val_main_v37 (F := Ideal) x0 x1 x3 x4) ?_
  funext a
  match a with
  | ⟨0, _⟩ => rfl
  | ⟨1, _⟩ => rfl
  | ⟨2, _⟩ => rfl
  | ⟨3, _⟩ => rfl

theorem v42_at (b : Fin 4) (H : Fin 16) (t : Fin 4096) (d : Fin 64) (σ : ℕ → ℝ)
    (hσ : ∀ k, rsc x0 x1 x3 x4 b.val H.val t.val k = (σ k : EReal)) :
    val_main_v42 (F := Ideal) x0 x1 x2 x3 x4 (ix4 b H t d)
      = att σ (fun k => at2 x2 (64 * H.val + d.val) (4096 * b.val + k)) (t.val + 1) := by
  rw [val_main_v42_apply, ← soft_eq σ (fun k => at2 x2 (64 * H.val + d.val) (4096 * b.val + k)) (N := 4096) (n := t.val + 1) (by omega) (by omega)
    (fun k => val_main_v30 (F := Ideal) x0 x1 x3 x4 (ix4 b H t k)) (fun k => val_main_v9 (F := Ideal) x2 (ix4 b H k d))
    (fun i hi => by show val_main_v30 (F := Ideal) x0 x1 x3 x4 _ = _; rw [v30_at, if_pos hi, hσ, EReal.coe_mul])
    (fun i hi => by show val_main_v30 (F := Ideal) x0 x1 x3 x4 _ = _; rw [v30_at, if_neg hi])
    (fun i _ => v9_at x2 b H i d) _ rfl]
  refine Finset.sum_congr rfl fun k _ => ?_
  have e1 : lidx_main_v42 (ix4 b H t d) k = ix4 b H t k := by funext a; fin_cases a <;> rfl
  have e2 : ridx_main_v42 (ix4 b H t d) k = ix4 b H k d := by funext a; fin_cases a <;> rfl
  rw [e1, e2, v41_at]
  simp only [v37_at]

theorem v46_at (i : Fin 32) (R : Fin 1024) (y : Fin 512) (σ : ℕ → ℝ)
    (hσ : ∀ k, rsc x0 x1 x3 x4 (i.val / 8) (R.val / 64) (512 * (i.val % 8) + y.val) k = (σ k : EReal)) :
    val_main_v46 (F := Ideal) x0 x1 x2 x3 x4 (ix3 i R y)
      = att σ (fun k => at2 x2 R.val (4096 * (i.val / 8) + k)) (512 * (i.val % 8) + (y.val + 1)) := by
  have e45 : idx_main_v45 (ix3 i R y) = ix5 ⟨i.val / 8, by omega⟩ ⟨i.val % 8, by omega⟩ ⟨R.val / 64, by omega⟩ ⟨R.val % 64, by omega⟩ y := by
    funext a
    match a with
    | ⟨0, _⟩ => exact Fin.ext (by show ((i.val * 1024 + R.val) * 512 + y.val) / 4194304 = i.val / 8; omega)
    | ⟨1, _⟩ => exact Fin.ext (by show ((i.val * 1024 + R.val) * 512 + y.val) / 524288 % 8 = i.val % 8; omega)
    | ⟨2, _⟩ => exact Fin.ext (by show ((i.val * 1024 + R.val) * 512 + y.val) / 32768 % 16 = R.val / 64; omega)
    | ⟨3, _⟩ => exact Fin.ext (by show ((i.val * 1024 + R.val) * 512 + y.val) / 512 % 64 = R.val % 64; omega)
    | ⟨4, _⟩ => exact Fin.ext (by show ((i.val * 1024 + R.val) * 512 + y.val) % 512 = y.val; omega)
  have e43 : ∀ (b : Fin 4) (q : Fin 8) (H : Fin 16) (d : Fin 64),
      idx_main_v43 (idx_main_v44 (ix5 b q H d y)) = ix4 b H ⟨512 * q.val + y.val, by omega⟩ d := by
    intro b q H d
    funext a
    match a with
    | ⟨0, _⟩ => exact Fin.ext (by show ((((b.val * 16 + H.val) * 8 + q.val) * 512 + y.val) * 64 + d.val) / 4194304 = b.val; omega)
    | ⟨1, _⟩ => exact Fin.ext (by show ((((b.val * 16 + H.val) * 8 + q.val) * 512 + y.val) * 64 + d.val) / 262144 % 16 = H.val; omega)
    | ⟨2, _⟩ => exact Fin.ext (by show ((((b.val * 16 + H.val) * 8 + q.val) * 512 + y.val) * 64 + d.val) / 64 % 4096 = 512 * q.val + y.val; omega)
    | ⟨3, _⟩ => exact Fin.ext (by show ((((b.val * 16 + H.val) * 8 + q.val) * 512 + y.val) * 64 + d.val) % 64 = d.val; omega)
  have h := v42_at x0 x1 x2 x3 x4 ⟨i.val / 8, by omega⟩ ⟨R.val / 64, by omega⟩ ⟨512 * (i.val % 8) + y.val, by omega⟩ ⟨R.val % 64, by omega⟩ σ hσ
  rw [val_main_v46_apply]
  show val_main_v45 (F := Ideal) x0 x1 x2 x3 x4 (ix3 i R y) = _
  rw [val_main_v45_apply, e45, val_main_v44_apply, val_main_v43_apply, e43, h]
  have : 64 * (R.val / 64) + R.val % 64 = R.val := by omega
  show att σ (fun k => at2 x2 (64 * (R.val / 64) + R.val % 64) (4096 * (i.val / 8) + k)) _ = _
  rw [this]
  rfl

end Cert.ReferenceIdeal.Fox

end

end
-- ==== Proof.Ref.Pre.lean ====
module

public import proofs.«01_k».proof.Pre_finite_logits
public import Idealize.ShloMosaic.Lib.Pointwise
public import Idealize.ShloMosaic.Lib.ReduceAll
public import Idealize.ShloMosaic.PureOps.Ideal

@[expose] public section

set_option maxRecDepth 16384

noncomputable section

namespace Cert.Pre_finite_logits.Fox

open Cert.Pre_finite_logits Idealize.ShloMosaic

theorem facts : Facts where
  bitsLt_bf16_f32 := by decide
  bcast_S_S32x1024x512 := by decide
  reducesTo_S32x1024x512_S_d0_1_2 := by decide
  h_S_ := by decide
  bcast_S_S4x4096x1024 := by decide
  reducesTo_S4x4096x1024_S_d0_1_2 := by decide
  bcast_S_S32x128x512 := by decide
  reducesTo_S32x128x512_S_d0_1_2 := by decide
  bcast_S_S4x4096x128 := by decide
  reducesTo_S4x4096x128_S_d0_1_2 := by decide
  bcast_S_S1 := by decide
  concatenates_S1_S1_S1_S1_S4_d0 := by decide

theorem inf_bits : Ideal.ofBits FTy.f32 0x7F800000#32 = ⊤ := by
  simp [Ideal.ofBits, Ideal.ieee]

/-- A value whose size is below infinity is real. -/
theorem real_of_lt (x : EReal) (h : FloatOps.cmpf (F := Ideal) (φ := .f32) .olt (FloatOps.absf (F := Ideal) (φ := .f32) x) (⊤ : EReal) = 1#1) :
    ∃ r : ℝ, x = r := by
  have h' : BitVec.ofBool (decide (max x (-x) < (⊤ : EReal))) = 1#1 := h
  have hlt : max x (-x) < (⊤ : EReal) := by
    by_contra hn
    rw [decide_eq_false hn] at h'
    exact absurd h' (by decide)
  induction x using EReal.rec with
  | bot => simp at hlt
  | top => simp at hlt
  | coe r => exact ⟨r, rfl⟩

theorem all_real {s : Shape} (X : s.Idx → EReal) (hb : FTy.bits .bf16 < FTy.bits .f32) (b : S_.BroadcastsInDim s (![] : Fin 0 → Fin s.rank))
    {axes : List (Fin s.rank)} (hr : s.ReducesTo axes S_) (hu : 0 < S_.numel) (j : S_.Idx)
    (e : Host.reduce IntOp.andi (cmpf (F := Ideal) .olt (Host.absf (F := Ideal) (extf (F := Ideal) (φ := .bf16) .f32 X hb))
      (broadcastInDim s ![] b (constant (F := Ideal) S_ .f32 0x7F800000#32))) (constantI S_ 1 1#1) hr hu j = 1#1) (i : s.Idx) :
    ∃ r : ℝ, X i = r := by
  haveI : Subsingleton S_.Idx := ⟨fun a b => funext fun k => k.elim0⟩
  have h := Host.reduce_andi_all _ _ _ _ j e i
  apply real_of_lt
  rw [← inf_bits]
  exact h

theorem four (A B C D : IVec S_ 1) (b : S_.BroadcastsInDim S1 (![] : Fin 0 → Fin S1.rank)) (hc : Shape.Concatenates [S1, S1, S1, S1] S4 0) :
    concatenate S4 0 [⟨S1, broadcastInDim S1 ![] b A⟩, ⟨S1, broadcastInDim S1 ![] b B⟩, ⟨S1, broadcastInDim S1 ![] b C⟩, ⟨S1, broadcastInDim S1 ![] b D⟩] hc (ix1 0) = A ix0
    ∧ concatenate S4 0 [⟨S1, broadcastInDim S1 ![] b A⟩, ⟨S1, broadcastInDim S1 ![] b B⟩, ⟨S1, broadcastInDim S1 ![] b C⟩, ⟨S1, broadcastInDim S1 ![] b D⟩] hc (ix1 1) = B ix0
    ∧ concatenate S4 0 [⟨S1, broadcastInDim S1 ![] b A⟩, ⟨S1, broadcastInDim S1 ![] b B⟩, ⟨S1, broadcastInDim S1 ![] b C⟩, ⟨S1, broadcastInDim S1 ![] b D⟩] hc (ix1 2) = C ix0
    ∧ concatenate S4 0 [⟨S1, broadcastInDim S1 ![] b A⟩, ⟨S1, broadcastInDim S1 ![] b B⟩, ⟨S1, broadcastInDim S1 ![] b C⟩, ⟨S1, broadcastInDim S1 ![] b D⟩] hc (ix1 3) = D ix0 := by
  refine ⟨?_, ?_, ?_, ?_⟩
  · pointwise
  · pointwise
  · pointwise
  · pointwise

theorem entries [Facts] (x0 : S32x1024x512.Idx → EReal) (x1 : S4x4096x1024.Idx → EReal) (x2 : S1024x16384.Idx → EReal)
    (x3 : S32x128x512.Idx → EReal) (x4 : S4x4096x128.Idx → EReal) (h : fn (F := Ideal) x0 x1 x2 x3 x4 = fun _ => 1#1) :
    (∀ i, ∃ r : ℝ, x0 i = r) ∧ (∀ i, ∃ r : ℝ, x1 i = r) ∧ (∀ i, ∃ r : ℝ, x3 i = r) ∧ (∀ i, ∃ r : ℝ, x4 i = r) := by
  have h0 := congrFun h (ix1 (0 : Fin 4))
  have h1 := congrFun h (ix1 (1 : Fin 4))
  have h2 := congrFun h (ix1 (2 : Fin 4))
  have h3 := congrFun h (ix1 (3 : Fin 4))
  unfold fn fn_part1 at h0 h1 h2 h3
  dsimp only at h0 h1 h2 h3
  rw [(four _ _ _ _ _ _).1] at h0
  rw [(four _ _ _ _ _ _).2.1] at h1
  rw [(four _ _ _ _ _ _).2.2.1] at h2
  rw [(four _ _ _ _ _ _).2.2.2] at h3
  exact ⟨all_real x0 _ _ _ _ ix0 h0, all_real x1 _ _ _ _ ix0 h1, all_real x3 _ _ _ _ ix0 h2, all_real x4 _ _ _ _ ix0 h3⟩

end Cert.Pre_finite_logits.Fox

end
-- ==== Proof.KernelIdeal.State.lean ====
module

public import proofs.«01_k».proof.Proof.Gen.KernelIdeal.Skeleton
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.ReadBack
public import Idealize.ShloMosaic.Lib.VecWindow

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The window of `X` of sizes `size` at the offsets `off`, positions counted modulo the sizes of `X` so that it is
    defined at every offset. -/
def win {s : Shape} {α : Type} (X : s.Idx → α) (off size : Fin s.rank → ℕ) (pos : ∀ a, 0 < s.size a) :
    ((a : Fin s.rank) → Fin (size a)) → α :=
  fun y => X fun a => ⟨(off a + (y a).val) % s.size a, Nat.mod_lt _ (pos a)⟩

/-- A load at unit stride is the window of what the view reads. -/
theorem readAt_win {sig : RefSig} {κ : Kind} {sp : Space} {s : Shape} {e : EltTy} {Val : EltTy → Type} (v : View sig κ sp s e)
    (f : v.ty.Contents Val) {off off' size : Fin s.rank → ℕ} (inb : ∀ a, off a + size a ≤ s.size a) (pos : ∀ a, 0 < s.size a)
    (h : off = off') : v.readAt Val (Rect.unit off size inb).toLoadRect f = win (v.read Val f) off' size pos := by
  subst h
  funext y
  show v.read Val f _ = v.read Val f _
  congr 1
  funext a
  apply Fin.ext
  have hy := (y a).isLt
  have := inb a
  have e1 : (((Rect.unit off size inb).toLoadRect.idx y) a).val = off a + 1 * (y a).val := rfl
  have hy' : (y a).val < size a := hy
  show (((Rect.unit off size inb).toLoadRect.idx y) a).val = (off a + (y a).val) % s.size a
  rw [e1, one_mul, Nat.mod_eq_of_lt (by omega)]

theorem pos_S1x4096x128 : ∀ a, 0 < S1x4096x128.size a := by decide
theorem pos_S8x128x512 : ∀ a, 0 < S8x128x512.size a := by decide
theorem pos_S2x8x80x512 : ∀ a, 0 < S2x8x80x512.size a := by decide

/-- Key block `j` (512 rows) of the keys, or of the keys' gate operands. -/
def kblk (X : S1x4096x128.Idx → Elt F .bf16) (j : ℕ) : Vec F S1x512x128 .bf16 :=
  win X ![0, 512 * j, 0] S1x512x128.size pos_S1x4096x128
/-- Query tile `q` of the queries, or of the queries' gate operands. -/
def qtile (X : S8x128x512.Idx → Elt F .bf16) (q : ℕ) : Vec F S1x128x512 .bf16 :=
  win X ![q, 0, 0] S1x128x512.size pos_S8x128x512
/-- The value rows of head `h` of the pair at key block `j`. -/
def vblk (X : S2x8x80x512.Idx → Elt F .bf16) (h j : ℕ) : Vec F S1x1x80x512 .bf16 :=
  win X ![h, j, 0, 0] S1x1x80x512.size pos_S2x8x80x512

/-- The running maxima and weighted sums of the two heads. -/
@[ext] structure Run (F : FTy → Type) where
  m0 : Vec F S1x1x512 .f32
  m1 : Vec F S1x1x512 .f32
  a0 : Vec F S1x80x512 .f32
  a1 : Vec F S1x80x512 .f32

/-- The new maximum of one head after a block of scores. -/
def updM (w : FVec F S256x512 .bf16) (kb gb : Vec F S1x512x128 .bf16) (m : Vec F S1x1x512 .f32) : Vec F S1x1x512 .f32 :=
  k0_pay12 (k0_pay8 (k0_pay6 w kb gb)) m
/-- The new weighted sums of one head after a block of scores. -/
def updA (w : FVec F S256x512 .bf16) (kb gb : Vec F S1x512x128 .bf16) (vb : Vec F S1x1x80x512 .bf16)
    (m : Vec F S1x1x512 .f32) (a : Vec F S1x80x512 .f32) : Vec F S1x80x512 .f32 :=
  k0_pay13 (k0_pay7 (k0_pay5 w kb gb)) (k0_pay8 (k0_pay6 w kb gb)) (k0_pay9 vb) m a

/-- The buffers one grid point reads: queries, keys, gate operands, value rows. -/
structure Ins (F : FTy → Type) where
  q : S8x128x512.Idx → Elt F .bf16
  k : S1x4096x128.Idx → Elt F .bf16
  aq : S8x128x512.Idx → Elt F .bf16
  ak : S1x4096x128.Idx → Elt F .bf16
  vt : S2x8x80x512.Idx → Elt F .bf16

/-- Both heads after key block `j`. -/
def step (I : Ins F) (w0 w1 : FVec F S256x512 .bf16) (j : ℕ) (r : Run F) : Run F where
  m0 := updM w0 (kblk I.k j) (kblk I.ak j) r.m0
  m1 := updM w1 (kblk I.k j) (kblk I.ak j) r.m1
  a0 := updA w0 (kblk I.k j) (kblk I.ak j) (vblk I.vt 0 j) r.m0 r.a0
  a1 := updA w1 (kblk I.k j) (kblk I.ak j) (vblk I.vt 1 j) r.m1 r.a1

/-- Both heads before the first block. -/
def run0 : Run F where
  m0 := win (s := S2x1x512) (k0_pay276 (F := F)) ![0, 0, 0] S1x1x512.size (by decide)
  m1 := win (s := S2x1x512) (k0_pay276 (F := F)) ![1, 0, 0] S1x1x512.size (by decide)
  a0 := win (s := S2x80x512) (k0_pay277 (F := F)) ![0, 0, 0] S1x80x512.size (by decide)
  a1 := win (s := S2x80x512) (k0_pay277 (F := F)) ![1, 0, 0] S1x80x512.size (by decide)

/-- Both heads after the first `n` key blocks. -/
def runs (I : Ins F) (w0 w1 : FVec F S256x512 .bf16) : ℕ → Run F
  | 0 => run0
  | n + 1 => step I w0 w1 n (runs I w0 w1 n)

/-- Slot 0 of the scores and of their column maxima holds the scores of both heads against key block `j`. -/
structure Slot0 (arg9 : Memref sig .tc .vmem S2x2x512x640 .f32) (arg10 : Memref sig .tc .vmem S2x2x1x512 .f32)
    (f9 : BufTy.Contents (Elt F) arg9.view.ty) (f10 : BufTy.Contents (Elt F) arg10.view.ty)
    (w0 w1 : FVec F S256x512 .bf16) (kb gb : Vec F S1x512x128 .bf16) : Prop where
  s0 : arg9.view.readAt (Elt F) (Rect.unit (s := S2x2x512x640) ![0, 0, 0, 0] S1x1x512x512.size inb_S2x2x512x640_S1x1x512x512_0_0_0_0).toLoadRect f9 = k0_pay5 w0 kb gb
  s1 : arg9.view.readAt (Elt F) (Rect.unit (s := S2x2x512x640) ![0, 1, 0, 0] S1x1x512x512.size inb_S2x2x512x640_S1x1x512x512_0_1_0_0).toLoadRect f9 = k0_pay5 w1 kb gb
  x0 : arg10.view.readAt (Elt F) (Rect.unit (s := S2x2x1x512) ![0, 0, 0, 0] S1x1x1x512.size inb_S2x2x1x512_S1x1x1x512_0_0_0_0).toLoadRect f10 = k0_pay6 w0 kb gb
  x1 : arg10.view.readAt (Elt F) (Rect.unit (s := S2x2x1x512) ![0, 1, 0, 0] S1x1x1x512.size inb_S2x2x1x512_S1x1x1x512_0_1_0_0).toLoadRect f10 = k0_pay6 w1 kb gb

/-- The running maxima and weighted sums are those of `r`. -/
structure Holds (arg12 : Memref sig .tc .vmem S2x1x512 .f32) (arg13 : Memref sig .tc .vmem S2x80x512 .f32)
    (f12 : BufTy.Contents (Elt F) arg12.view.ty) (f13 : BufTy.Contents (Elt F) arg13.view.ty) (r : Run F) : Prop where
  m0 : arg12.view.readAt (Elt F) (Rect.unit (s := S2x1x512) ![0, 0, 0] S1x1x512.size inb_S2x1x512_S1x1x512_0_0_0).toLoadRect f12 = r.m0
  m1 : arg12.view.readAt (Elt F) (Rect.unit (s := S2x1x512) ![1, 0, 0] S1x1x512.size inb_S2x1x512_S1x1x512_1_0_0).toLoadRect f12 = r.m1
  a0 : arg13.view.readAt (Elt F) (Rect.unit (s := S2x80x512) ![0, 0, 0] S1x80x512.size inb_S2x80x512_S1x80x512_0_0_0).toLoadRect f13 = r.a0
  a1 : arg13.view.readAt (Elt F) (Rect.unit (s := S2x80x512) ![1, 0, 0] S1x80x512.size inb_S2x80x512_S1x80x512_1_0_0).toLoadRect f13 = r.a1

section Rd
variable {sig : RefSig} {κ : Kind} {sp : Space} {s : Shape} {e : EltTy} {Val : EltTy → Type}

/-- A load of the rectangle stored last reads the payload. -/
theorem rd_hit (v : View sig κ sp s e) (f : v.ty.Contents Val) (r : Rect s) (w : r.shape.Idx → Val e) (L : List (View.Piece Val s e)) :
    v.readAt Val r.toLoadRect (v.writes Val f (⟨r, w⟩ :: L)) = w := by
  funext y
  show v.read Val (v.writes Val f (⟨r, w⟩ :: L)) (r.emb y) = w y
  exact View.read_writes_cons_emb v f r w L y

/-- A load apart from the rectangle stored last reads what was there before. -/
theorem rd_skip (v : View sig κ sp s e) (f : v.ty.Contents Val) (r : Rect s) (w : r.shape.Idx → Val e) (L : List (View.Piece Val s e))
    (B : LoadRect s) (h : LoadRect.disj r B = true) :
    v.readAt Val B (v.writes Val f (⟨r, w⟩ :: L)) = v.readAt Val B (v.writes Val f L) := by
  funext y
  exact View.read_writes_cons_miss v f ⟨r, w⟩ L _ (LoadRect.idx_not_mem_of_disj h y)

/-- A load of the rectangle stored last, its offset written another way, reads the payload. -/
theorem rd_hit_eq (v : View sig κ sp s e) (f : v.ty.Contents Val) {off size off2 : Fin s.rank → ℕ} (inb : ∀ a, off a + size a ≤ s.size a)
    (w : (Rect.unit off size inb).shape.Idx → Val e) (L : List (View.Piece Val s e)) (inb2 : ∀ a, off2 a + size a ≤ s.size a) (h : off2 = off) :
    v.readAt Val (Rect.unit off2 size inb2).toLoadRect (v.writes Val f (⟨Rect.unit off size inb, w⟩ :: L)) = w := by
  subst h; exact rd_hit ..

/-- A covered load inside the rectangle stored last, `d` from its corner, reads the payload's window there. -/
theorem cov_in [∀ e, Nonempty (Val e)] (v : View sig κ sp s e) {off size off2 size2 : Fin s.rank → ℕ} (inb : ∀ a, off a + size a ≤ s.size a)
    (w : (Rect.unit off size inb).shape.Idx → Val e) (L : List (View.Piece Val s e)) (inb2 : ∀ a, off2 a + size2 a ≤ s.size a)
    (d : Fin s.rank → ℕ) (pos : ∀ a, 0 < size a) (hd : ∀ a, off2 a = off a + d a) (hin : ∀ a, d a + size2 a ≤ size a) :
    v.readCov (⟨Rect.unit off size inb, w⟩ :: L) (Rect.unit off2 size2 inb2).toLoadRect = win (s := ⟨s.rank, size⟩) w d size2 pos := by
  funext y
  unfold View.readCov
  show v.read Val (v.writes Val _ (⟨Rect.unit off size inb, w⟩ :: L)) ((Rect.unit off2 size2 inb2).emb y) = _
  refine View.read_writes_cons_hit_of_coords v _ (Rect.unit off size inb) w L _ _ fun a => ?_
  have hy : (y a).val < size2 a := (y a).isLt
  have := hin a
  have e1 : ((Rect.unit off2 size2 inb2).emb y a).val = off2 a + 1 * (y a).val := rfl
  show ((Rect.unit off2 size2 inb2).emb y a).val = off a + 1 * ((d a + (y a).val) % size a)
  rw [e1, hd, Nat.mod_eq_of_lt (by omega)]; omega

/-- A load inside a loaded rectangle, `d` from its corner, is the window there of what that reads. -/
theorem rd_in (v : View sig κ sp s e) (f : v.ty.Contents Val) {off size off2 size2 : Fin s.rank → ℕ} (inb : ∀ a, off a + size a ≤ s.size a)
    (inb2 : ∀ a, off2 a + size2 a ≤ s.size a) (d : Fin s.rank → ℕ) (pos : ∀ a, 0 < size a) (hd : ∀ a, off2 a = off a + d a) (hin : ∀ a, d a + size2 a ≤ size a) :
    v.readAt Val (Rect.unit off2 size2 inb2).toLoadRect f
      = win (s := ⟨s.rank, size⟩) (v.readAt Val (Rect.unit off size inb).toLoadRect f) d size2 pos := by
  funext y
  show v.read Val f _ = v.read Val f _
  congr 1
  funext a
  apply Fin.ext
  have hy : (y a).val < size2 a := (y a).isLt
  have := hin a
  show off2 a + 1 * (y a).val = off a + 1 * ((d a + (y a).val) % size a)
  rw [hd, Nat.mod_eq_of_lt (by omega)]; omega

/-- A load inside the rectangle stored last, `d` from its corner, reads the payload's window there. -/
theorem rd_hit_in (v : View sig κ sp s e) (f : v.ty.Contents Val) {off size off2 size2 : Fin s.rank → ℕ} (inb : ∀ a, off a + size a ≤ s.size a)
    (w : (Rect.unit off size inb).shape.Idx → Val e) (L : List (View.Piece Val s e)) (inb2 : ∀ a, off2 a + size2 a ≤ s.size a)
    (d : Fin s.rank → ℕ) (pos : ∀ a, 0 < size a) (hd : ∀ a, off2 a = off a + d a) (hin : ∀ a, d a + size2 a ≤ size a) :
    v.readAt Val (Rect.unit off2 size2 inb2).toLoadRect (v.writes Val f (⟨Rect.unit off size inb, w⟩ :: L)) = win (s := ⟨s.rank, size⟩) w d size2 pos := by
  rw [rd_in v _ inb inb2 d pos hd hin, rd_hit]

end Rd

/-- A covered load at the near half of the rectangle stored last. -/
theorem cov_lo {κ : Kind} {sp : Space} {n0 n1 n2 : ℕ} {e : EltTy} {Val : EltTy → Type} [∀ e, Nonempty (Val e)] {sig : RefSig}
    (v : View sig κ sp ⟨3, ![n0, n1, n2]⟩ e) {off size off2 size2 : Fin 3 → ℕ} (inb : ∀ a, off a + size a ≤ (![n0, n1, n2] : Fin 3 → ℕ) a)
    (w : (Rect.unit (s := ⟨3, ![n0, n1, n2]⟩) off size inb).shape.Idx → Val e) (L : List (View.Piece Val ⟨3, ![n0, n1, n2]⟩ e)) (inb2 : ∀ a, off2 a + size2 a ≤ (![n0, n1, n2] : Fin 3 → ℕ) a)
    (pos : ∀ a, 0 < size a) (hd : ∀ a, off2 a = off a + (![0, 0, 0] : Fin 3 → ℕ) a) (hin : ∀ a, (![0, 0, 0] : Fin 3 → ℕ) a + size2 a ≤ size a) :
    v.readCov (⟨Rect.unit (s := ⟨3, ![n0, n1, n2]⟩) off size inb, w⟩ :: L) (Rect.unit (s := ⟨3, ![n0, n1, n2]⟩) off2 size2 inb2).toLoadRect = win (s := ⟨3, size⟩) w ![0, 0, 0] size2 pos :=
  cov_in v inb w L inb2 ![0, 0, 0] pos hd hin
/-- A covered load at the far half of the rectangle stored last. -/
theorem cov_hi {κ : Kind} {sp : Space} {n0 n1 n2 : ℕ} {e : EltTy} {Val : EltTy → Type} [∀ e, Nonempty (Val e)] {sig : RefSig}
    (v : View sig κ sp ⟨3, ![n0, n1, n2]⟩ e) {off size off2 size2 : Fin 3 → ℕ} (inb : ∀ a, off a + size a ≤ (![n0, n1, n2] : Fin 3 → ℕ) a)
    (w : (Rect.unit (s := ⟨3, ![n0, n1, n2]⟩) off size inb).shape.Idx → Val e) (L : List (View.Piece Val ⟨3, ![n0, n1, n2]⟩ e)) (inb2 : ∀ a, off2 a + size2 a ≤ (![n0, n1, n2] : Fin 3 → ℕ) a)
    (pos : ∀ a, 0 < size a) (hd : ∀ a, off2 a = off a + (![0, 0, 256] : Fin 3 → ℕ) a) (hin : ∀ a, (![0, 0, 256] : Fin 3 → ℕ) a + size2 a ≤ size a) :
    v.readCov (⟨Rect.unit (s := ⟨3, ![n0, n1, n2]⟩) off size inb, w⟩ :: L) (Rect.unit (s := ⟨3, ![n0, n1, n2]⟩) off2 size2 inb2).toLoadRect = win (s := ⟨3, size⟩) w ![0, 0, 256] size2 pos :=
  cov_in v inb w L inb2 ![0, 0, 256] pos hd hin

/-- The near half of the queries of a running maximum. -/
def mLo (m : Vec F S1x1x512 .f32) : Vec F S1x1x256 .f32 := win (s := S1x1x512) m ![0, 0, 0] S1x1x256.size (by decide)
/-- The far half of the queries of a running maximum. -/
def mHi (m : Vec F S1x1x512 .f32) : Vec F S1x1x256 .f32 := win (s := S1x1x512) m ![0, 0, 256] S1x1x256.size (by decide)
/-- The near half of the queries of the weighted sums. -/
def aLo (a : Vec F S1x80x512 .f32) : Vec F S1x80x256 .f32 := win (s := S1x80x512) a ![0, 0, 0] S1x80x256.size (by decide)
/-- The far half of the queries of the weighted sums. -/
def aHi (a : Vec F S1x80x512 .f32) : Vec F S1x80x256 .f32 := win (s := S1x80x512) a ![0, 0, 256] S1x80x256.size (by decide)
/-- The near quarter of a diagonal block's scores. -/
def dLo (d : Vec F S1x512x512 .f32) : Vec F S1x256x256 .f32 := win (s := S1x512x512) d ![0, 0, 0] S1x256x256.size (by decide)
/-- The far half of a diagonal block's scores. -/
def dHi (d : Vec F S1x512x512 .f32) : Vec F S1x512x256 .f32 := win (s := S1x512x512) d ![0, 0, 256] S1x512x256.size (by decide)

/-- One head's weighted sums of the near queries after the diagonal block. -/
def finLo (d : Vec F S1x512x512 .f32) (vb : Vec F S1x1x80x512 .bf16) (m : Vec F S1x1x512 .f32) (a : Vec F S1x80x512 .f32) : Vec F S1x80x256 .f32 :=
  k0_pay118 (k0_pay111 vb) (k0_pay115 (dLo d) (mLo m)) (k0_pay116 (dLo d) (mLo m)) (aLo a)
/-- One head's weighted sums of the far queries after the diagonal block. -/
def finHi (d : Vec F S1x512x512 .f32) (vb : Vec F S1x1x80x512 .bf16) (m : Vec F S1x1x512 .f32) (a : Vec F S1x80x512 .f32) : Vec F S1x80x256 .f32 :=
  k0_pay126 (k0_pay124 k0_pay108 (dHi d) (mHi m) (aHi a)) (k0_pay125 k0_pay108 (k0_pay109 vb) (dHi d) (mHi m))

/-- Where an index of a whole row lies in its half. -/
def halfIx (y : S1x80x512.Idx) : S1x80x256.Idx :=
  fun a => ⟨(y a).val % S1x80x256.size a, Nat.mod_lt _ ((by decide : ∀ a, 0 < S1x80x256.size a) a)⟩
/-- Two halves of the queries side by side. -/
def jn (lo hi : Vec F S1x80x256 .f32) : Vec F S1x80x512 .f32 :=
  fun y => if (y 2).val < 256 then lo (halfIx y) else hi (halfIx y)

/-- A whole row reads its two halves side by side. -/
theorem rd_halves (v : View sig .tc .vmem S2x80x512 .f32) (f : v.ty.Contents (Elt F)) (h : ℕ) (inb : ∀ a, (![h, 0, 0] : Fin 3 → ℕ) a + S1x80x512.size a ≤ S2x80x512.size a)
    (inbl : ∀ a, (![h, 0, 0] : Fin 3 → ℕ) a + S1x80x256.size a ≤ S2x80x512.size a) (inbh : ∀ a, (![h, 0, 256] : Fin 3 → ℕ) a + S1x80x256.size a ≤ S2x80x512.size a) :
    v.readAt (Elt F) (Rect.unit (s := S2x80x512) ![h, 0, 0] S1x80x512.size inb).toLoadRect f
      = jn (v.readAt (Elt F) (Rect.unit (s := S2x80x512) ![h, 0, 0] S1x80x256.size inbl).toLoadRect f) (v.readAt (Elt F) (Rect.unit (s := S2x80x512) ![h, 0, 256] S1x80x256.size inbh).toLoadRect f) := by
  funext y
  have h0 : (y 0).val < 1 := (y 0).isLt
  have h1 : (y 1).val < 80 := (y 1).isLt
  have h2 : (y 2).val < 512 := (y 2).isLt
  unfold jn
  split_ifs with hlt
  · show v.read (Elt F) f _ = v.read (Elt F) f _
    congr 1
    funext a; apply Fin.ext
    fin_cases a
    · show h + 1 * (y 0).val = h + 1 * ((y 0).val % 1); omega
    · show 0 + 1 * (y 1).val = 0 + 1 * ((y 1).val % 80); omega
    · show 0 + 1 * (y 2).val = 0 + 1 * ((y 2).val % 256); omega
  · show v.read (Elt F) f _ = v.read (Elt F) f _
    congr 1
    funext a; apply Fin.ext
    fin_cases a
    · show h + 1 * (y 0).val = h + 1 * ((y 0).val % 1); omega
    · show 0 + 1 * (y 1).val = 0 + 1 * ((y 1).val % 80); omega
    · show 0 + 1 * (y 2).val = 256 + 1 * ((y 2).val % 256); omega

/-- Where an index of the value rows lies in its block. -/
def blkIx (y : S2x8x80x512.Idx) : S1x1x80x512.Idx :=
  fun a => ⟨(y a).val % S1x1x80x512.size a, Nat.mod_lt _ ((by decide : ∀ a, 0 < S1x1x80x512.size a) a)⟩

theorem inb_tile {q : ℕ} (hq : q < 8) : ∀ a, (![q, 0, 0] : Fin 3 → ℕ) a + S1x128x512.size a ≤ S8x128x512.size a := by
  intro a; fin_cases a
  · show q + 1 ≤ 8; omega
  · show 0 + 128 ≤ 128; omega
  · show 0 + 512 ≤ 512; omega

/-- Head 0's score operand of query tile `q` of head pair `hp`. -/
def wq0 (hp : BitVec 32) (I : Ins F) (q : ℕ) : FVec F S256x512 .bf16 := k0_pay271 hp (qtile I.q q) (qtile I.aq q)
/-- Head 1's score operand of query tile `q` of head pair `hp`. -/
def wq1 (hp : BitVec 32) (I : Ins F) (q : ℕ) : FVec F S256x512 .bf16 :=
  k0_pay275 (k0_pay269 (qtile I.q q)) (k0_pay270 (qtile I.aq q)) (k0_pay272 hp) k0_pay273 k0_pay274

/-- Both heads' state before the diagonal block of query tile `q`. -/
def before (hp : BitVec 32) (I : Ins F) (q : ℕ) : Run F := runs I (wq0 hp I q) (wq1 hp I q) q

/-- The scores of the diagonal block, head 0. -/
def dg0 (hp : BitVec 32) (I : Ins F) (q : ℕ) : Vec F S1x512x512 .f32 := k0_pay80 (wq0 hp I q) (kblk I.k q) (kblk I.ak q)
/-- The scores of the diagonal block, head 1. -/
def dg1 (hp : BitVec 32) (I : Ins F) (q : ℕ) : Vec F S1x512x512 .f32 := k0_pay80 (wq1 hp I q) (kblk I.k q) (kblk I.ak q)

/-- The weighted sums hold query tile `q`'s final values, each head in two halves. -/
structure Final (arg13 : Memref sig .tc .vmem S2x80x512 .f32) (f13 : BufTy.Contents (Elt F) arg13.view.ty) (hp : BitVec 32) (I : Ins F) (q : ℕ) : Prop where
  l0 : arg13.view.readAt (Elt F) (Rect.unit (s := S2x80x512) ![0, 0, 0] S1x80x256.size inb_S2x80x512_S1x80x256_0_0_0).toLoadRect f13 = finLo (dg0 hp I q) (vblk I.vt 0 q) (before hp I q).m0 (before hp I q).a0
  h0 : arg13.view.readAt (Elt F) (Rect.unit (s := S2x80x512) ![0, 0, 256] S1x80x256.size inb_S2x80x512_S1x80x256_0_0_256).toLoadRect f13 = finHi (dg0 hp I q) (vblk I.vt 0 q) (before hp I q).m0 (before hp I q).a0
  l1 : arg13.view.readAt (Elt F) (Rect.unit (s := S2x80x512) ![1, 0, 0] S1x80x256.size inb_S2x80x512_S1x80x256_1_0_0).toLoadRect f13 = finLo (dg1 hp I q) (vblk I.vt 1 q) (before hp I q).m1 (before hp I q).a1
  h1 : arg13.view.readAt (Elt F) (Rect.unit (s := S2x80x512) ![1, 0, 256] S1x80x256.size inb_S2x80x512_S1x80x256_1_0_256).toLoadRect f13 = finHi (dg1 hp I q) (vblk I.vt 1 q) (before hp I q).m1 (before hp I q).a1

end Cert.KernelIdeal.Fox
-- ==== Proof.KernelIdeal.Trip.lean ====
module

public import proofs.«01_k».proof.Proof.Gen.KernelIdeal.Skeleton
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.ReadBack
public import Idealize.ShloMosaic.Lib.VecWindow
public import proofs.«01_k».proof.Proof.KernelIdeal.State

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ)
variable (i : grid0.Coords) (arg2 : Memref sig .tc .vmem S8x128x512 .bf16) (harg2 : arg2.IsWhole) (arg3 : Memref sig .tc .vmem S1x4096x128 .bf16) (harg3 : arg3.IsWhole) (arg4 : Memref sig .tc .vmem S128x4096 .bf16) (harg4 : arg4.IsWhole) (arg5 : Memref sig .tc .vmem S8x128x512 .bf16) (harg5 : arg5.IsWhole) (arg6 : Memref sig .tc .vmem S1x4096x128 .bf16) (harg6 : arg6.IsWhole) (arg7 : Memref sig .tc .vmem S8x128x512 .bf16) (harg7 : arg7.IsWhole) (arg8 : Memref sig .tc .vmem S2x8x80x512 .bf16) (harg8 : arg8.IsWhole) (arg9 : Memref sig .tc .vmem S2x2x512x640 .f32) (harg9 : arg9.IsWhole) (arg10 : Memref sig .tc .vmem S2x2x1x512 .f32) (harg10 : arg10.IsWhole) (arg11 : Memref sig .tc .vmem S2x512x512 .f32) (harg11 : arg11.IsWhole) (arg12 : Memref sig .tc .vmem S2x1x512 .f32) (harg12 : arg12.IsWhole) (arg13 : Memref sig .tc .vmem S2x80x512 .f32) (harg13 : arg13.IsWhole)

/-- What the inner loop touches: keys, gate operands and value rows read, scores, maxima and sums rewritten. -/
abbrev Res (X3 : BufTy.Contents (Elt F) arg3.view.ty) (X6 : BufTy.Contents (Elt F) arg6.view.ty) (X8 : BufTy.Contents (Elt F) arg8.view.ty)
    (f9 : BufTy.Contents (Elt F) arg9.view.ty) (f10 : BufTy.Contents (Elt F) arg10.view.ty)
    (f12 : BufTy.Contents (Elt F) arg12.view.ty) (f13 : BufTy.Contents (Elt F) arg13.view.ty) : sProp 𝕄G :=
  iprop((arg3.view.loc (c : Thread nD τ) ↦[arg3.view.set]{fullShare} X3) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg12.view.loc (c : Thread nD τ) ↦[arg12.view.set]{fullShare} f12) ∗ (arg13.view.loc (c : Thread nD τ) ↦[arg13.view.set]{fullShare} f13))

/-- The inner loop's state before trip `k`: slot 0 holds the scores of block `2 k`, maxima and sums are those of the
    blocks before it. -/
def inv2 (I : Ins F) (w0 w1 : FVec F S256x512 .bf16)
    (X3 : BufTy.Contents (Elt F) arg3.view.ty) (X6 : BufTy.Contents (Elt F) arg6.view.ty) (X8 : BufTy.Contents (Elt F) arg8.view.ty) (k : ℕ) : sProp 𝕄G :=
  iprop(∃ f9 f10 f12 f13, Res (F := F) c arg3 arg6 arg8 arg9 arg10 arg12 arg13 X3 X6 X8 f9 f10 f12 f13 ∗
    ⌜Slot0 arg9 arg10 f9 f10 w0 w1 (kblk I.k (2 * k)) (kblk I.ak (2 * k)) ∧ Holds arg12 arg13 f12 f13 (runs I w0 w1 (2 * k))⌝)

theorem off2_odd : ∀ (t : Fin k0_t1_loop.trips) (k : Fin (k0_t2_loop t).trips), k0_off2 t k 1#32 = ![0, 512 * (2 * k.val + 1), 0] := by decide +kernel
theorem off2_even : ∀ (t : Fin k0_t1_loop.trips) (k : Fin (k0_t2_loop t).trips), k0_off2 t k 2#32 = ![0, 512 * (2 * k.val + 2), 0] := by decide +kernel
theorem off3_eq : ∀ (t : Fin k0_t1_loop.trips) (k : Fin (k0_t2_loop t).trips), k0_off3 t k = ![0, 2 * k.val, 0, 0] := by decide +kernel
theorem off4_eq : ∀ (t : Fin k0_t1_loop.trips) (k : Fin (k0_t2_loop t).trips), k0_off4 t k = ![1, 2 * k.val, 0, 0] := by decide +kernel
theorem off5_eq : ∀ (t : Fin k0_t1_loop.trips) (k : Fin (k0_t2_loop t).trips), k0_off5 t k = ![0, 2 * k.val + 1, 0, 0] := by decide +kernel
theorem off6_eq : ∀ (t : Fin k0_t1_loop.trips) (k : Fin (k0_t2_loop t).trips), k0_off6 t k = ![1, 2 * k.val + 1, 0, 0] := by decide +kernel

theorem rd_blk {n : ℕ} (arg : Memref sig .tc .vmem S1x4096x128 .bf16) (X : BufTy.Contents (Elt F) arg.view.ty) {off : Fin 3 → ℕ}
    (inb : ∀ a, off a + S1x512x128.size a ≤ S1x4096x128.size a) (h : off = ![0, 512 * n, 0]) {Y : S1x4096x128.Idx → Elt F .bf16}
    (hX : arg.view.read (Elt F) X = Y) :
    arg.view.readAt (Elt F) (Rect.unit (s := S1x4096x128) off S1x512x128.size inb).toLoadRect X = kblk Y n := by
  rw [readAt_win arg.view X inb pos_S1x4096x128 h, hX]; rfl
theorem rd_vblk {b n : ℕ} (arg : Memref sig .tc .vmem S2x8x80x512 .bf16) (X : BufTy.Contents (Elt F) arg.view.ty) {off : Fin 4 → ℕ}
    (inb : ∀ a, off a + S1x1x80x512.size a ≤ S2x8x80x512.size a) (h : off = ![b, n, 0, 0]) {Y : S2x8x80x512.Idx → Elt F .bf16}
    (hX : arg.view.read (Elt F) X = Y) :
    arg.view.readAt (Elt F) (Rect.unit (s := S2x8x80x512) off S1x1x80x512.size inb).toLoadRect X = vblk Y b n := by
  rw [readAt_win arg.view X inb pos_S2x8x80x512 h, hX]; rfl

set_option maxHeartbeats 4000000 in
/-- One trip of the inner loop takes its state from block `2 k` to block `2 k + 2`. -/
theorem trip2 (arg1 : BitVec 32) (t : Fin k0_t1_loop.trips) (arg14 : BitVec 32) (v88 : IVec S128x1 32) (w0 w1 : FVec F S256x512 .bf16)
    (c0_i32_117 : BitVec 32) (c1_i32_118 : BitVec 32) (v166 : BitVec 32) (I : Ins F)
    (X3 : BufTy.Contents (Elt F) arg3.view.ty) (X6 : BufTy.Contents (Elt F) arg6.view.ty) (X8 : BufTy.Contents (Elt F) arg8.view.ty)
    (h3 : arg3.view.read (Elt F) X3 = I.k) (h6 : arg6.view.read (Elt F) X6 = I.ak) (h8 : arg8.view.read (Elt F) X8 = I.vt)
    (k : Fin (k0_t2_loop t).trips) :
    inv2 (F := F) c arg3 arg6 arg8 arg9 arg10 arg12 arg13 I w0 w1 X3 X6 X8 k.val
    ⊢ wp frame (wpE (defs₀ (F := F)) 𝒱 (c : Thread nD τ) bd) E
        (k0_t2_body (F := F) i arg2 harg2 arg3 harg3 arg4 harg4 arg5 harg5 arg6 harg6 arg7 harg7 arg8 harg8 arg9 harg9 arg10 harg10 arg11 harg11 arg12 harg12 arg13 harg13 arg1 t arg14 v88 w0 w1 c0_i32_117 c1_i32_118 v166 k PUnit.unit)
        (fun _ => inv2 (F := F) c arg3 arg6 arg8 arg9 arg10 arg12 arg13 I w0 w1 X3 X6 X8 (k.val + 1)) := by
  unfold inv2 k0_t2_body
  iintro ⟨%f9, %f10, %f12, %f13, ⟨H3, H6, H8, H9, H10, H12, H13⟩, %hp⟩
  obtain ⟨hs, hh⟩ := hp
  sl_exec
  sl_step
  iexists _; iexists _; iexists _; iexists _
  isplitl [H3 H6 H8 H9 H10 H12 H13]
  · isplitl [H3]; · iexact H3
    isplitl [H6]; · iexact H6
    isplitl [H8]; · iexact H8
    isplitl [H9]; · iexact H9
    isplitl [H10]; · iexact H10
    isplitl [H12]; · iexact H12
    iexact H13
  ipureintro
  have ek1 := rd_blk (off := k0_off2 t k 1#32) arg3 X3 (k0_off2_inb t k 0) (off2_odd t k) h3
  have eg1 := rd_blk (off := k0_off2 t k 1#32) arg6 X6 (k0_off2_inb t k 0) (off2_odd t k) h6
  have ek2 := rd_blk (off := k0_off2 t k 2#32) arg3 X3 (k0_off2_inb t k 1) (off2_even t k) h3
  have eg2 := rd_blk (off := k0_off2 t k 2#32) arg6 X6 (k0_off2_inb t k 1) (off2_even t k) h6
  have ev00 := rd_vblk arg8 X8 (k0_off3_inb t k) (off3_eq t k) h8
  have ev10 := rd_vblk arg8 X8 (k0_off4_inb t k) (off4_eq t k) h8
  have ev01 := rd_vblk arg8 X8 (k0_off5_inb t k) (off5_eq t k) h8
  have ev11 := rd_vblk arg8 X8 (k0_off6_inb t k) (off6_eq t k) h8
  refine ⟨⟨?_, ?_, ?_, ?_⟩, ⟨?_, ?_, ?_, ?_⟩⟩
  all_goals sl_unfold_run_names
  all_goals simp (disch := decide) only [↓ rd_hit, ↓ rd_skip, ↓ View.readCov_skip, ↓ View.readCov_cons_toLoadRect, hs.s0, hs.s1, hs.x0, hs.x1, hh.m0, hh.m1, hh.a0, hh.a1, ek1, eg1, ek2, eg2, ev00, ev10, ev01, ev11]
  all_goals rfl

end Cert.KernelIdeal.Fox
-- ==== Proof.KernelIdeal.Tile.lean ====
module

public import proofs.«01_k».proof.Proof.Gen.KernelIdeal.Skeleton
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.ReadBack
public import Idealize.ShloMosaic.Lib.VecWindow
public import proofs.«01_k».proof.Proof.KernelIdeal.Trip

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ)
variable (i : grid0.Coords) (arg2 : Memref sig .tc .vmem S8x128x512 .bf16) (harg2 : arg2.IsWhole) (arg3 : Memref sig .tc .vmem S1x4096x128 .bf16) (harg3 : arg3.IsWhole) (arg4 : Memref sig .tc .vmem S128x4096 .bf16) (harg4 : arg4.IsWhole) (arg5 : Memref sig .tc .vmem S8x128x512 .bf16) (harg5 : arg5.IsWhole) (arg6 : Memref sig .tc .vmem S1x4096x128 .bf16) (harg6 : arg6.IsWhole) (arg7 : Memref sig .tc .vmem S8x128x512 .bf16) (harg7 : arg7.IsWhole) (arg8 : Memref sig .tc .vmem S2x8x80x512 .bf16) (harg8 : arg8.IsWhole) (arg9 : Memref sig .tc .vmem S2x2x512x640 .f32) (harg9 : arg9.IsWhole) (arg10 : Memref sig .tc .vmem S2x2x1x512 .f32) (harg10 : arg10.IsWhole) (arg11 : Memref sig .tc .vmem S2x512x512 .f32) (harg11 : arg11.IsWhole) (arg12 : Memref sig .tc .vmem S2x1x512 .f32) (harg12 : arg12.IsWhole) (arg13 : Memref sig .tc .vmem S2x80x512 .f32) (harg13 : arg13.IsWhole)

/-- What the work on one query tile touches: queries, keys, gate operands and value rows read, the other buffers rewritten. -/
abbrev ResT (X2 : BufTy.Contents (Elt F) arg2.view.ty) (X3 : BufTy.Contents (Elt F) arg3.view.ty) (X5 : BufTy.Contents (Elt F) arg5.view.ty) (X6 : BufTy.Contents (Elt F) arg6.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) : sProp 𝕄G :=
  iprop((arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))

/-- The state in which query tile `q` starts: its first block's scores are in slot 0 (but for the first tile), maxima and sums cleared. -/
def entryT (hp : BitVec 32) (I : Ins F) (X2 : BufTy.Contents (Elt F) arg2.view.ty) (X3 : BufTy.Contents (Elt F) arg3.view.ty) (X5 : BufTy.Contents (Elt F) arg5.view.ty) (X6 : BufTy.Contents (Elt F) arg6.view.ty) (X8 : BufTy.Contents (Elt F) arg8.view.ty) (q : ℕ) : sProp 𝕄G :=
  iprop(∃ f9 f10 f11 f12 f13, ResT (F := F) c arg2 arg3 arg5 arg6 arg8 arg9 arg10 arg11 arg12 arg13 X2 X3 X5 X6 X8 f9 f10 f11 f12 f13 ∗
    ⌜(0 < q → Slot0 arg9 arg10 f9 f10 (wq0 hp I q) (wq1 hp I q) (kblk I.k 0) (kblk I.ak 0)) ∧ Holds arg12 arg13 f12 f13 run0⌝)

/-- The state in which query tile `q` ends: the next tile's first scores are in slot 0, the sums are final. -/
def exitT (hp : BitVec 32) (I : Ins F) (X2 : BufTy.Contents (Elt F) arg2.view.ty) (X3 : BufTy.Contents (Elt F) arg3.view.ty) (X5 : BufTy.Contents (Elt F) arg5.view.ty) (X6 : BufTy.Contents (Elt F) arg6.view.ty) (X8 : BufTy.Contents (Elt F) arg8.view.ty) (q : ℕ) : sProp 𝕄G :=
  iprop(∃ f9 f10 f11 f12 f13, ResT (F := F) c arg2 arg3 arg5 arg6 arg8 arg9 arg10 arg11 arg12 arg13 X2 X3 X5 X6 X8 f9 f10 f11 f12 f13 ∗
    ⌜Slot0 arg9 arg10 f9 f10 (wq0 hp I (min (q + 1) 7)) (wq1 hp I (min (q + 1) 7)) (kblk I.k 0) (kblk I.ak 0) ∧ Final arg13 f13 hp I q⌝)

theorem rd_qtile {n : ℕ} (arg : Memref sig .tc .vmem S8x128x512 .bf16) (X : BufTy.Contents (Elt F) arg.view.ty) {off : Fin 3 → ℕ}
    (inb : ∀ a, off a + S1x128x512.size a ≤ S8x128x512.size a) (h : off = ![n, 0, 0]) {Y : S8x128x512.Idx → Elt F .bf16}
    (hX : arg.view.read (Elt F) X = Y) :
    arg.view.readAt (Elt F) (Rect.unit (s := S8x128x512) off S1x128x512.size inb).toLoadRect X = qtile Y n := by
  rw [readAt_win arg.view X inb pos_S8x128x512 h, hX]; rfl

theorem t3_none : ∀ t : Fin k0_t1_loop.trips, (k0_t3_loop t).trips = 0 := by decide +kernel
theorem t2_trips : ∀ t : Fin k0_t1_loop.trips, (k0_t2_loop t).trips = (t.val - 1) / 2 := by decide +kernel
theorem cond1_odd : ∀ t : Fin k0_t1_loop.trips, k0_cond1 t = 1#1 ↔ t.val % 2 = 1 := by decide +kernel
theorem cond2_even : ∀ t : Fin k0_t1_loop.trips, k0_cond2 t = 1#1 ↔ t.val % 2 = 0 ∧ 0 < t.val := by decide +kernel
theorem cond3_zero : ∀ t : Fin k0_t1_loop.trips, k0_cond3 t = 1#1 ↔ t.val = 0 := by decide +kernel

/-- The half windows of what `Holds` says of whole rows. -/
theorem Holds.halves {arg12 : Memref sig .tc .vmem S2x1x512 .f32} {arg13 : Memref sig .tc .vmem S2x80x512 .f32}
    {f12 : BufTy.Contents (Elt F) arg12.view.ty} {f13 : BufTy.Contents (Elt F) arg13.view.ty} {r : Run F} (h : Holds arg12 arg13 f12 f13 r) :
    (arg12.view.readAt (Elt F) (Rect.unit (s := S2x1x512) ![0, 0, 0] S1x1x256.size inb_S2x1x512_S1x1x256_0_0_0).toLoadRect f12 = mLo r.m0
    ∧ arg12.view.readAt (Elt F) (Rect.unit (s := S2x1x512) ![0, 0, 256] S1x1x256.size inb_S2x1x512_S1x1x256_0_0_256).toLoadRect f12 = mHi r.m0
    ∧ arg12.view.readAt (Elt F) (Rect.unit (s := S2x1x512) ![1, 0, 0] S1x1x256.size inb_S2x1x512_S1x1x256_1_0_0).toLoadRect f12 = mLo r.m1
    ∧ arg12.view.readAt (Elt F) (Rect.unit (s := S2x1x512) ![1, 0, 256] S1x1x256.size inb_S2x1x512_S1x1x256_1_0_256).toLoadRect f12 = mHi r.m1)
    ∧ (arg13.view.readAt (Elt F) (Rect.unit (s := S2x80x512) ![0, 0, 0] S1x80x256.size inb_S2x80x512_S1x80x256_0_0_0).toLoadRect f13 = aLo r.a0
    ∧ arg13.view.readAt (Elt F) (Rect.unit (s := S2x80x512) ![0, 0, 256] S1x80x256.size inb_S2x80x512_S1x80x256_0_0_256).toLoadRect f13 = aHi r.a0
    ∧ arg13.view.readAt (Elt F) (Rect.unit (s := S2x80x512) ![1, 0, 0] S1x80x256.size inb_S2x80x512_S1x80x256_1_0_0).toLoadRect f13 = aLo r.a1
    ∧ arg13.view.readAt (Elt F) (Rect.unit (s := S2x80x512) ![1, 0, 256] S1x80x256.size inb_S2x80x512_S1x80x256_1_0_256).toLoadRect f13 = aHi r.a1) := by
  rw [← h.m0, ← h.m1, ← h.a0, ← h.a1]
  refine ⟨⟨?_, ?_, ?_, ?_⟩, ⟨?_, ?_, ?_, ?_⟩⟩
  · exact rd_in arg12.view f12 _ _ ![0, 0, 0] (by decide) (by decide) (by decide)
  · exact rd_in arg12.view f12 _ _ ![0, 0, 256] (by decide) (by decide) (by decide)
  · exact rd_in arg12.view f12 _ _ ![0, 0, 0] (by decide) (by decide) (by decide)
  · exact rd_in arg12.view f12 _ _ ![0, 0, 256] (by decide) (by decide) (by decide)
  · exact rd_in arg13.view f13 _ _ ![0, 0, 0] (by decide) (by decide) (by decide)
  · exact rd_in arg13.view f13 _ _ ![0, 0, 256] (by decide) (by decide) (by decide)
  · exact rd_in arg13.view f13 _ _ ![0, 0, 0] (by decide) (by decide) (by decide)
  · exact rd_in arg13.view f13 _ _ ![0, 0, 256] (by decide) (by decide) (by decide)

end Cert.KernelIdeal.Fox
-- ==== Proof.KernelIdeal.Odd.lean ====
module

public import proofs.«01_k».proof.Proof.Gen.KernelIdeal.Skeleton
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.ReadBack
public import Idealize.ShloMosaic.Lib.VecWindow
public import proofs.«01_k».proof.Proof.KernelIdeal.Tile

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ)
variable (i : grid0.Coords) (arg2 : Memref sig .tc .vmem S8x128x512 .bf16) (harg2 : arg2.IsWhole) (arg3 : Memref sig .tc .vmem S1x4096x128 .bf16) (harg3 : arg3.IsWhole) (arg4 : Memref sig .tc .vmem S128x4096 .bf16) (harg4 : arg4.IsWhole) (arg5 : Memref sig .tc .vmem S8x128x512 .bf16) (harg5 : arg5.IsWhole) (arg6 : Memref sig .tc .vmem S1x4096x128 .bf16) (harg6 : arg6.IsWhole) (arg7 : Memref sig .tc .vmem S8x128x512 .bf16) (harg7 : arg7.IsWhole) (arg8 : Memref sig .tc .vmem S2x8x80x512 .bf16) (harg8 : arg8.IsWhole) (arg9 : Memref sig .tc .vmem S2x2x512x640 .f32) (harg9 : arg9.IsWhole) (arg10 : Memref sig .tc .vmem S2x2x1x512 .f32) (harg10 : arg10.IsWhole) (arg11 : Memref sig .tc .vmem S2x512x512 .f32) (harg11 : arg11.IsWhole) (arg12 : Memref sig .tc .vmem S2x1x512 .f32) (harg12 : arg12.IsWhole) (arg13 : Memref sig .tc .vmem S2x80x512 .f32) (harg13 : arg13.IsWhole)

theorem off12_eq : ∀ (t : Fin k0_t1_loop.trips), k0_off12 t = ![0, 512 * t.val, 0] := by decide +kernel
theorem off13_eq : ∀ (t : Fin k0_t1_loop.trips), t.val % 2 = 1 → k0_off13 t = ![0, t.val - 1, 0, 0] := by decide +kernel
theorem off14_eq : ∀ (t : Fin k0_t1_loop.trips), t.val % 2 = 1 → k0_off14 t = ![1, t.val - 1, 0, 0] := by decide +kernel
theorem off15_eq : ∀ (t : Fin k0_t1_loop.trips), k0_off15 t = ![min (t.val + 1) 7, 0, 0] := by decide +kernel
theorem off16_eq : ∀ (t : Fin k0_t1_loop.trips), k0_off16 t = ![0, t.val, 0, 0] := by decide +kernel
theorem off17_eq : ∀ (t : Fin k0_t1_loop.trips), k0_off17 t = ![1, t.val, 0, 0] := by decide +kernel

set_option maxHeartbeats 8000000 in
/-- The work on a query tile of odd number. -/
theorem Odd (hp : BitVec 32) (t : Fin k0_t1_loop.trips) (ht : t.val % 2 = 1) (arg14 : BitVec 32)
    (v88 : IVec S128x1 32) (hv : v88 = iota .tc S128x1 32 [0] iota_S128x1_d0_w32) (w0 w1 : FVec F S256x512 .bf16)
    (c0_i32_117 : BitVec 32) (c1_i32_118 : BitVec 32) (v166 : BitVec 32) (I : Ins F) (hw0 : w0 = wq0 hp I t.val) (hw1 : w1 = wq1 hp I t.val)
    (X2 : BufTy.Contents (Elt F) arg2.view.ty) (X3 : BufTy.Contents (Elt F) arg3.view.ty) (X5 : BufTy.Contents (Elt F) arg5.view.ty) (X6 : BufTy.Contents (Elt F) arg6.view.ty) (X8 : BufTy.Contents (Elt F) arg8.view.ty)
    (e2 : arg2.view.read (Elt F) X2 = I.q) (e3 : arg3.view.read (Elt F) X3 = I.k) (e5 : arg5.view.read (Elt F) X5 = I.aq)
    (e6 : arg6.view.read (Elt F) X6 = I.ak) (e8 : arg8.view.read (Elt F) X8 = I.vt) :
    entryT (F := F) c arg2 arg3 arg5 arg6 arg8 arg9 arg10 arg11 arg12 arg13 hp I X2 X3 X5 X6 X8 t.val
    ⊢ wp frame (wpE (defs₀ (F := F)) 𝒱 (c : Thread nD τ) bd) E
        (k0_part43_skel (F := F) i arg2 harg2 arg3 harg3 arg4 harg4 arg5 harg5 arg6 harg6 arg7 harg7 arg8 harg8 arg9 harg9 arg10 harg10 arg11 harg11 arg12 harg12 arg13 harg13 hp t arg14 v88 w0 w1 c0_i32_117 c1_i32_118 v166)
        (fun _ => exitT (F := F) c arg2 arg3 arg5 arg6 arg8 arg9 arg10 arg11 arg12 arg13 hp I X2 X3 X5 X6 X8 t.val) := by
  unfold entryT exitT k0_part43_skel
  iintro ⟨%f9, %f10, %f11, %f12, %f13, ⟨H2, H3, H5, H6, H8, H9, H10, H11, H12, H13⟩, %hp⟩
  obtain ⟨hs, hh⟩ := hp
  subst hw0 hw1 hv
  have hc1 : k0_cond1 t = 1#1 := (cond1_odd t).2 ht
  have hc2 : ¬ k0_cond2 t = 1#1 := fun h => by have := (cond2_even t).1 h; omega
  have hc3 : ¬ k0_cond3 t = 1#1 := fun h => by have := (cond3_zero t).1 h; omega
  have hslot := hs (by omega)
  sl_exec
  sl_for (fun k _ => inv2 (F := F) c arg3 arg6 arg8 arg9 arg10 arg12 arg13 I (wq0 hp I t.val) (wq1 hp I t.val) X3 X6 X8 k) $$ [H3 H6 H8 H9 H10 H12 H13]
  · intro k acc
    exact trip2 𝒱 c bd E i arg2 harg2 arg3 harg3 arg4 harg4 arg5 harg5 arg6 harg6 arg7 harg7 arg8 harg8 arg9 harg9 arg10 harg10 arg11 harg11 arg12 harg12 arg13 harg13 hp t arg14 _ (wq0 hp I t.val) (wq1 hp I t.val) c0_i32_117 c1_i32_118 v166 I X3 X6 X8 e3 e6 e8 k
  · unfold inv2
    iexists f9; iexists f10; iexists f12; iexists f13
    isplitl [H3 H6 H8 H9 H10 H12 H13]
    · isplitl [H3]; · iexact H3
      isplitl [H6]; · iexact H6
      isplitl [H8]; · iexact H8
      isplitl [H9]; · iexact H9
      isplitl [H10]; · iexact H10
      isplitl [H12]; · iexact H12
      iexact H13
    ipureintro
    exact ⟨hslot, hh⟩
  unfold inv2
  iintro %acc ⟨%g9, %g10, %g12, %g13, ⟨H3, H6, H8, H9, H10, H12, H13⟩, %hq⟩
  clear hs hh hslot
  obtain ⟨hs, hh⟩ := hq

  sl_for0 (t3_none t)
  sl_exec
  sl_step
  iexists _; iexists _; iexists _; iexists _; iexists _
  isplitl [H2 H3 H5 H6 H8 H9 H10 H11 H12 H13]
  · isplitl [H2]; · iexact H2
    isplitl [H3]; · iexact H3
    isplitl [H5]; · iexact H5
    isplitl [H6]; · iexact H6
    isplitl [H8]; · iexact H8
    isplitl [H9]; · iexact H9
    isplitl [H10]; · iexact H10
    isplitl [H11]; · iexact H11
    isplitl [H12]; · iexact H12
    iexact H13
  ipureintro
  have htr : 2 * (k0_t2_loop t).trips = t.val - 1 := by rw [t2_trips]; omega
  have hs' : Slot0 arg9 arg10 g9 g10 (wq0 hp I t.val) (wq1 hp I t.val) (kblk I.k (t.val - 1)) (kblk I.ak (t.val - 1)) := htr ▸ hs
  have hh' : Holds arg12 arg13 g12 g13 (runs I (wq0 hp I t.val) (wq1 hp I t.val) (t.val - 1)) := htr ▸ hh
  have hb : before hp I t.val = step I (wq0 hp I t.val) (wq1 hp I t.val) (t.val - 1) (runs I (wq0 hp I t.val) (wq1 hp I t.val) (t.val - 1)) := by
    unfold before
    generalize wq0 hp I t.val = a
    generalize wq1 hp I t.val = b
    obtain ⟨n, hn⟩ : ∃ n, t.val = n + 1 := ⟨t.val - 1, by omega⟩
    rw [hn]; rfl
  have ek := rd_blk arg3 X3 (k0_off12_inb t hc1) (off12_eq t) e3
  have eg := rd_blk arg6 X6 (k0_off12_inb t hc1) (off12_eq t) e6
  have ek0 := rd_blk (n := 0) arg3 X3 inb_S1x4096x128_S1x512x128_0_0_0 rfl e3
  have eg0 := rd_blk (n := 0) arg6 X6 inb_S1x4096x128_S1x512x128_0_0_0 rfl e6
  have ev0 := rd_vblk arg8 X8 (k0_off13_inb t hc1) (off13_eq t ht) e8
  have ev1 := rd_vblk arg8 X8 (k0_off14_inb t hc1) (off14_eq t ht) e8
  have eq := rd_qtile arg2 X2 (k0_off15_inb t hc1) (off15_eq t) e2
  have ea := rd_qtile arg5 X5 (k0_off15_inb t hc1) (off15_eq t) e5
  have eu0 := rd_vblk arg8 X8 (k0_off16_inb t hc1) (off16_eq t) e8
  have eu1 := rd_vblk arg8 X8 (k0_off17_inb t hc1) (off17_eq t) e8
  refine ⟨⟨?_, ?_, ?_, ?_⟩, ⟨?_, ?_, ?_, ?_⟩⟩
  all_goals try rw [hb]
  all_goals sl_unfold_run_names
  all_goals simp (disch := decide) only [↓ rd_hit, ↓ rd_skip, ↓ View.readCov_skip, ↓ View.readCov_cons_toLoadRect, ↓ cov_lo, ↓ cov_hi, hs'.s0, hs'.s1, hs'.x0, hs'.x1, hh'.m0, hh'.m1, hh'.a0, hh'.a1, ek, eg, ek0, eg0, ev0, ev1, eq, ea, eu0, eu1]
  all_goals rfl

end Cert.KernelIdeal.Fox
-- ==== Proof.KernelIdeal.Even.lean ====
module

public import proofs.«01_k».proof.Proof.Gen.KernelIdeal.Skeleton
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.ReadBack
public import Idealize.ShloMosaic.Lib.VecWindow
public import proofs.«01_k».proof.Proof.KernelIdeal.Tile

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ)
variable (i : grid0.Coords) (arg2 : Memref sig .tc .vmem S8x128x512 .bf16) (harg2 : arg2.IsWhole) (arg3 : Memref sig .tc .vmem S1x4096x128 .bf16) (harg3 : arg3.IsWhole) (arg4 : Memref sig .tc .vmem S128x4096 .bf16) (harg4 : arg4.IsWhole) (arg5 : Memref sig .tc .vmem S8x128x512 .bf16) (harg5 : arg5.IsWhole) (arg6 : Memref sig .tc .vmem S1x4096x128 .bf16) (harg6 : arg6.IsWhole) (arg7 : Memref sig .tc .vmem S8x128x512 .bf16) (harg7 : arg7.IsWhole) (arg8 : Memref sig .tc .vmem S2x8x80x512 .bf16) (harg8 : arg8.IsWhole) (arg9 : Memref sig .tc .vmem S2x2x512x640 .f32) (harg9 : arg9.IsWhole) (arg10 : Memref sig .tc .vmem S2x2x1x512 .f32) (harg10 : arg10.IsWhole) (arg11 : Memref sig .tc .vmem S2x512x512 .f32) (harg11 : arg11.IsWhole) (arg12 : Memref sig .tc .vmem S2x1x512 .f32) (harg12 : arg12.IsWhole) (arg13 : Memref sig .tc .vmem S2x80x512 .f32) (harg13 : arg13.IsWhole)

theorem off18_eq : ∀ (t : Fin k0_t1_loop.trips), t.val % 2 = 0 ∧ 0 < t.val → k0_off18 t = ![0, 512 * (t.val - 1), 0] := by decide +kernel
theorem off19_two : ∀ (t : Fin k0_t1_loop.trips), t.val % 2 = 0 ∧ 0 < t.val → k0_off19 t 2#32 = ![0, t.val - 2, 0, 0] := by decide +kernel
theorem off19_one : ∀ (t : Fin k0_t1_loop.trips), t.val % 2 = 0 ∧ 0 < t.val → k0_off19 t 1#32 = ![0, t.val - 1, 0, 0] := by decide +kernel
theorem off20_two : ∀ (t : Fin k0_t1_loop.trips), t.val % 2 = 0 ∧ 0 < t.val → k0_off20 t 2#32 = ![1, t.val - 2, 0, 0] := by decide +kernel
theorem off20_one : ∀ (t : Fin k0_t1_loop.trips), t.val % 2 = 0 ∧ 0 < t.val → k0_off20 t 1#32 = ![1, t.val - 1, 0, 0] := by decide +kernel
theorem off21_eq : ∀ (t : Fin k0_t1_loop.trips), k0_off21 t = ![0, 512 * t.val, 0] := by decide +kernel
theorem off22_eq : ∀ (t : Fin k0_t1_loop.trips), k0_off22 t = ![min (t.val + 1) 7, 0, 0] := by decide +kernel
theorem off23_eq : ∀ (t : Fin k0_t1_loop.trips), k0_off23 t = ![0, t.val, 0, 0] := by decide +kernel
theorem off24_eq : ∀ (t : Fin k0_t1_loop.trips), k0_off24 t = ![1, t.val, 0, 0] := by decide +kernel

set_option maxHeartbeats 8000000 in
/-- The work on a query tile of even number beyond the first. -/
theorem Even (hp : BitVec 32) (t : Fin k0_t1_loop.trips) (ht : t.val % 2 = 0 ∧ 0 < t.val) (arg14 : BitVec 32)
    (v88 : IVec S128x1 32) (hv : v88 = iota .tc S128x1 32 [0] iota_S128x1_d0_w32) (w0 w1 : FVec F S256x512 .bf16)
    (c0_i32_117 : BitVec 32) (c1_i32_118 : BitVec 32) (v166 : BitVec 32) (I : Ins F) (hw0 : w0 = wq0 hp I t.val) (hw1 : w1 = wq1 hp I t.val)
    (X2 : BufTy.Contents (Elt F) arg2.view.ty) (X3 : BufTy.Contents (Elt F) arg3.view.ty) (X5 : BufTy.Contents (Elt F) arg5.view.ty) (X6 : BufTy.Contents (Elt F) arg6.view.ty) (X8 : BufTy.Contents (Elt F) arg8.view.ty)
    (e2 : arg2.view.read (Elt F) X2 = I.q) (e3 : arg3.view.read (Elt F) X3 = I.k) (e5 : arg5.view.read (Elt F) X5 = I.aq)
    (e6 : arg6.view.read (Elt F) X6 = I.ak) (e8 : arg8.view.read (Elt F) X8 = I.vt) :
    entryT (F := F) c arg2 arg3 arg5 arg6 arg8 arg9 arg10 arg11 arg12 arg13 hp I X2 X3 X5 X6 X8 t.val
    ⊢ wp frame (wpE (defs₀ (F := F)) 𝒱 (c : Thread nD τ) bd) E
        (k0_part43_skel (F := F) i arg2 harg2 arg3 harg3 arg4 harg4 arg5 harg5 arg6 harg6 arg7 harg7 arg8 harg8 arg9 harg9 arg10 harg10 arg11 harg11 arg12 harg12 arg13 harg13 hp t arg14 v88 w0 w1 c0_i32_117 c1_i32_118 v166)
        (fun _ => exitT (F := F) c arg2 arg3 arg5 arg6 arg8 arg9 arg10 arg11 arg12 arg13 hp I X2 X3 X5 X6 X8 t.val) := by
  unfold entryT exitT k0_part43_skel
  iintro ⟨%f9, %f10, %f11, %f12, %f13, ⟨H2, H3, H5, H6, H8, H9, H10, H11, H12, H13⟩, %hp⟩
  obtain ⟨hs, hh⟩ := hp
  subst hw0 hw1 hv
  have hc1 : ¬ k0_cond1 t = 1#1 := fun h => by have := (cond1_odd t).1 h; omega
  have hc2 : k0_cond2 t = 1#1 := (cond2_even t).2 ht
  have hc3 : ¬ k0_cond3 t = 1#1 := fun h => by have := (cond3_zero t).1 h; omega
  have hslot := hs (by omega)
  sl_exec
  sl_for (fun k _ => inv2 (F := F) c arg3 arg6 arg8 arg9 arg10 arg12 arg13 I (wq0 hp I t.val) (wq1 hp I t.val) X3 X6 X8 k) $$ [H3 H6 H8 H9 H10 H12 H13]
  · intro k acc
    exact trip2 𝒱 c bd E i arg2 harg2 arg3 harg3 arg4 harg4 arg5 harg5 arg6 harg6 arg7 harg7 arg8 harg8 arg9 harg9 arg10 harg10 arg11 harg11 arg12 harg12 arg13 harg13 hp t arg14 _ (wq0 hp I t.val) (wq1 hp I t.val) c0_i32_117 c1_i32_118 v166 I X3 X6 X8 e3 e6 e8 k
  · unfold inv2
    iexists f9; iexists f10; iexists f12; iexists f13
    isplitl [H3 H6 H8 H9 H10 H12 H13]
    · isplitl [H3]; · iexact H3
      isplitl [H6]; · iexact H6
      isplitl [H8]; · iexact H8
      isplitl [H9]; · iexact H9
      isplitl [H10]; · iexact H10
      isplitl [H12]; · iexact H12
      iexact H13
    ipureintro
    exact ⟨hslot, hh⟩
  unfold inv2
  iintro %acc ⟨%g9, %g10, %g12, %g13, ⟨H3, H6, H8, H9, H10, H12, H13⟩, %hq⟩
  clear hs hh hslot
  obtain ⟨hs, hh⟩ := hq

  sl_for0 (t3_none t)
  sl_exec
  sl_step
  iexists _; iexists _; iexists _; iexists _; iexists _
  isplitl [H2 H3 H5 H6 H8 H9 H10 H11 H12 H13]
  · isplitl [H2]; · iexact H2
    isplitl [H3]; · iexact H3
    isplitl [H5]; · iexact H5
    isplitl [H6]; · iexact H6
    isplitl [H8]; · iexact H8
    isplitl [H9]; · iexact H9
    isplitl [H10]; · iexact H10
    isplitl [H11]; · iexact H11
    isplitl [H12]; · iexact H12
    iexact H13
  ipureintro
  have htr : 2 * (k0_t2_loop t).trips = t.val - 2 := by rw [t2_trips]; omega
  have hs' : Slot0 arg9 arg10 g9 g10 (wq0 hp I t.val) (wq1 hp I t.val) (kblk I.k (t.val - 2)) (kblk I.ak (t.val - 2)) := htr ▸ hs
  have hh' : Holds arg12 arg13 g12 g13 (runs I (wq0 hp I t.val) (wq1 hp I t.val) (t.val - 2)) := htr ▸ hh
  have hb : before hp I t.val = step I (wq0 hp I t.val) (wq1 hp I t.val) (t.val - 1) (step I (wq0 hp I t.val) (wq1 hp I t.val) (t.val - 2) (runs I (wq0 hp I t.val) (wq1 hp I t.val) (t.val - 2))) := by
    unfold before
    generalize wq0 hp I t.val = a
    generalize wq1 hp I t.val = b
    obtain ⟨n, hn⟩ : ∃ n, t.val = n + 2 := ⟨t.val - 2, by omega⟩
    rw [hn]; rfl
  have ek := rd_blk arg3 X3 (k0_off18_inb t hc2) (off18_eq t ht) e3
  have eg := rd_blk arg6 X6 (k0_off18_inb t hc2) (off18_eq t ht) e6
  have ekd := rd_blk arg3 X3 (k0_off21_inb t hc2) (off21_eq t) e3
  have egd := rd_blk arg6 X6 (k0_off21_inb t hc2) (off21_eq t) e6
  have ek0 := rd_blk (n := 0) arg3 X3 inb_S1x4096x128_S1x512x128_0_0_0 rfl e3
  have eg0 := rd_blk (n := 0) arg6 X6 inb_S1x4096x128_S1x512x128_0_0_0 rfl e6
  have ev0 := rd_vblk (off := k0_off19 t 2#32) arg8 X8 (k0_off19_inb t hc2 1) (off19_two t ht) e8
  have ev1 := rd_vblk (off := k0_off20 t 2#32) arg8 X8 (k0_off20_inb t hc2 1) (off20_two t ht) e8
  have ey0 := rd_vblk (off := k0_off19 t 1#32) arg8 X8 (k0_off19_inb t hc2 0) (off19_one t ht) e8
  have ey1 := rd_vblk (off := k0_off20 t 1#32) arg8 X8 (k0_off20_inb t hc2 0) (off20_one t ht) e8
  have eq := rd_qtile arg2 X2 (k0_off22_inb t hc2) (off22_eq t) e2
  have ea := rd_qtile arg5 X5 (k0_off22_inb t hc2) (off22_eq t) e5
  have eu0 := rd_vblk arg8 X8 (k0_off23_inb t hc2) (off23_eq t) e8
  have eu1 := rd_vblk arg8 X8 (k0_off24_inb t hc2) (off24_eq t) e8
  refine ⟨⟨?_, ?_, ?_, ?_⟩, ⟨?_, ?_, ?_, ?_⟩⟩
  all_goals try rw [hb]
  all_goals sl_unfold_run_names
  all_goals simp (disch := decide) only [↓ rd_hit, ↓ rd_skip, ↓ View.readCov_skip, ↓ View.readCov_cons_toLoadRect, ↓ cov_lo, ↓ cov_hi, hs'.s0, hs'.s1, hs'.x0, hs'.x1, hh'.m0, hh'.m1, hh'.a0, hh'.a1, ekd, egd, ey0, ey1, ek, eg, ek0, eg0, ev0, ev1, eq, ea, eu0, eu1]
  all_goals rfl

end Cert.KernelIdeal.Fox
-- ==== Proof.KernelIdeal.Zero.lean ====
module

public import proofs.«01_k».proof.Proof.Gen.KernelIdeal.Skeleton
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.ReadBack
public import Idealize.ShloMosaic.Lib.VecWindow
public import proofs.«01_k».proof.Proof.KernelIdeal.Tile

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ)
variable (i : grid0.Coords) (arg2 : Memref sig .tc .vmem S8x128x512 .bf16) (harg2 : arg2.IsWhole) (arg3 : Memref sig .tc .vmem S1x4096x128 .bf16) (harg3 : arg3.IsWhole) (arg4 : Memref sig .tc .vmem S128x4096 .bf16) (harg4 : arg4.IsWhole) (arg5 : Memref sig .tc .vmem S8x128x512 .bf16) (harg5 : arg5.IsWhole) (arg6 : Memref sig .tc .vmem S1x4096x128 .bf16) (harg6 : arg6.IsWhole) (arg7 : Memref sig .tc .vmem S8x128x512 .bf16) (harg7 : arg7.IsWhole) (arg8 : Memref sig .tc .vmem S2x8x80x512 .bf16) (harg8 : arg8.IsWhole) (arg9 : Memref sig .tc .vmem S2x2x512x640 .f32) (harg9 : arg9.IsWhole) (arg10 : Memref sig .tc .vmem S2x2x1x512 .f32) (harg10 : arg10.IsWhole) (arg11 : Memref sig .tc .vmem S2x512x512 .f32) (harg11 : arg11.IsWhole) (arg12 : Memref sig .tc .vmem S2x1x512 .f32) (harg12 : arg12.IsWhole) (arg13 : Memref sig .tc .vmem S2x80x512 .f32) (harg13 : arg13.IsWhole)

theorem off25_eq : ∀ (t : Fin k0_t1_loop.trips), k0_off25 t = ![0, 512 * t.val, 0] := by decide +kernel
theorem off26_eq : ∀ (t : Fin k0_t1_loop.trips), k0_off26 t = ![min (t.val + 1) 7, 0, 0] := by decide +kernel
theorem off27_eq : ∀ (t : Fin k0_t1_loop.trips), k0_off27 t = ![0, t.val, 0, 0] := by decide +kernel
theorem off28_eq : ∀ (t : Fin k0_t1_loop.trips), k0_off28 t = ![1, t.val, 0, 0] := by decide +kernel
theorem t2_none : ∀ (t : Fin k0_t1_loop.trips), t.val = 0 → (k0_t2_loop t).trips = 0 := by decide +kernel

set_option maxHeartbeats 8000000 in
/-- The work on a query tile of number zero. -/
theorem Zero (hp : BitVec 32) (t : Fin k0_t1_loop.trips) (ht : t.val = 0) (arg14 : BitVec 32)
    (v88 : IVec S128x1 32) (hv : v88 = iota .tc S128x1 32 [0] iota_S128x1_d0_w32) (w0 w1 : FVec F S256x512 .bf16)
    (c0_i32_117 : BitVec 32) (c1_i32_118 : BitVec 32) (v166 : BitVec 32) (I : Ins F) (hw0 : w0 = wq0 hp I t.val) (hw1 : w1 = wq1 hp I t.val)
    (X2 : BufTy.Contents (Elt F) arg2.view.ty) (X3 : BufTy.Contents (Elt F) arg3.view.ty) (X5 : BufTy.Contents (Elt F) arg5.view.ty) (X6 : BufTy.Contents (Elt F) arg6.view.ty) (X8 : BufTy.Contents (Elt F) arg8.view.ty)
    (e2 : arg2.view.read (Elt F) X2 = I.q) (e3 : arg3.view.read (Elt F) X3 = I.k) (e5 : arg5.view.read (Elt F) X5 = I.aq)
    (e6 : arg6.view.read (Elt F) X6 = I.ak) (e8 : arg8.view.read (Elt F) X8 = I.vt) :
    entryT (F := F) c arg2 arg3 arg5 arg6 arg8 arg9 arg10 arg11 arg12 arg13 hp I X2 X3 X5 X6 X8 t.val
    ⊢ wp frame (wpE (defs₀ (F := F)) 𝒱 (c : Thread nD τ) bd) E
        (k0_part43_skel (F := F) i arg2 harg2 arg3 harg3 arg4 harg4 arg5 harg5 arg6 harg6 arg7 harg7 arg8 harg8 arg9 harg9 arg10 harg10 arg11 harg11 arg12 harg12 arg13 harg13 hp t arg14 v88 w0 w1 c0_i32_117 c1_i32_118 v166)
        (fun _ => exitT (F := F) c arg2 arg3 arg5 arg6 arg8 arg9 arg10 arg11 arg12 arg13 hp I X2 X3 X5 X6 X8 t.val) := by
  unfold entryT exitT k0_part43_skel
  iintro ⟨%f9, %f10, %f11, %f12, %f13, ⟨H2, H3, H5, H6, H8, H9, H10, H11, H12, H13⟩, %hp⟩
  obtain ⟨hs, hh⟩ := hp
  subst hw0 hw1 hv
  have hc1 : ¬ k0_cond1 t = 1#1 := fun h => by have := (cond1_odd t).1 h; omega
  have hc2 : ¬ k0_cond2 t = 1#1 := fun h => by have := (cond2_even t).1 h; omega
  have hc3 : k0_cond3 t = 1#1 := (cond3_zero t).2 ht
  sl_exec
  sl_for0 (t2_none t ht)
  try sl_exec
  sl_for0 (t3_none t)
  sl_exec
  sl_step
  iexists _; iexists _; iexists _; iexists _; iexists _
  isplitl [H2 H3 H5 H6 H8 H9 H10 H11 H12 H13]
  · isplitl [H2]; · iexact H2
    isplitl [H3]; · iexact H3
    isplitl [H5]; · iexact H5
    isplitl [H6]; · iexact H6
    isplitl [H8]; · iexact H8
    isplitl [H9]; · iexact H9
    isplitl [H10]; · iexact H10
    isplitl [H11]; · iexact H11
    isplitl [H12]; · iexact H12
    iexact H13
  ipureintro
  have hb : before hp I t.val = run0 := by
    unfold before
    generalize wq0 hp I t.val = a
    generalize wq1 hp I t.val = b
    rw [ht]; rfl
  obtain ⟨⟨m0l, m0h, m1l, m1h⟩, ⟨a0l, a0h, a1l, a1h⟩⟩ := hh.halves
  have ek := rd_blk arg3 X3 (k0_off25_inb t hc3) (off25_eq t) e3
  have eg := rd_blk arg6 X6 (k0_off25_inb t hc3) (off25_eq t) e6
  have ek0 := rd_blk (n := 0) arg3 X3 inb_S1x4096x128_S1x512x128_0_0_0 rfl e3
  have eg0 := rd_blk (n := 0) arg6 X6 inb_S1x4096x128_S1x512x128_0_0_0 rfl e6
  have eq := rd_qtile arg2 X2 (k0_off26_inb t hc3) (off26_eq t) e2
  have ea := rd_qtile arg5 X5 (k0_off26_inb t hc3) (off26_eq t) e5
  have eu0 := rd_vblk arg8 X8 (k0_off27_inb t hc3) (off27_eq t) e8
  have eu1 := rd_vblk arg8 X8 (k0_off28_inb t hc3) (off28_eq t) e8
  refine ⟨⟨?_, ?_, ?_, ?_⟩, ⟨?_, ?_, ?_, ?_⟩⟩
  all_goals try rw [hb]
  all_goals sl_unfold_run_names
  all_goals simp (disch := decide) only [↓ rd_hit, ↓ rd_skip, ↓ View.readCov_skip, ↓ View.readCov_cons_toLoadRect, ↓ cov_lo, ↓ cov_hi, m0l, m0h, m1l, m1h, a0l, a0h, a1l, a1h, ek, eg, ek0, eg0, eq, ea, eu0, eu1]
  all_goals rfl

end Cert.KernelIdeal.Fox
-- ==== Proof.KernelIdeal.Trip1.lean ====
module

public import proofs.«01_k».proof.Proof.Gen.KernelIdeal.Skeleton
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.ReadBack
public import Idealize.ShloMosaic.Lib.VecWindow
public import proofs.«01_k».proof.Proof.KernelIdeal.Odd
public import proofs.«01_k».proof.Proof.KernelIdeal.Even
public import proofs.«01_k».proof.Proof.KernelIdeal.Zero

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (E : Set ℕ)
variable (i : grid0.Coords) (arg2 : Memref sig .tc .vmem S8x128x512 .bf16) (harg2 : arg2.IsWhole) (arg3 : Memref sig .tc .vmem S1x4096x128 .bf16) (harg3 : arg3.IsWhole) (arg4 : Memref sig .tc .vmem S128x4096 .bf16) (harg4 : arg4.IsWhole) (arg5 : Memref sig .tc .vmem S8x128x512 .bf16) (harg5 : arg5.IsWhole) (arg6 : Memref sig .tc .vmem S1x4096x128 .bf16) (harg6 : arg6.IsWhole) (arg7 : Memref sig .tc .vmem S8x128x512 .bf16) (harg7 : arg7.IsWhole) (arg8 : Memref sig .tc .vmem S2x8x80x512 .bf16) (harg8 : arg8.IsWhole) (arg9 : Memref sig .tc .vmem S2x2x512x640 .f32) (harg9 : arg9.IsWhole) (arg10 : Memref sig .tc .vmem S2x2x1x512 .f32) (harg10 : arg10.IsWhole) (arg11 : Memref sig .tc .vmem S2x512x512 .f32) (harg11 : arg11.IsWhole) (arg12 : Memref sig .tc .vmem S2x1x512 .f32) (harg12 : arg12.IsWhole) (arg13 : Memref sig .tc .vmem S2x80x512 .f32) (harg13 : arg13.IsWhole)

/-- Both heads' outputs of query tile `q`. -/
def outTile (hp : BitVec 32) (I : Ins F) (q : ℕ) : Vec F S1x128x512 .bf16 :=
  k0_pay3 (jn (finLo (dg0 hp I q) (vblk I.vt 0 q) (before hp I q).m0 (before hp I q).a0) (finHi (dg0 hp I q) (vblk I.vt 0 q) (before hp I q).m0 (before hp I q).a0))
    (jn (finLo (dg1 hp I q) (vblk I.vt 1 q) (before hp I q).m1 (before hp I q).a1) (finHi (dg1 hp I q) (vblk I.vt 1 q) (before hp I q).m1 (before hp I q).a1))

/-- What both rows of the sums read once they are final. -/
theorem Final.rows {arg13 : Memref sig .tc .vmem S2x80x512 .f32} {f13 : BufTy.Contents (Elt F) arg13.view.ty} {hp : BitVec 32} {I : Ins F} {q : ℕ} (h : Final arg13 f13 hp I q) :
    k0_pay3 (arg13.view.readAt (Elt F) (Rect.unit (s := S2x80x512) ![0, 0, 0] S1x80x512.size inb_S2x80x512_S1x80x512_0_0_0).toLoadRect f13)
      (arg13.view.readAt (Elt F) (Rect.unit (s := S2x80x512) ![1, 0, 0] S1x80x512.size inb_S2x80x512_S1x80x512_1_0_0).toLoadRect f13) = outTile hp I q := by
  rw [rd_halves (F := F) arg13.view f13 0 _ inb_S2x80x512_S1x80x256_0_0_0 inb_S2x80x512_S1x80x256_0_0_256, rd_halves (F := F) arg13.view f13 1 _ inb_S2x80x512_S1x80x256_1_0_0 inb_S2x80x512_S1x80x256_1_0_256, h.l0, h.h0, h.l1, h.h1]
  rfl

/-- The work on any query tile. -/
theorem tile43 (hp : BitVec 32) (t : Fin k0_t1_loop.trips) (arg14 : BitVec 32)
    (v88 : IVec S128x1 32) (hv : v88 = iota .tc S128x1 32 [0] iota_S128x1_d0_w32) (w0 w1 : FVec F S256x512 .bf16)
    (c0_i32_117 : BitVec 32) (c1_i32_118 : BitVec 32) (v166 : BitVec 32) (I : Ins F) (hw0 : w0 = wq0 hp I t.val) (hw1 : w1 = wq1 hp I t.val)
    (X2 : BufTy.Contents (Elt F) arg2.view.ty) (X3 : BufTy.Contents (Elt F) arg3.view.ty) (X5 : BufTy.Contents (Elt F) arg5.view.ty) (X6 : BufTy.Contents (Elt F) arg6.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (e2 : arg2.view.read (Elt F) X2 = I.q) (e3 : arg3.view.read (Elt F) X3 = I.k) (e5 : arg5.view.read (Elt F) X5 = I.aq)
    (e6 : arg6.view.read (Elt F) X6 = I.ak) (e8 : arg8.view.read (Elt F) X8 = I.vt)
    (hs : 0 < t.val → Slot0 arg9 arg10 f9 f10 (wq0 hp I t.val) (wq1 hp I t.val) (kblk I.k 0) (kblk I.ak 0)) (hh : Holds arg12 arg13 f12 f13 run0) :
    (iprop((arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
    ⊢ wp frame (wpE (defs₀ (F := F)) 𝒱 (c : Thread nD τ) bd) E
        (k0_part43 (F := F) i arg2 harg2 arg3 harg3 arg4 harg4 arg5 harg5 arg6 harg6 arg7 harg7 arg8 harg8 arg9 harg9 arg10 harg10 arg11 harg11 arg12 harg12 arg13 harg13 hp t arg14 v88 w0 w1 c0_i32_117 c1_i32_118 v166)
        (fun _ => iprop(∃ f9 f10 f11 f12 f13, (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗
          ⌜Slot0 arg9 arg10 f9 f10 (wq0 hp I (min (t.val + 1) 7)) (wq1 hp I (min (t.val + 1) 7)) (kblk I.k 0) (kblk I.ak 0) ∧ Final arg13 f13 hp I t.val⌝)) := by
  rw [k0_part43_eq_skeleton]
  have key : entryT (F := F) c arg2 arg3 arg5 arg6 arg8 arg9 arg10 arg11 arg12 arg13 hp I X2 X3 X5 X6 X8 t.val
    ⊢ wp frame (wpE (defs₀ (F := F)) 𝒱 (c : Thread nD τ) bd) E
        (k0_part43_skel (F := F) i arg2 harg2 arg3 harg3 arg4 harg4 arg5 harg5 arg6 harg6 arg7 harg7 arg8 harg8 arg9 harg9 arg10 harg10 arg11 harg11 arg12 harg12 arg13 harg13 hp t arg14 v88 w0 w1 c0_i32_117 c1_i32_118 v166)
        (fun _ => exitT (F := F) c arg2 arg3 arg5 arg6 arg8 arg9 arg10 arg11 arg12 arg13 hp I X2 X3 X5 X6 X8 t.val) := by
    by_cases h0 : t.val = 0
    · exact Zero 𝒱 c bd E i arg2 harg2 arg3 harg3 arg4 harg4 arg5 harg5 arg6 harg6 arg7 harg7 arg8 harg8 arg9 harg9 arg10 harg10 arg11 harg11 arg12 harg12 arg13 harg13 hp t h0 arg14 v88 hv w0 w1 _ _ _ I hw0 hw1 X2 X3 X5 X6 X8 e2 e3 e5 e6 e8
    by_cases h1 : t.val % 2 = 1
    · exact Odd 𝒱 c bd E i arg2 harg2 arg3 harg3 arg4 harg4 arg5 harg5 arg6 harg6 arg7 harg7 arg8 harg8 arg9 harg9 arg10 harg10 arg11 harg11 arg12 harg12 arg13 harg13 hp t h1 arg14 v88 hv w0 w1 _ _ _ I hw0 hw1 X2 X3 X5 X6 X8 e2 e3 e5 e6 e8
    · exact Even 𝒱 c bd E i arg2 harg2 arg3 harg3 arg4 harg4 arg5 harg5 arg6 harg6 arg7 harg7 arg8 harg8 arg9 harg9 arg10 harg10 arg11 harg11 arg12 harg12 arg13 harg13 hp t ⟨by omega, by omega⟩ arg14 v88 hv w0 w1 _ _ _ I hw0 hw1 X2 X3 X5 X6 X8 e2 e3 e5 e6 e8
  refine BIBase.Entails.trans ?_ (key.trans (wp_mono _ _ _ fun _ => ?_))
  · unfold entryT
    iintro H
    iexists f9; iexists f10; iexists f11; iexists f12; iexists f13
    isplitl [H]; · iexact H
    ipureintro; exact ⟨hs, hh⟩
  · unfold exitT
    iintro ⟨%g9, %g10, %g11, %g12, %g13, ⟨H2, H3, H5, H6, H8, H9, H10, H11, H12, H13⟩, %hq⟩
    iexists g9; iexists g10; iexists g11; iexists g12; iexists g13
    isplitl [H2]; · iexact H2
    isplitl [H3]; · iexact H3
    isplitl [H5]; · iexact H5
    isplitl [H6]; · iexact H6
    isplitl [H8]; · iexact H8
    isplitl [H9]; · iexact H9
    isplitl [H10]; · iexact H10
    isplitl [H11]; · iexact H11
    isplitl [H12]; · iexact H12
    isplitl [H13]; · iexact H13
    ipureintro; exact hq

/-- The outer loop's state before trip `k`: the scores of tile `k`'s first block (but for the first tile), the tiles before it written. -/
def inv1 (hp : BitVec 32) (I : Ins F) (X2 : BufTy.Contents (Elt F) arg2.view.ty) (X3 : BufTy.Contents (Elt F) arg3.view.ty) (X5 : BufTy.Contents (Elt F) arg5.view.ty) (X6 : BufTy.Contents (Elt F) arg6.view.ty) (X8 : BufTy.Contents (Elt F) arg8.view.ty) (k : ℕ) : sProp 𝕄G :=
  iprop(∃ f7 f9 f10 f11 f12 f13, (arg7.view.loc (c : Thread nD τ) ↦[arg7.view.set]{fullShare} f7) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗
    ⌜(0 < k → Slot0 arg9 arg10 f9 f10 (wq0 hp I (min k 7)) (wq1 hp I (min k 7)) (kblk I.k 0) (kblk I.ak 0)) ∧
      ∀ q (hq : q < 8), q < k → arg7.view.readAt (Elt F) (Rect.unit (s := S8x128x512) ![q, 0, 0] S1x128x512.size (inb_tile hq)).toLoadRect f7 = outTile hp I q⌝)

theorem off1_eq : ∀ (t : Fin k0_t1_loop.trips), k0_off1 t = ![t.val, 0, 0] := by decide +kernel

set_option maxHeartbeats 4000000 in
/-- One query tile. -/
theorem trip1 (hp : BitVec 32) (t : Fin k0_t1_loop.trips) (I : Ins F) (X2 : BufTy.Contents (Elt F) arg2.view.ty) (X3 : BufTy.Contents (Elt F) arg3.view.ty) (X5 : BufTy.Contents (Elt F) arg5.view.ty) (X6 : BufTy.Contents (Elt F) arg6.view.ty) (X8 : BufTy.Contents (Elt F) arg8.view.ty)
    (e2 : arg2.view.read (Elt F) X2 = I.q) (e3 : arg3.view.read (Elt F) X3 = I.k) (e5 : arg5.view.read (Elt F) X5 = I.aq)
    (e6 : arg6.view.read (Elt F) X6 = I.ak) (e8 : arg8.view.read (Elt F) X8 = I.vt) :
    inv1 (F := F) c arg2 arg3 arg5 arg6 arg7 arg8 arg9 arg10 arg11 arg12 arg13 hp I X2 X3 X5 X6 X8 t.val
    ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 arg12 harg12 arg13 harg13 hp t ())
        (fun _ => inv1 (F := F) c arg2 arg3 arg5 arg6 arg7 arg8 arg9 arg10 arg11 arg12 arg13 hp I X2 X3 X5 X6 X8 (t.val + 1)) := by
  unfold inv1 k0_t1_body
  iintro ⟨%f7, %f9, %f10, %f11, %f12, %f13, H7, H2, H3, H5, H6, H8, H9, H10, H11, H12, H13, %hp0⟩
  obtain ⟨hs, ho⟩ := hp0
  have eq := rd_qtile arg2 X2 (k0_off1_inb t) (off1_eq t) e2
  have ea := rd_qtile arg5 X5 (k0_off1_inb t) (off1_eq t) e5
  have h8 : t.val < 8 := Nat.lt_of_lt_of_le t.isLt (by decide)
  have hs' : 0 < t.val → Slot0 arg9 arg10 f9 f10 (wq0 hp I t.val) (wq1 hp I t.val) (kblk I.k 0) (kblk I.ak 0) := by
    have hm : min t.val 7 = t.val := by omega
    rw [hm] at hs; exact hs
  have hH : Holds arg12 arg13 (arg12.view.writes (Elt F) f12 [⟨Rect.unit ![0, 0, 0] S2x1x512.size inb_S2x1x512_S2x1x512_0_0_0, k0_pay276⟩])
      (arg13.view.writes (Elt F) f13 [⟨Rect.unit ![0, 0, 0] S2x80x512.size inb_S2x80x512_S2x80x512_0_0_0, k0_pay277⟩]) run0 := by
    refine ⟨?_, ?_, ?_, ?_⟩
    · exact rd_hit_in arg12.view _ _ _ _ _ ![0, 0, 0] (by decide) (by decide) (by decide)
    · exact rd_hit_in arg12.view _ _ _ _ _ ![1, 0, 0] (by decide) (by decide) (by decide)
    · exact rd_hit_in arg13.view _ _ _ _ _ ![0, 0, 0] (by decide) (by decide) (by decide)
    · exact rd_hit_in arg13.view _ _ _ _ _ ![1, 0, 0] (by decide) (by decide) (by decide)
  have hcut := fun (a14 c0 c1 v166 : BitVec 32) => tile43 𝒱 c bd E i arg2 harg2 arg3 harg3 arg4 harg4 arg5 harg5 arg6 harg6 arg7 harg7 arg8 harg8 arg9 harg9 arg10 harg10 arg11 harg11 arg12 harg12 arg13 harg13 hp t a14 (iota .tc S128x1 32 [0] iota_S128x1_d0_w32) rfl
    (k0_pay271 hp (qtile I.q t.val) (qtile I.aq t.val)) (k0_pay275 (k0_pay269 (qtile I.q t.val)) (k0_pay270 (qtile I.aq t.val)) (k0_pay272 hp) k0_pay273 k0_pay274)
    c0 c1 v166 I rfl rfl X2 X3 X5 X6 X8 f9 f10 f11 _ _ e2 e3 e5 e6 e8 hs' hH
  clear hs hs' hH
  sl_exec
  sl_step
  iexists _; iexists _; iexists _; iexists _; iexists _; iexists _
  isplitl [H7]; · iexact H7
  isplitl [Hk0_part43_0]; · iexact Hk0_part43_0
  isplitl [Hk0_part43_1]; · iexact Hk0_part43_1
  isplitl [Hk0_part43_2]; · iexact Hk0_part43_2
  isplitl [Hk0_part43_3]; · iexact Hk0_part43_3
  isplitl [Hk0_part43_4]; · iexact Hk0_part43_4
  isplitl [Hk0_part43_5]; · iexact Hk0_part43_5
  isplitl [Hk0_part43_6]; · iexact Hk0_part43_6
  isplitl [Hk0_part43_7]; · iexact Hk0_part43_7
  isplitl [Hk0_part43_8]; · iexact Hk0_part43_8
  isplitl [Hk0_part43_9]; · iexact Hk0_part43_9
  ipureintro
  obtain ⟨hS, hF⟩ := hk0_part43_10
  refine ⟨fun _ => hS, fun q hq hlt => ?_⟩
  by_cases e : q = t.val
  · subst e
    rw [rd_hit_eq _ _ _ _ _ _ (off1_eq t).symm, hF.rows]
  · refine (rd_skip _ _ _ _ _ _ ?_).trans (ho q hq (by omega))
    refine decide_eq_true ⟨0, Or.inr (Or.inr (Or.inr ?_))⟩
    show q + 1 * (1 - 1) < k0_off1 t 0
    rw [off1_eq]
    show q + 1 * (1 - 1) < t.val
    omega

/-- The value rows of both heads of a pair, each with the row of ones below. -/
def vtOf (v4 : S128x4096.Idx → Elt F .bf16) : S2x8x80x512.Idx → Elt F .bf16 :=
  fun y => k0_pay1 k0_pay284 (win v4 ![64 * (y 0).val, 512 * (y 1).val] S64x512.size (by decide)) (blkIx y)

/-- The inputs as one grid point sees them. -/
def insOf (v2 : S8x128x512.Idx → Elt F .bf16) (v3 : S1x4096x128.Idx → Elt F .bf16) (v4 : S128x4096.Idx → Elt F .bf16)
    (v5 : S8x128x512.Idx → Elt F .bf16) (v6 : S1x4096x128.Idx → Elt F .bf16) : Ins F :=
  { q := v2, k := v3, aq := v5, ak := v6, vt := vtOf v4 }

/-- The rectangle of head row `a`, block `b`, of the value rows is inside them. -/
theorem vt_piece (v : View sig .tc .vmem S128x4096 .bf16) (X : BufTy.Contents (Elt F) v.ty) (a b : ℕ) (ha : a < 2) (hb : b < 8)
    (off : Fin 2 → ℕ) (ho : off = ![64 * a, 512 * b]) (inb : ∀ d, off d + S64x512.size d ≤ S128x4096.size d)
    (inb2 : ∀ d, (![a, b, 0, 0] : Fin 4 → ℕ) d + S1x1x80x512.size d ≤ S2x8x80x512.size d) (x : S1x1x80x512.Idx) :
    k0_pay1 k0_pay284 (v.readAt (Elt F) (Rect.unit (s := S128x4096) off S64x512.size inb).toLoadRect X) x
      = vtOf (v.read (Elt F) X) ((Rect.unit (s := S2x8x80x512) ![a, b, 0, 0] S1x1x80x512.size inb2).emb x) := by
  have h0 : (x 0).val = 0 := by have : (x 0).val < 1 := (x 0).isLt; omega
  have h1 : (x 1).val = 0 := by have : (x 1).val < 1 := (x 1).isLt; omega
  have e0 : (((Rect.unit (s := S2x8x80x512) ![a, b, 0, 0] S1x1x80x512.size inb2).emb x) 0).val = a := by
    rw [Rect.emb_apply]; show a + 1 * (x 0).val = a; omega
  have e1 : (((Rect.unit (s := S2x8x80x512) ![a, b, 0, 0] S1x1x80x512.size inb2).emb x) 1).val = b := by
    rw [Rect.emb_apply]; show b + 1 * (x 1).val = b; omega
  have ei : blkIx ((Rect.unit (s := S2x8x80x512) ![a, b, 0, 0] S1x1x80x512.size inb2).emb x) = x := by
    funext d
    apply Fin.ext
    show (((Rect.unit (s := S2x8x80x512) ![a, b, 0, 0] S1x1x80x512.size inb2).emb x) d).val % S1x1x80x512.size d = (x d).val
    rw [Rect.emb_apply]
    fin_cases d
    · show (a + 1 * (x 0).val) % 1 = (x 0).val; omega
    · show (b + 1 * (x 1).val) % 1 = (x 1).val; omega
    · have h := (x 2).isLt
      show (0 + 1 * (x 2).val) % 80 = (x 2).val
      have h : (x 2).val < 80 := (x 2).isLt
      omega
    · have h : (x 3).val < 512 := (x 3).isLt
      show (0 + 1 * (x 3).val) % 512 = (x 3).val
      omega
  unfold vtOf
  rw [ei, e0, e1, readAt_win v X inb (by decide) ho]

/-- Where an index of the result lies in its query tile. -/
def tileIx (y : S8x128x512.Idx) : S1x128x512.Idx :=
  fun a => ⟨(y a).val % S1x128x512.size a, Nat.mod_lt _ ((by decide : ∀ a, 0 < S1x128x512.size a) a)⟩

/-- The attention's result at one grid point: its eight query tiles. -/
def outBlk (hp : BitVec 32) (I : Ins F) : S8x128x512.Idx → Elt F .bf16 := fun y => outTile hp I (y 0).val (tileIx y)

theorem t1_trips : k0_t1_loop.trips = 8 := by decide +kernel

set_option maxHeartbeats 4000000 in
/-- The body of the attention at one grid point. -/
theorem body_wp (X2 : BufTy.Contents (Elt F) arg2.view.ty) (X3 : BufTy.Contents (Elt F) arg3.view.ty) (X5 : BufTy.Contents (Elt F) arg5.view.ty) (X6 : BufTy.Contents (Elt F) arg6.view.ty) (X4 : BufTy.Contents (Elt F) arg4.view.ty)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄G)
    ⊢ wp frame (wpE (defs₀ (F := F)) 𝒱 (c : Thread nD τ) bd) E
        (cc0_fox_attention_skel (F := F) i arg2 harg2 arg3 harg3 arg4 harg4 arg5 harg5 arg6 harg6 arg7 harg7 arg8 harg8 arg9 harg9 arg10 harg10 arg11 harg11 arg12 harg12 arg13 harg13)
        (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗
          (∃ f, (arg7.view.loc (c : Thread nD τ) ↦[arg7.view.set]{fullShare} f) ∗ ⌜arg7.view.read (Elt F) f
            = outBlk (BitVec.ofNat 32 (i 1).val) (insOf (arg2.view.read (Elt F) X2) (arg3.view.read (Elt F) X3) (arg4.view.read (Elt F) X4) (arg5.view.read (Elt F) X5) (arg6.view.read (Elt F) X6))⌝) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))) := by
  unfold cc0_fox_attention_skel
  iintro ⟨H2, H3, H4, H5, H6, H7, H8, H9, H10, H11, H12, H13⟩
  sl_exec
  have hvt : arg8.view.read (Elt F) (arg8.view.writes (Elt F) arg8.view.junk (body_wp.sl.H8_16 arg4 X4)) = vtOf (arg4.view.read (Elt F) X4) := by
    sl_unfold_run_names
    funext y
    refine View.read_writes_apply_of_pieces (s := S2x8x80x512) _ _ _ _ ?_ y ?_
    · intro p hp
      simp only [List.mem_cons, List.not_mem_nil, or_false] at hp
      rcases hp with rfl | rfl | rfl | rfl | rfl | rfl | rfl | rfl | rfl | rfl | rfl | rfl | rfl | rfl | rfl | rfl
      · exact fun x => vt_piece arg4.view X4 1 7 (by decide) (by decide) _ (by decide) _ (by decide) x
      · exact fun x => vt_piece arg4.view X4 1 6 (by decide) (by decide) _ (by decide) _ (by decide) x
      · exact fun x => vt_piece arg4.view X4 1 5 (by decide) (by decide) _ (by decide) _ (by decide) x
      · exact fun x => vt_piece arg4.view X4 1 4 (by decide) (by decide) _ (by decide) _ (by decide) x
      · exact fun x => vt_piece arg4.view X4 1 3 (by decide) (by decide) _ (by decide) _ (by decide) x
      · exact fun x => vt_piece arg4.view X4 1 2 (by decide) (by decide) _ (by decide) _ (by decide) x
      · exact fun x => vt_piece arg4.view X4 1 1 (by decide) (by decide) _ (by decide) _ (by decide) x
      · exact fun x => vt_piece arg4.view X4 1 0 (by decide) (by decide) _ (by decide) _ (by decide) x
      · exact fun x => vt_piece arg4.view X4 0 7 (by decide) (by decide) _ (by decide) _ (by decide) x
      · exact fun x => vt_piece arg4.view X4 0 6 (by decide) (by decide) _ (by decide) _ (by decide) x
      · exact fun x => vt_piece arg4.view X4 0 5 (by decide) (by decide) _ (by decide) _ (by decide) x
      · exact fun x => vt_piece arg4.view X4 0 4 (by decide) (by decide) _ (by decide) _ (by decide) x
      · exact fun x => vt_piece arg4.view X4 0 3 (by decide) (by decide) _ (by decide) _ (by decide) x
      · exact fun x => vt_piece arg4.view X4 0 2 (by decide) (by decide) _ (by decide) _ (by decide) x
      · exact fun x => vt_piece arg4.view X4 0 1 (by decide) (by decide) _ (by decide) _ (by decide) x
      · exact fun x => vt_piece arg4.view X4 0 0 (by decide) (by decide) _ (by decide) _ (by decide) x
    · revert y
      refine View.cover_of_tiled (s := S2x8x80x512) _ S1x1x80x512.size ?_
      sl_kernel_rfl
  sl_for (fun k _ => inv1 (F := F) c arg2 arg3 arg5 arg6 arg7 arg8 arg9 arg10 arg11 arg12 arg13 (BitVec.ofNat 32 (i 1).val) (insOf (arg2.view.read (Elt F) X2) (arg3.view.read (Elt F) X3) (arg4.view.read (Elt F) X4) (arg5.view.read (Elt F) X5) (arg6.view.read (Elt F) X6)) X2 X3 X5 X6 (arg8.view.writes (Elt F) arg8.view.junk (body_wp.sl.H8_16 arg4 X4)) k) $$ [H2 H3 H5 H6 H7 H8 H9 H10 H11 H12 H13]
  · intro k acc
    exact trip1 𝒱 c bd E i arg2 harg2 arg3 harg3 arg4 harg4 arg5 harg5 arg6 harg6 arg7 harg7 arg8 harg8 arg9 harg9 arg10 harg10 arg11 harg11 arg12 harg12 arg13 harg13 _ k _ X2 X3 X5 X6 _ rfl rfl rfl rfl hvt
  · unfold inv1
    iexists f7; iexists f9; iexists f10; iexists f11; iexists f12; iexists f13
    isplitl [H7]; · iexact H7
    isplitl [H2]; · iexact H2
    isplitl [H3]; · iexact H3
    isplitl [H5]; · iexact H5
    isplitl [H6]; · iexact H6
    isplitl [H8]; · iexact H8
    isplitl [H9]; · iexact H9
    isplitl [H10]; · iexact H10
    isplitl [H11]; · iexact H11
    isplitl [H12]; · iexact H12
    isplitl [H13]; · iexact H13
    ipureintro
    exact ⟨fun h => absurd h (by decide), fun q hq h => absurd h (by omega)⟩
  · unfold inv1
    iintro %acc ⟨%g7, %g9, %g10, %g11, %g12, %g13, H7, H2, H3, H5, H6, H8, H9, H10, H11, H12, H13, %hp0⟩
    sl_exec
    sl_step
    isplitl [H2]; · iexact H2
    isplitl [H3]; · iexact H3
    isplitl [H4]; · iexact H4
    isplitl [H5]; · iexact H5
    isplitl [H6]; · iexact H6
    isplitl [H7]
    · iexists _; isplitl [H7]; · iexact H7
      ipureintro
      funext y
      have hy0 : (y 0).val < 8 := (y 0).isLt
      have h := congrFun (hp0.2 (y 0).val hy0 (lt_of_lt_of_eq hy0 t1_trips.symm)) (tileIx y)
      refine Eq.trans ?_ h
      show arg7.view.read (Elt F) g7 y = arg7.view.read (Elt F) g7 _
      congr 1
      funext a
      apply Fin.ext
      fin_cases a
      · have h : (y 0).val % 1 = 0 := Nat.mod_one _
        show (y 0).val = (y 0).val + 1 * ((y 0).val % 1)
        omega
      · have h : (y 1).val < 128 := (y 1).isLt
        show (y 1).val = 0 + 1 * ((y 1).val % 128)
        omega
      · have h : (y 2).val < 512 := (y 2).isLt
        show (y 2).val = 0 + 1 * ((y 2).val % 512)
        omega
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.KernelIdeal.Fox
-- ==== Proof.KernelIdeal.Region.lean ====
module

public import proofs.«01_k».proof.Proof.Gen.KernelIdeal.Frame
public import proofs.«01_k».proof.Proof.KernelIdeal.Trip1
public import Idealize.ShloMosaic.Lib.Claim

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The inputs as grid point `t` sees them. -/
abbrev insAt (c : Dev nD) (t : Fin cfg0.N) : Ins F := insOf (iblk m c 0 t) (iblk m c 1 t) (iblk m c 2 t) (iblk m c 3 t) (iblk m c 4 t)

/-- The block of the result that grid point `t` leaves. -/
def outAt (c : Dev nD) (t : Fin cfg0.N) : S8x128x512.Idx → Elt F .bf16 :=
  outBlk (BitVec.ofNat 32 ((grid0.coords t) 1).val) (insAt m c t)

/-- The proof data: each argument's buffer at its block, the result's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body over whole memrefs, the arguments' at what they read. -/
theorem sound_kernel (c : Dev nD) (E : Set ℕ) (i : grid0.Coords) (arg2 : Memref sig .tc .vmem S8x128x512 .bf16) (harg2 : arg2.IsWhole) (arg3 : Memref sig .tc .vmem S1x4096x128 .bf16) (harg3 : arg3.IsWhole) (arg4 : Memref sig .tc .vmem S128x4096 .bf16) (harg4 : arg4.IsWhole) (arg5 : Memref sig .tc .vmem S8x128x512 .bf16) (harg5 : arg5.IsWhole) (arg6 : Memref sig .tc .vmem S1x4096x128 .bf16) (harg6 : arg6.IsWhole) (arg7 : Memref sig .tc .vmem S8x128x512 .bf16) (harg7 : arg7.IsWhole) (arg8 : Memref sig .tc .vmem S2x8x80x512 .bf16) (harg8 : arg8.IsWhole) (arg9 : Memref sig .tc .vmem S2x2x512x640 .f32) (harg9 : arg9.IsWhole) (arg10 : Memref sig .tc .vmem S2x2x1x512 .f32) (harg10 : arg10.IsWhole) (arg11 : Memref sig .tc .vmem S2x512x512 .f32) (harg11 : arg11.IsWhole) (arg12 : Memref sig .tc .vmem S2x1x512 .f32) (harg12 : arg12.IsWhole) (arg13 : Memref sig .tc .vmem S2x80x512 .f32) (harg13 : arg13.IsWhole)
    (x0 : S8x128x512.Idx → Elt F .bf16) (x1 : S1x4096x128.Idx → Elt F .bf16) (x2 : S128x4096.Idx → Elt F .bf16)
    (x3 : S8x128x512.Idx → Elt F .bf16) (x4 : S1x4096x128.Idx → Elt F .bf16) (K : PUnit → sProp 𝕄G) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare (outBlk (BitVec.ofNat 32 (i 1).val) (insOf x0 x1 x2 x3 x4)) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_fox_attention (F := F) i arg2 harg2 arg3 harg3 arg4 harg4 arg5 harg5 arg6 harg6 arg7 harg7 arg8 harg8 arg9 harg9 arg10 harg10 arg11 harg11 arg12 harg12 arg13 harg13) K := by
  rw [cc0_fox_attention_eq_skeleton]
  unfold owns
  iintro ⟨⟨%f2, %h2, H2⟩, ⟨%f3, %h3, H3⟩, ⟨%f4, %h4, H4⟩, ⟨%f5, %h5, H5⟩, ⟨%f6, %h6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  iapply (wp_wand_r _ _)
  isplitl [H2 H3 H4 H5 H6 H7 H8 H9 H10 H11 H12 H13]
  · iapply (body_wp Variants.none c none E i arg2 harg2 arg3 harg3 arg4 harg4 arg5 harg5 arg6 harg6 arg7 harg7 arg8 harg8 arg9 harg9 arg10 harg10 arg11 harg11 arg12 harg12 arg13 harg13 f2 f3 f5 f6 f4 f7 f8 f9 f10 f11 f12 f13)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %u ⟨H2, H3, H4, H5, H6, ⟨%f, H7, %hf⟩, ⟨%g8, H8⟩, ⟨%g9, H9⟩, ⟨%g10, H10⟩, ⟨%g11, H11⟩, ⟨%g12, H12⟩, ⟨%g13, H13⟩⟩
    iapply Hk
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap; · iexact H7
      ipureintro
      rw [hf, h2, h3, h4, h5, h6]
    isplitl [H8]
    · iexists _; iexists _; isplitr; swap; · iexact H8
      ipureintro; rfl
    isplitl [H9]
    · iexists _; iexists _; isplitr; swap; · iexact H9
      ipureintro; rfl
    isplitl [H10]
    · iexists _; iexists _; isplitr; swap; · iexact H10
      ipureintro; rfl
    isplitl [H11]
    · iexists _; iexists _; isplitr; swap; · iexact H11
      ipureintro; rfl
    isplitl [H12]
    · iexists _; iexists _; isplitr; swap; · iexact H12
      ipureintro; rfl
    iexists _; iexists _; isplitr; swap; · iexact H13
    ipureintro; rfl

theorem PhiA_eq (c : Dev nD) :
    (Pipeline.ΦA (Val := Elt F) (U := UR sig nD τ) spec0 c : sProp 𝕄G) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r) := by
  unfold Pipeline.ΦA
  rw [scopedRest0_eq]
  simp only [owns_whole]; try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA_eq]
  iintro ⟨⟨⟨S0, S1, S2, S3, S4, S5⟩, HR⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, S0, S1, S2, S3, S4, S5⟩
  isplitl [HR S0 S1 S2 S3 S4 S5]
  · isplitr [HR]; swap; · iexact HR
    isplitl [S0]; · iexact S0
    isplitl [S1]; · iexact S1
    isplitl [S2]; · iexact S2
    isplitl [S3]; · iexact S3
    isplitl [S4]; · iexact S4
    iexact S5
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every weakly fair execution of @main terminates with every array of the pipeline at what the proof data say and
    every semaphore counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame: the argument arrays end unchanged and every semaphore counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Fox

end
-- ==== Proof.KernelIdeal.Pay.lean ====
module

public import proofs.«01_k».proof.Proof.Gen.KernelIdeal.Skeleton
public import proofs.«01_k».proof.Proof.KernelIdeal.Trip1
public import proofs.«01_k».proof.Proof.Ref.Math
public import Idealize.ShloMosaic.Lib.Pointwise
public import Idealize.ShloMosaic.Lib.WordCmp

@[expose] public section

set_option maxRecDepth 16384

noncomputable section

namespace Cert.KernelIdeal.Fox

open Cert.KernelIdeal Cert.KernelIdeal.Gen
open Idealize.ShloMosaic Cert.Fox

theorem neg_inf : Ideal.ofBits FTy.f32 4286578688#32 = ⊥ := by
  simp [Ideal.ofBits, Ideal.ieee]

theorem sel_if {α : Type} (p : Prop) [Decidable p] (a b : α) : Scalar.select (BitVec.ofBool (decide p)) a b = if p then a else b := by
  by_cases h : p <;> simp [h, Scalar.select]

theorem sel_sle {α : Type} {x y : ℕ} (hx : x < 2 ^ 31) (hy : y < 2 ^ 31) (a b : α) :
    Scalar.select (IntOp.cmpi .sle (BitVec.ofNat 32 x) (BitVec.ofNat 32 y)) a b = if x ≤ y then a else b := by
  rw [WordCmp.cmpi_sle_ofNat (by simpa using hx) (by simpa using hy), sel_if]

theorem pay4_at (w : FVec Ideal S256x512 .bf16) (kb gb : Vec Ideal S1x512x128 .bf16) (i y : Fin 512) :
    k0_pay4 w kb gb (ix2 i y) = ∑ x : Fin 128, kb (ix3 0 i x) * w (ix2 ⟨x.val, by omega⟩ y)
      + ∑ x : Fin 128, gb (ix3 0 i x) * w (ix2 ⟨128 + x.val, by omega⟩ y) := by
  pointwise [k0_pay4]

theorem pay80_at (w : FVec Ideal S256x512 .bf16) (kb gb : Vec Ideal S1x512x128 .bf16) (i y : Fin 512) :
    k0_pay80 w kb gb (ix3 0 i y) = k0_pay4 w kb gb (ix2 i y) := by
  pointwise [k0_pay80, k0_pay4]

theorem updM_at (w : FVec Ideal S256x512 .bf16) (kb gb : Vec Ideal S1x512x128 .bf16) (m : Vec Ideal S1x1x512 .f32) (y : Fin 512) :
    updM w kb gb m (ix3 0 0 y) = max (m (ix3 0 0 y)) ((Finset.univ : Finset (Fin 512)).fold max ⊥ fun i => k0_pay4 w kb gb (ix2 i y)) := by
  pointwise [updM, k0_pay12, k0_pay11, k0_pay10, k0_pay8, k0_pay6]
  rw [neg_inf]

theorem updA_at (w : FVec Ideal S256x512 .bf16) (kb gb : Vec Ideal S1x512x128 .bf16) (vb : Vec Ideal S1x1x80x512 .bf16)
    (m : Vec Ideal S1x1x512 .f32) (a : Vec Ideal S1x80x512 .f32) (r : Fin 80) (y : Fin 512) :
    updA w kb gb vb m a (ix3 0 r y)
      = Ideal.exp2 (m (ix3 0 0 y) - safe (updM w kb gb m (ix3 0 0 y))) * a (ix3 0 r y)
        + ∑ i : Fin 512, vb (ix4 0 0 r i) * Ideal.exp2 (k0_pay4 w kb gb (ix2 i y) - safe (updM w kb gb m (ix3 0 0 y))) := by
  rw [updM_at]
  pointwise [updA, k0_pay13, k0_pay11, k0_pay10, k0_pay8, k0_pay6, k0_pay7, k0_pay5, k0_pay9]
  rw [neg_inf]
  rfl

/-- The maximum of the near queries' scores and the running maximum. -/
def mxLo (d : Vec Ideal S1x512x512 .f32) (m : Vec Ideal S1x1x512 .f32) (y : Fin 256) : EReal :=
  max (mLo m (ix3 0 0 y)) ((Finset.univ : Finset (Fin 256)).fold max ⊥ fun i => if i.val ≤ y.val then dLo d (ix3 0 i y) else ⊥)

theorem finLo_at (d : Vec Ideal S1x512x512 .f32) (vb : Vec Ideal S1x1x80x512 .bf16) (m : Vec Ideal S1x1x512 .f32) (a : Vec Ideal S1x80x512 .f32) (r : Fin 80) (y : Fin 256) :
    finLo d vb m a (ix3 0 r y) = Ideal.exp2 (mLo m (ix3 0 0 y) - safe (mxLo d m y)) * aLo a (ix3 0 r y)
      + ∑ i : Fin 256, vb (ix4 0 0 r ⟨i.val, by omega⟩) * Ideal.exp2 ((if i.val ≤ y.val then dLo d (ix3 0 i y) else ⊥) - safe (mxLo d m y)) := by
  have e : ∀ i : Fin 256, ∀ a b : EReal, Scalar.select (IntOp.cmpi .sle (BitVec.ofNat 32 i.val) (BitVec.ofNat 32 y.val)) a b = if i.val ≤ y.val then a else b :=
    fun i a b => sel_sle (by omega) (by omega) a b
  pointwise [finLo, k0_pay118, k0_pay111, k0_pay109, k0_pay115, k0_pay116, k0_pay110, k0_pay112, k0_pay113, k0_pay114, k0_pay107]
  simp only [e, neg_inf]
  rfl

/-- The maximum of the far queries' scores and the running maximum. -/
def mxHi (d : Vec Ideal S1x512x512 .f32) (m : Vec Ideal S1x1x512 .f32) (y : Fin 256) : EReal :=
  max (mHi m (ix3 0 0 y)) ((Finset.univ : Finset (Fin 512)).fold max ⊥ fun i => if i.val ≤ y.val + 256 then dHi d (ix3 0 i y) else ⊥)

theorem finHi_at (d : Vec Ideal S1x512x512 .f32) (vb : Vec Ideal S1x1x80x512 .bf16) (m : Vec Ideal S1x1x512 .f32) (a : Vec Ideal S1x80x512 .f32) (r : Fin 80) (y : Fin 256) :
    finHi d vb m a (ix3 0 r y) = Ideal.exp2 (mHi m (ix3 0 0 y) - safe (mxHi d m y)) * aHi a (ix3 0 r y)
      + ∑ i : Fin 512, vb (ix4 0 0 r i) * Ideal.exp2 ((if i.val ≤ y.val + 256 then dHi d (ix3 0 i y) else ⊥) - safe (mxHi d m y)) := by
  have e : ∀ i : Fin 512, ∀ a b : EReal, Scalar.select (IntOp.cmpi .sle (BitVec.ofNat 32 i.val) (IntOp.addi (BitVec.ofNat 32 y.val) 256#32)) a b = if i.val ≤ y.val + 256 then a else b := by
    intro i a b
    have : IntOp.addi (BitVec.ofNat 32 y.val) 256#32 = BitVec.ofNat 32 (y.val + 256) := by
      show BitVec.ofNat 32 y.val + BitVec.ofNat 32 256 = _
      rw [← BitVec.ofNat_add]
    rw [this]
    exact sel_sle (by omega) (by omega) a b
  pointwise [finHi, k0_pay108, k0_pay109, k0_pay119, k0_pay120, k0_pay121, k0_pay122, k0_pay124, k0_pay125, k0_pay126]
  simp only [e, neg_inf]
  rfl

theorem pay3_at (a b : Vec Ideal S1x80x512 .f32) (r : Fin 128) (y : Fin 512) :
    k0_pay3 a b (ix3 0 r y) = if h : r.val < 64 then Ideal.div (a (ix3 0 ⟨r.val, by omega⟩ y)) (a (ix3 0 64 y))
      else Ideal.div (b (ix3 0 ⟨r.val - 64, by omega⟩ y)) (b (ix3 0 64 y)) := by
  pointwise [k0_pay3]

theorem pay1_at (x : Vec Ideal S64x512 .bf16) (r : Fin 80) (y : Fin 512) :
    k0_pay1 k0_pay284 x (ix4 0 0 r y) = if h : r.val < 64 then x (ix2 ⟨r.val, h⟩ y) else if r.val = 64 then 1 else 0 := by
  pointwise [k0_pay1, k0_pay284]
  split
  · rfl
  · rename_i h
    have : IntOp.cmpi CmpIPredicate.eq (BitVec.ofNat 32 (r.val - 64)) 0#32 = BitVec.ofBool (decide (r.val = 64)) := by
      show BitVec.ofBool _ = _
      congr 1
      rw [Bool.eq_iff_iff, beq_iff_eq, decide_eq_true_iff, ← BitVec.toNat_inj]
      simp
      have := r.isLt
      omega
    rw [this, sel_if]

/-- The rows of one head among the gate operands. -/
theorem gate_rows {n r : ℕ} (hn : n < 8) (hr : r < 128) (h : ℕ) (hh : h < 2) (a b : EReal) :
    Scalar.select
        (IntOp.andi
          (IntOp.cmpi CmpIPredicate.sge (BitVec.ofNat 32 r)
            (Scalar.muli (8#32) (Scalar.addi (Scalar.muli (2#32) (BitVec.ofNat 32 n)) (BitVec.ofNat 32 h))))
          (IntOp.cmpi CmpIPredicate.slt (BitVec.ofNat 32 r)
            (Scalar.addi (Scalar.muli (8#32) (Scalar.addi (Scalar.muli (2#32) (BitVec.ofNat 32 n)) (BitVec.ofNat 32 h))) 8#32))) a b
      = if 16 * n + 8 * h ≤ r ∧ r < 16 * n + 8 * h + 8 then a else b := by
  have e1 : Scalar.muli (8#32) (Scalar.addi (Scalar.muli (2#32) (BitVec.ofNat 32 n)) (BitVec.ofNat 32 h)) = BitVec.ofNat 32 (16 * n + 8 * h) := by
    interval_cases n <;> interval_cases h <;> rfl
  have e2 : Scalar.addi (BitVec.ofNat 32 (16 * n + 8 * h)) 8#32 = BitVec.ofNat 32 (16 * n + 8 * h + 8) := by
    interval_cases n <;> interval_cases h <;> rfl
  rw [e1, e2, WordCmp.cmpi_sge_ofNat (by omega) (by omega), WordCmp.cmpi_slt_ofNat (by omega) (by omega)]
  by_cases h1 : 16 * n + 8 * h ≤ r <;> by_cases h2 : r < 16 * n + 8 * h + 8 <;> simp [h1, h2, Scalar.select, IntOp.andi]

theorem pay271_lo (hp : BitVec 32) (q aq : Vec Ideal S1x128x512 .bf16) (r : Fin 128) (y : Fin 512) :
    k0_pay271 hp q aq (ix2 ⟨r.val, by omega⟩ y) = if r.val < 64 then q (ix3 0 r y) else 0 := by
  pointwise [k0_pay271, k0_pay269, k0_pay270]
  rw [WordCmp.cmpi_slt_ofNat (by omega) (by omega), sel_if]

theorem pay271_hi {n : ℕ} (hn : n < 8) (q aq : Vec Ideal S1x128x512 .bf16) (r : Fin 128) (y : Fin 512) :
    k0_pay271 (BitVec.ofNat 32 n) q aq (ix2 ⟨128 + r.val, by omega⟩ y) = if 16 * n ≤ r.val ∧ r.val < 16 * n + 8 then aq (ix3 0 r y) else 0 := by
  pointwise [k0_pay271, k0_pay269, k0_pay270]
  have := gate_rows hn r.isLt 0 (by omega) (aq (ix3 0 r y)) 0
  exact this

theorem pay275_lo (hp : BitVec 32) (q aq : Vec Ideal S1x128x512 .bf16) (r : Fin 128) (y : Fin 512) :
    k0_pay275 (k0_pay269 q) (k0_pay270 aq) (k0_pay272 hp) k0_pay273 k0_pay274 (ix2 ⟨r.val, by omega⟩ y) = if 64 ≤ r.val then q (ix3 0 r y) else 0 := by
  pointwise [k0_pay275, k0_pay269, k0_pay270, k0_pay272, k0_pay273, k0_pay274]
  rw [WordCmp.cmpi_sge_ofNat (by omega) (by omega), sel_if]

theorem pay275_hi {n : ℕ} (hn : n < 8) (q aq : Vec Ideal S1x128x512 .bf16) (r : Fin 128) (y : Fin 512) :
    k0_pay275 (k0_pay269 q) (k0_pay270 aq) (k0_pay272 (BitVec.ofNat 32 n)) k0_pay273 k0_pay274 (ix2 ⟨128 + r.val, by omega⟩ y)
      = if 16 * n + 8 ≤ r.val ∧ r.val < 16 * n + 8 + 8 then aq (ix3 0 r y) else 0 := by
  pointwise [k0_pay275, k0_pay269, k0_pay270, k0_pay272, k0_pay273, k0_pay274]
  have := gate_rows hn r.isLt 1 (by omega) (aq (ix3 0 r y)) 0
  exact this

end Cert.KernelIdeal.Fox

end

end
-- ==== Proof.KernelIdeal.Value.lean ====
module

public import proofs.«01_k».proof.Proof.KernelIdeal.Pay

@[expose] public section

set_option maxRecDepth 16384

noncomputable section

namespace Cert.KernelIdeal.Fox

open Cert.KernelIdeal Cert.KernelIdeal.Gen
open Idealize.ShloMosaic Cert.Fox

/-- An entry of the keys or of their gate operands, by row and column. -/
def kv (X : S1x4096x128.Idx → EReal) (k r : ℕ) : EReal := X (ix3 0 ⟨k % 4096, Nat.mod_lt _ (by decide)⟩ ⟨r % 128, Nat.mod_lt _ (by decide)⟩)
/-- An entry of the queries or of their gate operands, by tile, row and lane. -/
def qv (X : S8x128x512.Idx → EReal) (q r y : ℕ) : EReal :=
  X (ix3 ⟨q % 8, Nat.mod_lt _ (by decide)⟩ ⟨r % 128, Nat.mod_lt _ (by decide)⟩ ⟨y % 512, Nat.mod_lt _ (by decide)⟩)

/-- The score of key `k` for lane `y` of query tile `q`, head `h` of head pair `n`. -/
def sc (I : Ins Ideal) (n h q y k : ℕ) : EReal :=
  ∑ d ∈ Finset.range 64, kv I.k k (64 * h + d) * qv I.q q (64 * h + d) y
    + ∑ g ∈ Finset.range 8, kv I.ak k (16 * n + 8 * h + g) * qv I.aq q (16 * n + 8 * h + g) y

/-- An entry of the value rows, by head, row and key. -/
def vv (I : Ins Ideal) (h : ℕ) (r : Fin 80) (k : ℕ) : EReal :=
  I.vt (ix4 ⟨h % 2, Nat.mod_lt _ (by decide)⟩ ⟨k / 512 % 8, Nat.mod_lt _ (by decide)⟩ r ⟨k % 512, Nat.mod_lt _ (by decide)⟩)

theorem kblk_at (X : S1x4096x128.Idx → EReal) (j : ℕ) (i : Fin 512) (r : Fin 128) :
    kblk (F := Ideal) X j (ix3 0 i r) = kv X (512 * j + i.val) r.val := by
  unfold kblk win kv
  congr 1
  funext a
  match a with
  | ⟨0, _⟩ => rfl
  | ⟨1, _⟩ => rfl
  | ⟨2, _⟩ => exact Fin.ext (by show (0 + r.val) % 128 = r.val % 128; rw [Nat.zero_add])

theorem qtile_at (X : S8x128x512.Idx → EReal) (q : ℕ) (r : Fin 128) (y : Fin 512) :
    qtile (F := Ideal) X q (ix3 0 r y) = qv X q r.val y.val := by
  unfold qtile win qv
  congr 1
  funext a
  match a with
  | ⟨0, _⟩ => rfl
  | ⟨1, _⟩ => exact Fin.ext (by show (0 + r.val) % 128 = r.val % 128; rw [Nat.zero_add])
  | ⟨2, _⟩ => exact Fin.ext (by show (0 + y.val) % 512 = y.val % 512; rw [Nat.zero_add])

theorem vblk_at (I : Ins Ideal) (h j : ℕ) (hh : h < 2) (hj : j < 8) (r : Fin 80) (i : Fin 512) :
    vblk (F := Ideal) I.vt h j (ix4 0 0 r i) = vv I h r (512 * j + i.val) := by
  unfold vblk win vv
  congr 1
  funext a
  match a with
  | ⟨0, _⟩ => rfl
  | ⟨1, _⟩ => exact Fin.ext (by show (j + 0) % 8 = (512 * j + i.val) / 512 % 8; omega)
  | ⟨2, _⟩ => exact Fin.ext (by show (0 + r.val) % 80 = r.val; omega)
  | ⟨3, _⟩ => exact Fin.ext (by show (0 + i.val) % 512 = (512 * j + i.val) % 512; omega)

/-- A sum over rows of which only a run of rows is kept. -/
theorem sum_run {a w : ℕ} (h : a + w ≤ 128) (f g : ℕ → EReal) (F G : Fin 128 → EReal) (hF : ∀ x, F x = f x.val)
    (hG : ∀ x : Fin 128, G x = if a ≤ x.val ∧ x.val < a + w then g x.val else 0) :
    ∑ x : Fin 128, F x * G x = ∑ d ∈ Finset.range w, f (a + d) * g (a + d) := by
  have e : ∀ x : Fin 128, F x * G x = (fun k => if a ≤ k ∧ k < a + w then f k * g k else 0) x.val := by
    intro x
    rw [hF, hG]
    by_cases hx : a ≤ x.val ∧ x.val < a + w
    · simp [hx]
    · simp [hx]
  rw [Finset.sum_congr rfl (fun x _ => e x), Fin.sum_univ_eq_sum_range (fun k => if a ≤ k ∧ k < a + w then f k * g k else 0) 128,
    ← Finset.sum_filter]
  have : (Finset.range 128).filter (fun k => a ≤ k ∧ k < a + w) = Finset.Ico a (a + w) := by
    ext k; simp; omega
  rw [this, Finset.sum_Ico_eq_sum_range, Nat.add_sub_cancel_left]

/-- The query operand of head `h` of head pair `n`. -/
def wq (n h : ℕ) (I : Ins Ideal) (q : ℕ) : FVec Ideal S256x512 .bf16 :=
  if h = 0 then wq0 (BitVec.ofNat 32 n) I q else wq1 (BitVec.ofNat 32 n) I q

theorem score_at (I : Ins Ideal) {n h : ℕ} (hn : n < 8) (hh : h < 2) (q j : ℕ) (i y : Fin 512) :
    k0_pay4 (wq n h I q) (kblk I.k j) (kblk I.ak j) (ix2 i y) = sc I n h q y.val (512 * j + i.val) := by
  rw [pay4_at]
  unfold sc
  obtain rfl | rfl : h = 0 ∨ h = 1 := by omega
  · rw [show wq n 0 I q = wq0 (BitVec.ofNat 32 n) I q from rfl]
    congr 1
    · refine sum_run (a := 64 * 0) (by omega) (fun r => kv I.k (512 * j + i.val) r) (fun r => qv I.q q r y.val) _ _ (fun x => kblk_at _ _ _ _) fun x => ?_
      rw [wq0, pay271_lo, qtile_at]
      simp
    · refine sum_run (a := 16 * n + 8 * 0) (by omega) (fun r => kv I.ak (512 * j + i.val) r) (fun r => qv I.aq q r y.val) _ _ (fun x => kblk_at _ _ _ _) fun x => ?_
      rw [wq0, pay271_hi hn, qtile_at]
      rfl
  · rw [show wq n 1 I q = wq1 (BitVec.ofNat 32 n) I q from rfl]
    congr 1
    · refine sum_run (a := 64 * 1) (by omega) (fun r => kv I.k (512 * j + i.val) r) (fun r => qv I.q q r y.val) _ _ (fun x => kblk_at _ _ _ _) fun x => ?_
      rw [wq1, pay275_lo, qtile_at]
      have := x.isLt
      exact if_congr (by omega) rfl rfl
    · refine sum_run (a := 16 * n + 8 * 1) (by omega) (fun r => kv I.ak (512 * j + i.val) r) (fun r => qv I.aq q r y.val) _ _ (fun x => kblk_at _ _ _ _) fun x => ?_
      rw [wq1, pay275_hi hn, qtile_at]

/-- One head's running maximum and sums after `p` keys, at lane `y`. -/
def Ok (σ : ℕ → ℝ) (v : Fin 80 → ℕ → EReal) (p : ℕ) (y : Fin 512) (m : Vec Ideal S1x1x512 .f32) (a : Vec Ideal S1x80x512 .f32) : Prop :=
  Good p (m (ix3 0 0 y)) ∧ ∀ r : Fin 80, a (ix3 0 r y) = acc σ (v r) p (m (ix3 0 0 y))

theorem ok_step (I : Ins Ideal) {n h : ℕ} (hn : n < 8) (hh : h < 2) (q j : ℕ) (hj : j < 8) (y : Fin 512) (σ : ℕ → ℝ)
    (hσ : ∀ k, sc I n h q y.val k = (σ k : EReal)) (m : Vec Ideal S1x1x512 .f32) (a : Vec Ideal S1x80x512 .f32)
    (ok : Ok σ (vv I h) (512 * j) y m a) :
    Ok σ (vv I h) (512 * (j + 1)) y (updM (wq n h I q) (kblk I.k j) (kblk I.ak j) m)
      (updA (wq n h I q) (kblk I.k j) (kblk I.ak j) (vblk I.vt h j) m a) := by
  have key := fun r => fold_step σ (vv I h r) (N := 512) (cnt := 512) (p := 512 * j) le_rfl (by decide)
    (fun i => k0_pay4 (wq n h I q) (kblk I.k j) (kblk I.ak j) (ix2 i y)) (fun i => vblk I.vt h j (ix4 0 0 r i))
    (fun i _ => (score_at I hn hh q j i y).trans (hσ _)) (fun i hi => absurd i.isLt hi) (fun i _ => vblk_at I h j hh hj r i)
    (m (ix3 0 0 y)) ok.1
  refine ⟨?_, fun r => ?_⟩
  · rw [updM_at]; exact (key 0).1
  · rw [updA_at, updM_at, ok.2 r]; exact (key r).2

theorem pay276_at (i : Fin 2) (y : Fin 512) : k0_pay276 (F := Ideal) (ix3 i 0 y) = ⊥ := by
  pointwise [k0_pay276]
  exact neg_inf
theorem pay277_at (i : Fin 2) (r : Fin 80) (y : Fin 512) : k0_pay277 (F := Ideal) (ix3 i r y) = 0 := by
  pointwise [k0_pay277]

theorem ok_zero (σ : ℕ → ℝ) (v : Fin 80 → ℕ → EReal) (y : Fin 512) :
    Ok σ v 0 y (run0 (F := Ideal)).m0 (run0 (F := Ideal)).a0 ∧ Ok σ v 0 y (run0 (F := Ideal)).m1 (run0 (F := Ideal)).a1 := by
  have e0 : (run0 (F := Ideal)).m0 (ix3 0 0 y) = ⊥ := by
    rw [← pay276_at 0 y]
    unfold run0 win
    congr 1
  have e1 : (run0 (F := Ideal)).m1 (ix3 0 0 y) = ⊥ := by
    rw [← pay276_at 1 y]
    unfold run0 win
    congr 1
  have a0 : ∀ r, (run0 (F := Ideal)).a0 (ix3 0 r y) = 0 := by
    intro r
    rw [← pay277_at 0 r y]
    unfold run0 win
    congr 1
  have a1 : ∀ r, (run0 (F := Ideal)).a1 (ix3 0 r y) = 0 := by
    intro r
    rw [← pay277_at 1 r y]
    unfold run0 win
    congr 1
  exact ⟨⟨Or.inl ⟨rfl, e0⟩, fun r => by rw [a0]; simp [acc]⟩, ⟨Or.inl ⟨rfl, e1⟩, fun r => by rw [a1]; simp [acc]⟩⟩

theorem ok_runs (I : Ins Ideal) {n : ℕ} (hn : n < 8) (q : ℕ) (y : Fin 512) (σ0 σ1 : ℕ → ℝ)
    (h0 : ∀ k, sc I n 0 q y.val k = (σ0 k : EReal)) (h1 : ∀ k, sc I n 1 q y.val k = (σ1 k : EReal)) (j : ℕ) (hj : j ≤ 8) :
    Ok σ0 (vv I 0) (512 * j) y (runs I (wq n 0 I q) (wq n 1 I q) j).m0 (runs I (wq n 0 I q) (wq n 1 I q) j).a0
      ∧ Ok σ1 (vv I 1) (512 * j) y (runs I (wq n 0 I q) (wq n 1 I q) j).m1 (runs I (wq n 0 I q) (wq n 1 I q) j).a1 := by
  induction j with
  | zero => exact ⟨(ok_zero σ0 _ y).1, (ok_zero σ1 _ y).2⟩
  | succ j ih =>
    have ih := ih (by omega)
    exact ⟨ok_step I hn (by decide) q j (by omega) y σ0 h0 _ _ ih.1, ok_step I hn (by decide) q j (by omega) y σ1 h1 _ _ ih.2⟩

/-- The final sums of one head at lane `y`: all keys up to the query's own. -/
theorem fin_ok (I : Ins Ideal) {n h : ℕ} (hn : n < 8) (hh : h < 2) (q : ℕ) (hq : q < 8) (y : Fin 512) (σ : ℕ → ℝ)
    (hσ : ∀ k, sc I n h q y.val k = (σ k : EReal)) (m : Vec Ideal S1x1x512 .f32) (a : Vec Ideal S1x80x512 .f32)
    (ok : Ok σ (vv I h) (512 * q) y m a) :
    ∃ M, Good (512 * q + (y.val + 1)) M ∧ ∀ r : Fin 80,
      jn (finLo (k0_pay80 (wq n h I q) (kblk I.k q) (kblk I.ak q)) (vblk I.vt h q) m a)
        (finHi (k0_pay80 (wq n h I q) (kblk I.k q) (kblk I.ak q)) (vblk I.vt h q) m a) (ix3 0 r y)
        = acc σ (vv I h r) (512 * q + (y.val + 1)) M := by
  generalize hd : k0_pay80 (wq n h I q) (kblk I.k q) (kblk I.ak q) = d
  have dv : ∀ i : Fin 512, d (ix3 0 i y) = (σ (512 * q + i.val) : EReal) := by
    intro i; rw [← hd, pay80_at, score_at I hn hh]; exact hσ _
  by_cases hy : y.val < 256
  · have em : mLo m (ix3 0 0 ⟨y.val, hy⟩) = m (ix3 0 0 y) := by
      unfold mLo win; congr 1; funext a
      match a with
      | ⟨0, _⟩ => rfl
      | ⟨1, _⟩ => rfl
      | ⟨2, _⟩ => exact Fin.ext (by show (0 + y.val) % 512 = y.val; omega)
    have ea : ∀ r, aLo a (ix3 0 r ⟨y.val, hy⟩) = a (ix3 0 r y) := by
      intro r
      unfold aLo win; congr 1; funext a
      match a with
      | ⟨0, _⟩ => rfl
      | ⟨1, _⟩ => exact Fin.ext (by show (0 + r.val) % 80 = r.val; omega)
      | ⟨2, _⟩ => exact Fin.ext (by show (0 + y.val) % 512 = y.val; omega)
    have ed : ∀ i : Fin 256, dLo (F := Ideal) d (ix3 0 i ⟨y.val, hy⟩) = (σ (512 * q + i.val) : EReal) := by
      intro i
      rw [← dv ⟨i.val, by omega⟩]
      unfold dLo win; congr 1; funext a
      match a with
      | ⟨0, _⟩ => rfl
      | ⟨1, _⟩ => exact Fin.ext (by show (0 + i.val) % 512 = i.val; omega)
      | ⟨2, _⟩ => exact Fin.ext (by show (0 + y.val) % 512 = y.val; omega)
    have key := fun r => fold_step σ (vv I h r) (N := 256) (cnt := y.val + 1) (p := 512 * q) (by omega) (by omega)
      (fun i => if i.val ≤ y.val then dLo (F := Ideal) d (ix3 0 i ⟨y.val, hy⟩) else ⊥) (fun i => vblk I.vt h q (ix4 0 0 r ⟨i.val, by omega⟩))
      (fun i hi => (if_pos (by omega)).trans (ed i))
      (fun i hi => if_neg (by omega))
      (fun i _ => vblk_at I h q hh hq r ⟨i.val, by omega⟩)
      (m (ix3 0 0 y)) ok.1
    refine ⟨mxLo d m ⟨y.val, hy⟩, ?_, fun r => ?_⟩
    · unfold mxLo; rw [em]; exact (key 0).1
    · have ej : jn (finLo d (vblk I.vt h q) m a) (finHi d (vblk I.vt h q) m a) (ix3 0 r y) = finLo d (vblk I.vt h q) m a (ix3 0 r ⟨y.val, hy⟩) := by
        unfold jn
        rw [if_pos (show ((ix3 (0 : Fin 1) r y : S1x80x512.Idx) 2).val < 256 from hy)]
        congr 1; funext a
        match a with
        | ⟨0, _⟩ => rfl
        | ⟨1, _⟩ => exact Fin.ext (by show r.val % 80 = r.val; omega)
        | ⟨2, _⟩ => exact Fin.ext (by show y.val % 256 = y.val; omega)
      rw [ej, finLo_at, ea, ok.2 r]
      unfold mxLo; rw [em]; exact (key r).2
  · have hy2 : y.val - 256 < 256 := by omega
    have em : mHi m (ix3 0 0 ⟨y.val - 256, hy2⟩) = m (ix3 0 0 y) := by
      unfold mHi win; congr 1; funext a
      match a with
      | ⟨0, _⟩ => rfl
      | ⟨1, _⟩ => rfl
      | ⟨2, _⟩ => exact Fin.ext (by show (256 + (y.val - 256)) % 512 = y.val; omega)
    have ea : ∀ r, aHi a (ix3 0 r ⟨y.val - 256, hy2⟩) = a (ix3 0 r y) := by
      intro r
      unfold aHi win; congr 1; funext a
      match a with
      | ⟨0, _⟩ => rfl
      | ⟨1, _⟩ => exact Fin.ext (by show (0 + r.val) % 80 = r.val; omega)
      | ⟨2, _⟩ => exact Fin.ext (by show (256 + (y.val - 256)) % 512 = y.val; omega)
    have ed : ∀ i : Fin 512, dHi (F := Ideal) d (ix3 0 i ⟨y.val - 256, hy2⟩) = (σ (512 * q + i.val) : EReal) := by
      intro i
      rw [← dv i]
      unfold dHi win; congr 1; funext a
      match a with
      | ⟨0, _⟩ => rfl
      | ⟨1, _⟩ => exact Fin.ext (by show (0 + i.val) % 512 = i.val; omega)
      | ⟨2, _⟩ => exact Fin.ext (by show (256 + (y.val - 256)) % 512 = y.val; omega)
    have key := fun r => fold_step σ (vv I h r) (N := 512) (cnt := y.val + 1) (p := 512 * q) (by omega) (by omega)
      (fun i => if i.val ≤ y.val - 256 + 256 then dHi (F := Ideal) d (ix3 0 i ⟨y.val - 256, hy2⟩) else ⊥) (fun i => vblk I.vt h q (ix4 0 0 r i))
      (fun i hi => (if_pos (by omega)).trans (ed i))
      (fun i hi => if_neg (by omega))
      (fun i _ => vblk_at I h q hh hq r i)
      (m (ix3 0 0 y)) ok.1
    refine ⟨mxHi d m ⟨y.val - 256, hy2⟩, ?_, fun r => ?_⟩
    · unfold mxHi; rw [em]; exact (key 0).1
    · have ej : jn (finLo d (vblk I.vt h q) m a) (finHi d (vblk I.vt h q) m a) (ix3 0 r y) = finHi d (vblk I.vt h q) m a (ix3 0 r ⟨y.val - 256, hy2⟩) := by
        unfold jn
        rw [if_neg (show ¬ ((ix3 (0 : Fin 1) r y : S1x80x512.Idx) 2).val < 256 from hy)]
        congr 1; funext a
        match a with
        | ⟨0, _⟩ => rfl
        | ⟨1, _⟩ => exact Fin.ext (by show r.val % 80 = r.val; omega)
        | ⟨2, _⟩ => exact Fin.ext (by show y.val % 256 = y.val - 256; omega)
      rw [ej, finHi_at, ea, ok.2 r]
      unfold mxHi; rw [em]; exact (key r).2

/-- The result's entry at row `r`, lane `y` of query tile `q`, where the scores are real and row 64 of the values is ones. -/
theorem outTile_at (I : Ins Ideal) {n : ℕ} (hn : n < 8) (q : ℕ) (hq : q < 8) (y : Fin 512) (σ : ℕ → ℕ → ℝ)
    (hσ : ∀ h, h < 2 → ∀ k, sc I n h q y.val k = (σ h k : EReal)) (one : ∀ h, h < 2 → ∀ k, vv I h 64 k = 1)
    (h : ℕ) (hh : h < 2) (r : ℕ) (hr : r < 64) :
    outTile (BitVec.ofNat 32 n) I q (ix3 0 ⟨64 * h + r, by omega⟩ y)
      = att (σ h) (vv I h ⟨r, by omega⟩) (512 * q + (y.val + 1)) := by
  obtain ⟨ok0, ok1⟩ := ok_runs I hn q y (σ 0) (σ 1) (hσ 0 (by decide)) (hσ 1 (by decide)) q (by omega)
  unfold outTile
  rw [pay3_at]
  obtain rfl | rfl : h = 0 ∨ h = 1 := by omega
  · rw [dif_pos (show 64 * 0 + r < 64 by omega)]
    obtain ⟨M, hM, hv⟩ := fin_ok I hn (h := 0) (by decide) q hq y (σ 0) (hσ 0 (by decide)) _ _ ok0
    have e := acc_div (σ 0) (vv I 0 ⟨r, by omega⟩) (n := 512 * q + (y.val + 1)) (by omega) M hM
    rw [← e, ← (funext (one 0 (by decide)) : vv I 0 64 = fun _ => 1), ← hv 64, ← hv ⟨r, by omega⟩]
    congr 4
    show 64 * 0 + r = r
    omega
  · rw [dif_neg (show ¬ 64 * 1 + r < 64 by omega)]
    obtain ⟨M, hM, hv⟩ := fin_ok I hn (h := 1) (by decide) q hq y (σ 1) (hσ 1 (by decide)) _ _ ok1
    have e := acc_div (σ 1) (vv I 1 ⟨r, by omega⟩) (n := 512 * q + (y.val + 1)) (by omega) M hM
    rw [← e, ← (funext (one 1 (by decide)) : vv I 1 64 = fun _ => 1), ← hv 64, ← hv ⟨r, by omega⟩]
    congr 4
    show 64 * 1 + r - 64 = r
    omega

/-- The value rows: a head's sixty-four rows of values, then a row of ones. -/
theorem vt_at (I : Ins Ideal) (v4 : S128x4096.Idx → EReal) (hI : I.vt = vtOf (F := Ideal) v4) (h : ℕ) (hh : h < 2) (r : Fin 80) (k : ℕ) :
    vv I h r k = if hr : r.val < 64 then v4 (ix2 ⟨(64 * h + r.val) % 128, Nat.mod_lt _ (by decide)⟩ ⟨k % 4096, Nat.mod_lt _ (by decide)⟩)
      else if r.val = 64 then 1 else 0 := by
  unfold vv
  rw [hI]
  unfold vtOf
  have e : blkIx (ix4 ⟨h % 2, Nat.mod_lt _ (by decide)⟩ ⟨k / 512 % 8, Nat.mod_lt _ (by decide)⟩ r ⟨k % 512, Nat.mod_lt _ (by decide)⟩)
      = (ix4 0 0 r ⟨k % 512, Nat.mod_lt _ (by decide)⟩ : S1x1x80x512.Idx) := by
    unfold blkIx
    funext a
    match a with
    | ⟨0, _⟩ => exact Fin.ext (by show (h % 2) % 1 = 0; omega)
    | ⟨1, _⟩ => exact Fin.ext (by show (k / 512 % 8) % 1 = 0; omega)
    | ⟨2, _⟩ => exact Fin.ext (by show r.val % 80 = r.val; omega)
    | ⟨3, _⟩ => exact Fin.ext (by show (k % 512) % 512 = k % 512; omega)
  rw [e, pay1_at]
  split
  · unfold win
    congr 1; funext a
    match a with
    | ⟨0, _⟩ => exact Fin.ext (by show (64 * (h % 2) + r.val) % 128 = (64 * h + r.val) % 128; omega)
    | ⟨1, _⟩ => exact Fin.ext (by show (512 * (k / 512 % 8) + k % 512) % 4096 = k % 4096; omega)
  · rfl

end Cert.KernelIdeal.Fox

end

end
-- ==== Proof.KernelIdeal.Final.lean ====
module

public import proofs.«01_k».proof.Proof.KernelIdeal.Region
public import proofs.«01_k».proof.Proof.KernelIdeal.Value
public import proofs.«01_k».proof.Proof.Gen.KernelIdeal.Points
public import proofs.«01_k».proof.Proof.Ref.Value
public import Idealize.ShloMosaic.Lib.Pipeline.Value
public import Idealize.ShloMosaic.Lib.Tactic

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pipeline (Dat)
open Cert.Fox
open Cert.ReferenceIdeal.Fox (at2 at3 rsc)

theorem coords_at : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)
theorem index0 : ∀ t : Fin cfg0.N, win0_0.index t = ![t.val / 8, t.val % 8, 0] :=
  (by decide +kernel : ∀ t : Fin grid0.N, win0_0.index t = ![t.val / 8, t.val % 8, 0])
theorem index1 : ∀ t : Fin cfg0.N, win0_1.index t = ![t.val / 8, 0, t.val % 8] :=
  (by decide +kernel : ∀ t : Fin grid0.N, win0_1.index t = ![t.val / 8, 0, t.val % 8])
theorem index2 : ∀ t : Fin cfg0.N, win0_2.index t = ![t.val % 8, t.val / 8] :=
  (by decide +kernel : ∀ t : Fin grid0.N, win0_2.index t = ![t.val % 8, t.val / 8])
theorem index3 : ∀ t : Fin cfg0.N, win0_3.index t = ![t.val / 8, 0, 0] :=
  (by decide +kernel : ∀ t : Fin grid0.N, win0_3.index t = ![t.val / 8, 0, 0])
theorem index4 : ∀ t : Fin cfg0.N, win0_4.index t = ![t.val / 8, 0, 0] :=
  (by decide +kernel : ∀ t : Fin grid0.N, win0_4.index t = ![t.val / 8, 0, 0])
theorem index5 : ∀ t : Fin cfg0.N, win0_5.index t = ![t.val / 8, t.val % 8, 0] :=
  (by decide +kernel : ∀ t : Fin grid0.N, win0_5.index t = ![t.val / 8, t.val % 8, 0])

section Blocks

variable {F : FTy → Type} [FloatOps F]
variable (m : (ℓ : Loc nD τ sig) → Buf (Elt F) ℓ)

theorem lt32 (t : Fin cfg0.N) : t.val < 32 := lt_of_lt_of_eq t.isLt N_0

theorem iblk0_at (c : Dev nD) (t : Fin cfg0.N) (q : Fin 8) (r : Fin 128) (y : Fin 512) :
    (iblk m c 0 t : S8x128x512.Idx → Elt F .bf16) (ix3 q r y)
      = (m ((c : Thread nD τ).loc main_arg0) : S32x1024x512.Idx → Elt F .bf16)
          (ix3 ⟨8 * (t.val / 8) + q.val, by have := lt32 t; omega⟩ ⟨128 * (t.val % 8) + r.val, by omega⟩ y) := by
  have hi := index0 t
  unfold iblk
  rw [View.read_apply]
  show V m c main_arg0 _ = m (c.tc.loc main_arg0) _
  unfold V
  congr 1
  funext a
  apply Fin.ext
  match a with
  | ⟨0, _⟩ => show win0_0.index t 0 * 8 + 1 * q.val = 8 * (t.val / 8) + q.val; rw [hi]; show t.val / 8 * 8 + 1 * q.val = _; omega
  | ⟨1, _⟩ => show win0_0.index t 1 * 128 + 1 * r.val = 128 * (t.val % 8) + r.val; rw [hi]; show t.val % 8 * 128 + 1 * r.val = _; omega
  | ⟨2, _⟩ => show win0_0.index t 2 * 512 + 1 * y.val = y.val; rw [hi]; show 0 * 512 + 1 * y.val = _; omega

theorem iblk1_at (c : Dev nD) (t : Fin cfg0.N) (k : Fin 4096) (r : Fin 128) :
    (iblk m c 1 t : S1x4096x128.Idx → Elt F .bf16) (ix3 0 k r)
      = (m ((c : Thread nD τ).loc main_arg1) : S4x4096x1024.Idx → Elt F .bf16)
          (ix3 ⟨t.val / 8, by have := lt32 t; omega⟩ k ⟨128 * (t.val % 8) + r.val, by omega⟩) := by
  have hi := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 8; rw [hi]; show t.val / 8 * 1 + 1 * 0 = _; omega
  | ⟨1, _⟩ => show win0_1.index t 1 * 4096 + 1 * k.val = k.val; rw [hi]; show 0 * 4096 + 1 * k.val = _; omega
  | ⟨2, _⟩ => show win0_1.index t 2 * 128 + 1 * r.val = 128 * (t.val % 8) + r.val; rw [hi]; show t.val % 8 * 128 + 1 * r.val = _; omega

theorem iblk2_at (c : Dev nD) (t : Fin cfg0.N) (r : Fin 128) (k : Fin 4096) :
    (iblk m c 2 t : S128x4096.Idx → Elt F .bf16) (ix2 r k)
      = (m ((c : Thread nD τ).loc main_arg2) : S1024x16384.Idx → Elt F .bf16)
          (ix2 ⟨128 * (t.val % 8) + r.val, by omega⟩ ⟨4096 * (t.val / 8) + k.val, by have := lt32 t; omega⟩) := by
  have hi := index2 t
  unfold iblk
  rw [View.read_apply]
  show V m c main_arg2 _ = m (c.tc.loc main_arg2) _
  unfold V
  congr 1
  funext a
  apply Fin.ext
  match a with
  | ⟨0, _⟩ => show win0_2.index t 0 * 128 + 1 * r.val = 128 * (t.val % 8) + r.val; rw [hi]; show t.val % 8 * 128 + 1 * r.val = _; omega
  | ⟨1, _⟩ => show win0_2.index t 1 * 4096 + 1 * k.val = 4096 * (t.val / 8) + k.val; rw [hi]; show t.val / 8 * 4096 + 1 * k.val = _; omega

theorem iblk3_at (c : Dev nD) (t : Fin cfg0.N) (q : Fin 8) (r : Fin 128) (y : Fin 512) :
    (iblk m c 3 t : S8x128x512.Idx → Elt F .bf16) (ix3 q r y)
      = (m ((c : Thread nD τ).loc main_arg3) : S32x128x512.Idx → Elt F .bf16)
          (ix3 ⟨8 * (t.val / 8) + q.val, by have := lt32 t; omega⟩ r y) := by
  have hi := index3 t
  unfold iblk
  rw [View.read_apply]
  show V m c main_arg3 _ = m (c.tc.loc main_arg3) _
  unfold V
  congr 1
  funext a
  apply Fin.ext
  match a with
  | ⟨0, _⟩ => show win0_3.index t 0 * 8 + 1 * q.val = 8 * (t.val / 8) + q.val; rw [hi]; show t.val / 8 * 8 + 1 * q.val = _; omega
  | ⟨1, _⟩ => show win0_3.index t 1 * 128 + 1 * r.val = r.val; rw [hi]; show 0 * 128 + 1 * r.val = _; omega
  | ⟨2, _⟩ => show win0_3.index t 2 * 512 + 1 * y.val = y.val; rw [hi]; show 0 * 512 + 1 * y.val = _; omega

theorem iblk4_at (c : Dev nD) (t : Fin cfg0.N) (k : Fin 4096) (r : Fin 128) :
    (iblk m c 4 t : S1x4096x128.Idx → Elt F .bf16) (ix3 0 k r)
      = (m ((c : Thread nD τ).loc main_arg4) : S4x4096x128.Idx → Elt F .bf16)
          (ix3 ⟨t.val / 8, by have := lt32 t; omega⟩ k r) := by
  have hi := index4 t
  unfold iblk
  rw [View.read_apply]
  show V m c main_arg4 _ = m (c.tc.loc main_arg4) _
  unfold V
  congr 1
  funext a
  apply Fin.ext
  match a with
  | ⟨0, _⟩ => show win0_4.index t 0 * 1 + 1 * 0 = t.val / 8; rw [hi]; show t.val / 8 * 1 + 1 * 0 = _; omega
  | ⟨1, _⟩ => show win0_4.index t 1 * 4096 + 1 * k.val = k.val; rw [hi]; show 0 * 4096 + 1 * k.val = _; omega
  | ⟨2, _⟩ => show win0_4.index t 2 * 128 + 1 * r.val = r.val; rw [hi]; show 0 * 128 + 1 * r.val = _; omega

/-- The grid point that writes an entry of the result. -/
def pointOf (y : S32x1024x512.Idx) : Fin cfg0.N :=
  ⟨8 * ((y 0).val / 8) + (y 1).val / 128, by
    have h0 : (y 0).val < 32 := (y 0).isLt
    have h1 : (y 1).val < 1024 := (y 1).isLt
    rw [show cfg0.N = 32 from N_0]; omega⟩

/-- The entry's place in the block that point leaves. -/
def placeOf (y : S32x1024x512.Idx) : S8x128x512.Idx :=
  ix3 ⟨(y 0).val % 8, Nat.mod_lt _ (by decide)⟩ ⟨(y 1).val % 128, Nat.mod_lt _ (by decide)⟩ ⟨(y 2).val, (y 2).isLt⟩

/-- The whole result: each entry as the grid point that writes it leaves it. -/
def result (c : Dev nD) : Buf (Elt F) ((c : Thread nD τ).loc main_v0) :=
  (fun y => outAt m c (pointOf y) (placeOf y) : S32x1024x512.Idx → Elt F .bf16)

theorem flushed_eq (c : Dev nD) (t : Fin cfg0.N) (hf : (cfg0.win 5).flush t = true) :
    (dats m 0 c).flushed 5 t = ((cfg0.win 5).blk t).view.read (Elt F) (result m c) := by
  show (cfg0.win 5).cut (grid0.coords t) ((dats m 0 c).after 5 t) = _
  rw [after0_5]
  have hi := index5 t
  have ht := lt32 t
  funext j
  rw [View.read_apply]
  have h0 : (j 0).val < 8 := (j 0).isLt
  have h1 : (j 1).val < 128 := (j 1).isLt
  have h2 : (j 2).val < 512 := (j 2).isLt
  show outAt m c t j = outAt m c (pointOf _) (placeOf _)
  generalize hy : ((cfg0.win 5).blk t).view.emb j = y
  have e0 : (y 0).val = t.val / 8 * 8 + (j 0).val := by
    rw [← hy]; show win0_5.index t 0 * 8 + 1 * (j 0).val = _; rw [hi]; show t.val / 8 * 8 + 1 * (j 0).val = _; omega
  have e1 : (y 1).val = t.val % 8 * 128 + (j 1).val := by
    rw [← hy]; show win0_5.index t 1 * 128 + 1 * (j 1).val = _; rw [hi]; show t.val % 8 * 128 + 1 * (j 1).val = _; omega
  have e2 : (y 2).val = (j 2).val := by
    rw [← hy]; show win0_5.index t 2 * 512 + 1 * (j 2).val = _; rw [hi]; show 0 * 512 + 1 * (j 2).val = _; omega
  have ep : pointOf y = t := Fin.ext (by show 8 * ((y 0).val / 8) + (y 1).val / 128 = t.val; omega)
  have eq : placeOf y = j := by
    funext a
    match a with
    | ⟨0, _⟩ => exact Fin.ext (by show (y 0).val % 8 = (j 0).val; omega)
    | ⟨1, _⟩ => exact Fin.ext (by show (y 1).val % 128 = (j 1).val; omega)
    | ⟨2, _⟩ => exact Fin.ext e2
  rw [ep, eq]

theorem final_o (c : Dev nD) : (dats m 0 c).arrAt 5 cfg0.N = result m c :=
  (dats m 0 c).arrAt_eq_of_cover 5 (result m c) (flushed_eq m c) fun i =>
    ⟨pointOf i, flush0_5 _, by
      show i ∈ ((View.whole main_v0).slice (win0_5.rect (pointOf i))).set
      rw [View.set_slice_whole, Rect.mem_set_unit]
      have hi := index5 (pointOf i)
      have h0 : (i 0 : Nat) < 32 := (i 0).isLt
      have h1 : (i 1 : Nat) < 1024 := (i 1).isLt
      have h2 : (i 2 : Nat) < 512 := (i 2).isLt
      have hp : (pointOf i).val = 8 * ((i 0).val / 8) + (i 1).val / 128 := rfl
      intro a
      match a with
      | ⟨0, _⟩ => show win0_5.index (pointOf i) 0 * 8 ≤ (i 0 : Nat) ∧ (i 0 : Nat) < win0_5.index (pointOf i) 0 * 8 + 8
                  rw [hi]; show (pointOf i).val / 8 * 8 ≤ _ ∧ _ < (pointOf i).val / 8 * 8 + 8; omega
      | ⟨1, _⟩ => show win0_5.index (pointOf i) 1 * 128 ≤ (i 1 : Nat) ∧ (i 1 : Nat) < win0_5.index (pointOf i) 1 * 128 + 128
                  rw [hi]; show (pointOf i).val % 8 * 128 ≤ _ ∧ _ < (pointOf i).val % 8 * 128 + 128; omega
      | ⟨2, _⟩ => show win0_5.index (pointOf i) 2 * 512 ≤ (i 2 : Nat) ∧ (i 2 : Nat) < win0_5.index (pointOf i) 2 * 512 + 512
                  rw [hi]; show 0 * 512 ≤ _ ∧ _ < 0 * 512 + 512; omega⟩

/-- The run, read: the result array whole, the arguments unchanged. -/
theorem run (ρ : Dev nD → PrngReg) : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (final_o m c), ((h.1 c).1 0).trans ((dats m 0 c).arrAt_in 0 rfl _),
    ((h.1 c).1 1).trans ((dats m 0 c).arrAt_in 1 rfl _), ((h.1 c).1 2).trans ((dats m 0 c).arrAt_in 2 rfl _),
    ((h.1 c).1 3).trans ((dats m 0 c).arrAt_in 3 rfl _), ((h.1 c).1 4).trans ((dats m 0 c).arrAt_in 4 rfl _)⟩)
    (run_main m ρ)

end Blocks

variable (m : (ℓ : Loc nD τ sig) → Buf (Elt Ideal) ℓ)

/-- The arguments on one device. -/
abbrev argQ (c : Dev nD) : S32x1024x512.Idx → EReal := m ((c : Thread nD τ).loc main_arg0)
abbrev argK (c : Dev nD) : S4x4096x1024.Idx → EReal := m ((c : Thread nD τ).loc main_arg1)
abbrev argV (c : Dev nD) : S1024x16384.Idx → EReal := m ((c : Thread nD τ).loc main_arg2)
abbrev argAQ (c : Dev nD) : S32x128x512.Idx → EReal := m ((c : Thread nD τ).loc main_arg3)
abbrev argAK (c : Dev nD) : S4x4096x128.Idx → EReal := m ((c : Thread nD τ).loc main_arg4)

theorem q_at (c : Dev nD) (t : Fin cfg0.N) (q d y : ℕ) (hq : q < 8) (hd : d < 128) (hy : y < 512) :
    qv (insAt m c t).q q d y = at3 (argQ m c) (8 * (t.val / 8) + q) (128 * (t.val % 8) + d) y := by
  have ht := lt32 t
  show (iblk m c 0 t : S8x128x512.Idx → EReal) _ = _
  refine (iblk0_at m c t _ _ _).trans ?_
  show argQ m c _ = argQ m c _
  congr 1
  funext a
  match a with
  | ⟨0, _⟩ => exact Fin.ext (by show 8 * (t.val / 8) + q % 8 = (8 * (t.val / 8) + q) % 32; omega)
  | ⟨1, _⟩ => exact Fin.ext (by show 128 * (t.val % 8) + d % 128 = (128 * (t.val % 8) + d) % 1024; omega)
  | ⟨2, _⟩ => rfl

theorem k_at (c : Dev nD) (t : Fin cfg0.N) (k d : ℕ) (hd : d < 128) :
    kv (insAt m c t).k k d = at3 (argK m c) (t.val / 8) k (128 * (t.val % 8) + d) := by
  have ht := lt32 t
  show (iblk m c 1 t : S1x4096x128.Idx → EReal) _ = _
  refine (iblk1_at m c t _ _).trans ?_
  show argK m c _ = argK m c _
  congr 1
  funext a
  match a with
  | ⟨0, _⟩ => exact Fin.ext (by show t.val / 8 = (t.val / 8) % 4; omega)
  | ⟨1, _⟩ => rfl
  | ⟨2, _⟩ => exact Fin.ext (by show 128 * (t.val % 8) + d % 128 = (128 * (t.val % 8) + d) % 1024; omega)

theorem aq_at (c : Dev nD) (t : Fin cfg0.N) (q d y : ℕ) (hq : q < 8) :
    qv (insAt m c t).aq q d y = at3 (argAQ m c) (8 * (t.val / 8) + q) d y := by
  have ht := lt32 t
  show (iblk m c 3 t : S8x128x512.Idx → EReal) _ = _
  refine (iblk3_at m c t _ _ _).trans ?_
  show argAQ m c _ = argAQ m c _
  congr 1
  funext a
  match a with
  | ⟨0, _⟩ => exact Fin.ext (by show 8 * (t.val / 8) + q % 8 = (8 * (t.val / 8) + q) % 32; omega)
  | ⟨1, _⟩ => rfl
  | ⟨2, _⟩ => rfl

theorem ak_at (c : Dev nD) (t : Fin cfg0.N) (k d : ℕ) :
    kv (insAt m c t).ak k d = at3 (argAK m c) (t.val / 8) k d := by
  have ht := lt32 t
  show (iblk m c 4 t : S1x4096x128.Idx → EReal) _ = _
  refine (iblk4_at m c t _ _).trans ?_
  show argAK m c _ = argAK m c _
  congr 1
  funext a
  match a with
  | ⟨0, _⟩ => exact Fin.ext (by show t.val / 8 = (t.val / 8) % 4; omega)
  | ⟨1, _⟩ => rfl
  | ⟨2, _⟩ => rfl

/-- The kernel's score of a key is the reference's. -/
theorem sc_eq (c : Dev nD) (t : Fin cfg0.N) (h q y k : ℕ) (hh : h < 2) (hq : q < 8) (hy : y < 512) :
    sc (insAt m c t) (t.val % 8) h q y k
      = rsc (argQ m c) (argK m c) (argAQ m c) (argAK m c) (t.val / 8) (2 * (t.val % 8) + h) (512 * q + y) k := by
  unfold sc rsc
  have e1 : (512 * q + y) / 512 = q := by omega
  have e2 : (512 * q + y) % 512 = y := by omega
  rw [e1, e2]
  congr 1
  · refine Finset.sum_congr rfl fun d hd => ?_
    have hd' : d < 64 := Finset.mem_range.1 hd
    rw [k_at m c t k (64 * h + d) (by omega), q_at m c t q (64 * h + d) y hq (by omega) hy, mul_comm,
      show 128 * (t.val % 8) + (64 * h + d) = 64 * (2 * (t.val % 8) + h) + d by omega]
  · refine Finset.sum_congr rfl fun d hd => ?_
    rw [ak_at, aq_at m c t q _ y hq, mul_comm,
      show 16 * (t.val % 8) + 8 * h + d = 8 * (2 * (t.val % 8) + h) + d by omega]

/-- An entry of the result is the attention of its query. -/
theorem result_at (c : Dev nD) (i : Fin 32) (R : Fin 1024) (y : Fin 512) (σ : ℕ → ℕ → ℝ)
    (hσ : ∀ H k, rsc (argQ m c) (argK m c) (argAQ m c) (argAK m c) (i.val / 8) H (512 * (i.val % 8) + y.val) k = (σ H k : EReal)) :
    (result m c : S32x1024x512.Idx → EReal) (ix3 i R y)
      = att (σ (R.val / 64)) (fun k => at2 (argV m c) R.val (4096 * (i.val / 8) + k)) (512 * (i.val % 8) + (y.val + 1)) := by
  set t : Fin cfg0.N := pointOf (ix3 i R y) with ht
  have tv : t.val = 8 * (i.val / 8) + R.val / 128 := rfl
  have hi := i.isLt
  have hR := R.isLt
  have t8 : t.val / 8 = i.val / 8 := by omega
  have tm : t.val % 8 = R.val / 128 := by omega
  have hy := y.isLt
  show outAt m c t (placeOf (ix3 i R y)) = _
  unfold outAt
  rw [(coords_at t).2]
  show outTile (BitVec.ofNat 32 (t.val % 8)) (insAt m c t) (i.val % 8) (tileIx (placeOf (ix3 i R y))) = _
  have ep : tileIx (placeOf (ix3 i R y)) = ix3 0 ⟨64 * (R.val / 64 % 2) + R.val % 64, by omega⟩ y := by
    funext a
    match a with
    | ⟨0, _⟩ => exact Fin.ext (by show (i.val % 8) % 1 = 0; omega)
    | ⟨1, _⟩ => exact Fin.ext (by show (R.val % 128) % 128 = 64 * (R.val / 64 % 2) + R.val % 64; omega)
    | ⟨2, _⟩ => exact Fin.ext (by show y.val % 512 = y.val; omega)
  have hv := vt_at (insAt m c t) (iblk m c 2 t) rfl
  rw [ep, outTile_at (insAt m c t) (n := t.val % 8) (by omega) (i.val % 8) (by omega) y (fun h => σ (2 * (t.val % 8) + h))
    (fun h hh k => by rw [sc_eq m c t h (i.val % 8) y.val k hh (by omega) hy, t8]; exact hσ _ k)
    (fun h hh k => by rw [hv h hh]; rfl) (R.val / 64 % 2) (by omega) (R.val % 64) (by omega)]
  have eH : 2 * (t.val % 8) + R.val / 64 % 2 = R.val / 64 := by omega
  show att (σ (2 * (t.val % 8) + R.val / 64 % 2)) _ _ = _
  rw [eH]
  unfold att
  refine Finset.sum_congr rfl fun k hk => ?_
  have hk' : k < 512 * (i.val % 8) + (y.val + 1) := Finset.mem_range.1 hk
  congr 1
  rw [hv _ (by omega), dif_pos (show R.val % 64 < 64 by omega)]
  refine (iblk2_at m c t _ _).trans ?_
  show argV m c _ = argV m c _
  congr 1
  funext a
  match a with
  | ⟨0, _⟩ => exact Fin.ext (by show 128 * (t.val % 8) + (64 * (R.val / 64 % 2) + R.val % 64) % 128 = R.val % 1024; omega)
  | ⟨1, _⟩ => exact Fin.ext (by show 4096 * (t.val / 8) + k % 4096 = (4096 * (i.val / 8) + k) % 16384; omega)

end Cert.KernelIdeal.Fox

end

end
-- ==== Proof.Dense.Math.lean ====
module

public import Idealize.ShloMosaic.Lib.Pointwise

@[expose] public section

set_option maxRecDepth 16384

noncomputable section

namespace Cert.Dense

open Idealize.ShloMosaic

/-- An entry of an array of three axes at natural coordinates. -/
def at3 {a b c : ℕ} [NeZero a] [NeZero b] [NeZero c] (X : (⟨3, ![a, b, c]⟩ : Shape).Idx → EReal) (i j k : ℕ) : EReal :=
  X (ix3 (Fin.ofNat a i) (Fin.ofNat b j) (Fin.ofNat c k))
/-- An entry of an array of two axes at natural coordinates. -/
def at2 {a b : ℕ} [NeZero a] [NeZero b] (X : (⟨2, ![a, b]⟩ : Shape).Idx → EReal) (i j : ℕ) : EReal :=
  X (ix2 (Fin.ofNat a i) (Fin.ofNat b j))

theorem ofNat_val {a : ℕ} [NeZero a] (i : Fin a) : Fin.ofNat a i.val = i := Fin.ext (Nat.mod_eq_of_lt i.isLt)

theorem at2_val {a b : ℕ} [NeZero a] [NeZero b] (X : (⟨2, ![a, b]⟩ : Shape).Idx → EReal) (i : Fin a) (j : Fin b) :
    at2 X i.val j.val = X (ix2 i j) := by
  unfold at2
  rw [ofNat_val, ofNat_val]

theorem at3_val {a b c : ℕ} [NeZero a] [NeZero b] [NeZero c] (X : (⟨3, ![a, b, c]⟩ : Shape).Idx → EReal) (i : Fin a) (j : Fin b) (k : Fin c) :
    at3 X i.val j.val k.val = X (ix3 i j k) := by
  unfold at3
  rw [ofNat_val, ofNat_val, ofNat_val]

/-- An entry of a row times a matrix. -/
def mm (n : ℕ) (u : ℕ → EReal) (w : ℕ → ℕ → EReal) (j : ℕ) : EReal := ∑ k : Fin n, u k.val * w k.val j

/-- The root mean square norm of a row of 1024 entries. -/
def rn (x g : ℕ → EReal) (j : ℕ) : EReal :=
  x j * Ideal.rsqrt (Ideal.div (∑ k : Fin 1024, x k.val * x k.val) (Ideal.ofBits FTy.f32 0x44800000#32) + Ideal.ofBits FTy.f32 0x358637BD#32) * g j

/-- The gated activation of a pair of entries. -/
def act (a b : EReal) : EReal := a * Ideal.logistic a * b

/-- A row with the attention's output projected and added. -/
def proj (h o : ℕ → EReal) (wo : ℕ → ℕ → EReal) (j : ℕ) : EReal := h j + mm 1024 o wo j

/-- An entry of the hidden layer of the feed-forward part. -/
def hid (h g : ℕ → EReal) (win : ℕ → ℕ → EReal) (f : ℕ) : EReal :=
  act (mm 1024 (rn h g) win f) (mm 1024 (rn h g) win (2816 + f))

/-- The feed-forward part of a row, added to it. -/
def ffn (h g : ℕ → EReal) (win wout : ℕ → ℕ → EReal) (j : ℕ) : EReal := h j + mm 2816 (hid h g win) wout j

/-- The gated embedding of a row, added to it. -/
def ple (h g : ℕ → EReal) (wg : ℕ → ℕ → EReal) (p : ℕ → EReal) (wu : ℕ → ℕ → EReal) (j : ℕ) : EReal :=
  h j + Ideal.logistic (mm 1024 (rn h g) wg j) * mm 256 p wu j

/-- The part of a product that 256 rows of the matrix from row `a` contribute. -/
def part (u : ℕ → EReal) (w : ℕ → ℕ → EReal) (j a : ℕ) : EReal := ∑ k : Fin 256, u (a + k.val) * w (a + k.val) j

theorem mm_congr {n : ℕ} {u u' : ℕ → EReal} {w w' : ℕ → ℕ → EReal} {j : ℕ} (hu : ∀ k, k < n → u k = u' k) (hw : ∀ k, k < n → w k j = w' k j) :
    mm n u w j = mm n u' w' j :=
  Finset.sum_congr rfl fun k _ => by rw [hu k.val k.isLt, hw k.val k.isLt]

theorem rn_congr {x x' g g' : ℕ → EReal} {j : ℕ} (hj : j < 1024) (hx : ∀ k, k < 1024 → x k = x' k) (hg : g j = g' j) : rn x g j = rn x' g' j := by
  unfold rn
  rw [hx j hj, hg, Finset.sum_congr rfl fun (k : Fin 1024) _ => by rw [hx k.val k.isLt]]

theorem ple_congr {h h' g : ℕ → EReal} {wg wu : ℕ → ℕ → EReal} {p : ℕ → EReal} {j : ℕ} (hj : j < 1024) (hh : ∀ k, k < 1024 → h k = h' k) :
    ple h g wg p wu j = ple h' g wg p wu j := by
  unfold ple
  rw [hh j hj, mm_congr (fun k hk => rn_congr (g := g) hk hh rfl) (fun _ _ => rfl)]

/-- The product of the first `n` rows of the matrix. -/
def upto (u : ℕ → EReal) (w : ℕ → ℕ → EReal) (j n : ℕ) : EReal := ∑ k ∈ Finset.range n, u k * w k j

theorem upto_part (u : ℕ → EReal) (w : ℕ → ℕ → EReal) (j n : ℕ) : upto u w j (n + 256) = upto u w j n + part u w j n := by
  unfold upto part
  rw [Finset.sum_range_add, Fin.sum_univ_eq_sum_range (fun k => u (n + k) * w (n + k) j) 256]

theorem upto_all (u : ℕ → EReal) (w : ℕ → ℕ → EReal) (j n : ℕ) : upto u w j n = mm n u w j :=
  (Fin.sum_univ_eq_sum_range (fun k => u k * w k j) n).symm

end Cert.Dense

end
-- ==== Proof.Kernel2Ideal.Pay.lean ====
module

public import proofs.«01_k».proof.Proof.Gen.Kernel2Ideal.Skeleton
public import Idealize.ShloMosaic.Lib.Pipeline.Value
public import Idealize.ShloMosaic.Lib.Pipeline.ValueKit.Tiles
public import proofs.«01_k».proof.Proof.Dense.Math

@[expose] public section

set_option maxRecDepth 16384

noncomputable section

namespace Cert.Kernel2Ideal.Dense

open Cert.Kernel2Ideal Cert.Kernel2Ideal.Gen
open Idealize.ShloMosaic Cert.Dense

theorem pay2_at (h : Vec Ideal S512x1024 .f32) (o : Vec Ideal S1x1024x512 .bf16) (wo : Vec Ideal S1024x1024 .bf16) (r : Fin 512) (j : Fin 1024) :
    k0_pay2 h o wo (ix2 r j) = proj (at2 h r.val) (fun k => at3 o 0 k r.val) (at2 wo) j.val := by
  unfold proj mm
  rw [at2_val]
  have e : ∀ k : Fin 1024, at3 o 0 k.val r.val * at2 wo k.val j.val = o (ix3 0 k r) * wo (ix2 k j) := fun k => by
    rw [at2_val]; exact congrArg (· * _) (at3_val o 0 k r)
  rw [Finset.sum_congr rfl fun k _ => e k]
  pointwise [k0_pay2]

theorem pay3_at (h : Vec Ideal S512x1024 .f32) (o : Vec Ideal S1x1024x512 .bf16) (wo : Vec Ideal S1024x1024 .bf16) (g : Vec Ideal S1x1024 .f32)
    (r : Fin 512) (j : Fin 1024) :
    k0_pay3 h o wo g (ix2 r j) = rn (at2 (k0_pay2 h o wo) r.val) (at2 g 0) j.val := by
  unfold rn
  rw [at2_val, show at2 g 0 j.val = g (ix2 0 j) from at2_val g 0 j, Finset.sum_congr rfl fun (k : Fin 1024) _ => by rw [at2_val]]
  unfold k0_pay3
  generalize k0_pay2 h o wo = X
  pointwise []

/-- The product of the normed rows with 256 columns. -/
def cols (u : FVec Ideal S512x1024 .bf16) (w : Vec Ideal S1024x256 .bf16) : FVec Ideal S512x256 .f32 :=
  matmul (φ₂ := .bf16) dot_S512x1024_S1024x256_S512x256_1_0_0_1_n_n none u w (constant S512x256 .f32 0x00000000#32)

theorem cols_at (u : FVec Ideal S512x1024 .bf16) (w : Vec Ideal S1024x256 .bf16) (r : Fin 512) (f : Fin 256) :
    cols u w (ix2 r f) = mm 1024 (at2 u r.val) (at2 w) f.val := by
  unfold mm
  rw [Finset.sum_congr rfl fun (k : Fin 1024) _ => by rw [at2_val, at2_val]]
  pointwise [cols]

/-- The sum so far with the contribution of 256 hidden entries, their gates and factors given. -/
def fin (acc : FVec Ideal S512x1024 .f32) (a b : FVec Ideal S512x256 .f32) (wo : Vec Ideal S256x1024 .bf16) : FVec Ideal S512x1024 .f32 :=
  addf acc (matmul (φ₂ := .bf16) dot_S512x256_S256x1024_S512x1024_1_0_0_1_n_n none (truncf .bf16 (mulf (mulf a (logistic a)) b) bitsLt_bf16_f32) wo
    (constant S512x1024 .f32 0x00000000#32))

theorem fin_at (acc : FVec Ideal S512x1024 .f32) (a b : FVec Ideal S512x256 .f32) (wo : Vec Ideal S256x1024 .bf16) (r : Fin 512) (j : Fin 1024) :
    fin acc a b wo (ix2 r j) = acc (ix2 r j) + ∑ f : Fin 256, act (a (ix2 r f)) (b (ix2 r f)) * wo (ix2 f j) := by
  unfold act
  pointwise [fin]

/-- The sum so far with the contribution of 256 hidden entries. -/
def stp (u : FVec Ideal S512x1024 .bf16) (acc : FVec Ideal S512x1024 .f32) (wg wu : Vec Ideal S1024x256 .bf16) (wo : Vec Ideal S256x1024 .bf16) :
    FVec Ideal S512x1024 .f32 := fin acc (cols u wg) (cols u wu) wo

theorem pay4_eq (h : Vec Ideal S512x1024 .f32) (o : Vec Ideal S1x1024x512 .bf16) (wo : Vec Ideal S1024x1024 .bf16) (g : Vec Ideal S1x1024 .f32) (a b c) :
    k0_pay4 h o wo g a b c = stp (k0_pay3 h o wo g) (k0_pay2 h o wo) a b c := rfl
theorem pay5_eq (h : Vec Ideal S512x1024 .f32) (o : Vec Ideal S1x1024x512 .bf16) (wo : Vec Ideal S1024x1024 .bf16) (g : Vec Ideal S1x1024 .f32) (a) :
    k0_pay5 h o wo g a = cols (k0_pay3 h o wo g) a := rfl
theorem pay6_eq (u : FVec Ideal S512x1024 .bf16) (s : FVec Ideal S512x1024 .f32) (a b c a' b' c' a'' b'' c'') :
    k0_pay6 u s (cols u a) b c a' b' c' a'' b'' c'' = stp u (stp u (stp u s a b c) a' b' c') a'' b'' c'' := rfl
theorem pay7_eq (u : FVec Ideal S512x1024 .bf16) (a) : k0_pay7 u a = cols u a := rfl
theorem pay8_eq (u : FVec Ideal S512x1024 .bf16) (s : FVec Ideal S512x1024 .f32) (a b c a' b' c' a'' b'' c'') :
    k0_pay8 u s (cols u a) b c a' b' c' a'' b'' c'' = stp u (stp u (stp u s a b c) a' b' c') a'' b'' c'' := rfl
theorem pay9_eq (u : FVec Ideal S512x1024 .bf16) (a) : k0_pay9 u a = cols u a := rfl
theorem pay10_eq (u : FVec Ideal S512x1024 .bf16) (s : FVec Ideal S512x1024 .f32) (a b c a' b' c' a'' b'' c'') :
    k0_pay10 u s (cols u a) b c a' b' c' a'' b'' c'' = stp u (stp u (stp u s a b c) a' b' c') a'' b'' c'' := rfl
theorem pay11_eq (u : FVec Ideal S512x1024 .bf16) (a) : k0_pay11 u a = cols u a := rfl
theorem pay1_eq (u : FVec Ideal S512x1024 .bf16) (s : FVec Ideal S512x1024 .f32) (a b c) :
    k0_pay1 u s (cols u a) b c = stp u s a b c := rfl

/-- Columns of the gates' and factors' matrix from column `a`. -/
def wcols (w : Vec Ideal S1024x5632 .bf16) (a : ℕ) : Vec Ideal S1024x256 .bf16 := fun i => at2 w (i 0).val (a + (i 1).val)
/-- Rows of the output matrix from row `a`. -/
def wrows (w : Vec Ideal S2816x1024 .bf16) (a : ℕ) : Vec Ideal S256x1024 .bf16 := fun i => at2 w (a + (i 0).val) (i 1).val

theorem stp_at (u : FVec Ideal S512x1024 .bf16) (acc : FVec Ideal S512x1024 .f32) (win : Vec Ideal S1024x5632 .bf16) (wout : Vec Ideal S2816x1024 .bf16)
    (a : ℕ) (h g : ℕ → EReal) (r : Fin 512) (j : Fin 1024) (hu : ∀ k : Fin 1024, u (ix2 r k) = rn h g k.val) :
    stp u acc (wcols win a) (wcols win (2816 + a)) (wrows wout a) (ix2 r j) = acc (ix2 r j) + part (hid h g (at2 win)) (at2 wout) j.val a := by
  unfold stp
  rw [fin_at]
  unfold part
  refine congrArg (acc (ix2 r j) + ·) (Finset.sum_congr rfl fun f _ => ?_)
  have e : ∀ b, cols u (wcols win b) (ix2 r f) = mm 1024 (rn h g) (at2 win) (b + f.val) := by
    intro b
    rw [cols_at]
    refine Finset.sum_congr rfl fun k _ => ?_
    rw [at2_val, hu, at2_val]
    rfl
  rw [e, e]
  unfold hid
  rw [Nat.add_assoc]
  rfl

/-- The sum after the first `n` blocks of hidden entries. -/
def accum (u : FVec Ideal S512x1024 .bf16) (s : FVec Ideal S512x1024 .f32) (win : Vec Ideal S1024x5632 .bf16) (wout : Vec Ideal S2816x1024 .bf16) :
    ℕ → FVec Ideal S512x1024 .f32
  | 0 => s
  | n + 1 => stp u (accum u s win wout n) (wcols win (256 * n)) (wcols win (2816 + 256 * n)) (wrows wout (256 * n))

theorem accum_at (u : FVec Ideal S512x1024 .bf16) (s : FVec Ideal S512x1024 .f32) (win : Vec Ideal S1024x5632 .bf16) (wout : Vec Ideal S2816x1024 .bf16)
    (h g : ℕ → EReal) (r : Fin 512) (j : Fin 1024) (hu : ∀ k : Fin 1024, u (ix2 r k) = rn h g k.val) (n : ℕ) :
    accum u s win wout n (ix2 r j) = s (ix2 r j) + upto (hid h g (at2 win)) (at2 wout) j.val (256 * n) := by
  induction n with
  | zero => show s (ix2 r j) = _; unfold upto; rw [Nat.mul_zero, Finset.sum_range_zero, add_zero]
  | succ n ih =>
    show stp u (accum u s win wout n) (wcols win (256 * n)) (wcols win (2816 + 256 * n)) (wrows wout (256 * n)) (ix2 r j) = _
    rw [stp_at u _ win wout (256 * n) h g r j hu, ih, Nat.mul_succ, upto_part, add_assoc]

theorem ld_wcols (X : Vec Ideal S1024x5632 .bf16) (a : ℕ) (inb) :
    View.ld X (Rect.unit (s := S1024x5632) ![0, a] S1024x256.size inb) = wcols X a := by
  have hb : a + 256 ≤ 5632 := inb 1
  funext i
  refine View.ld_unit_apply_of X _ _ inb i _ fun k => ?_
  have h0 : (i 0).val < 1024 := (i 0).isLt
  have h1 : (i 1).val < 256 := (i 1).isLt
  match k with
  | ⟨0, _⟩ => show (i 0).val % 1024 = 0 + (i 0).val; omega
  | ⟨1, _⟩ => show (a + (i 1).val) % 5632 = a + (i 1).val; omega

theorem ld_wrows (X : Vec Ideal S2816x1024 .bf16) (a : ℕ) (inb) :
    View.ld X (Rect.unit (s := S2816x1024) ![a, 0] S256x1024.size inb) = wrows X a := by
  have hb : a + 256 ≤ 2816 := inb 0
  funext i
  refine View.ld_unit_apply_of X _ _ inb i _ fun k => ?_
  have h0 : (i 0).val < 256 := (i 0).isLt
  have h1 : (i 1).val < 1024 := (i 1).isLt
  match k with
  | ⟨0, _⟩ => show (a + (i 0).val) % 2816 = a + (i 0).val; omega
  | ⟨1, _⟩ => show (i 1).val % 1024 = 0 + (i 1).val; omega

end Cert.Kernel2Ideal.Dense

end
-- ==== Proof.Kernel2Ideal.Out.lean ====
module

public import proofs.«01_k».proof.Proof.Gen.Kernel2Ideal.Frame
public import proofs.«01_k».proof.Proof.Kernel2Ideal.Pay
public import Idealize.ShloMosaic.Lib.Tactic

@[expose] public section

set_option maxRecDepth 16384

noncomputable section

namespace Cert.Kernel2Ideal.Dense

open Cert.Kernel2Ideal Cert.Kernel2Ideal.Gen
open Idealize.ShloMosaic Cert.Dense

theorem out_eq (x0 : Vec Ideal S512x1024 .f32) (x1 : Vec Ideal S1x1024x512 .bf16) (x2 : Vec Ideal S1024x1024 .bf16) (x3 : Vec Ideal S1x1024 .f32)
    (x4 : Vec Ideal S1024x5632 .bf16) (x5 : Vec Ideal S2816x1024 .bf16) :
    out0_6 x0 x1 x2 x3 x4 x5 = accum (k0_pay3 x0 x1 x2 x3) (k0_pay2 x0 x1 x2) x4 x5 11 := by
  unfold out0_6 k0_pay12
  rw [View.canon_cons_unit_lit _ _ _ (by decide)]
  rw [View.ld_unit_lit (S := S512x1024) _ x0 (by decide), View.ld_unit_lit (S := S1x1024x512) _ x1 (by decide), View.ld_unit_lit (S := S1024x1024) _ x2 (by decide),
    View.ld_unit_lit (S := S1x1024) _ x3 (by decide)]
  simp only [ld_wcols, ld_wrows]
  rw [pay4_eq, pay5_eq, pay6_eq, pay7_eq, pay8_eq, pay9_eq, pay10_eq, pay11_eq, pay1_eq]
  rfl

theorem out_at (x0 : Vec Ideal S512x1024 .f32) (x1 : Vec Ideal S1x1024x512 .bf16) (x2 : Vec Ideal S1024x1024 .bf16) (x3 : Vec Ideal S1x1024 .f32)
    (x4 : Vec Ideal S1024x5632 .bf16) (x5 : Vec Ideal S2816x1024 .bf16) (r : Fin 512) (j : Fin 1024) :
    out0_6 x0 x1 x2 x3 x4 x5 (ix2 r j)
      = ffn (proj (at2 x0 r.val) (fun k => at3 x1 0 k r.val) (at2 x2)) (at2 x3 0) (at2 x4) (at2 x5) j.val := by
  have hu : ∀ k : Fin 1024, k0_pay3 x0 x1 x2 x3 (ix2 r k) = rn (proj (at2 x0 r.val) (fun k => at3 x1 0 k r.val) (at2 x2)) (at2 x3 0) k.val := fun k => by
    rw [pay3_at]
    refine rn_congr k.isLt (fun a ha => ?_) rfl
    exact (at2_val (k0_pay2 x0 x1 x2) r ⟨a, ha⟩).trans (pay2_at x0 x1 x2 r ⟨a, ha⟩)
  rw [out_eq, accum_at _ _ x4 x5 _ _ r j hu 11, upto_all, pay2_at]
  rfl

end Cert.Kernel2Ideal.Dense

end
-- ==== Proof.Kernel2Ideal.Final.lean ====
module

public import proofs.«01_k».proof.Proof.Kernel2Ideal.Out
public import proofs.«01_k».proof.Proof.Gen.Kernel2Ideal.Value
public import proofs.«01_k».proof.Proof.Gen.Kernel2Ideal.Points

@[expose] public section

set_option maxRecDepth 16384

noncomputable section

namespace Cert.Kernel2Ideal.Dense

open Cert.Kernel2Ideal Cert.Kernel2Ideal.Gen
open Idealize.ShloMosaic Idealize.ShloMosaic.TcCoe Idealize.SL.Sem
open Idealize.ShloMosaic.Pipeline (Dat)
open Cert.Dense

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0, 0] :=
  (by decide +kernel : ∀ t : Fin grid0.N, win0_1.index t = ![t.val, 0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![t.val, 0] :=
  (by decide +kernel : ∀ t : Fin grid0.N, win0_6.index t = ![t.val, 0])

theorem lt32 (t : Fin cfg0.N) : t.val < 32 := lt_of_lt_of_eq t.isLt N_0

variable (m : (ℓ : Loc nD τ sig) → Buf (Elt Ideal) ℓ)

/-- The arguments on one device. -/
abbrev argH (c : Dev nD) : S16384x1024.Idx → EReal := m ((c : Thread nD τ).loc main_arg0)
abbrev argO (c : Dev nD) : S32x1024x512.Idx → EReal := m ((c : Thread nD τ).loc main_arg1)
abbrev argWo (c : Dev nD) : S1024x1024.Idx → EReal := m ((c : Thread nD τ).loc main_arg2)
abbrev argG (c : Dev nD) : S1x1024.Idx → EReal := m ((c : Thread nD τ).loc main_arg3)
abbrev argWin (c : Dev nD) : S1024x5632.Idx → EReal := m ((c : Thread nD τ).loc main_arg4)
abbrev argWout (c : Dev nD) : S2816x1024.Idx → EReal := m ((c : Thread nD τ).loc main_arg5)

theorem h_at (c : Dev nD) (t : Fin cfg0.N) (r : Fin 512) (k : ℕ) :
    at2 (iblk m c 0 t : S512x1024.Idx → EReal) r.val k = at2 (argH m c) (512 * t.val + r.val) k := by
  have hi := index0 t
  have ht := lt32 t
  have hr := r.isLt
  unfold at2 iblk
  rw [View.read_apply]
  show V m c main_arg0 _ = m (c.tc.loc main_arg0) _
  unfold V
  congr 1
  funext a
  apply Fin.ext
  match a with
  | ⟨0, _⟩ => show win0_0.index t 0 * 512 + 1 * (r.val % 512) = (512 * t.val + r.val) % 16384; rw [hi]; show t.val * 512 + 1 * (r.val % 512) = _; omega
  | ⟨1, _⟩ => show win0_0.index t 1 * 1024 + 1 * (k % 1024) = k % 1024; rw [hi]; show 0 * 1024 + 1 * (k % 1024) = _; omega

theorem o_at (c : Dev nD) (t : Fin cfg0.N) (k y : ℕ) :
    at3 (iblk m c 1 t : S1x1024x512.Idx → EReal) 0 k y = at3 (argO m c) t.val k y := by
  have hi := index1 t
  have ht := lt32 t
  unfold at3 iblk
  rw [View.read_apply]
  show V m c main_arg1 _ = m (c.tc.loc main_arg1) _
  unfold V
  congr 1
  funext a
  apply Fin.ext
  match a with
  | ⟨0, _⟩ => show win0_1.index t 0 * 1 + 1 * 0 = t.val % 32; rw [hi]; show t.val * 1 + 1 * 0 = _; omega
  | ⟨1, _⟩ => show win0_1.index t 1 * 1024 + 1 * (k % 1024) = k % 1024; rw [hi]; show 0 * 1024 + 1 * (k % 1024) = _; omega
  | ⟨2, _⟩ => show win0_1.index t 2 * 512 + 1 * (y % 512) = y % 512; rw [hi]; show 0 * 512 + 1 * (y % 512) = _; omega

theorem wo_eq (c : Dev nD) (t : Fin cfg0.N) : (iblk m c 2 t : S1024x1024.Idx → EReal) = argWo m c := by
  have hi := index2 t
  funext j
  unfold iblk
  rw [View.read_apply]
  show V m c main_arg2 _ = m (c.tc.loc main_arg2) _
  unfold V
  congr 1
  funext a
  apply Fin.ext
  match a with
  | ⟨0, _⟩ => show win0_2.index t 0 * 1024 + 1 * (j 0).val = (j 0).val; rw [hi]; show 0 * 1024 + 1 * (j 0).val = _; omega
  | ⟨1, _⟩ => show win0_2.index t 1 * 1024 + 1 * (j 1).val = (j 1).val; rw [hi]; show 0 * 1024 + 1 * (j 1).val = _; omega

theorem g_eq (c : Dev nD) (t : Fin cfg0.N) : (iblk m c 3 t : S1x1024.Idx → EReal) = argG m c := by
  have hi := index3 t
  funext j
  unfold iblk
  rw [View.read_apply]
  show V m c main_arg3 _ = m (c.tc.loc main_arg3) _
  unfold V
  congr 1
  funext a
  apply Fin.ext
  match a with
  | ⟨0, _⟩ => show win0_3.index t 0 * 1 + 1 * (j 0).val = (j 0).val; rw [hi]; show 0 * 1 + 1 * (j 0).val = _; omega
  | ⟨1, _⟩ => show win0_3.index t 1 * 1024 + 1 * (j 1).val = (j 1).val; rw [hi]; show 0 * 1024 + 1 * (j 1).val = _; omega

theorem win_eq (c : Dev nD) (t : Fin cfg0.N) : (iblk m c 4 t : S1024x5632.Idx → EReal) = argWin m c := by
  have hi := index4 t
  funext j
  unfold iblk
  rw [View.read_apply]
  show V m c main_arg4 _ = m (c.tc.loc main_arg4) _
  unfold V
  congr 1
  funext a
  apply Fin.ext
  match a with
  | ⟨0, _⟩ => show win0_4.index t 0 * 1024 + 1 * (j 0).val = (j 0).val; rw [hi]; show 0 * 1024 + 1 * (j 0).val = _; omega
  | ⟨1, _⟩ => show win0_4.index t 1 * 5632 + 1 * (j 1).val = (j 1).val; rw [hi]; show 0 * 5632 + 1 * (j 1).val = _; omega

theorem wout_eq (c : Dev nD) (t : Fin cfg0.N) : (iblk m c 5 t : S2816x1024.Idx → EReal) = argWout m c := by
  have hi := index5 t
  funext j
  unfold iblk
  rw [View.read_apply]
  show V m c main_arg5 _ = m (c.tc.loc main_arg5) _
  unfold V
  congr 1
  funext a
  apply Fin.ext
  match a with
  | ⟨0, _⟩ => show win0_5.index t 0 * 2816 + 1 * (j 0).val = (j 0).val; rw [hi]; show 0 * 2816 + 1 * (j 0).val = _; omega
  | ⟨1, _⟩ => show win0_5.index t 1 * 1024 + 1 * (j 1).val = (j 1).val; rw [hi]; show 0 * 1024 + 1 * (j 1).val = _; omega

/-- A row of the result. -/
def rowOf (c : Dev nD) (R : ℕ) : ℕ → EReal :=
  ffn (proj (at2 (argH m c) R) (fun k => at3 (argO m c) (R / 512) k (R % 512)) (at2 (argWo m c))) (at2 (argG m c) 0) (at2 (argWin m c)) (at2 (argWout m c))

theorem block_at (c : Dev nD) (t : Fin cfg0.N) (r : Fin 512) (j : Fin 1024) :
    out0_6 (iblk m c 0 t) (iblk m c 1 t) (iblk m c 2 t) (iblk m c 3 t) (iblk m c 4 t) (iblk m c 5 t) (ix2 r j)
      = rowOf m c (512 * t.val + r.val) j.val := by
  have hr := r.isLt
  rw [out_at]
  unfold rowOf
  have e0 : at2 (iblk m c 0 t : S512x1024.Idx → EReal) r.val = at2 (argH m c) (512 * t.val + r.val) := funext fun k => h_at m c t r k
  have e1 : (fun k => at3 (iblk m c 1 t : S1x1024x512.Idx → EReal) 0 k r.val)
      = fun k => at3 (argO m c) ((512 * t.val + r.val) / 512) k ((512 * t.val + r.val) % 512) := funext fun k => by
    rw [o_at, show (512 * t.val + r.val) / 512 = t.val by omega, show (512 * t.val + r.val) % 512 = r.val by omega]
  rw [← e0, ← e1, ← wo_eq m c t, ← g_eq m c t, ← win_eq m c t, ← wout_eq m c t]

/-- The whole result. -/
def result (c : Dev nD) : Buf (Elt Ideal) ((c : Thread nD τ).loc main_v0) :=
  (fun y => rowOf m c (y 0).val (y 1).val : S16384x1024.Idx → EReal)

theorem flushed_eq (c : Dev nD) (t : Fin cfg0.N) (hf : (cfg0.win 6).flush t = true) :
    (dats m 0 c).flushed 6 t = ((cfg0.win 6).blk t).view.read (Elt Ideal) (result m c) := by
  show (cfg0.win 6).cut (grid0.coords t) ((dats m 0 c).after 6 t) = _
  rw [after0_6]
  have hi := index6 t
  funext j
  rw [View.read_apply]
  generalize hy : ((cfg0.win 6).blk t).view.emb j = y
  have e0 : (y 0).val = 512 * t.val + (j 0).val := by
    rw [← hy]; show win0_6.index t 0 * 512 + 1 * (j 0).val = _; rw [hi]; show t.val * 512 + 1 * (j 0).val = _; omega
  have e1 : (y 1).val = (j 1).val := by
    rw [← hy]; show win0_6.index t 1 * 1024 + 1 * (j 1).val = _; rw [hi]; show 0 * 1024 + 1 * (j 1).val = _; omega
  show out0_6 (iblk m c 0 t) (iblk m c 1 t) (iblk m c 2 t) (iblk m c 3 t) (iblk m c 4 t) (iblk m c 5 t) j = rowOf m c (y 0).val (y 1).val
  rw [e0, e1]
  have ej : j = ix2 (⟨(j 0).val, (j 0).isLt⟩ : Fin 512) (⟨(j 1).val, (j 1).isLt⟩ : Fin 1024) := by
    funext a
    match a with
    | ⟨0, _⟩ => rfl
    | ⟨1, _⟩ => rfl
  exact (congrArg _ ej).trans (block_at m c t _ _)

theorem final (c : Dev nD) : (dats m 0 c).arrAt 6 cfg0.N = result m c :=
  (dats m 0 c).arrAt_eq_of_cover 6 (result m c) (flushed_eq m c) fun i => by
    have h0 : (i 0 : Nat) < 16384 := (i 0).isLt
    have h1 : (i 1 : Nat) < 1024 := (i 1).isLt
    let p : Fin cfg0.N := ⟨(i 0).val / 512, by rw [show cfg0.N = 32 from N_0]; omega⟩
    refine ⟨p, flush0_6 _, ?_⟩
    show i ∈ ((View.whole main_v0).slice (win0_6.rect p)).set
    rw [View.set_slice_whole, Rect.mem_set_unit]
    have hi := index6 p
    have hp : p.val = (i 0).val / 512 := rfl
    intro a
    match a with
    | ⟨0, _⟩ => show win0_6.index p 0 * 512 ≤ (i 0 : Nat) ∧ (i 0 : Nat) < win0_6.index p 0 * 512 + 512
                rw [hi]; show p.val * 512 ≤ _ ∧ _ < p.val * 512 + 512; omega
    | ⟨1, _⟩ => show win0_6.index p 1 * 1024 ≤ (i 1 : Nat) ∧ (i 1 : Nat) < win0_6.index p 1 * 1024 + 1024
                rw [hi]; show 0 * 1024 ≤ _ ∧ _ < 0 * 1024 + 1024; omega

/-- The run, read: the result array whole, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Cert.Kernel2Ideal.Value.run_blocks m ρ)

end Cert.Kernel2Ideal.Dense

end
-- ==== Proof.Ref2.Value.lean ====
module

public import proofs.«01_k».proof.Proof.Gen.Reference2Ideal.Run
public import proofs.«01_k».proof.Proof.Gen.Reference2Ideal.Read
public import proofs.«01_k».proof.Proof.Dense.Math
public import Idealize.ShloMosaic.Lib.IdealHost

@[expose] public section

set_option maxRecDepth 16384

noncomputable section

namespace Cert.Reference2Ideal.Dense

open Cert.Reference2Ideal Cert.Reference2Ideal.Gen Cert.Reference2Ideal.Read
open Idealize.ShloMosaic Cert.Dense

/-- The logistic function, written with negation, exponential, sum and quotient. -/
theorem logistic_eq (x : EReal) :
    Ideal.div (Ideal.ofBits FTy.f32 0x3F800000#32) (Ideal.ofBits FTy.f32 0x3F800000#32 + Ideal.exp (-x)) = Ideal.logistic x := by
  rw [Ideal.ofBits_one_f32]; rfl

variable (x0 : S16384x1024.Idx → EReal) (x1 : S32x1024x512.Idx → EReal) (x2 : S1024x1024.Idx → EReal)
  (x3 : S1x1024.Idx → EReal) (x4 : S1024x5632.Idx → EReal) (x5 : S2816x1024.Idx → EReal)

theorem v2_at (R : Fin 16384) (k : Fin 1024) :
    val_main_v2 (F := Ideal) x1 (ix2 R k) = at3 x1 (R.val / 512) k.val (R.val % 512) := by
  rw [val_main_v2_apply, val_main_v1_apply, val_main_v0_apply]
  show x1 _ = x1 _
  congr 1
  funext a
  match a with
  | ⟨0, _⟩ => exact Fin.ext (by show (R.val * 1024 + k.val) / 524288 = (R.val / 512) % 32; omega)
  | ⟨1, _⟩ => exact Fin.ext (by show (R.val * 1024 + k.val) % 1024 = k.val % 1024; omega)
  | ⟨2, _⟩ => exact Fin.ext (by show (R.val * 1024 + k.val) / 1024 % 512 = (R.val % 512) % 512; omega)

/-- The residual row with the attention's output projected and added. -/
def res (R : ℕ) : ℕ → EReal := proj (at2 x0 R) (fun k => at3 x1 (R / 512) k (R % 512)) (at2 x2)

theorem v5_at (R : Fin 16384) (j : Fin 1024) : val_main_v5 (F := Ideal) x0 x1 x2 (ix2 R j) = res x0 x1 x2 R.val j.val := by
  rw [val_main_v5_apply, val_main_v4_apply]
  unfold res proj mm
  rw [at2_val]
  show x0 (ix2 R j) + _ = _
  refine congrArg (x0 (ix2 R j) + ·) (Finset.sum_congr rfl fun k _ => ?_)
  have e : lidx_main_v4 (ix2 R j) k = ix2 R k := by
    funext a
    match a with
    | ⟨0, _⟩ => rfl
    | ⟨1, _⟩ => rfl
  have e' : ridx_main_v4 (ix2 R j) k = ix2 k j := by
    funext a
    match a with
    | ⟨0, _⟩ => rfl
    | ⟨1, _⟩ => rfl
  rw [e, e', v2_at, val_main_v3_apply, at2_val]
  rfl

theorem v17_at (R : Fin 16384) (j : Fin 1024) :
    val_main_v17 (F := Ideal) x0 x1 x2 x3 (ix2 R j) = rn (res x0 x1 x2 R.val) (at2 x3 0) j.val := by
  rw [val_main_v17_apply, val_main_v15_apply, val_main_v14_apply, val_main_v13_apply, val_main_v12_apply, val_main_v10_apply, val_main_v8_apply,
    val_main_v7_apply, val_main_v9_apply, val_main_v11_apply, val_main_v16_apply, v5_at]
  show res x0 x1 x2 R.val j.val * Ideal.rsqrt (Ideal.div (Ideal.ofBits FTy.f32 0x00000000#32 + _) (Ideal.ofBits FTy.f32 0x44800000#32)
    + Ideal.ofBits FTy.f32 0x358637BD#32) * x3 _ = _
  rw [Ideal.ofBits_zero_f32, zero_add]
  unfold rn
  have es : ∀ k : Fin 1024, val_main_v6 (F := Ideal) x0 x1 x2 (idx_main_v7 (idx_main_v8 (idx_main_v14 (ix2 R j))) k)
      = res x0 x1 x2 R.val k.val * res x0 x1 x2 R.val k.val := fun k => by
    have e : idx_main_v7 (idx_main_v8 (idx_main_v14 (ix2 R j))) k = ix2 R k := by
      funext a
      match a with
      | ⟨0, _⟩ => rfl
      | ⟨1, _⟩ => rfl
    rw [e, val_main_v6_apply, v5_at]
    rfl
  have eg : x3 (idx_main_v16 (ix2 R j)) = at2 x3 0 j.val := by
    refine Eq.trans (congrArg x3 ?_) (at2_val x3 0 j).symm
    funext a
    match a with
    | ⟨0, _⟩ => rfl
    | ⟨1, _⟩ => rfl
  rw [Finset.sum_congr rfl fun k _ => es k, eg]

theorem v19_at (R : Fin 16384) (f : Fin 5632) :
    val_main_v19 (F := Ideal) x0 x1 x2 x3 x4 (ix2 R f) = mm 1024 (rn (res x0 x1 x2 R.val) (at2 x3 0)) (at2 x4) f.val := by
  rw [val_main_v19_apply]
  refine Finset.sum_congr rfl fun k _ => ?_
  have e : lidx_main_v19 (ix2 R f) k = ix2 R k := by
    funext a
    match a with
    | ⟨0, _⟩ => rfl
    | ⟨1, _⟩ => rfl
  have e' : ridx_main_v19 (ix2 R f) k = ix2 k f := by
    funext a
    match a with
    | ⟨0, _⟩ => rfl
    | ⟨1, _⟩ => rfl
  rw [e, e', v17_at, val_main_v18_apply, at2_val]
  rfl

theorem v23_at (R : Fin 16384) (f : Fin 2816) :
    val_main_v23 (F := Ideal) x0 x1 x2 x3 x4 (ix2 R f) = hid (res x0 x1 x2 R.val) (at2 x3 0) (at2 x4) f.val := by
  have hf := f.isLt
  have e : idx_main_v20 (ix2 R f) = ix2 R (⟨f.val, by omega⟩ : Fin 5632) := by
    funext a
    match a with
    | ⟨0, _⟩ => rfl
    | ⟨1, _⟩ => rfl
  have e' : idx_main_v22 (ix2 R f) = ix2 R (⟨2816 + f.val, by omega⟩ : Fin 5632) := by
    funext a
    match a with
    | ⟨0, _⟩ => rfl
    | ⟨1, _⟩ => rfl
  rw [val_main_v23_apply, val_main_v21_apply, val_main_call0_v5_apply, val_main_call0_v4_apply, val_main_call0_v3_apply, val_main_call0_v2_apply,
    val_main_call0_v1_apply, val_main_call0_v0_apply, val_main_v20_apply, val_main_v22_apply, e, e', v19_at, v19_at]
  unfold hid act
  rw [← logistic_eq]
  rfl

/-- The row with the feed-forward part added. -/
def out (R : ℕ) : ℕ → EReal := ffn (res x0 x1 x2 R) (at2 x3 0) (at2 x4) (at2 x5)

theorem v26_at (R : Fin 16384) (j : Fin 1024) :
    val_main_v26 (F := Ideal) x0 x1 x2 x3 x4 x5 (ix2 R j) = out x0 x1 x2 x3 x4 x5 R.val j.val := by
  rw [val_main_v26_apply, val_main_v25_apply, v5_at]
  refine congrArg (res x0 x1 x2 R.val j.val + ·) (Finset.sum_congr rfl fun k _ => ?_)
  have e : lidx_main_v25 (ix2 R j) k = ix2 R k := by
    funext a
    match a with
    | ⟨0, _⟩ => rfl
    | ⟨1, _⟩ => rfl
  have e' : ridx_main_v25 (ix2 R j) k = ix2 k j := by
    funext a
    match a with
    | ⟨0, _⟩ => rfl
    | ⟨1, _⟩ => rfl
  rw [e, e', v23_at, val_main_v24_apply, at2_val]
  rfl

end Cert.Reference2Ideal.Dense

end
-- ==== Proof.Kernel3Ideal.Pay.lean ====
module

public import proofs.«01_k».proof.Proof.Gen.Kernel3Ideal.Skeleton
public import Idealize.ShloMosaic.Lib.Pipeline.Value
public import Idealize.ShloMosaic.Lib.Pipeline.ValueKit.Tiles
public import proofs.«01_k».proof.Proof.Dense.Math

@[expose] public section

set_option maxRecDepth 16384

noncomputable section

namespace Cert.Kernel3Ideal.Dense

open Cert.Kernel3Ideal Cert.Kernel3Ideal.Gen
open Idealize.ShloMosaic Cert.Dense

theorem pay2_at (h : Vec Ideal S512x1024 .f32) (o : Vec Ideal S1x1024x512 .bf16) (wo : Vec Ideal S1024x1024 .bf16) (r : Fin 512) (j : Fin 1024) :
    k0_pay2 h o wo (ix2 r j) = proj (at2 h r.val) (fun k => at3 o 0 k r.val) (at2 wo) j.val := by
  unfold proj mm
  rw [at2_val]
  have e : ∀ k : Fin 1024, at3 o 0 k.val r.val * at2 wo k.val j.val = o (ix3 0 k r) * wo (ix2 k j) := fun k => by
    rw [at2_val]; exact congrArg (· * _) (at3_val o 0 k r)
  rw [Finset.sum_congr rfl fun k _ => e k]
  pointwise [k0_pay2]

theorem pay3_at (h : Vec Ideal S512x1024 .f32) (o : Vec Ideal S1x1024x512 .bf16) (wo : Vec Ideal S1024x1024 .bf16) (g : Vec Ideal S1x1024 .f32)
    (r : Fin 512) (j : Fin 1024) :
    k0_pay3 h o wo g (ix2 r j) = rn (at2 (k0_pay2 h o wo) r.val) (at2 g 0) j.val := by
  unfold rn
  rw [at2_val, show at2 g 0 j.val = g (ix2 0 j) from at2_val g 0 j, Finset.sum_congr rfl fun (k : Fin 1024) _ => by rw [at2_val]]
  unfold k0_pay3
  generalize k0_pay2 h o wo = X
  pointwise []

/-- The product of the normed rows with 256 columns. -/
def cols (u : FVec Ideal S512x1024 .bf16) (w : Vec Ideal S1024x256 .bf16) : FVec Ideal S512x256 .f32 :=
  matmul (φ₂ := .bf16) dot_S512x1024_S1024x256_S512x256_1_0_0_1_n_n none u w (constant S512x256 .f32 0x00000000#32)

theorem cols_at (u : FVec Ideal S512x1024 .bf16) (w : Vec Ideal S1024x256 .bf16) (r : Fin 512) (f : Fin 256) :
    cols u w (ix2 r f) = mm 1024 (at2 u r.val) (at2 w) f.val := by
  unfold mm
  rw [Finset.sum_congr rfl fun (k : Fin 1024) _ => by rw [at2_val, at2_val]]
  pointwise [cols]

/-- The sum so far with the contribution of 256 hidden entries, their gates and factors given. -/
def fin (acc : FVec Ideal S512x1024 .f32) (a b : FVec Ideal S512x256 .f32) (wo : Vec Ideal S256x1024 .bf16) : FVec Ideal S512x1024 .f32 :=
  addf acc (matmul (φ₂ := .bf16) dot_S512x256_S256x1024_S512x1024_1_0_0_1_n_n none (truncf .bf16 (mulf (mulf a (logistic a)) b) bitsLt_bf16_f32) wo
    (constant S512x1024 .f32 0x00000000#32))

theorem fin_at (acc : FVec Ideal S512x1024 .f32) (a b : FVec Ideal S512x256 .f32) (wo : Vec Ideal S256x1024 .bf16) (r : Fin 512) (j : Fin 1024) :
    fin acc a b wo (ix2 r j) = acc (ix2 r j) + ∑ f : Fin 256, act (a (ix2 r f)) (b (ix2 r f)) * wo (ix2 f j) := by
  unfold act
  pointwise [fin]

/-- The sum so far with the contribution of 256 hidden entries. -/
def stp (u : FVec Ideal S512x1024 .bf16) (acc : FVec Ideal S512x1024 .f32) (wg wu : Vec Ideal S1024x256 .bf16) (wo : Vec Ideal S256x1024 .bf16) :
    FVec Ideal S512x1024 .f32 := fin acc (cols u wg) (cols u wu) wo

theorem pay4_eq (h : Vec Ideal S512x1024 .f32) (o : Vec Ideal S1x1024x512 .bf16) (wo : Vec Ideal S1024x1024 .bf16) (g : Vec Ideal S1x1024 .f32) (a b c) :
    k0_pay4 h o wo g a b c = stp (k0_pay3 h o wo g) (k0_pay2 h o wo) a b c := rfl
theorem pay5_eq (h : Vec Ideal S512x1024 .f32) (o : Vec Ideal S1x1024x512 .bf16) (wo : Vec Ideal S1024x1024 .bf16) (g : Vec Ideal S1x1024 .f32) (a) :
    k0_pay5 h o wo g a = cols (k0_pay3 h o wo g) a := rfl
theorem pay6_eq (u : FVec Ideal S512x1024 .bf16) (s : FVec Ideal S512x1024 .f32) (a b c a' b' c' a'' b'' c'') :
    k0_pay6 u s (cols u a) b c a' b' c' a'' b'' c'' = stp u (stp u (stp u s a b c) a' b' c') a'' b'' c'' := rfl
theorem pay7_eq (u : FVec Ideal S512x1024 .bf16) (a) : k0_pay7 u a = cols u a := rfl
theorem pay8_eq (u : FVec Ideal S512x1024 .bf16) (s : FVec Ideal S512x1024 .f32) (a b c a' b' c' a'' b'' c'') :
    k0_pay8 u s (cols u a) b c a' b' c' a'' b'' c'' = stp u (stp u (stp u s a b c) a' b' c') a'' b'' c'' := rfl
theorem pay9_eq (u : FVec Ideal S512x1024 .bf16) (a) : k0_pay9 u a = cols u a := rfl
theorem pay10_eq (u : FVec Ideal S512x1024 .bf16) (s : FVec Ideal S512x1024 .f32) (a b c a' b' c' a'' b'' c'') :
    k0_pay10 u s (cols u a) b c a' b' c' a'' b'' c'' = stp u (stp u (stp u s a b c) a' b' c') a'' b'' c'' := rfl
theorem pay11_eq (u : FVec Ideal S512x1024 .bf16) (a) : k0_pay11 u a = cols u a := rfl
theorem pay12_eq (u : FVec Ideal S512x1024 .bf16) (s : FVec Ideal S512x1024 .f32) (a b c) :
    k0_pay12 u s (cols u a) b c = stp u s a b c := rfl

/-- Columns of the gates' and factors' matrix from column `a`. -/
def wcols (w : Vec Ideal S1024x5632 .bf16) (a : ℕ) : Vec Ideal S1024x256 .bf16 := fun i => at2 w (i 0).val (a + (i 1).val)
/-- Rows of the output matrix from row `a`. -/
def wrows (w : Vec Ideal S2816x1024 .bf16) (a : ℕ) : Vec Ideal S256x1024 .bf16 := fun i => at2 w (a + (i 0).val) (i 1).val

theorem stp_at (u : FVec Ideal S512x1024 .bf16) (acc : FVec Ideal S512x1024 .f32) (win : Vec Ideal S1024x5632 .bf16) (wout : Vec Ideal S2816x1024 .bf16)
    (a : ℕ) (h g : ℕ → EReal) (r : Fin 512) (j : Fin 1024) (hu : ∀ k : Fin 1024, u (ix2 r k) = rn h g k.val) :
    stp u acc (wcols win a) (wcols win (2816 + a)) (wrows wout a) (ix2 r j) = acc (ix2 r j) + part (hid h g (at2 win)) (at2 wout) j.val a := by
  unfold stp
  rw [fin_at]
  unfold part
  refine congrArg (acc (ix2 r j) + ·) (Finset.sum_congr rfl fun f _ => ?_)
  have e : ∀ b, cols u (wcols win b) (ix2 r f) = mm 1024 (rn h g) (at2 win) (b + f.val) := by
    intro b
    rw [cols_at]
    refine Finset.sum_congr rfl fun k _ => ?_
    rw [at2_val, hu, at2_val]
    rfl
  rw [e, e]
  unfold hid
  rw [Nat.add_assoc]
  rfl

/-- The sum after the first `n` blocks of hidden entries. -/
def accum (u : FVec Ideal S512x1024 .bf16) (s : FVec Ideal S512x1024 .f32) (win : Vec Ideal S1024x5632 .bf16) (wout : Vec Ideal S2816x1024 .bf16) :
    ℕ → FVec Ideal S512x1024 .f32
  | 0 => s
  | n + 1 => stp u (accum u s win wout n) (wcols win (256 * n)) (wcols win (2816 + 256 * n)) (wrows wout (256 * n))

theorem accum_at (u : FVec Ideal S512x1024 .bf16) (s : FVec Ideal S512x1024 .f32) (win : Vec Ideal S1024x5632 .bf16) (wout : Vec Ideal S2816x1024 .bf16)
    (h g : ℕ → EReal) (r : Fin 512) (j : Fin 1024) (hu : ∀ k : Fin 1024, u (ix2 r k) = rn h g k.val) (n : ℕ) :
    accum u s win wout n (ix2 r j) = s (ix2 r j) + upto (hid h g (at2 win)) (at2 wout) j.val (256 * n) := by
  induction n with
  | zero => show s (ix2 r j) = _; unfold upto; rw [Nat.mul_zero, Finset.sum_range_zero, add_zero]
  | succ n ih =>
    show stp u (accum u s win wout n) (wcols win (256 * n)) (wcols win (2816 + 256 * n)) (wrows wout (256 * n)) (ix2 r j) = _
    rw [stp_at u _ win wout (256 * n) h g r j hu, ih, Nat.mul_succ, upto_part, add_assoc]

theorem ld_wcols (X : Vec Ideal S1024x5632 .bf16) (a : ℕ) (inb) :
    View.ld X (Rect.unit (s := S1024x5632) ![0, a] S1024x256.size inb) = wcols X a := by
  have hb : a + 256 ≤ 5632 := inb 1
  funext i
  refine View.ld_unit_apply_of X _ _ inb i _ fun k => ?_
  have h0 : (i 0).val < 1024 := (i 0).isLt
  have h1 : (i 1).val < 256 := (i 1).isLt
  match k with
  | ⟨0, _⟩ => show (i 0).val % 1024 = 0 + (i 0).val; omega
  | ⟨1, _⟩ => show (a + (i 1).val) % 5632 = a + (i 1).val; omega

theorem ld_wrows (X : Vec Ideal S2816x1024 .bf16) (a : ℕ) (inb) :
    View.ld X (Rect.unit (s := S2816x1024) ![a, 0] S256x1024.size inb) = wrows X a := by
  have hb : a + 256 ≤ 2816 := inb 0
  funext i
  refine View.ld_unit_apply_of X _ _ inb i _ fun k => ?_
  have h0 : (i 0).val < 256 := (i 0).isLt
  have h1 : (i 1).val < 1024 := (i 1).isLt
  match k with
  | ⟨0, _⟩ => show (a + (i 0).val) % 2816 = a + (i 0).val; omega
  | ⟨1, _⟩ => show (i 1).val % 1024 = 0 + (i 1).val; omega

end Cert.Kernel3Ideal.Dense

end
-- ==== Proof.Kernel3Ideal.Out.lean ====
module

public import proofs.«01_k».proof.Proof.Gen.Kernel3Ideal.Frame
public import proofs.«01_k».proof.Proof.Kernel3Ideal.Pay
public import Idealize.ShloMosaic.Lib.Tactic
public import Idealize.ShloMosaic.Lib.Pipeline.ReadBack

@[expose] public section

set_option maxRecDepth 16384

noncomputable section

namespace Cert.Kernel3Ideal.Dense

open Cert.Kernel3Ideal Cert.Kernel3Ideal.Gen
open Idealize.ShloMosaic Idealize.ShloMosaic.TcCoe Cert.Dense

/-- The normed rows. -/
def norm (x : FVec Ideal S512x1024 .f32) (g : Vec Ideal S1x1024 .f32) : FVec Ideal S512x1024 .bf16 :=
  truncf .bf16 (mulf (mulf x (broadcastTo S512x1024 (rsqrt (addf (divf (shapeCast S512x1 (multiReduction .add [1] S512 (mulf x x) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024)) (broadcastTo S512x1024 g broadcasts_S1x1024_S512x1024)) bitsLt_bf16_f32

/-- Columns of the rows with the gated embeddings added, from column `a`. -/
def piece (a : ℕ) (h : Shape.Slices S512x1024 ![0, a] S512x256) (acc : FVec Ideal S512x1024 .f32) (u : FVec Ideal S512x1024 .bf16) (p : FVec Ideal S512x256 .bf16)
    (wg : Vec Ideal S1024x256 .bf16) (wu : Vec Ideal S256x256 .bf16) : FVec Ideal S512x256 .f32 :=
  addf (extractStridedSlice S512x256 ![0, a] acc h) (mulf (logistic (cols u wg))
    (matmul (φ₂ := .bf16) dot_S512x256_S256x256_S512x256_1_0_0_1_n_n none p wu (constant S512x256 .f32 0x00000000#32)))

theorem ld_wcols' (X : Vec Ideal S1024x5632 .bf16) (a : ℕ) (inb) :
    View.ld X (Rect.unit (s := S1024x5632) ![0, a] ![1024, 256] inb) = wcols X a := ld_wcols X a inb
theorem ld_wrows' (X : Vec Ideal S2816x1024 .bf16) (a : ℕ) (inb) :
    View.ld X (Rect.unit (s := S2816x1024) ![a, 0] ![256, 1024] inb) = wrows X a := ld_wrows X a inb

/-- Columns of the embedding gate's matrix from column `a`. -/
def gcols (w : Vec Ideal S1024x1024 .bf16) (a : ℕ) : Vec Ideal S1024x256 .bf16 := fun i => at2 w (i 0).val (a + (i 1).val)
/-- Columns of the embeddings' matrix from column `a`. -/
def ucols (w : Vec Ideal S256x1024 .bf16) (a : ℕ) : Vec Ideal S256x256 .bf16 := fun i => at2 w (i 0).val (a + (i 1).val)

theorem ld_gcols (X : Vec Ideal S1024x1024 .bf16) (a : ℕ) (inb) :
    View.ld X (Rect.unit (s := S1024x1024) ![0, a] ![1024, 256] inb) = gcols X a := by
  have hb : a + 256 ≤ 1024 := inb 1
  funext i
  refine View.ld_unit_apply_of X _ _ inb i _ fun k => ?_
  have h0 : (i 0).val < 1024 := (i 0).isLt
  have h1 : (i 1).val < 256 := (i 1).isLt
  match k with
  | ⟨0, _⟩ => show (i 0).val % 1024 = 0 + (i 0).val; omega
  | ⟨1, _⟩ => show (a + (i 1).val) % 1024 = a + (i 1).val; omega

theorem ld_ucols (X : Vec Ideal S256x1024 .bf16) (a : ℕ) (inb) :
    View.ld X (Rect.unit (s := S256x1024) ![0, a] ![256, 256] inb) = ucols X a := by
  have hb : a + 256 ≤ 1024 := inb 1
  funext i
  refine View.ld_unit_apply_of X _ _ inb i _ fun k => ?_
  have h0 : (i 0).val < 256 := (i 0).isLt
  have h1 : (i 1).val < 256 := (i 1).isLt
  match k with
  | ⟨0, _⟩ => show (i 0).val % 256 = 0 + (i 0).val; omega
  | ⟨1, _⟩ => show (a + (i 1).val) % 1024 = a + (i 1).val; omega

theorem pay13_rw (u : FVec Ideal S512x1024 .bf16) (s : FVec Ideal S512x1024 .f32) (a b c g) :
    k0_pay13 u s (cols u a) b c g = norm (stp u s a b c) g := rfl
theorem pay15_rw (u : FVec Ideal S512x1024 .bf16) (s : FVec Ideal S512x1024 .f32) (a b c g) (p : Vec Ideal S1x512x256 .f32) (wg wu) :
    k0_pay15 u s (cols u a) b c g p wg wu = piece 0 slices_S512x1024_o0_0_S512x256 (stp u s a b c) (norm (stp u s a b c) g) (k0_pay14 p) wg wu := rfl
theorem pay16_rw (s : FVec Ideal S512x1024 .f32) (u : FVec Ideal S512x1024 .bf16) (p : FVec Ideal S512x256 .bf16) (wg wu) :
    k0_pay16 s u p wg wu = piece 256 slices_S512x1024_o0_256_S512x256 s u p wg wu := rfl
theorem pay17_rw (s : FVec Ideal S512x1024 .f32) (u : FVec Ideal S512x1024 .bf16) (p : FVec Ideal S512x256 .bf16) (wg wu) :
    k0_pay17 s u p wg wu = piece 512 slices_S512x1024_o0_512_S512x256 s u p wg wu := rfl
theorem pay18_rw (s : FVec Ideal S512x1024 .f32) (u : FVec Ideal S512x1024 .bf16) (p : FVec Ideal S512x256 .bf16) (wg wu) :
    k0_pay18 s u p wg wu = piece 768 slices_S512x1024_o0_768_S512x256 s u p wg wu := rfl

theorem norm_at (x : FVec Ideal S512x1024 .f32) (g : Vec Ideal S1x1024 .f32) (r : Fin 512) (j : Fin 1024) :
    norm x g (ix2 r j) = rn (at2 x r.val) (at2 g 0) j.val := by
  unfold rn
  rw [at2_val, show at2 g 0 j.val = g (ix2 0 j) from at2_val g 0 j, Finset.sum_congr rfl fun (k : Fin 1024) _ => by rw [at2_val]]
  pointwise [norm]

theorem pay14_at (p : Vec Ideal S1x512x256 .f32) (r : Fin 512) (k : Fin 256) : k0_pay14 p (ix2 r k) = at3 p 0 r.val k.val := by
  rw [show at3 p 0 r.val k.val = p (ix3 0 r k) from at3_val p 0 r k]
  pointwise [k0_pay14]

/-- The product of the embeddings with 256 columns. -/
def ups (p : FVec Ideal S512x256 .bf16) (w : Vec Ideal S256x256 .bf16) : FVec Ideal S512x256 .f32 :=
  matmul (φ₂ := .bf16) dot_S512x256_S256x256_S512x256_1_0_0_1_n_n none p w (constant S512x256 .f32 0x00000000#32)

theorem ups_at (p : FVec Ideal S512x256 .bf16) (w : Vec Ideal S256x256 .bf16) (r : Fin 512) (f : Fin 256) :
    ups p w (ix2 r f) = mm 256 (at2 p r.val) (at2 w) f.val := by
  unfold mm
  rw [Finset.sum_congr rfl fun (k : Fin 256) _ => by rw [at2_val, at2_val]]
  pointwise [ups]

theorem piece_at (a : ℕ) (ha : a + 256 ≤ 1024) (h) (A : FVec Ideal S512x1024 .f32) (g : Vec Ideal S1x1024 .f32) (p : Vec Ideal S1x512x256 .f32)
    (wg : Vec Ideal S1024x1024 .bf16) (wu : Vec Ideal S256x1024 .bf16) (r : Fin 512) (f : Fin 256) :
    piece a h A (norm A g) (k0_pay14 p) (gcols wg a) (ucols wu a) (ix2 r f)
      = ple (at2 A r.val) (at2 g 0) (at2 wg) (fun k => at3 p 0 r.val k) (at2 wu) (a + f.val) := by
  have hf := f.isLt
  have e1 : extractStridedSlice S512x256 ![0, a] A h (ix2 r f) = at2 A r.val (a + f.val) := by
    refine Eq.trans ?_ (at2_val A r (⟨a + f.val, by omega⟩ : Fin 1024)).symm
    show A _ = A _
    congr 1
    funext k
    match k with
    | ⟨0, _⟩ => exact Fin.ext (by show 0 + r.val = r.val; omega)
    | ⟨1, _⟩ => rfl
  have e2 : cols (norm A g) (gcols wg a) (ix2 r f) = mm 1024 (rn (at2 A r.val) (at2 g 0)) (at2 wg) (a + f.val) := by
    rw [cols_at]
    refine Finset.sum_congr rfl fun k _ => ?_
    rw [at2_val, norm_at, at2_val]
    rfl
  have e3 : ups (k0_pay14 p) (ucols wu a) (ix2 r f) = mm 256 (fun k => at3 p 0 r.val k) (at2 wu) (a + f.val) := by
    rw [ups_at]
    refine Finset.sum_congr rfl fun k _ => ?_
    rw [at2_val, pay14_at, at2_val]
    rfl
  unfold ple
  rw [← e1, ← e2, ← e3]
  rfl

/-- The rows with the gated embeddings added. -/
def added (A : FVec Ideal S512x1024 .f32) (g : Vec Ideal S1x1024 .f32) (p : Vec Ideal S1x512x256 .f32)
    (wg : Vec Ideal S1024x1024 .bf16) (wu : Vec Ideal S256x1024 .bf16) : Vec Ideal S512x1024 .f32 := fun i =>
  ple (at2 A (i 0).val) (at2 g 0) (at2 wg) (fun k => at3 p 0 (i 0).val k) (at2 wu) (i 1).val

theorem tile_at (a : ℕ) (ha : a + 256 ≤ 1024) (h) (A : FVec Ideal S512x1024 .f32) (g : Vec Ideal S1x1024 .f32) (p : Vec Ideal S1x512x256 .f32)
    (wg : Vec Ideal S1024x1024 .bf16) (wu : Vec Ideal S256x1024 .bf16) (y : S512x1024.Idx) :
    View.TileAt (Val := Elt Ideal) (S := S512x1024) (e := .f32) y ![0, a] ![512, 256] (piece a h A (norm A g) (k0_pay14 p) (gcols wg a) (ucols wu a))
      (added A g p wg wu y) := by
  intro x hx
  have h0 : (y 0).val = 0 + (x 0).val := hx 0
  have h1 : (y 1).val = a + (x 1).val := hx 1
  have ex : x = ix2 (⟨(x 0).val, (x 0).isLt⟩ : Fin 512) (⟨(x 1).val, (x 1).isLt⟩ : Fin 256) := by
    funext k
    match k with
    | ⟨0, _⟩ => rfl
    | ⟨1, _⟩ => rfl
  refine (congrArg _ ex).trans ((piece_at a ha h A g p wg wu _ _).trans ?_)
  unfold added
  rw [h0, h1, Nat.zero_add]

theorem back {sig : RefSig} {κ : Kind} {sp : Space} (v : View sig κ sp S512x1024 .f32) (A : FVec Ideal S512x1024 .f32) (g : Vec Ideal S1x1024 .f32)
    (p : Vec Ideal S1x512x256 .f32) (wg : Vec Ideal S1024x1024 .bf16) (wu : Vec Ideal S256x1024 .bf16) :
    v.readCov (Val := Elt Ideal) [⟨Rect.unit ![0, 768] ![512, 256] inb_S512x1024_S512x256_0_768,
        piece 768 slices_S512x1024_o0_768_S512x256 A (norm A g) (k0_pay14 p) (gcols wg 768) (ucols wu 768)⟩,
      ⟨Rect.unit ![0, 512] ![512, 256] inb_S512x1024_S512x256_0_512,
        piece 512 slices_S512x1024_o0_512_S512x256 A (norm A g) (k0_pay14 p) (gcols wg 512) (ucols wu 512)⟩,
      ⟨Rect.unit ![0, 256] ![512, 256] inb_S512x1024_S512x256_0_256,
        piece 256 slices_S512x1024_o0_256_S512x256 A (norm A g) (k0_pay14 p) (gcols wg 256) (ucols wu 256)⟩,
      ⟨Rect.unit ![0, 0] ![512, 256] inb_S512x1024_S512x256_0_0,
        piece 0 slices_S512x1024_o0_0_S512x256 A (norm A g) (k0_pay14 p) (gcols wg 0) (ucols wu 0)⟩]
      (Rect.unit ![0, 0] ![512, 1024] inb_S512x1024_S512x1024_0_0).toLoadRect = added A g p wg wu := by
  rw [View.readCov_eq_canon']
  funext j
  have ej : (Rect.unit (s := S512x1024) ![0, 0] ![512, 1024] inb_S512x1024_S512x1024_0_0).toLoadRect.idx j = j := by
    funext k
    match k with
    | ⟨0, _⟩ => exact Fin.ext (by show 0 + 1 * (j 0).val = (j 0).val; omega)
    | ⟨1, _⟩ => exact Fin.ext (by show 0 + 1 * (j 1).val = (j 1).val; omega)
  rw [ej]
  refine View.canon_eq_of_allAt _ j _ (View.cover_of_tiled_head _ _ _ (by rfl) j) ?_
  refine View.allAt_cons_unit _ _ _ _ _ (tile_at 768 (by decide) _ A g p wg wu j) ?_
  refine View.allAt_cons_unit _ _ _ _ _ (tile_at 512 (by decide) _ A g p wg wu j) ?_
  refine View.allAt_cons_unit _ _ _ _ _ (tile_at 256 (by decide) _ A g p wg wu j) ?_
  refine View.allAt_cons_unit _ _ _ _ _ (tile_at 0 (by decide) _ A g p wg wu j) ?_
  exact View.allAt_nil _ _

theorem pay1_at (Y : Vec Ideal S512x1024 .f32) (g : Vec Ideal S1x1024 .f32) (r : Fin 512) (j : Fin 1024) :
    k0_pay1 (k0_pay19 Y) g (k0_pay20 Y) (ix2 r j) = rn (at2 Y r.val) (at2 g 0) j.val := by
  unfold rn
  rw [at2_val, show at2 g 0 j.val = g (ix2 0 j) from at2_val g 0 j, Finset.sum_congr rfl fun (k : Fin 1024) _ => by rw [at2_val]]
  pointwise [k0_pay1, k0_pay19, k0_pay20]

/-- The block of rows a grid point leaves, of its argument blocks. -/
def block (x0 : Vec Ideal S512x1024 .f32) (x1 : Vec Ideal S1x1024x512 .bf16) (x2 : Vec Ideal S1024x1024 .bf16) (x3 : Vec Ideal S1x1024 .f32)
    (x4 : Vec Ideal S1024x5632 .bf16) (x5 : Vec Ideal S2816x1024 .bf16) (x6 : Vec Ideal S1x1024 .f32) (x7 : Vec Ideal S1024x1024 .bf16)
    (x8 : Vec Ideal S1x512x256 .f32) (x9 : Vec Ideal S256x1024 .bf16) (x10 : Vec Ideal S1x1024 .f32) : Vec Ideal S512x1024 .f32 :=
  let Y := added (accum (k0_pay3 x0 x1 x2 x3) (k0_pay2 x0 x1 x2) x4 x5 11) x6 x8 x7 x9
  k0_pay1 (k0_pay19 Y) x10 (k0_pay20 Y)

variable (m : (ℓ : Loc nD τ sig) → Buf (Elt Ideal) ℓ)

theorem outs_eq (c : Dev nD) (t : Fin cfg0.N) : outsAt0 m c t
    = block (iblk m c 0 t) (iblk m c 1 t) (iblk m c 2 t) (iblk m c 3 t) (iblk m c 4 t) (iblk m c 5 t) (iblk m c 6 t) (iblk m c 7 t) (iblk m c 8 t)
      (iblk m c 9 t) (iblk m c 10 t) := by
  unfold outsAt0 block
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  frame_out
  simp only [ld_wcols', ld_wrows', ld_gcols, ld_ucols, pay13_rw, pay15_rw, pay16_rw, pay17_rw, pay18_rw, pay4_eq, pay5_eq, pay6_eq, pay7_eq, pay8_eq,
    pay9_eq, pay10_eq, pay11_eq, pay12_eq]
  rw [show (stp (k0_pay3 x0 x1 x2 x3) (stp (k0_pay3 x0 x1 x2 x3) (stp (k0_pay3 x0 x1 x2 x3) (stp (k0_pay3 x0 x1 x2 x3) (stp (k0_pay3 x0 x1 x2 x3) (stp (k0_pay3 x0 x1 x2 x3) (stp (k0_pay3 x0 x1 x2 x3) (stp (k0_pay3 x0 x1 x2 x3) (stp (k0_pay3 x0 x1 x2 x3) (stp (k0_pay3 x0 x1 x2 x3) (stp (k0_pay3 x0 x1 x2 x3) (k0_pay2 x0 x1 x2) (wcols x4 0) (wcols x4 2816) (wrows x5 0)) (wcols x4 256) (wcols x4 3072) (wrows x5 256)) (wcols x4 512) (wcols x4 3328) (wrows x5 512)) (wcols x4 768) (wcols x4 3584) (wrows x5 768)) (wcols x4 1024) (wcols x4 3840) (wrows x5 1024)) (wcols x4 1280) (wcols x4 4096) (wrows x5 1280)) (wcols x4 1536) (wcols x4 4352) (wrows x5 1536)) (wcols x4 1792) (wcols x4 4608) (wrows x5 1792)) (wcols x4 2048) (wcols x4 4864) (wrows x5 2048)) (wcols x4 2304) (wcols x4 5120) (wrows x5 2304)) (wcols x4 2560) (wcols x4 5376) (wrows x5 2560))
    = accum (k0_pay3 x0 x1 x2 x3) (k0_pay2 x0 x1 x2) x4 x5 11 from rfl]
  generalize accum (k0_pay3 x0 x1 x2 x3) (k0_pay2 x0 x1 x2) x4 x5 11 = A
  have hb := back (ms0_11 t).view A x6 x8 x7 x9
  rw [hb]

theorem block_at (x0 : Vec Ideal S512x1024 .f32) (x1 : Vec Ideal S1x1024x512 .bf16) (x2 : Vec Ideal S1024x1024 .bf16) (x3 : Vec Ideal S1x1024 .f32)
    (x4 : Vec Ideal S1024x5632 .bf16) (x5 : Vec Ideal S2816x1024 .bf16) (x6 : Vec Ideal S1x1024 .f32) (x7 : Vec Ideal S1024x1024 .bf16)
    (x8 : Vec Ideal S1x512x256 .f32) (x9 : Vec Ideal S256x1024 .bf16) (x10 : Vec Ideal S1x1024 .f32) (r : Fin 512) (j : Fin 1024) :
    block x0 x1 x2 x3 x4 x5 x6 x7 x8 x9 x10 (ix2 r j)
      = rn (ple (ffn (proj (at2 x0 r.val) (fun k => at3 x1 0 k r.val) (at2 x2)) (at2 x3 0) (at2 x4) (at2 x5)) (at2 x6 0) (at2 x7)
          (fun k => at3 x8 0 r.val k) (at2 x9)) (at2 x10 0) j.val := by
  have hu : ∀ k : Fin 1024, k0_pay3 x0 x1 x2 x3 (ix2 r k) = rn (proj (at2 x0 r.val) (fun k => at3 x1 0 k r.val) (at2 x2)) (at2 x3 0) k.val := fun k => by
    rw [pay3_at]
    refine rn_congr k.isLt (fun a ha => ?_) rfl
    exact (at2_val (k0_pay2 x0 x1 x2) r ⟨a, ha⟩).trans (pay2_at x0 x1 x2 r ⟨a, ha⟩)
  have ha : ∀ k, k < 1024 → at2 (accum (k0_pay3 x0 x1 x2 x3) (k0_pay2 x0 x1 x2) x4 x5 11) r.val k
      = ffn (proj (at2 x0 r.val) (fun k => at3 x1 0 k r.val) (at2 x2)) (at2 x3 0) (at2 x4) (at2 x5) k := fun k hk => by
    refine (at2_val (accum (k0_pay3 x0 x1 x2 x3) (k0_pay2 x0 x1 x2) x4 x5 11) r ⟨k, hk⟩).trans ?_
    rw [accum_at _ _ x4 x5 _ _ r _ hu 11, upto_all, pay2_at]
    rfl
  unfold block
  rw [pay1_at]
  refine rn_congr j.isLt (fun k hk => ?_) rfl
  refine (at2_val (added (accum (k0_pay3 x0 x1 x2 x3) (k0_pay2 x0 x1 x2) x4 x5 11) x6 x8 x7 x9) r ⟨k, hk⟩).trans ?_
  show ple _ _ _ _ _ k = _
  exact ple_congr hk ha

end Cert.Kernel3Ideal.Dense

end
-- ==== Proof.Kernel3Ideal.Final.lean ====
module

public import proofs.«01_k».proof.Proof.Kernel3Ideal.Out
public import proofs.«01_k».proof.Proof.Gen.Kernel3Ideal.Value
public import proofs.«01_k».proof.Proof.Gen.Kernel3Ideal.Points

@[expose] public section

set_option maxRecDepth 16384

noncomputable section

namespace Cert.Kernel3Ideal.Dense

open Cert.Kernel3Ideal Cert.Kernel3Ideal.Gen
open Idealize.ShloMosaic Idealize.ShloMosaic.TcCoe Idealize.SL.Sem
open Idealize.ShloMosaic.Pipeline (Dat)
open Cert.Dense

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0, 0] :=
  (by decide +kernel : ∀ t : Fin grid0.N, win0_1.index t = ![t.val, 0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![3, t.val, 0] :=
  (by decide +kernel : ∀ t : Fin grid0.N, win0_8.index t = ![3, t.val, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![t.val, 0] :=
  (by decide +kernel : ∀ t : Fin grid0.N, win0_11.index t = ![t.val, 0])

theorem lt32 (t : Fin cfg0.N) : t.val < 32 := lt_of_lt_of_eq t.isLt N_0

variable (m : (ℓ : Loc nD τ sig) → Buf (Elt Ideal) ℓ)

/-- The arguments on one device. -/
abbrev argH (c : Dev nD) : S16384x1024.Idx → EReal := m ((c : Thread nD τ).loc main_arg0)
abbrev argO (c : Dev nD) : S32x1024x512.Idx → EReal := m ((c : Thread nD τ).loc main_arg1)
abbrev argWo (c : Dev nD) : S1024x1024.Idx → EReal := m ((c : Thread nD τ).loc main_arg2)
abbrev argG (c : Dev nD) : S1x1024.Idx → EReal := m ((c : Thread nD τ).loc main_arg3)
abbrev argWin (c : Dev nD) : S1024x5632.Idx → EReal := m ((c : Thread nD τ).loc main_arg4)
abbrev argWout (c : Dev nD) : S2816x1024.Idx → EReal := m ((c : Thread nD τ).loc main_arg5)
abbrev argPg (c : Dev nD) : S1x1024.Idx → EReal := m ((c : Thread nD τ).loc main_arg6)
abbrev argPw (c : Dev nD) : S1024x1024.Idx → EReal := m ((c : Thread nD τ).loc main_arg7)
abbrev argP (c : Dev nD) : S4x16384x256.Idx → EReal := m ((c : Thread nD τ).loc main_arg8)
abbrev argPu (c : Dev nD) : S256x1024.Idx → EReal := m ((c : Thread nD τ).loc main_arg9)
abbrev argFg (c : Dev nD) : S1x1024.Idx → EReal := m ((c : Thread nD τ).loc main_arg10)

theorem h_at (c : Dev nD) (t : Fin cfg0.N) (r : Fin 512) (k : ℕ) :
    at2 (iblk m c 0 t : S512x1024.Idx → EReal) r.val k = at2 (argH m c) (512 * t.val + r.val) k := by
  have hi := index0 t
  have ht := lt32 t
  have hr := r.isLt
  unfold at2 iblk
  rw [View.read_apply]
  show V m c main_arg0 _ = m (c.tc.loc main_arg0) _
  unfold V
  congr 1
  funext a
  apply Fin.ext
  match a with
  | ⟨0, _⟩ => show win0_0.index t 0 * 512 + 1 * (r.val % 512) = (512 * t.val + r.val) % 16384; rw [hi]; show t.val * 512 + 1 * (r.val % 512) = _; omega
  | ⟨1, _⟩ => show win0_0.index t 1 * 1024 + 1 * (k % 1024) = k % 1024; rw [hi]; show 0 * 1024 + 1 * (k % 1024) = _; omega

theorem o_at (c : Dev nD) (t : Fin cfg0.N) (k y : ℕ) :
    at3 (iblk m c 1 t : S1x1024x512.Idx → EReal) 0 k y = at3 (argO m c) t.val k y := by
  have hi := index1 t
  have ht := lt32 t
  unfold at3 iblk
  rw [View.read_apply]
  show V m c main_arg1 _ = m (c.tc.loc main_arg1) _
  unfold V
  congr 1
  funext a
  apply Fin.ext
  match a with
  | ⟨0, _⟩ => show win0_1.index t 0 * 1 + 1 * 0 = t.val % 32; rw [hi]; show t.val * 1 + 1 * 0 = _; omega
  | ⟨1, _⟩ => show win0_1.index t 1 * 1024 + 1 * (k % 1024) = k % 1024; rw [hi]; show 0 * 1024 + 1 * (k % 1024) = _; omega
  | ⟨2, _⟩ => show win0_1.index t 2 * 512 + 1 * (y % 512) = y % 512; rw [hi]; show 0 * 512 + 1 * (y % 512) = _; omega

theorem wo_eq (c : Dev nD) (t : Fin cfg0.N) : (iblk m c 2 t : S1024x1024.Idx → EReal) = argWo m c := by
  have hi := index2 t
  funext j
  unfold iblk
  rw [View.read_apply]
  show V m c main_arg2 _ = m (c.tc.loc main_arg2) _
  unfold V
  congr 1
  funext a
  apply Fin.ext
  match a with
  | ⟨0, _⟩ => show win0_2.index t 0 * 1024 + 1 * (j 0).val = (j 0).val; rw [hi]; show 0 * 1024 + 1 * (j 0).val = _; omega
  | ⟨1, _⟩ => show win0_2.index t 1 * 1024 + 1 * (j 1).val = (j 1).val; rw [hi]; show 0 * 1024 + 1 * (j 1).val = _; omega

theorem g_eq (c : Dev nD) (t : Fin cfg0.N) : (iblk m c 3 t : S1x1024.Idx → EReal) = argG m c := by
  have hi := index3 t
  funext j
  unfold iblk
  rw [View.read_apply]
  show V m c main_arg3 _ = m (c.tc.loc main_arg3) _
  unfold V
  congr 1
  funext a
  apply Fin.ext
  match a with
  | ⟨0, _⟩ => show win0_3.index t 0 * 1 + 1 * (j 0).val = (j 0).val; rw [hi]; show 0 * 1 + 1 * (j 0).val = _; omega
  | ⟨1, _⟩ => show win0_3.index t 1 * 1024 + 1 * (j 1).val = (j 1).val; rw [hi]; show 0 * 1024 + 1 * (j 1).val = _; omega

theorem win_eq (c : Dev nD) (t : Fin cfg0.N) : (iblk m c 4 t : S1024x5632.Idx → EReal) = argWin m c := by
  have hi := index4 t
  funext j
  unfold iblk
  rw [View.read_apply]
  show V m c main_arg4 _ = m (c.tc.loc main_arg4) _
  unfold V
  congr 1
  funext a
  apply Fin.ext
  match a with
  | ⟨0, _⟩ => show win0_4.index t 0 * 1024 + 1 * (j 0).val = (j 0).val; rw [hi]; show 0 * 1024 + 1 * (j 0).val = _; omega
  | ⟨1, _⟩ => show win0_4.index t 1 * 5632 + 1 * (j 1).val = (j 1).val; rw [hi]; show 0 * 5632 + 1 * (j 1).val = _; omega

theorem wout_eq (c : Dev nD) (t : Fin cfg0.N) : (iblk m c 5 t : S2816x1024.Idx → EReal) = argWout m c := by
  have hi := index5 t
  funext j
  unfold iblk
  rw [View.read_apply]
  show V m c main_arg5 _ = m (c.tc.loc main_arg5) _
  unfold V
  congr 1
  funext a
  apply Fin.ext
  match a with
  | ⟨0, _⟩ => show win0_5.index t 0 * 2816 + 1 * (j 0).val = (j 0).val; rw [hi]; show 0 * 2816 + 1 * (j 0).val = _; omega
  | ⟨1, _⟩ => show win0_5.index t 1 * 1024 + 1 * (j 1).val = (j 1).val; rw [hi]; show 0 * 1024 + 1 * (j 1).val = _; omega

theorem p_at (c : Dev nD) (t : Fin cfg0.N) (r : Fin 512) (k : ℕ) :
    at3 (iblk m c 8 t : S1x512x256.Idx → EReal) 0 r.val k = at3 (argP m c) 3 (512 * t.val + r.val) k := by
  have hi := index8 t
  have ht := lt32 t
  have hr := r.isLt
  unfold at3 iblk
  rw [View.read_apply]
  show V m c main_arg8 _ = m (c.tc.loc main_arg8) _
  unfold V
  congr 1
  funext a
  apply Fin.ext
  match a with
  | ⟨0, _⟩ => show win0_8.index t 0 * 1 + 1 * 0 = 3 % 4; rw [hi]; rfl
  | ⟨1, _⟩ => show win0_8.index t 1 * 512 + 1 * (r.val % 512) = (512 * t.val + r.val) % 16384; rw [hi]; show t.val * 512 + 1 * (r.val % 512) = _; omega
  | ⟨2, _⟩ => show win0_8.index t 2 * 256 + 1 * (k % 256) = k % 256; rw [hi]; show 0 * 256 + 1 * (k % 256) = _; omega

theorem pg_eq (c : Dev nD) (t : Fin cfg0.N) : (iblk m c 6 t : S1x1024.Idx → EReal) = argPg m c := by
  have hi := index6 t
  funext j
  unfold iblk
  rw [View.read_apply]
  show V m c main_arg6 _ = m (c.tc.loc main_arg6) _
  unfold V
  congr 1
  funext a
  apply Fin.ext
  match a with
  | ⟨0, _⟩ => show win0_6.index t 0 * 1 + 1 * (j 0).val = (j 0).val; rw [hi]; show 0 * 1 + 1 * (j 0).val = _; omega
  | ⟨1, _⟩ => show win0_6.index t 1 * 1024 + 1 * (j 1).val = (j 1).val; rw [hi]; show 0 * 1024 + 1 * (j 1).val = _; omega

theorem pw_eq (c : Dev nD) (t : Fin cfg0.N) : (iblk m c 7 t : S1024x1024.Idx → EReal) = argPw m c := by
  have hi := index7 t
  funext j
  unfold iblk
  rw [View.read_apply]
  show V m c main_arg7 _ = m (c.tc.loc main_arg7) _
  unfold V
  congr 1
  funext a
  apply Fin.ext
  match a with
  | ⟨0, _⟩ => show win0_7.index t 0 * 1024 + 1 * (j 0).val = (j 0).val; rw [hi]; show 0 * 1024 + 1 * (j 0).val = _; omega
  | ⟨1, _⟩ => show win0_7.index t 1 * 1024 + 1 * (j 1).val = (j 1).val; rw [hi]; show 0 * 1024 + 1 * (j 1).val = _; omega

theorem pu_eq (c : Dev nD) (t : Fin cfg0.N) : (iblk m c 9 t : S256x1024.Idx → EReal) = argPu m c := by
  have hi := index9 t
  funext j
  unfold iblk
  rw [View.read_apply]
  show V m c main_arg9 _ = m (c.tc.loc main_arg9) _
  unfold V
  congr 1
  funext a
  apply Fin.ext
  match a with
  | ⟨0, _⟩ => show win0_9.index t 0 * 256 + 1 * (j 0).val = (j 0).val; rw [hi]; show 0 * 256 + 1 * (j 0).val = _; omega
  | ⟨1, _⟩ => show win0_9.index t 1 * 1024 + 1 * (j 1).val = (j 1).val; rw [hi]; show 0 * 1024 + 1 * (j 1).val = _; omega

theorem fg_eq (c : Dev nD) (t : Fin cfg0.N) : (iblk m c 10 t : S1x1024.Idx → EReal) = argFg m c := by
  have hi := index10 t
  funext j
  unfold iblk
  rw [View.read_apply]
  show V m c main_arg10 _ = m (c.tc.loc main_arg10) _
  unfold V
  congr 1
  funext a
  apply Fin.ext
  match a with
  | ⟨0, _⟩ => show win0_10.index t 0 * 1 + 1 * (j 0).val = (j 0).val; rw [hi]; show 0 * 1 + 1 * (j 0).val = _; omega
  | ⟨1, _⟩ => show win0_10.index t 1 * 1024 + 1 * (j 1).val = (j 1).val; rw [hi]; show 0 * 1024 + 1 * (j 1).val = _; omega

/-- A row before the gated embeddings are added. -/
def resOf (c : Dev nD) (R : ℕ) : ℕ → EReal :=
  ffn (proj (at2 (argH m c) R) (fun k => at3 (argO m c) (R / 512) k (R % 512)) (at2 (argWo m c))) (at2 (argG m c) 0) (at2 (argWin m c)) (at2 (argWout m c))

/-- A row of the result. -/
def rowOf (c : Dev nD) (R : ℕ) : ℕ → EReal :=
  rn (ple (resOf m c R) (at2 (argPg m c) 0) (at2 (argPw m c)) (fun k => at3 (argP m c) 3 R k) (at2 (argPu m c))) (at2 (argFg m c) 0)

theorem blk_at (c : Dev nD) (t : Fin cfg0.N) (r : Fin 512) (j : Fin 1024) :
    block (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
      = rowOf m c (512 * t.val + r.val) j.val := by
  have hr := r.isLt
  rw [block_at]
  unfold rowOf resOf
  have e0 : at2 (iblk m c 0 t : S512x1024.Idx → EReal) r.val = at2 (argH m c) (512 * t.val + r.val) := funext fun k => h_at m c t r k
  have e1 : (fun k => at3 (iblk m c 1 t : S1x1024x512.Idx → EReal) 0 k r.val)
      = fun k => at3 (argO m c) ((512 * t.val + r.val) / 512) k ((512 * t.val + r.val) % 512) := funext fun k => by
    rw [o_at, show (512 * t.val + r.val) / 512 = t.val by omega, show (512 * t.val + r.val) % 512 = r.val by omega]
  have e8 : (fun k => at3 (iblk m c 8 t : S1x512x256.Idx → EReal) 0 r.val k) = fun k => at3 (argP m c) 3 (512 * t.val + r.val) k :=
    funext fun k => p_at m c t r k
  rw [← e0, ← e1, ← e8, ← wo_eq m c t, ← g_eq m c t, ← win_eq m c t, ← wout_eq m c t, ← pg_eq m c t, ← pw_eq m c t, ← pu_eq m c t, ← fg_eq m c t]

/-- The whole result. -/
def result (c : Dev nD) : Buf (Elt Ideal) ((c : Thread nD τ).loc main_v0) :=
  (fun y => rowOf m c (y 0).val (y 1).val : S16384x1024.Idx → EReal)

theorem flushed_eq (c : Dev nD) (t : Fin cfg0.N) (hf : (cfg0.win 11).flush t = true) :
    (dats m 0 c).flushed 11 t = ((cfg0.win 11).blk t).view.read (Elt Ideal) (result m c) := by
  show (cfg0.win 11).cut (grid0.coords t) ((dats m 0 c).after 11 t) = _
  rw [after0_11, outs_eq]
  have hi := index11 t
  funext j
  rw [View.read_apply]
  generalize hy : ((cfg0.win 11).blk t).view.emb j = y
  have e0 : (y 0).val = 512 * t.val + (j 0).val := by
    rw [← hy]; show win0_11.index t 0 * 512 + 1 * (j 0).val = _; rw [hi]; show t.val * 512 + 1 * (j 0).val = _; omega
  have e1 : (y 1).val = (j 1).val := by
    rw [← hy]; show win0_11.index t 1 * 1024 + 1 * (j 1).val = _; rw [hi]; show 0 * 1024 + 1 * (j 1).val = _; omega
  show block (iblk m c 0 t) (iblk m c 1 t) (iblk m c 2 t) (iblk m c 3 t) (iblk m c 4 t) (iblk m c 5 t) (iblk m c 6 t) (iblk m c 7 t) (iblk m c 8 t) (iblk m c 9 t) (iblk m c 10 t) j = rowOf m c (y 0).val (y 1).val
  rw [e0, e1]
  have ej : j = ix2 (⟨(j 0).val, (j 0).isLt⟩ : Fin 512) (⟨(j 1).val, (j 1).isLt⟩ : Fin 1024) := by
    funext a
    match a with
    | ⟨0, _⟩ => rfl
    | ⟨1, _⟩ => rfl
  exact (congrArg _ ej).trans (blk_at m c t _ _)

theorem final (c : Dev nD) : (dats m 0 c).arrAt 11 cfg0.N = result m c :=
  (dats m 0 c).arrAt_eq_of_cover 11 (result m c) (flushed_eq m c) fun i => by
    have h0 : (i 0 : Nat) < 16384 := (i 0).isLt
    have h1 : (i 1 : Nat) < 1024 := (i 1).isLt
    let p : Fin cfg0.N := ⟨(i 0).val / 512, by rw [show cfg0.N = 32 from N_0]; omega⟩
    refine ⟨p, flush0_11 _, ?_⟩
    show i ∈ ((View.whole main_v0).slice (win0_11.rect p)).set
    rw [View.set_slice_whole, Rect.mem_set_unit]
    have hi := index11 p
    have hp : p.val = (i 0).val / 512 := rfl
    intro a
    match a with
    | ⟨0, _⟩ => show win0_11.index p 0 * 512 ≤ (i 0 : Nat) ∧ (i 0 : Nat) < win0_11.index p 0 * 512 + 512
                rw [hi]; show p.val * 512 ≤ _ ∧ _ < p.val * 512 + 512; omega
    | ⟨1, _⟩ => show win0_11.index p 1 * 1024 ≤ (i 1 : Nat) ∧ (i 1 : Nat) < win0_11.index p 1 * 1024 + 1024
                rw [hi]; show 0 * 1024 ≤ _ ∧ _ < 0 * 1024 + 1024; omega

/-- The run, read: the result array whole, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final m c), (h c).2⟩) (Cert.Kernel3Ideal.Value.run_blocks m ρ)

end Cert.Kernel3Ideal.Dense

end
-- ==== Proof.Ref3.Value.lean ====
module

public import proofs.«01_k».proof.Proof.Gen.Reference3Ideal.Run
public import proofs.«01_k».proof.Proof.Gen.Reference3Ideal.Read
public import proofs.«01_k».proof.Proof.Dense.Math
public import Idealize.ShloMosaic.Lib.IdealHost

@[expose] public section

set_option maxRecDepth 16384

noncomputable section

namespace Cert.Reference3Ideal.Dense

open Cert.Reference3Ideal Cert.Reference3Ideal.Gen Cert.Reference3Ideal.Read
open Idealize.ShloMosaic Cert.Dense

/-- The logistic function, written with negation, exponential, sum and quotient. -/
theorem logistic_eq (x : EReal) :
    Ideal.div (Ideal.ofBits FTy.f32 0x3F800000#32) (Ideal.ofBits FTy.f32 0x3F800000#32 + Ideal.exp (-x)) = Ideal.logistic x := by
  rw [Ideal.ofBits_one_f32]; rfl

variable (x0 : S16384x1024.Idx → EReal) (x1 : S32x1024x512.Idx → EReal) (x2 : S1024x1024.Idx → EReal)
  (x3 : S1x1024.Idx → EReal) (x4 : S1024x5632.Idx → EReal) (x5 : S2816x1024.Idx → EReal)

theorem v2_at (R : Fin 16384) (k : Fin 1024) :
    val_main_v2 (F := Ideal) x1 (ix2 R k) = at3 x1 (R.val / 512) k.val (R.val % 512) := by
  rw [val_main_v2_apply, val_main_v1_apply, val_main_v0_apply]
  show x1 _ = x1 _
  congr 1
  funext a
  match a with
  | ⟨0, _⟩ => exact Fin.ext (by show (R.val * 1024 + k.val) / 524288 = (R.val / 512) % 32; omega)
  | ⟨1, _⟩ => exact Fin.ext (by show (R.val * 1024 + k.val) % 1024 = k.val % 1024; omega)
  | ⟨2, _⟩ => exact Fin.ext (by show (R.val * 1024 + k.val) / 1024 % 512 = (R.val % 512) % 512; omega)

/-- The residual row with the attention's output projected and added. -/
def res (R : ℕ) : ℕ → EReal := proj (at2 x0 R) (fun k => at3 x1 (R / 512) k (R % 512)) (at2 x2)

theorem v5_at (R : Fin 16384) (j : Fin 1024) : val_main_v5 (F := Ideal) x0 x1 x2 (ix2 R j) = res x0 x1 x2 R.val j.val := by
  rw [val_main_v5_apply, val_main_v4_apply]
  unfold res proj mm
  rw [at2_val]
  show x0 (ix2 R j) + _ = _
  refine congrArg (x0 (ix2 R j) + ·) (Finset.sum_congr rfl fun k _ => ?_)
  have e : lidx_main_v4 (ix2 R j) k = ix2 R k := by
    funext a
    match a with
    | ⟨0, _⟩ => rfl
    | ⟨1, _⟩ => rfl
  have e' : ridx_main_v4 (ix2 R j) k = ix2 k j := by
    funext a
    match a with
    | ⟨0, _⟩ => rfl
    | ⟨1, _⟩ => rfl
  rw [e, e', v2_at, val_main_v3_apply, at2_val]
  rfl

theorem v17_at (R : Fin 16384) (j : Fin 1024) :
    val_main_v17 (F := Ideal) x0 x1 x2 x3 (ix2 R j) = rn (res x0 x1 x2 R.val) (at2 x3 0) j.val := by
  rw [val_main_v17_apply, val_main_v15_apply, val_main_v14_apply, val_main_v13_apply, val_main_v12_apply, val_main_v10_apply, val_main_v8_apply,
    val_main_v7_apply, val_main_v9_apply, val_main_v11_apply, val_main_v16_apply, v5_at]
  show res x0 x1 x2 R.val j.val * Ideal.rsqrt (Ideal.div (Ideal.ofBits FTy.f32 0x00000000#32 + _) (Ideal.ofBits FTy.f32 0x44800000#32)
    + Ideal.ofBits FTy.f32 0x358637BD#32) * x3 _ = _
  rw [Ideal.ofBits_zero_f32, zero_add]
  unfold rn
  have es : ∀ k : Fin 1024, val_main_v6 (F := Ideal) x0 x1 x2 (idx_main_v7 (idx_main_v8 (idx_main_v14 (ix2 R j))) k)
      = res x0 x1 x2 R.val k.val * res x0 x1 x2 R.val k.val := fun k => by
    have e : idx_main_v7 (idx_main_v8 (idx_main_v14 (ix2 R j))) k = ix2 R k := by
      funext a
      match a with
      | ⟨0, _⟩ => rfl
      | ⟨1, _⟩ => rfl
    rw [e, val_main_v6_apply, v5_at]
    rfl
  have eg : x3 (idx_main_v16 (ix2 R j)) = at2 x3 0 j.val := by
    refine Eq.trans (congrArg x3 ?_) (at2_val x3 0 j).symm
    funext a
    match a with
    | ⟨0, _⟩ => rfl
    | ⟨1, _⟩ => rfl
  rw [Finset.sum_congr rfl fun k _ => es k, eg]

theorem v19_at (R : Fin 16384) (f : Fin 5632) :
    val_main_v19 (F := Ideal) x0 x1 x2 x3 x4 (ix2 R f) = mm 1024 (rn (res x0 x1 x2 R.val) (at2 x3 0)) (at2 x4) f.val := by
  rw [val_main_v19_apply]
  refine Finset.sum_congr rfl fun k _ => ?_
  have e : lidx_main_v19 (ix2 R f) k = ix2 R k := by
    funext a
    match a with
    | ⟨0, _⟩ => rfl
    | ⟨1, _⟩ => rfl
  have e' : ridx_main_v19 (ix2 R f) k = ix2 k f := by
    funext a
    match a with
    | ⟨0, _⟩ => rfl
    | ⟨1, _⟩ => rfl
  rw [e, e', v17_at, val_main_v18_apply, at2_val]
  rfl

theorem v23_at (R : Fin 16384) (f : Fin 2816) :
    val_main_v23 (F := Ideal) x0 x1 x2 x3 x4 (ix2 R f) = hid (res x0 x1 x2 R.val) (at2 x3 0) (at2 x4) f.val := by
  have hf := f.isLt
  have e : idx_main_v20 (ix2 R f) = ix2 R (⟨f.val, by omega⟩ : Fin 5632) := by
    funext a
    match a with
    | ⟨0, _⟩ => rfl
    | ⟨1, _⟩ => rfl
  have e' : idx_main_v22 (ix2 R f) = ix2 R (⟨2816 + f.val, by omega⟩ : Fin 5632) := by
    funext a
    match a with
    | ⟨0, _⟩ => rfl
    | ⟨1, _⟩ => rfl
  rw [val_main_v23_apply, val_main_v21_apply, val_main_call0_v5_apply, val_main_call0_v4_apply, val_main_call0_v3_apply, val_main_call0_v2_apply,
    val_main_call0_v1_apply, val_main_call0_v0_apply, val_main_v20_apply, val_main_v22_apply, e, e', v19_at, v19_at]
  unfold hid act
  rw [← logistic_eq]
  rfl

/-- The row with the feed-forward part added. -/
def out (R : ℕ) : ℕ → EReal := ffn (res x0 x1 x2 R) (at2 x3 0) (at2 x4) (at2 x5)

theorem v26_at (R : Fin 16384) (j : Fin 1024) :
    val_main_v26 (F := Ideal) x0 x1 x2 x3 x4 x5 (ix2 R j) = out x0 x1 x2 x3 x4 x5 R.val j.val := by
  rw [val_main_v26_apply, val_main_v25_apply, v5_at]
  refine congrArg (res x0 x1 x2 R.val j.val + ·) (Finset.sum_congr rfl fun k _ => ?_)
  have e : lidx_main_v25 (ix2 R j) k = ix2 R k := by
    funext a
    match a with
    | ⟨0, _⟩ => rfl
    | ⟨1, _⟩ => rfl
  have e' : ridx_main_v25 (ix2 R j) k = ix2 k j := by
    funext a
    match a with
    | ⟨0, _⟩ => rfl
    | ⟨1, _⟩ => rfl
  rw [e, e', v23_at, val_main_v24_apply, at2_val]
  rfl

variable (x6 : S1x1024.Idx → EReal) (x7 : S1024x1024.Idx → EReal) (x8 : S4x16384x256.Idx → EReal) (x9 : S256x1024.Idx → EReal) (x10 : S1x1024.Idx → EReal)

theorem v38_at (R : Fin 16384) (j : Fin 1024) :
    val_main_v38 (F := Ideal) x0 x1 x2 x3 x4 x5 x6 (ix2 R j) = rn (out x0 x1 x2 x3 x4 x5 R.val) (at2 x6 0) j.val := by
  rw [val_main_v38_apply, val_main_v36_apply, val_main_v35_apply, val_main_v34_apply, val_main_v33_apply, val_main_v31_apply, val_main_v29_apply,
    val_main_v28_apply, val_main_v30_apply, val_main_v32_apply, val_main_v37_apply, v26_at]
  show out x0 x1 x2 x3 x4 x5 R.val j.val * Ideal.rsqrt (Ideal.div (Ideal.ofBits FTy.f32 0x00000000#32 + _) (Ideal.ofBits FTy.f32 0x44800000#32)
    + Ideal.ofBits FTy.f32 0x358637BD#32) * x6 _ = _
  rw [Ideal.ofBits_zero_f32, zero_add]
  unfold rn
  have es : ∀ k : Fin 1024, val_main_v27 (F := Ideal) x0 x1 x2 x3 x4 x5 (idx_main_v28 (idx_main_v29 (idx_main_v35 (ix2 R j))) k)
      = out x0 x1 x2 x3 x4 x5 R.val k.val * out x0 x1 x2 x3 x4 x5 R.val k.val := fun k => by
    have e : idx_main_v28 (idx_main_v29 (idx_main_v35 (ix2 R j))) k = ix2 R k := by
      funext a
      match a with
      | ⟨0, _⟩ => rfl
      | ⟨1, _⟩ => rfl
    rw [e, val_main_v27_apply, v26_at]
    rfl
  have eg : x6 (idx_main_v37 (ix2 R j)) = at2 x6 0 j.val := by
    refine Eq.trans (congrArg x6 ?_) (at2_val x6 0 j).symm
    funext a
    match a with
    | ⟨0, _⟩ => rfl
    | ⟨1, _⟩ => rfl
  rw [Finset.sum_congr rfl fun k _ => es k, eg]

theorem v40_at (R : Fin 16384) (j : Fin 1024) :
    val_main_v40 (F := Ideal) x0 x1 x2 x3 x4 x5 x6 x7 (ix2 R j) = mm 1024 (rn (out x0 x1 x2 x3 x4 x5 R.val) (at2 x6 0)) (at2 x7) j.val := by
  rw [val_main_v40_apply]
  refine Finset.sum_congr rfl fun k _ => ?_
  have e : lidx_main_v40 (ix2 R j) k = ix2 R k := by
    funext a
    match a with
    | ⟨0, _⟩ => rfl
    | ⟨1, _⟩ => rfl
  have e' : ridx_main_v40 (ix2 R j) k = ix2 k j := by
    funext a
    match a with
    | ⟨0, _⟩ => rfl
    | ⟨1, _⟩ => rfl
  rw [e, e', v38_at, val_main_v39_apply, at2_val]
  rfl

theorem v48_at (R : Fin 16384) (k : Fin 256) :
    val_main_v48 (F := Ideal) x8 (ix2 R k) = at3 x8 3 R.val k.val := by
  rw [val_main_v48_apply, val_main_v47_apply]
  show x8 _ = x8 _
  congr 1
  funext a
  match a with
  | ⟨0, _⟩ => rfl
  | ⟨1, _⟩ => exact Fin.ext (by show (R.val * 256 + k.val) / 256 % 16384 = R.val % 16384; omega)
  | ⟨2, _⟩ => exact Fin.ext (by show (R.val * 256 + k.val) % 256 = k.val % 256; omega)

theorem v50_at (R : Fin 16384) (j : Fin 1024) :
    val_main_v50 (F := Ideal) x8 x9 (ix2 R j) = mm 256 (fun k => at3 x8 3 R.val k) (at2 x9) j.val := by
  rw [val_main_v50_apply]
  refine Finset.sum_congr rfl fun k _ => ?_
  have e : lidx_main_v50 (ix2 R j) k = ix2 R k := by
    funext a
    match a with
    | ⟨0, _⟩ => rfl
    | ⟨1, _⟩ => rfl
  have e' : ridx_main_v50 (ix2 R j) k = ix2 k j := by
    funext a
    match a with
    | ⟨0, _⟩ => rfl
    | ⟨1, _⟩ => rfl
  rw [e, e', v48_at, val_main_v49_apply, at2_val]
  rfl

/-- The row with the gated embeddings added. -/
def emb (R : ℕ) : ℕ → EReal := ple (out x0 x1 x2 x3 x4 x5 R) (at2 x6 0) (at2 x7) (fun k => at3 x8 3 R k) (at2 x9)

theorem v52_at (R : Fin 16384) (j : Fin 1024) :
    val_main_v52 (F := Ideal) x0 x1 x2 x3 x4 x5 x6 x7 x8 x9 (ix2 R j) = emb x0 x1 x2 x3 x4 x5 x6 x7 x8 x9 R.val j.val := by
  rw [val_main_v52_apply, val_main_v51_apply, val_main_v46_apply, val_main_v45_apply, val_main_v44_apply, val_main_v43_apply, val_main_v42_apply,
    val_main_v41_apply, v26_at, v40_at, v50_at]
  unfold emb ple
  rw [← logistic_eq]
  rfl

theorem v64_at (R : Fin 16384) (j : Fin 1024) :
    val_main_v64 (F := Ideal) x0 x1 x2 x3 x4 x5 x6 x7 x8 x9 x10 (ix2 R j) = rn (emb x0 x1 x2 x3 x4 x5 x6 x7 x8 x9 R.val) (at2 x10 0) j.val := by
  rw [val_main_v64_apply, val_main_v62_apply, val_main_v61_apply, val_main_v60_apply, val_main_v59_apply, val_main_v57_apply, val_main_v55_apply,
    val_main_v54_apply, val_main_v56_apply, val_main_v58_apply, val_main_v63_apply, v52_at]
  show emb x0 x1 x2 x3 x4 x5 x6 x7 x8 x9 R.val j.val * Ideal.rsqrt (Ideal.div (Ideal.ofBits FTy.f32 0x00000000#32 + _) (Ideal.ofBits FTy.f32 0x44800000#32)
    + Ideal.ofBits FTy.f32 0x358637BD#32) * x10 _ = _
  rw [Ideal.ofBits_zero_f32, zero_add]
  unfold rn
  have es : ∀ k : Fin 1024, val_main_v53 (F := Ideal) x0 x1 x2 x3 x4 x5 x6 x7 x8 x9 (idx_main_v54 (idx_main_v55 (idx_main_v61 (ix2 R j))) k)
      = emb x0 x1 x2 x3 x4 x5 x6 x7 x8 x9 R.val k.val * emb x0 x1 x2 x3 x4 x5 x6 x7 x8 x9 R.val k.val := fun k => by
    have e : idx_main_v54 (idx_main_v55 (idx_main_v61 (ix2 R j))) k = ix2 R k := by
      funext a
      match a with
      | ⟨0, _⟩ => rfl
      | ⟨1, _⟩ => rfl
    rw [e, val_main_v53_apply, v52_at]
    rfl
  have eg : x10 (idx_main_v63 (ix2 R j)) = at2 x10 0 j.val := by
    refine Eq.trans (congrArg x10 ?_) (at2_val x10 0 j).symm
    funext a
    match a with
    | ⟨0, _⟩ => rfl
    | ⟨1, _⟩ => rfl
  rw [Finset.sum_congr rfl fun k _ => es k, eg]

end Cert.Reference3Ideal.Dense

end
-- ==== Proof.Kernel4Ideal.Pay.lean ====
module

public import proofs.«01_k».proof.Proof.Gen.Kernel4Ideal.Frame
public import proofs.«01_k».proof.Proof.Dense.Math
public import Idealize.ShloMosaic.Lib.Pipeline.Value
public import Idealize.ShloMosaic.Lib.Pipeline.ValueKit.Tiles
public import Idealize.ShloMosaic.Lib.Tactic
public import Idealize.ShloMosaic.Lib.Pipeline.ReadBack

@[expose] public section

set_option maxRecDepth 16384

noncomputable section

namespace Cert.Kernel4Ideal.Dense

open Cert.Kernel4Ideal Cert.Kernel4Ideal.Gen
open Idealize.ShloMosaic Idealize.ShloMosaic.TcCoe Cert.Dense

/-- The normed rows. -/
def norm (x : FVec Ideal S512x1024 .f32) (g : Vec Ideal S1x1024 .f32) : FVec Ideal S512x1024 .bf16 :=
  truncf .bf16 (mulf (mulf x (broadcastTo S512x1024 (rsqrt (addf (divf (shapeCast S512x1 (multiReduction .add [1] S512 (mulf x x) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024)) (broadcastTo S512x1024 g broadcasts_S1x1024_S512x1024)) bitsLt_bf16_f32

/-- The product of the normed rows with 256 columns. -/
def cols (u : FVec Ideal S512x1024 .bf16) (w : Vec Ideal S1024x256 .bf16) : FVec Ideal S512x256 .f32 :=
  matmul (φ₂ := .bf16) dot_S512x1024_S1024x256_S512x256_1_0_0_1_n_n none u w (constant S512x256 .f32 0x00000000#32)

theorem cols_at (u : FVec Ideal S512x1024 .bf16) (w : Vec Ideal S1024x256 .bf16) (r : Fin 512) (f : Fin 256) :
    cols u w (ix2 r f) = mm 1024 (at2 u r.val) (at2 w) f.val := by
  unfold mm
  rw [Finset.sum_congr rfl fun (k : Fin 1024) _ => by rw [at2_val, at2_val]]
  pointwise [cols]

/-- Columns of the rows with the gated embeddings added, from column `a`. -/
def piece (a : ℕ) (h : Shape.Slices S512x1024 ![0, a] S512x256) (acc : FVec Ideal S512x1024 .f32) (u : FVec Ideal S512x1024 .bf16) (p : FVec Ideal S512x256 .bf16)
    (wg : Vec Ideal S1024x256 .bf16) (wu : Vec Ideal S256x256 .bf16) : FVec Ideal S512x256 .f32 :=
  addf (extractStridedSlice S512x256 ![0, a] acc h) (mulf (logistic (cols u wg))
    (matmul (φ₂ := .bf16) dot_S512x256_S256x256_S512x256_1_0_0_1_n_n none p wu (constant S512x256 .f32 0x00000000#32)))

/-- Columns of the embedding gate's matrix from column `a`. -/
def gcols (w : Vec Ideal S1024x1024 .bf16) (a : ℕ) : Vec Ideal S1024x256 .bf16 := fun i => at2 w (i 0).val (a + (i 1).val)
/-- Columns of the embeddings' matrix from column `a`. -/
def ucols (w : Vec Ideal S256x1024 .bf16) (a : ℕ) : Vec Ideal S256x256 .bf16 := fun i => at2 w (i 0).val (a + (i 1).val)

theorem ld_gcols (X : Vec Ideal S1024x1024 .bf16) (a : ℕ) (inb) :
    View.ld X (Rect.unit (s := S1024x1024) ![0, a] ![1024, 256] inb) = gcols X a := by
  have hb : a + 256 ≤ 1024 := inb 1
  funext i
  refine View.ld_unit_apply_of X _ _ inb i _ fun k => ?_
  have h0 : (i 0).val < 1024 := (i 0).isLt
  have h1 : (i 1).val < 256 := (i 1).isLt
  match k with
  | ⟨0, _⟩ => show (i 0).val % 1024 = 0 + (i 0).val; omega
  | ⟨1, _⟩ => show (a + (i 1).val) % 1024 = a + (i 1).val; omega

theorem ld_ucols (X : Vec Ideal S256x1024 .bf16) (a : ℕ) (inb) :
    View.ld X (Rect.unit (s := S256x1024) ![0, a] ![256, 256] inb) = ucols X a := by
  have hb : a + 256 ≤ 1024 := inb 1
  funext i
  refine View.ld_unit_apply_of X _ _ inb i _ fun k => ?_
  have h0 : (i 0).val < 256 := (i 0).isLt
  have h1 : (i 1).val < 256 := (i 1).isLt
  match k with
  | ⟨0, _⟩ => show (i 0).val % 256 = 0 + (i 0).val; omega
  | ⟨1, _⟩ => show (a + (i 1).val) % 1024 = a + (i 1).val; omega

theorem norm_at (x : FVec Ideal S512x1024 .f32) (g : Vec Ideal S1x1024 .f32) (r : Fin 512) (j : Fin 1024) :
    norm x g (ix2 r j) = rn (at2 x r.val) (at2 g 0) j.val := by
  unfold rn
  rw [at2_val, show at2 g 0 j.val = g (ix2 0 j) from at2_val g 0 j, Finset.sum_congr rfl fun (k : Fin 1024) _ => by rw [at2_val]]
  pointwise [norm]

theorem pay3_at (p : Vec Ideal S1x512x256 .f32) (r : Fin 512) (k : Fin 256) : k0_pay3 p (ix2 r k) = at3 p 0 r.val k.val := by
  rw [show at3 p 0 r.val k.val = p (ix3 0 r k) from at3_val p 0 r k]
  pointwise [k0_pay3]

/-- The product of the embeddings with 256 columns. -/
def ups (p : FVec Ideal S512x256 .bf16) (w : Vec Ideal S256x256 .bf16) : FVec Ideal S512x256 .f32 :=
  matmul (φ₂ := .bf16) dot_S512x256_S256x256_S512x256_1_0_0_1_n_n none p w (constant S512x256 .f32 0x00000000#32)

theorem ups_at (p : FVec Ideal S512x256 .bf16) (w : Vec Ideal S256x256 .bf16) (r : Fin 512) (f : Fin 256) :
    ups p w (ix2 r f) = mm 256 (at2 p r.val) (at2 w) f.val := by
  unfold mm
  rw [Finset.sum_congr rfl fun (k : Fin 256) _ => by rw [at2_val, at2_val]]
  pointwise [ups]

theorem piece_at (a : ℕ) (ha : a + 256 ≤ 1024) (h) (A : FVec Ideal S512x1024 .f32) (g : Vec Ideal S1x1024 .f32) (p : Vec Ideal S1x512x256 .f32)
    (wg : Vec Ideal S1024x1024 .bf16) (wu : Vec Ideal S256x1024 .bf16) (r : Fin 512) (f : Fin 256) :
    piece a h A (norm A g) (k0_pay3 p) (gcols wg a) (ucols wu a) (ix2 r f)
      = ple (at2 A r.val) (at2 g 0) (at2 wg) (fun k => at3 p 0 r.val k) (at2 wu) (a + f.val) := by
  have hf := f.isLt
  have e1 : extractStridedSlice S512x256 ![0, a] A h (ix2 r f) = at2 A r.val (a + f.val) := by
    refine Eq.trans ?_ (at2_val A r (⟨a + f.val, by omega⟩ : Fin 1024)).symm
    show A _ = A _
    congr 1
    funext k
    match k with
    | ⟨0, _⟩ => exact Fin.ext (by show 0 + r.val = r.val; omega)
    | ⟨1, _⟩ => rfl
  have e2 : cols (norm A g) (gcols wg a) (ix2 r f) = mm 1024 (rn (at2 A r.val) (at2 g 0)) (at2 wg) (a + f.val) := by
    rw [cols_at]
    refine Finset.sum_congr rfl fun k _ => ?_
    rw [at2_val, norm_at, at2_val]
    rfl
  have e3 : ups (k0_pay3 p) (ucols wu a) (ix2 r f) = mm 256 (fun k => at3 p 0 r.val k) (at2 wu) (a + f.val) := by
    rw [ups_at]
    refine Finset.sum_congr rfl fun k _ => ?_
    rw [at2_val, pay3_at, at2_val]
    rfl
  unfold ple
  rw [← e1, ← e2, ← e3]
  rfl

/-- The rows with the gated embeddings added. -/
def added (A : FVec Ideal S512x1024 .f32) (g : Vec Ideal S1x1024 .f32) (p : Vec Ideal S1x512x256 .f32)
    (wg : Vec Ideal S1024x1024 .bf16) (wu : Vec Ideal S256x1024 .bf16) : Vec Ideal S512x1024 .f32 := fun i =>
  ple (at2 A (i 0).val) (at2 g 0) (at2 wg) (fun k => at3 p 0 (i 0).val k) (at2 wu) (i 1).val

theorem tile_at (a : ℕ) (ha : a + 256 ≤ 1024) (h) (A : FVec Ideal S512x1024 .f32) (g : Vec Ideal S1x1024 .f32) (p : Vec Ideal S1x512x256 .f32)
    (wg : Vec Ideal S1024x1024 .bf16) (wu : Vec Ideal S256x1024 .bf16) (y : S512x1024.Idx) :
    View.TileAt (Val := Elt Ideal) (S := S512x1024) (e := .f32) y ![0, a] ![512, 256] (piece a h A (norm A g) (k0_pay3 p) (gcols wg a) (ucols wu a))
      (added A g p wg wu y) := by
  intro x hx
  have h0 : (y 0).val = 0 + (x 0).val := hx 0
  have h1 : (y 1).val = a + (x 1).val := hx 1
  have ex : x = ix2 (⟨(x 0).val, (x 0).isLt⟩ : Fin 512) (⟨(x 1).val, (x 1).isLt⟩ : Fin 256) := by
    funext k
    match k with
    | ⟨0, _⟩ => rfl
    | ⟨1, _⟩ => rfl
  refine (congrArg _ ex).trans ((piece_at a ha h A g p wg wu _ _).trans ?_)
  unfold added
  rw [h0, h1, Nat.zero_add]

theorem tiles (A : FVec Ideal S512x1024 .f32) (g : Vec Ideal S1x1024 .f32)
    (p : Vec Ideal S1x512x256 .f32) (wg : Vec Ideal S1024x1024 .bf16) (wu : Vec Ideal S256x1024 .bf16) (j : S512x1024.Idx) :
    View.canon (Val := Elt Ideal) (s := S512x1024) (e := .f32) [⟨Rect.unit ![0, 768] ![512, 256] inb_S512x1024_S512x256_0_768,
        piece 768 slices_S512x1024_o0_768_S512x256 A (norm A g) (k0_pay3 p) (gcols wg 768) (ucols wu 768)⟩,
      ⟨Rect.unit ![0, 512] ![512, 256] inb_S512x1024_S512x256_0_512,
        piece 512 slices_S512x1024_o0_512_S512x256 A (norm A g) (k0_pay3 p) (gcols wg 512) (ucols wu 512)⟩,
      ⟨Rect.unit ![0, 256] ![512, 256] inb_S512x1024_S512x256_0_256,
        piece 256 slices_S512x1024_o0_256_S512x256 A (norm A g) (k0_pay3 p) (gcols wg 256) (ucols wu 256)⟩,
      ⟨Rect.unit ![0, 0] ![512, 256] inb_S512x1024_S512x256_0_0,
        piece 0 slices_S512x1024_o0_0_S512x256 A (norm A g) (k0_pay3 p) (gcols wg 0) (ucols wu 0)⟩] j = added A g p wg wu j := by
  refine View.canon_eq_of_allAt _ j _ (View.cover_of_tiled_head _ _ _ (by rfl) j) ?_
  refine View.allAt_cons_unit _ _ _ _ _ (tile_at 768 (by decide) _ A g p wg wu j) ?_
  refine View.allAt_cons_unit _ _ _ _ _ (tile_at 512 (by decide) _ A g p wg wu j) ?_
  refine View.allAt_cons_unit _ _ _ _ _ (tile_at 256 (by decide) _ A g p wg wu j) ?_
  refine View.allAt_cons_unit _ _ _ _ _ (tile_at 0 (by decide) _ A g p wg wu j) ?_
  exact View.allAt_nil _ _

theorem back {sig : RefSig} {κ : Kind} {sp : Space} (v : View sig κ sp S512x1024 .f32) (A : FVec Ideal S512x1024 .f32) (g : Vec Ideal S1x1024 .f32)
    (p : Vec Ideal S1x512x256 .f32) (wg : Vec Ideal S1024x1024 .bf16) (wu : Vec Ideal S256x1024 .bf16) :
    v.readCov (Val := Elt Ideal) [⟨Rect.unit ![0, 768] ![512, 256] inb_S512x1024_S512x256_0_768,
        piece 768 slices_S512x1024_o0_768_S512x256 A (norm A g) (k0_pay3 p) (gcols wg 768) (ucols wu 768)⟩,
      ⟨Rect.unit ![0, 512] ![512, 256] inb_S512x1024_S512x256_0_512,
        piece 512 slices_S512x1024_o0_512_S512x256 A (norm A g) (k0_pay3 p) (gcols wg 512) (ucols wu 512)⟩,
      ⟨Rect.unit ![0, 256] ![512, 256] inb_S512x1024_S512x256_0_256,
        piece 256 slices_S512x1024_o0_256_S512x256 A (norm A g) (k0_pay3 p) (gcols wg 256) (ucols wu 256)⟩,
      ⟨Rect.unit ![0, 0] ![512, 256] inb_S512x1024_S512x256_0_0,
        piece 0 slices_S512x1024_o0_0_S512x256 A (norm A g) (k0_pay3 p) (gcols wg 0) (ucols wu 0)⟩]
      (Rect.unit ![0, 0] ![512, 1024] inb_S512x1024_S512x1024_0_0).toLoadRect = added A g p wg wu := by
  rw [View.readCov_eq_canon']
  funext j
  have ej : (Rect.unit (s := S512x1024) ![0, 0] ![512, 1024] inb_S512x1024_S512x1024_0_0).toLoadRect.idx j = j := by
    funext k
    match k with
    | ⟨0, _⟩ => exact Fin.ext (by show 0 + 1 * (j 0).val = (j 0).val; omega)
    | ⟨1, _⟩ => exact Fin.ext (by show 0 + 1 * (j 1).val = (j 1).val; omega)
  rw [ej]
  exact tiles A g p wg wu j

theorem pay2_rw (x : Vec Ideal S512x1024 .f32) (g : Vec Ideal S1x1024 .f32) : k0_pay2 x g = norm x g := rfl
theorem pay4_rw (x : Vec Ideal S512x1024 .f32) (g) (p : Vec Ideal S1x512x256 .f32) (wg wu) :
    k0_pay4 x g p wg wu = piece 0 slices_S512x1024_o0_0_S512x256 x (norm x g) (k0_pay3 p) wg wu := rfl
theorem pay7_rw (x : Vec Ideal S512x1024 .f32) (g) (p : Vec Ideal S1x512x256 .f32) (wg wu) :
    k0_pay7 (k0_pay5 x) (k0_pay6 x g p wg wu) = piece 256 slices_S512x1024_o0_256_S512x256 x (norm x g) (k0_pay3 p) wg wu := rfl
theorem pay8_rw (x : Vec Ideal S512x1024 .f32) (u : FVec Ideal S512x1024 .bf16) (p : FVec Ideal S512x256 .bf16) (wg wu) :
    k0_pay8 x u p wg wu = piece 512 slices_S512x1024_o0_512_S512x256 x u p wg wu := rfl
theorem pay9_rw (x : Vec Ideal S512x1024 .f32) (u : FVec Ideal S512x1024 .bf16) (p : FVec Ideal S512x256 .bf16) (wg wu) :
    k0_pay9 x u p wg wu = piece 768 slices_S512x1024_o0_768_S512x256 x u p wg wu := rfl

/-- Rows of the projections' matrix from row `a`. -/
def qrows (w : Vec Ideal S3072x1024 .bf16) (a : ℕ) : Vec Ideal S512x1024 .bf16 := fun i => at2 w (a + (i 0).val) (i 1).val

theorem ld_qrows (X : Vec Ideal S3072x1024 .bf16) (a : ℕ) (inb) :
    View.ld X (Rect.unit (s := S3072x1024) ![a, 0] ![512, 1024] inb) = qrows X a := by
  have hb : a + 512 ≤ 3072 := inb 0
  funext i
  refine View.ld_unit_apply_of X _ _ inb i _ fun k => ?_
  have h0 : (i 0).val < 512 := (i 0).isLt
  have h1 : (i 1).val < 1024 := (i 1).isLt
  match k with
  | ⟨0, _⟩ => show (a + (i 0).val) % 3072 = a + (i 0).val; omega
  | ⟨1, _⟩ => show (i 1).val % 1024 = 0 + (i 1).val; omega

/-- Every row of one array against every row of another. -/
def pairs (a b : FVec Ideal S512x1024 .bf16) : FVec Ideal S512x512 .bf16 :=
  truncf .bf16 (matmul (φ₂ := .bf16) dot_S512x1024_S512x1024_S512x512_1_1_0_0_n_n none a b (constant S512x512 .f32 0x00000000#32)) bitsLt_bf16_f32

theorem pairs_at (a b : FVec Ideal S512x1024 .bf16) (r f : Fin 512) :
    pairs a b (ix2 r f) = ∑ k : Fin 1024, a (ix2 r k) * b (ix2 f k) := by
  pointwise [pairs]

/-- The rows with the gated embeddings added, normed for the projections. -/
def mixin (Y : Vec Ideal S512x1024 .f32) (g : Vec Ideal S1x1024 .f32) : FVec Ideal S512x1024 .bf16 :=
  k0_pay12 (k0_pay10 Y) g (k0_pay11 Y)

theorem mixin_at (Y : Vec Ideal S512x1024 .f32) (g : Vec Ideal S1x1024 .f32) (r : Fin 512) (j : Fin 1024) :
    mixin Y g (ix2 r j) = rn (at2 Y r.val) (at2 g 0) j.val := by
  unfold rn
  rw [at2_val, show at2 g 0 j.val = g (ix2 0 j) from at2_val g 0 j, Finset.sum_congr rfl fun (k : Fin 1024) _ => by rw [at2_val]]
  pointwise [mixin, k0_pay12, k0_pay10, k0_pay11]

theorem pay13_rw (Y : Vec Ideal S512x1024 .f32) (g w) :
    k0_pay13 (k0_pay10 Y) g (k0_pay11 Y) w = shapeCast S1x512x512 (pairs w (mixin Y g)) shapeCasts_S512x512_S1x512x512 := rfl
theorem pay14_rw (Y : Vec Ideal S512x1024 .f32) (g w) :
    k0_pay14 (k0_pay10 Y) g (k0_pay11 Y) w = shapeCast S1x512x512 (pairs w (mixin Y g)) shapeCasts_S512x512_S1x512x512 := rfl
theorem pay15_rw (Y : Vec Ideal S512x1024 .f32) (g w) : k0_pay15 (k0_pay10 Y) g (k0_pay11 Y) w = pairs w (mixin Y g) := rfl
theorem pay16_rw (Y : Vec Ideal S512x1024 .f32) (g w) : k0_pay16 (k0_pay10 Y) g (k0_pay11 Y) w = pairs w (mixin Y g) := rfl
theorem pay17_rw (Y : Vec Ideal S512x1024 .f32) (g w) : k0_pay17 (k0_pay10 Y) g (k0_pay11 Y) w = pairs (mixin Y g) w := rfl
theorem pay18_rw (Y : Vec Ideal S512x1024 .f32) (g w) : k0_pay18 (k0_pay12 (k0_pay10 Y) g (k0_pay11 Y)) w = pairs (mixin Y g) w := rfl

end Cert.Kernel4Ideal.Dense

end
-- ==== Proof.Kernel4Ideal.Out.lean ====
module

public import proofs.«01_k».proof.Proof.Kernel4Ideal.Pay
public import Idealize.ShloMosaic.Lib.Tactic
public import Idealize.ShloMosaic.Lib.Pipeline.ReadBack

@[expose] public section

set_option maxRecDepth 16384

noncomputable section

namespace Cert.Kernel4Ideal.Dense

open Cert.Kernel4Ideal Cert.Kernel4Ideal.Gen
open Idealize.ShloMosaic Idealize.ShloMosaic.TcCoe Cert.Dense

/-- A row's product with a row of the projections' matrix. -/
def proj3 (Y : Vec Ideal S512x1024 .f32) (g : Vec Ideal S1x1024 .f32) (w : Vec Ideal S3072x1024 .bf16) (r n : ℕ) : EReal :=
  mm 1024 (rn (at2 Y r) (at2 g 0)) (fun k j => at2 w j k) n

theorem left_at (Y : Vec Ideal S512x1024 .f32) (g : Vec Ideal S1x1024 .f32) (w : Vec Ideal S3072x1024 .bf16) (a : ℕ) (r f : Fin 512) :
    pairs (mixin Y g) (qrows w a) (ix2 r f) = proj3 Y g w r.val (a + f.val) := by
  rw [pairs_at]
  unfold proj3 mm
  refine Finset.sum_congr rfl fun k _ => ?_
  rw [mixin_at]
  rfl

theorem right_at (Y : Vec Ideal S512x1024 .f32) (g : Vec Ideal S1x1024 .f32) (w : Vec Ideal S3072x1024 .bf16) (a : ℕ) (r f : Fin 512) :
    pairs (qrows w a) (mixin Y g) (ix2 f r) = proj3 Y g w r.val (a + f.val) := by
  rw [pairs_at]
  unfold proj3 mm
  refine Finset.sum_congr rfl fun k _ => ?_
  rw [mixin_at, mul_comm]
  rfl

/-- The queries a grid point leaves, a column for each row. -/
def outQ (Y : Vec Ideal S512x1024 .f32) (g : Vec Ideal S1x1024 .f32) (w : Vec Ideal S3072x1024 .bf16) : Vec Ideal S1x1024x512 .bf16 := fun i =>
  proj3 Y g w (i 2).val (i 1).val
/-- The keys a grid point leaves. -/
def outK (Y : Vec Ideal S512x1024 .f32) (g : Vec Ideal S1x1024 .f32) (w : Vec Ideal S3072x1024 .bf16) : Vec Ideal S512x1024 .bf16 := fun i =>
  proj3 Y g w (i 0).val (1024 + (i 1).val)
/-- The values a grid point leaves, a column for each row. -/
def outV (Y : Vec Ideal S512x1024 .f32) (g : Vec Ideal S1x1024 .f32) (w : Vec Ideal S3072x1024 .bf16) : Vec Ideal S1024x512 .bf16 := fun i =>
  proj3 Y g w (i 1).val (2048 + (i 0).val)

theorem tileQ (a : ℕ) (Y : Vec Ideal S512x1024 .f32) (g : Vec Ideal S1x1024 .f32) (w : Vec Ideal S3072x1024 .bf16) (y : S1x1024x512.Idx) :
    View.TileAt (Val := Elt Ideal) (S := S1x1024x512) (e := .bf16) y ![0, a, 0] ![1, 512, 512]
      (shapeCast S1x512x512 (pairs (qrows w a) (mixin Y g)) shapeCasts_S512x512_S1x512x512) (outQ Y g w y) := by
  intro x hx
  have h1 : (y 1).val = a + (x 1).val := hx 1
  have h2 : (y 2).val = 0 + (x 2).val := hx 2
  have e : shapeCast S1x512x512 (pairs (qrows w a) (mixin Y g)) shapeCasts_S512x512_S1x512x512 x
      = pairs (qrows w a) (mixin Y g) (ix2 (⟨(x 1).val, (x 1).isLt⟩ : Fin 512) (⟨(x 2).val, (x 2).isLt⟩ : Fin 512)) := by
    generalize pairs (qrows w a) (mixin Y g) = P
    pointwise
  refine e.trans ((right_at Y g w a _ _).trans ?_)
  unfold outQ
  rw [h1, h2, Nat.zero_add]

theorem tileK (a : ℕ) (Y : Vec Ideal S512x1024 .f32) (g : Vec Ideal S1x1024 .f32) (w : Vec Ideal S3072x1024 .bf16) (y : S512x1024.Idx) :
    View.TileAt (Val := Elt Ideal) (S := S512x1024) (e := .bf16) y ![0, a] ![512, 512] (pairs (mixin Y g) (qrows w (1024 + a))) (outK Y g w y) := by
  intro x hx
  have h0 : (y 0).val = 0 + (x 0).val := hx 0
  have h1 : (y 1).val = a + (x 1).val := hx 1
  have ex : x = ix2 (⟨(x 0).val, (x 0).isLt⟩ : Fin 512) (⟨(x 1).val, (x 1).isLt⟩ : Fin 512) := by
    funext k
    match k with
    | ⟨0, _⟩ => rfl
    | ⟨1, _⟩ => rfl
  refine (congrArg _ ex).trans ((left_at Y g w _ _ _).trans ?_)
  unfold outK
  rw [h0, h1, Nat.zero_add, Nat.add_assoc]

theorem tileV (a : ℕ) (Y : Vec Ideal S512x1024 .f32) (g : Vec Ideal S1x1024 .f32) (w : Vec Ideal S3072x1024 .bf16) (y : S1024x512.Idx) :
    View.TileAt (Val := Elt Ideal) (S := S1024x512) (e := .bf16) y ![a, 0] ![512, 512] (pairs (qrows w (2048 + a)) (mixin Y g)) (outV Y g w y) := by
  intro x hx
  have h0 : (y 0).val = a + (x 0).val := hx 0
  have h1 : (y 1).val = 0 + (x 1).val := hx 1
  have ex : x = ix2 (⟨(x 0).val, (x 0).isLt⟩ : Fin 512) (⟨(x 1).val, (x 1).isLt⟩ : Fin 512) := by
    funext k
    match k with
    | ⟨0, _⟩ => rfl
    | ⟨1, _⟩ => rfl
  refine (congrArg _ ex).trans ((right_at Y g w _ _ _).trans ?_)
  unfold outV
  rw [h0, h1, Nat.zero_add, Nat.add_assoc]

variable (m : (ℓ : Loc nD τ sig) → Buf (Elt Ideal) ℓ)

theorem out13_eq (c : Dev nD) (t : Fin cfg0.N) : (outsAt0 m c t).1 = (added (iblk m c 0 t) (iblk m c 1 t) (iblk m c 3 t) (iblk m c 2 t) (iblk m c 4 t)) := by
  unfold outsAt0
  frame_out
  simp only [ld_qrows, ld_gcols, ld_ucols, pay2_rw, pay4_rw, pay7_rw, pay8_rw, pay9_rw]
  funext j
  exact tiles (iblk m c 0 t) (iblk m c 1 t) (iblk m c 3 t) (iblk m c 2 t) (iblk m c 4 t) j

theorem out14_eq (c : Dev nD) (t : Fin cfg0.N) : (outsAt0 m c t).2.1 = outQ (added (iblk m c 0 t) (iblk m c 1 t) (iblk m c 3 t) (iblk m c 2 t) (iblk m c 4 t)) (iblk m c 5 t) (iblk m c 6 t) := by
  unfold outsAt0
  frame_out
  simp only [ld_qrows, ld_gcols, ld_ucols, pay2_rw, pay4_rw, pay7_rw, pay8_rw, pay9_rw]
  have hb := back (ms0_13 t).view (iblk m c 0 t) (iblk m c 1 t) (iblk m c 3 t) (iblk m c 2 t) (iblk m c 4 t)
  rw [hb]
  simp only [pay13_rw, pay14_rw]
  funext j
  refine View.canon_eq_of_allAt _ j _ (View.cover_of_tiled_head _ _ _ (by rfl) j) ?_
  refine View.allAt_cons_unit _ _ _ _ _ (tileQ 512 _ _ _ j) ?_
  refine View.allAt_cons_unit _ _ _ _ _ (tileQ 0 _ _ _ j) ?_
  exact View.allAt_nil _ _

theorem out15_eq (c : Dev nD) (t : Fin cfg0.N) : (outsAt0 m c t).2.2.1 = outK (added (iblk m c 0 t) (iblk m c 1 t) (iblk m c 3 t) (iblk m c 2 t) (iblk m c 4 t)) (iblk m c 5 t) (iblk m c 6 t) := by
  unfold outsAt0
  frame_out
  simp only [ld_qrows, ld_gcols, ld_ucols, pay2_rw, pay4_rw, pay7_rw, pay8_rw, pay9_rw]
  have hb := back (ms0_13 t).view (iblk m c 0 t) (iblk m c 1 t) (iblk m c 3 t) (iblk m c 2 t) (iblk m c 4 t)
  rw [hb]
  simp only [pay17_rw, pay18_rw]
  funext j
  refine View.canon_eq_of_allAt _ j _ (View.cover_of_tiled_head _ _ _ (by rfl) j) ?_
  refine View.allAt_cons_unit _ _ _ _ _ (tileK 512 _ _ _ j) ?_
  refine View.allAt_cons_unit _ _ _ _ _ (tileK 0 _ _ _ j) ?_
  exact View.allAt_nil _ _

theorem out16_eq (c : Dev nD) (t : Fin cfg0.N) : (outsAt0 m c t).2.2.2.1 = outV (added (iblk m c 0 t) (iblk m c 1 t) (iblk m c 3 t) (iblk m c 2 t) (iblk m c 4 t)) (iblk m c 5 t) (iblk m c 6 t) := by
  unfold outsAt0
  frame_out
  simp only [ld_qrows, ld_gcols, ld_ucols, pay2_rw, pay4_rw, pay7_rw, pay8_rw, pay9_rw]
  have hb := back (ms0_13 t).view (iblk m c 0 t) (iblk m c 1 t) (iblk m c 3 t) (iblk m c 2 t) (iblk m c 4 t)
  rw [hb]
  simp only [pay15_rw, pay16_rw]
  funext j
  refine View.canon_eq_of_allAt _ j _ (View.cover_of_tiled_head _ _ _ (by rfl) j) ?_
  refine View.allAt_cons_unit _ _ _ _ _ (tileV 512 _ _ _ j) ?_
  refine View.allAt_cons_unit _ _ _ _ _ (tileV 0 _ _ _ j) ?_
  exact View.allAt_nil _ _

theorem out17_eq (c : Dev nD) (t : Fin cfg0.N) : (outsAt0 m c t).2.2.2.2.1 = k0_pay19 (iblk m c 7 t) := by
  unfold outsAt0
  frame_out

theorem out18_eq (c : Dev nD) (t : Fin cfg0.N) : (outsAt0 m c t).2.2.2.2.2.1 = k0_pay20 (iblk m c 8 t) := by
  unfold outsAt0
  frame_out

theorem out19_eq (c : Dev nD) (t : Fin cfg0.N) : (outsAt0 m c t).2.2.2.2.2.2.1 = k0_pay21 (iblk m c 9 t) := by
  unfold outsAt0
  frame_out

theorem out20_eq (c : Dev nD) (t : Fin cfg0.N) : (outsAt0 m c t).2.2.2.2.2.2.2.1 = k0_pay22 (iblk m c 10 t) := by
  unfold outsAt0
  frame_out

theorem out21_eq (c : Dev nD) (t : Fin cfg0.N) : (outsAt0 m c t).2.2.2.2.2.2.2.2.1 = k0_pay23 (iblk m c 11 t) := by
  unfold outsAt0
  frame_out

theorem out22_eq (c : Dev nD) (t : Fin cfg0.N) : (outsAt0 m c t).2.2.2.2.2.2.2.2.2 = k0_pay1 (BitVec.ofNat 32 (grid0.coords t 0).val) (X0_12 m c t) := by
  unfold outsAt0
  frame_out

end Cert.Kernel4Ideal.Dense

end
-- ==== Proof.Dense.Next.lean ====
module

public import proofs.«01_k».proof.Proof.Dense.Math

@[expose] public section

set_option maxRecDepth 16384

noncomputable section

namespace Cert.Dense

open Idealize.ShloMosaic

variable (x0 : (⟨2, ![16384, 1024]⟩ : Shape).Idx → EReal) (x1 : (⟨2, ![1, 1024]⟩ : Shape).Idx → EReal) (x2 : (⟨2, ![1024, 1024]⟩ : Shape).Idx → EReal)
  (x3 : (⟨3, ![4, 16384, 256]⟩ : Shape).Idx → EReal) (x4 : (⟨2, ![256, 1024]⟩ : Shape).Idx → EReal)

/-- A row with the gated embeddings of the first layer added. -/
def emb4 (R : ℕ) : ℕ → EReal := ple (at2 x0 R) (at2 x1 0) (at2 x2) (fun k => at3 x3 0 R k) (at2 x4)

variable (x5 : (⟨2, ![1, 1024]⟩ : Shape).Idx → EReal) (x6 : (⟨2, ![3072, 1024]⟩ : Shape).Idx → EReal)

/-- An entry of the three projections of a row. -/
def proj4 (R n : ℕ) : EReal := mm 1024 (rn (emb4 x0 x1 x2 x3 x4 R) (at2 x5 0)) (fun k j => at2 x6 j k) n

/-- The queries, a column for each row of their block. -/
def next1 : (⟨3, ![32, 1024, 512]⟩ : Shape).Idx → EReal := fun y => proj4 x0 x1 x2 x3 x4 x5 x6 (512 * (y 0).val + (y 2).val) (y 1).val
/-- The keys. -/
def next2 : (⟨2, ![16384, 1024]⟩ : Shape).Idx → EReal := fun y => proj4 x0 x1 x2 x3 x4 x5 x6 (y 0).val (1024 + (y 1).val)
/-- The values, a column for each row. -/
def next3 : (⟨2, ![1024, 16384]⟩ : Shape).Idx → EReal := fun y => proj4 x0 x1 x2 x3 x4 x5 x6 (y 1).val (2048 + (y 0).val)
/-- The rows themselves. -/
def next0 : (⟨2, ![16384, 1024]⟩ : Shape).Idx → EReal := fun y => emb4 x0 x1 x2 x3 x4 (y 0).val (y 1).val

/-- One layer of a stack of matrices. -/
def layer {a b c : ℕ} [NeZero a] [NeZero b] [NeZero c] (X : (⟨3, ![a, b, c]⟩ : Shape).Idx → EReal) (l : ℕ) {d : ℕ} :
    (⟨2, ![d, c]⟩ : Shape).Idx → EReal := fun y => at3 X l (y 0).val (y 1).val

/-- Indices of two axes are equal where their coordinates are. -/
theorem ext2 {a b : ℕ} {i j : (⟨2, ![a, b]⟩ : Shape).Idx} (h0 : (i 0).val = (j 0).val) (h1 : (i 1).val = (j 1).val) : i = j := by
  funext k
  match k with
  | ⟨0, _⟩ => exact Fin.ext h0
  | ⟨1, _⟩ => exact Fin.ext h1

/-- An entry of a stack is one of its layer's. -/
theorem layer_of {a b c d : ℕ} [NeZero a] [NeZero b] [NeZero c] (X : (⟨3, ![a, b, c]⟩ : Shape).Idx → EReal) (l : ℕ)
    (z : (⟨2, ![d, c]⟩ : Shape).Idx) (i : (⟨3, ![a, b, c]⟩ : Shape).Idx) (h0 : (i 0).val = l) (h1 : (i 1).val = (z 0).val) (h2 : (i 2).val = (z 1).val) :
    X i = layer X l z := by
  unfold layer
  rw [← h0, ← h1, ← h2]
  refine Eq.trans (congrArg X ?_) (at3_val X (i 0) (i 1) (i 2)).symm
  funext k
  match k with
  | ⟨0, _⟩ => rfl
  | ⟨1, _⟩ => rfl
  | ⟨2, _⟩ => rfl

/-- The second layer's first 3072 rows, the first 1024 scaled. -/
def scaled (X : (⟨3, ![2, 3088, 1024]⟩ : Shape).Idx → EReal) : (⟨2, ![3072, 1024]⟩ : Shape).Idx → EReal := fun y =>
  if (y 0).val < 1024 then at3 X 1 (y 0).val (y 1).val * Ideal.ofBits FTy.f32 0x3E38AA3B#32 else at3 X 1 (y 0).val (y 1).val

end Cert.Dense

end
-- ==== Proof.Kernel4Ideal.Final.lean ====
module

public import proofs.«01_k».proof.Proof.Kernel4Ideal.Out
public import proofs.«01_k».proof.Proof.Gen.Kernel4Ideal.Value
public import proofs.«01_k».proof.Proof.Gen.Kernel4Ideal.Points
public import proofs.«01_k».proof.Proof.Dense.Next
public import Idealize.ShloMosaic.Lib.Pipeline.ValueKit.Geometry

@[expose] public section

set_option maxRecDepth 16384

noncomputable section

namespace Cert.Kernel4Ideal.Dense

open Cert.Kernel4Ideal Cert.Kernel4Ideal.Gen
open Idealize.ShloMosaic Idealize.ShloMosaic.TcCoe Idealize.SL.Sem
open Idealize.ShloMosaic.Pipeline (Dat)
open Cert.Dense

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, t.val, 0] :=
  (by decide +kernel : ∀ t : Fin grid0.N, win0_3.index t = ![0, t.val, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, t.val, 0] :=
  (by decide +kernel : ∀ t : Fin grid0.N, win0_7.index t = ![0, t.val, 0])
theorem index8 : ∀ t : Fin cfg0.N, win0_8.index t = ![1, t.val, 0] :=
  (by decide +kernel : ∀ t : Fin grid0.N, win0_8.index t = ![1, t.val, 0])
theorem index9 : ∀ t : Fin cfg0.N, win0_9.index t = ![1, t.val / 2, 0] :=
  (by decide +kernel : ∀ t : Fin grid0.N, win0_9.index t = ![1, t.val / 2, 0])
theorem index10 : ∀ t : Fin cfg0.N, win0_10.index t = ![1, t.val, 0] :=
  (by decide +kernel : ∀ t : Fin grid0.N, win0_10.index t = ![1, t.val, 0])
theorem index11 : ∀ t : Fin cfg0.N, win0_11.index t = ![1, t.val / 2, 0] :=
  (by decide +kernel : ∀ t : Fin grid0.N, win0_11.index t = ![1, t.val / 2, 0])
theorem index12 : ∀ t : Fin cfg0.N, win0_12.index t = ![1, t.val, 0] :=
  (by decide +kernel : ∀ t : Fin grid0.N, win0_12.index t = ![1, t.val, 0])
theorem index13 : ∀ t : Fin cfg0.N, win0_13.index t = ![t.val, 0] :=
  (by decide +kernel : ∀ t : Fin grid0.N, win0_13.index t = ![t.val, 0])
theorem index14 : ∀ t : Fin cfg0.N, win0_14.index t = ![t.val, 0, 0] :=
  (by decide +kernel : ∀ t : Fin grid0.N, win0_14.index t = ![t.val, 0, 0])
theorem index15 : ∀ t : Fin cfg0.N, win0_15.index t = ![t.val, 0] :=
  (by decide +kernel : ∀ t : Fin grid0.N, win0_15.index t = ![t.val, 0])
theorem index16 : ∀ t : Fin cfg0.N, win0_16.index t = ![0, t.val] :=
  (by decide +kernel : ∀ t : Fin grid0.N, win0_16.index t = ![0, t.val])
theorem index17 : ∀ t : Fin cfg0.N, win0_17.index t = ![t.val, 0] :=
  (by decide +kernel : ∀ t : Fin grid0.N, win0_17.index t = ![t.val, 0])
theorem index18 : ∀ t : Fin cfg0.N, win0_18.index t = ![t.val, 0] :=
  (by decide +kernel : ∀ t : Fin grid0.N, win0_18.index t = ![t.val, 0])
theorem index19 : ∀ t : Fin cfg0.N, win0_19.index t = ![t.val / 2, 0] :=
  (by decide +kernel : ∀ t : Fin grid0.N, win0_19.index t = ![t.val / 2, 0])
theorem index20 : ∀ t : Fin cfg0.N, win0_20.index t = ![t.val, 0] :=
  (by decide +kernel : ∀ t : Fin grid0.N, win0_20.index t = ![t.val, 0])
theorem index21 : ∀ t : Fin cfg0.N, win0_21.index t = ![t.val / 2, 0] :=
  (by decide +kernel : ∀ t : Fin grid0.N, win0_21.index t = ![t.val / 2, 0])
theorem index22 : ∀ t : Fin cfg0.N, win0_22.index t = ![t.val, 0] :=
  (by decide +kernel : ∀ t : Fin grid0.N, win0_22.index t = ![t.val, 0])

theorem lt32 (t : Fin cfg0.N) : t.val < 32 := lt_of_lt_of_eq t.isLt N_0

theorem coord : ∀ t : Fin cfg0.N, (grid0.coords t 0).val = t.val :=
  (by decide +kernel : ∀ t : Fin grid0.N, (grid0.coords t 0).val = t.val)

variable (m : (ℓ : Loc nD τ sig) → Buf (Elt Ideal) ℓ)

/-- The arguments on one device. -/
abbrev arg0 (c : Dev nD) : S16384x1024.Idx → EReal := m ((c : Thread nD τ).loc main_arg0)
abbrev arg1 (c : Dev nD) : S1x1024.Idx → EReal := m ((c : Thread nD τ).loc main_arg1)
abbrev arg2 (c : Dev nD) : S1024x1024.Idx → EReal := m ((c : Thread nD τ).loc main_arg2)
abbrev arg3 (c : Dev nD) : S4x16384x256.Idx → EReal := m ((c : Thread nD τ).loc main_arg3)
abbrev arg4 (c : Dev nD) : S256x1024.Idx → EReal := m ((c : Thread nD τ).loc main_arg4)
abbrev arg5 (c : Dev nD) : S1x1024.Idx → EReal := m ((c : Thread nD τ).loc main_arg5)
abbrev arg6 (c : Dev nD) : S3072x1024.Idx → EReal := m ((c : Thread nD τ).loc main_arg6)
abbrev arg7 (c : Dev nD) : S2x1024x1024.Idx → EReal := m ((c : Thread nD τ).loc main_arg7)
abbrev arg8 (c : Dev nD) : S4x1024x5632.Idx → EReal := m ((c : Thread nD τ).loc main_arg8)
abbrev arg9 (c : Dev nD) : S4x2816x1024.Idx → EReal := m ((c : Thread nD τ).loc main_arg9)
abbrev arg10 (c : Dev nD) : S4x1024x1024.Idx → EReal := m ((c : Thread nD τ).loc main_arg10)
abbrev arg11 (c : Dev nD) : S4x256x1024.Idx → EReal := m ((c : Thread nD τ).loc main_arg11)
abbrev arg12 (c : Dev nD) : S2x3088x1024.Idx → EReal := m ((c : Thread nD τ).loc main_arg12)

theorem whole1 (c : Dev nD) (t : Fin cfg0.N) : (iblk m c 1 t : S1x1024.Idx → EReal) = arg1 m c := by
  funext j
  blk_simp [iblk]
  exact congrArg (arg1 m c) (ext2 (by blk_simp [index1]) (by blk_simp [index1]))

theorem whole2 (c : Dev nD) (t : Fin cfg0.N) : (iblk m c 2 t : S1024x1024.Idx → EReal) = arg2 m c := by
  funext j
  blk_simp [iblk]
  exact congrArg (arg2 m c) (ext2 (by blk_simp [index2]) (by blk_simp [index2]))

theorem whole4 (c : Dev nD) (t : Fin cfg0.N) : (iblk m c 4 t : S256x1024.Idx → EReal) = arg4 m c := by
  funext j
  blk_simp [iblk]
  exact congrArg (arg4 m c) (ext2 (by blk_simp [index4]) (by blk_simp [index4]))

theorem whole5 (c : Dev nD) (t : Fin cfg0.N) : (iblk m c 5 t : S1x1024.Idx → EReal) = arg5 m c := by
  funext j
  blk_simp [iblk]
  exact congrArg (arg5 m c) (ext2 (by blk_simp [index5]) (by blk_simp [index5]))

theorem whole6 (c : Dev nD) (t : Fin cfg0.N) : (iblk m c 6 t : S3072x1024.Idx → EReal) = arg6 m c := by
  funext j
  blk_simp [iblk]
  exact congrArg (arg6 m c) (ext2 (by blk_simp [index6]) (by blk_simp [index6]))

theorem rows0 (c : Dev nD) (t : Fin cfg0.N) (r : ℕ) (hr : r < 512) (k : ℕ) :
    at2 (iblk m c 0 t : S512x1024.Idx → EReal) r k = at2 (arg0 m c) (512 * t.val + r) k := by
  have hi := index0 t
  have ht := lt32 t
  unfold at2
  unfold iblk
  rw [View.read_apply]
  show V m c main_arg0 _ = m (c.tc.loc main_arg0) _
  unfold V
  congr 1
  funext a
  apply Fin.ext
  match a with
  | ⟨0, _⟩ => show win0_0.index t 0 * 512 + 1 * (r % 512) = (512 * t.val + r) % 16384; rw [hi]; show t.val * 512 + 1 * (r % 512) = _; omega
  | ⟨1, _⟩ => show win0_0.index t 1 * 1024 + 1 * (k % 1024) = k % 1024; rw [hi]; show 0 * 1024 + 1 * (k % 1024) = _; omega

theorem rows3 (c : Dev nD) (t : Fin cfg0.N) (r : ℕ) (hr : r < 512) (k : ℕ) :
    at3 (iblk m c 3 t : S1x512x256.Idx → EReal) 0 r k = at3 (arg3 m c) 0 (512 * t.val + r) k := by
  have hi := index3 t
  have ht := lt32 t
  unfold at3
  unfold iblk
  rw [View.read_apply]
  show V m c main_arg3 _ = m (c.tc.loc main_arg3) _
  unfold V
  congr 1
  funext a
  apply Fin.ext
  match a with
  | ⟨0, _⟩ => show win0_3.index t 0 * 1 + 1 * 0 = 0 % 4; rw [hi]; rfl
  | ⟨1, _⟩ => show win0_3.index t 1 * 512 + 1 * (r % 512) = (512 * t.val + r) % 16384; rw [hi]; show t.val * 512 + 1 * (r % 512) = _; omega
  | ⟨2, _⟩ => show win0_3.index t 2 * 256 + 1 * (k % 256) = k % 256; rw [hi]; show 0 * 256 + 1 * (k % 256) = _; omega

theorem added_at (c : Dev nD) (t : Fin cfg0.N) (r : ℕ) (hr : r < 512) (j : ℕ) (hj : j < 1024) :
    at2 (added (iblk m c 0 t) (iblk m c 1 t) (iblk m c 3 t) (iblk m c 2 t) (iblk m c 4 t)) r j = emb4 (arg0 m c) (arg1 m c) (arg2 m c) (arg3 m c) (arg4 m c) (512 * t.val + r) j := by
  refine (at2_val (added (iblk m c 0 t) (iblk m c 1 t) (iblk m c 3 t) (iblk m c 2 t) (iblk m c 4 t)) ⟨r, hr⟩ ⟨j, hj⟩).trans ?_
  show ple (at2 (iblk m c 0 t : S512x1024.Idx → EReal) r) (at2 (iblk m c 1 t : S1x1024.Idx → EReal) 0) (at2 (iblk m c 2 t : S1024x1024.Idx → EReal))
    (fun k => at3 (iblk m c 3 t : S1x512x256.Idx → EReal) 0 r k) (at2 (iblk m c 4 t : S256x1024.Idx → EReal)) j = _
  have e0 : at2 (iblk m c 0 t : S512x1024.Idx → EReal) r = at2 (arg0 m c) (512 * t.val + r) := funext fun k => rows0 m c t r hr k
  have e3 : (fun k => at3 (iblk m c 3 t : S1x512x256.Idx → EReal) 0 r k) = fun k => at3 (arg3 m c) 0 (512 * t.val + r) k :=
    funext fun k => rows3 m c t r hr k
  unfold emb4
  rw [e0, e3, whole1 m c t, whole2 m c t, whole4 m c t]

theorem proj_at (c : Dev nD) (t : Fin cfg0.N) (r : ℕ) (hr : r < 512) (n : ℕ) :
    proj3 (added (iblk m c 0 t) (iblk m c 1 t) (iblk m c 3 t) (iblk m c 2 t) (iblk m c 4 t)) (iblk m c 5 t) (iblk m c 6 t) r n = proj4 (arg0 m c) (arg1 m c) (arg2 m c) (arg3 m c) (arg4 m c) (arg5 m c) (arg6 m c) (512 * t.val + r) n := by
  unfold proj3 proj4
  refine mm_congr (fun k hk => ?_) fun k hk => ?_
  · exact rn_congr hk (fun a ha => added_at m c t r hr a ha) (congrFun (congrArg (fun X : S1x1024.Idx → EReal => at2 X 0) (whole5 m c t)) k)
  · exact congrArg (fun X : S3072x1024.Idx → EReal => at2 X n k) (whole6 m c t)

theorem final13 (c : Dev nD) : (dats m 0 c).arrAt 13 cfg0.N = next0 (arg0 m c) (arg1 m c) (arg2 m c) (arg3 m c) (arg4 m c) := by
  refine (dats m 0 c).arrAt_eq_of_covers 13 _ (by decide +kernel) fun t hf y => ?_
  blk_simp
  rw [after0_13, out13_eq]
  generalize hz : (win0_13.blk t).view.emb y = z
  have e0 : (z 0).val = 512 * t.val + (y 0).val := by rw [← hz]; blk_simp [index13]; omega
  have e1 : (z 1).val = (y 1).val := by rw [← hz]; blk_simp [index13]
  have ey : y = ix2 (⟨(y 0).val, (y 0).isLt⟩ : Fin 512) (⟨(y 1).val, (y 1).isLt⟩ : Fin 1024) := by
    funext a
    match a with
    | ⟨0, _⟩ => rfl
    | ⟨1, _⟩ => rfl
  unfold next0
  rw [e0, e1]
  refine Eq.trans ?_ (added_at m c t (y 0).val (y 0).isLt (y 1).val (y 1).isLt)
  exact (congrArg _ ey).trans (at2_val (added (iblk m c 0 t) (iblk m c 1 t) (iblk m c 3 t) (iblk m c 2 t) (iblk m c 4 t)) (⟨(y 0).val, (y 0).isLt⟩ : Fin 512) (⟨(y 1).val, (y 1).isLt⟩ : Fin 1024)).symm

theorem final14 (c : Dev nD) : (dats m 0 c).arrAt 14 cfg0.N = next1 (arg0 m c) (arg1 m c) (arg2 m c) (arg3 m c) (arg4 m c) (arg5 m c) (arg6 m c) := by
  refine (dats m 0 c).arrAt_eq_of_covers 14 _ (by decide +kernel) fun t hf y => ?_
  blk_simp
  rw [after0_14, out14_eq]
  generalize hz : (win0_14.blk t).view.emb y = z
  have e0 : (z 0).val = t.val := by rw [← hz]; blk_simp [index14]
  have e1 : (z 1).val = (y 1).val := by rw [← hz]; blk_simp [index14]
  have e2 : (z 2).val = (y 2).val := by rw [← hz]; blk_simp [index14]
  unfold next1 outQ
  rw [e0, e1, e2]
  exact proj_at m c t (y 2).val (y 2).isLt _

theorem final15 (c : Dev nD) : (dats m 0 c).arrAt 15 cfg0.N = next2 (arg0 m c) (arg1 m c) (arg2 m c) (arg3 m c) (arg4 m c) (arg5 m c) (arg6 m c) := by
  refine (dats m 0 c).arrAt_eq_of_covers 15 _ (by decide +kernel) fun t hf y => ?_
  blk_simp
  rw [after0_15, out15_eq]
  generalize hz : (win0_15.blk t).view.emb y = z
  have e0 : (z 0).val = 512 * t.val + (y 0).val := by rw [← hz]; blk_simp [index15]; omega
  have e1 : (z 1).val = (y 1).val := by rw [← hz]; blk_simp [index15]
  unfold next2 outK
  rw [e0, e1]
  exact proj_at m c t (y 0).val (y 0).isLt _

theorem final16 (c : Dev nD) : (dats m 0 c).arrAt 16 cfg0.N = next3 (arg0 m c) (arg1 m c) (arg2 m c) (arg3 m c) (arg4 m c) (arg5 m c) (arg6 m c) := by
  refine (dats m 0 c).arrAt_eq_of_covers 16 _ (by decide +kernel) fun t hf y => ?_
  blk_simp
  rw [after0_16, out16_eq]
  generalize hz : (win0_16.blk t).view.emb y = z
  have e0 : (z 0).val = (y 0).val := by rw [← hz]; blk_simp [index16]
  have e1 : (z 1).val = 512 * t.val + (y 1).val := by rw [← hz]; blk_simp [index16]; omega
  unfold next3 outV
  rw [e0, e1]
  exact proj_at m c t (y 1).val (y 1).isLt _

theorem final17 (c : Dev nD) : (dats m 0 c).arrAt 17 cfg0.N = layer (arg7 m c) 0 := by
  refine (dats m 0 c).arrAt_eq_of_covers 17 _ (by decide +kernel) fun t hf y => ?_
  blk_simp
  rw [after0_17, out17_eq]
  have e : k0_pay19 (iblk m c 7 t) y = iblk m c 7 t (ix3 0 (y 0) (y 1)) := by pointwise [k0_pay19]
  rw [e]
  blk_simp [iblk]
  exact layer_of (arg7 m c) 0 _ _ (by blk_simp [index7]; rfl) (by blk_simp [index7, index17]) (by blk_simp [index7, index17])

theorem final18 (c : Dev nD) : (dats m 0 c).arrAt 18 cfg0.N = layer (arg8 m c) 1 := by
  refine (dats m 0 c).arrAt_eq_of_covers 18 _ (by decide +kernel) fun t hf y => ?_
  blk_simp
  rw [after0_18, out18_eq]
  have e : k0_pay20 (iblk m c 8 t) y = iblk m c 8 t (ix3 0 (y 0) (y 1)) := by pointwise [k0_pay20]
  rw [e]
  blk_simp [iblk]
  exact layer_of (arg8 m c) 1 _ _ (by blk_simp [index8]; rfl) (by blk_simp [index8, index18]) (by blk_simp [index8, index18])

theorem final19 (c : Dev nD) : (dats m 0 c).arrAt 19 cfg0.N = layer (arg9 m c) 1 := by
  refine (dats m 0 c).arrAt_eq_of_covers 19 _ (by decide +kernel) fun t hf y => ?_
  blk_simp
  rw [after0_19, out19_eq]
  have e : k0_pay21 (iblk m c 9 t) y = iblk m c 9 t (ix3 0 (y 0) (y 1)) := by pointwise [k0_pay21]
  rw [e]
  blk_simp [iblk]
  exact layer_of (arg9 m c) 1 _ _ (by blk_simp [index9]; rfl) (by blk_simp [index9, index19]) (by blk_simp [index9, index19])

theorem final20 (c : Dev nD) : (dats m 0 c).arrAt 20 cfg0.N = layer (arg10 m c) 1 := by
  refine (dats m 0 c).arrAt_eq_of_covers 20 _ (by decide +kernel) fun t hf y => ?_
  blk_simp
  rw [after0_20, out20_eq]
  have e : k0_pay22 (iblk m c 10 t) y = iblk m c 10 t (ix3 0 (y 0) (y 1)) := by pointwise [k0_pay22]
  rw [e]
  blk_simp [iblk]
  exact layer_of (arg10 m c) 1 _ _ (by blk_simp [index10]; rfl) (by blk_simp [index10, index20]) (by blk_simp [index10, index20])

theorem final21 (c : Dev nD) : (dats m 0 c).arrAt 21 cfg0.N = layer (arg11 m c) 1 := by
  refine (dats m 0 c).arrAt_eq_of_covers 21 _ (by decide +kernel) fun t hf y => ?_
  blk_simp
  rw [after0_21, out21_eq]
  have e : k0_pay23 (iblk m c 11 t) y = iblk m c 11 t (ix3 0 (y 0) (y 1)) := by pointwise [k0_pay23]
  rw [e]
  blk_simp [iblk]
  exact layer_of (arg11 m c) 1 _ _ (by blk_simp [index11]; rfl) (by blk_simp [index11, index21]) (by blk_simp [index11, index21])

/-- The row at which a block of the scaled weights starts. -/
def word (arg0 : BitVec 32) : BitVec 32 :=
  Scalar.muli (Scalar.select (Scalar.andi (Scalar.cmpi .ne (Scalar.subi (Scalar.extui (Scalar.cmpi .sgt arg0 0#32)) (Scalar.extui (Scalar.cmpi .slt arg0 0#32)))
      (Scalar.subi (Scalar.extui (Scalar.cmpi .sgt 1#32 0#32)) (Scalar.extui (Scalar.cmpi .slt 1#32 0#32)))) (Scalar.cmpi .ne (Scalar.remsi arg0 1#32) 0#32))
    (Scalar.subi (Scalar.divsi arg0 1#32) 1#32) (Scalar.divsi arg0 1#32)) 96#32

theorem pay1_at (a : BitVec 32) (X : Vec Ideal S1x96x1024 .f32) (r : Fin 96) (j : Fin 1024) :
    k0_pay1 a X (ix2 r j) = X (ix3 0 r j) * Scalar.select (Scalar.cmpi .slt (Scalar.addi (word a) (BitVec.ofNat 32 r.val)) 1024#32)
      (Ideal.ofBits FTy.f32 0x3E38AA3B#32) (Ideal.ofBits FTy.f32 0x3F800000#32) := by
  pointwise [k0_pay1]
  rfl

theorem row_lt : ∀ (t : Fin 32) (r : Fin 96), Scalar.cmpi .slt (Scalar.addi (word (BitVec.ofNat 32 t.val)) (BitVec.ofNat 32 r.val)) 1024#32
    = if 96 * t.val + r.val < 1024 then 1#1 else 0#1 := by decide +kernel

theorem final22 (c : Dev nD) : (dats m 0 c).arrAt 22 cfg0.N = scaled (arg12 m c) := by
  refine (dats m 0 c).arrAt_eq_of_covers 22 _ (by decide +kernel) fun t hf y => ?_
  blk_simp
  rw [after0_22, out22_eq, coord]
  generalize hz : (win0_22.blk t).view.emb y = z
  have e0 : (z 0).val = 96 * t.val + (y 0).val := by rw [← hz]; blk_simp [index22]; omega
  have e1 : (z 1).val = (y 1).val := by rw [← hz]; blk_simp [index22]
  have ey : y = ix2 (⟨(y 0).val, (y 0).isLt⟩ : Fin 96) (⟨(y 1).val, (y 1).isLt⟩ : Fin 1024) := by
    funext a
    match a with
    | ⟨0, _⟩ => rfl
    | ⟨1, _⟩ => rfl
  have ex : X0_12 m c t (ix3 0 (⟨(y 0).val, (y 0).isLt⟩ : Fin 96) (⟨(y 1).val, (y 1).isLt⟩ : Fin 1024)) = at3 (arg12 m c) 1 (z 0).val (z 1).val := by
    unfold X0_12 Pipeline.Window.fill
    rw [dif_pos (moved0_12 t _)]
    blk_simp [iblk]
    refine layer_of (arg12 m c) 1 z _ ?_ ?_ ?_
    · blk_simp [index12]; rfl
    · blk_simp [index12]; rw [e0]; show t.val * 96 + (y 0).val = 96 * t.val + (y 0).val; omega
    · blk_simp [index12]; rw [e1]
  refine (congrArg _ ey).trans ((pay1_at _ _ _ _).trans ?_)
  rw [ex, row_lt ⟨t.val, lt32 t⟩]
  unfold scaled
  show _ = if (z 0).val < 1024 then _ else _
  rw [e0]
  split
  · rfl
  · show _ * Ideal.ofBits FTy.f32 0x3F800000#32 = _
    rw [Ideal.ofBits_one_f32, mul_one]

/-- The run, read: the result arrays whole, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = (next0 (arg0 m c) (arg1 m c) (arg2 m c) (arg3 m c) (arg4 m c) : Buf (Elt Ideal) ((c : Thread nD τ).loc main_v0_0))
      ∧ r.2.mem ((c : Thread nD τ).loc main_v0_1) = (next1 (arg0 m c) (arg1 m c) (arg2 m c) (arg3 m c) (arg4 m c) (arg5 m c) (arg6 m c) : Buf (Elt Ideal) ((c : Thread nD τ).loc main_v0_1))
      ∧ r.2.mem ((c : Thread nD τ).loc main_v0_2) = (next2 (arg0 m c) (arg1 m c) (arg2 m c) (arg3 m c) (arg4 m c) (arg5 m c) (arg6 m c) : Buf (Elt Ideal) ((c : Thread nD τ).loc main_v0_2))
      ∧ r.2.mem ((c : Thread nD τ).loc main_v0_3) = (next3 (arg0 m c) (arg1 m c) (arg2 m c) (arg3 m c) (arg4 m c) (arg5 m c) (arg6 m c) : Buf (Elt Ideal) ((c : Thread nD τ).loc main_v0_3))
      ∧ r.2.mem ((c : Thread nD τ).loc main_v0_4) = (layer (arg7 m c) 0 : Buf (Elt Ideal) ((c : Thread nD τ).loc main_v0_4))
      ∧ r.2.mem ((c : Thread nD τ).loc main_v0_5) = (layer (arg8 m c) 1 : Buf (Elt Ideal) ((c : Thread nD τ).loc main_v0_5))
      ∧ r.2.mem ((c : Thread nD τ).loc main_v0_6) = (layer (arg9 m c) 1 : Buf (Elt Ideal) ((c : Thread nD τ).loc main_v0_6))
      ∧ r.2.mem ((c : Thread nD τ).loc main_v0_7) = (layer (arg10 m c) 1 : Buf (Elt Ideal) ((c : Thread nD τ).loc main_v0_7))
      ∧ r.2.mem ((c : Thread nD τ).loc main_v0_8) = (layer (arg11 m c) 1 : Buf (Elt Ideal) ((c : Thread nD τ).loc main_v0_8))
      ∧ r.2.mem ((c : Thread nD τ).loc main_v0_9) = (scaled (arg12 m c) : Buf (Elt Ideal) ((c : Thread nD τ).loc main_v0_9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c => by
    obtain ⟨h0, h1, h2, h3, h4, h5, h6, h7, h8, h9, hr⟩ := h c
    exact ⟨h0.trans (final13 m c), h1.trans (final14 m c), h2.trans (final15 m c), h3.trans (final16 m c), h4.trans (final17 m c), h5.trans (final18 m c), h6.trans (final19 m c), h7.trans (final20 m c), h8.trans (final21 m c), h9.trans (final22 m c), hr⟩) (Cert.Kernel4Ideal.Value.run_blocks m ρ)

end Cert.Kernel4Ideal.Dense

end
-- ==== Proof.Ref4.Value.lean ====
module

public import proofs.«01_k».proof.Proof.Gen.Reference4Ideal.Run
public import proofs.«01_k».proof.Proof.Gen.Reference4Ideal.Read
public import proofs.«01_k».proof.Proof.Dense.Next
public import Idealize.ShloMosaic.Lib.IdealHost

@[expose] public section

set_option maxRecDepth 16384

noncomputable section

namespace Cert.Reference4Ideal.Dense

open Cert.Reference4Ideal Cert.Reference4Ideal.Gen Cert.Reference4Ideal.Read
open Idealize.ShloMosaic Cert.Dense

/-- The logistic function, written with negation, exponential, sum and quotient. -/
theorem logistic_eq (x : EReal) :
    Ideal.div (Ideal.ofBits FTy.f32 0x3F800000#32) (Ideal.ofBits FTy.f32 0x3F800000#32 + Ideal.exp (-x)) = Ideal.logistic x := by
  rw [Ideal.ofBits_one_f32]; rfl

variable (x0 : S16384x1024.Idx → EReal) (x1 : S1x1024.Idx → EReal) (x2 : S1024x1024.Idx → EReal)
  (x3 : S4x16384x256.Idx → EReal) (x4 : S256x1024.Idx → EReal) (x5 : S1x1024.Idx → EReal) (x6 : S3072x1024.Idx → EReal)

theorem v11_at (R : Fin 16384) (j : Fin 1024) :
    val_main_v11 (F := Ideal) x0 x1 (ix2 R j) = rn (at2 x0 R.val) (at2 x1 0) j.val := by
  rw [val_main_v11_apply, val_main_v9_apply, val_main_v8_apply, val_main_v7_apply, val_main_v6_apply, val_main_v4_apply, val_main_v2_apply,
    val_main_v1_apply, val_main_v3_apply, val_main_v5_apply, val_main_v10_apply]
  rw [← at2_val x0 R j]
  show at2 x0 R.val j.val * Ideal.rsqrt (Ideal.div (Ideal.ofBits FTy.f32 0x00000000#32 + _) (Ideal.ofBits FTy.f32 0x44800000#32)
    + Ideal.ofBits FTy.f32 0x358637BD#32) * x1 _ = _
  rw [Ideal.ofBits_zero_f32, zero_add]
  unfold rn
  have es : ∀ k : Fin 1024, val_main_v0 (F := Ideal) x0 (idx_main_v1 (idx_main_v2 (idx_main_v8 (ix2 R j))) k)
      = at2 x0 R.val k.val * at2 x0 R.val k.val := fun k => by
    have e : idx_main_v1 (idx_main_v2 (idx_main_v8 (ix2 R j))) k = ix2 R k := by
      funext a
      match a with
      | ⟨0, _⟩ => rfl
      | ⟨1, _⟩ => rfl
    rw [e, val_main_v0_apply, at2_val]
    rfl
  have eg : x1 (idx_main_v10 (ix2 R j)) = at2 x1 0 j.val := by
    refine Eq.trans (congrArg x1 ?_) (at2_val x1 0 j).symm
    funext a
    match a with
    | ⟨0, _⟩ => rfl
    | ⟨1, _⟩ => rfl
  rw [Finset.sum_congr rfl fun k _ => es k, eg]

theorem v13_at (R : Fin 16384) (j : Fin 1024) :
    val_main_v13 (F := Ideal) x0 x1 x2 (ix2 R j) = mm 1024 (rn (at2 x0 R.val) (at2 x1 0)) (at2 x2) j.val := by
  rw [val_main_v13_apply]
  refine Finset.sum_congr rfl fun k _ => ?_
  have e : lidx_main_v13 (ix2 R j) k = ix2 R k := by
    funext a
    match a with
    | ⟨0, _⟩ => rfl
    | ⟨1, _⟩ => rfl
  have e' : ridx_main_v13 (ix2 R j) k = ix2 k j := by
    funext a
    match a with
    | ⟨0, _⟩ => rfl
    | ⟨1, _⟩ => rfl
  rw [e, e', v11_at, val_main_v12_apply, at2_val]
  rfl

theorem v21_at (R : Fin 16384) (k : Fin 256) :
    val_main_v21 (F := Ideal) x3 (ix2 R k) = at3 x3 0 R.val k.val := by
  rw [val_main_v21_apply, val_main_v20_apply]
  show x3 _ = x3 _
  congr 1
  funext a
  match a with
  | ⟨0, _⟩ => rfl
  | ⟨1, _⟩ => exact Fin.ext (by show (R.val * 256 + k.val) / 256 % 16384 = R.val % 16384; omega)
  | ⟨2, _⟩ => exact Fin.ext (by show (R.val * 256 + k.val) % 256 = k.val % 256; omega)

theorem v23_at (R : Fin 16384) (j : Fin 1024) :
    val_main_v23 (F := Ideal) x3 x4 (ix2 R j) = mm 256 (fun k => at3 x3 0 R.val k) (at2 x4) j.val := by
  rw [val_main_v23_apply]
  refine Finset.sum_congr rfl fun k _ => ?_
  have e : lidx_main_v23 (ix2 R j) k = ix2 R k := by
    funext a
    match a with
    | ⟨0, _⟩ => rfl
    | ⟨1, _⟩ => rfl
  have e' : ridx_main_v23 (ix2 R j) k = ix2 k j := by
    funext a
    match a with
    | ⟨0, _⟩ => rfl
    | ⟨1, _⟩ => rfl
  rw [e, e', v21_at, val_main_v22_apply, at2_val]
  rfl

theorem v25_at (R : Fin 16384) (j : Fin 1024) :
    val_main_v25 (F := Ideal) x0 x1 x2 x3 x4 (ix2 R j) = emb4 x0 x1 x2 x3 x4 R.val j.val := by
  rw [val_main_v25_apply, val_main_v24_apply, val_main_v19_apply, val_main_v18_apply, val_main_v17_apply, val_main_v16_apply, val_main_v15_apply,
    val_main_v14_apply, v13_at, v23_at]
  unfold emb4 ple
  rw [← logistic_eq, at2_val]
  rfl

theorem v37_at (R : Fin 16384) (j : Fin 1024) :
    val_main_v37 (F := Ideal) x0 x1 x2 x3 x4 x5 (ix2 R j) = rn (emb4 x0 x1 x2 x3 x4 R.val) (at2 x5 0) j.val := by
  rw [val_main_v37_apply, val_main_v35_apply, val_main_v34_apply, val_main_v33_apply, val_main_v32_apply, val_main_v30_apply, val_main_v28_apply,
    val_main_v27_apply, val_main_v29_apply, val_main_v31_apply, val_main_v36_apply, v25_at]
  show emb4 x0 x1 x2 x3 x4 R.val j.val * Ideal.rsqrt (Ideal.div (Ideal.ofBits FTy.f32 0x00000000#32 + _) (Ideal.ofBits FTy.f32 0x44800000#32)
    + Ideal.ofBits FTy.f32 0x358637BD#32) * x5 _ = _
  rw [Ideal.ofBits_zero_f32, zero_add]
  unfold rn
  have es : ∀ k : Fin 1024, val_main_v26 (F := Ideal) x0 x1 x2 x3 x4 (idx_main_v27 (idx_main_v28 (idx_main_v34 (ix2 R j))) k)
      = emb4 x0 x1 x2 x3 x4 R.val k.val * emb4 x0 x1 x2 x3 x4 R.val k.val := fun k => by
    have e : idx_main_v27 (idx_main_v28 (idx_main_v34 (ix2 R j))) k = ix2 R k := by
      funext a
      match a with
      | ⟨0, _⟩ => rfl
      | ⟨1, _⟩ => rfl
    rw [e, val_main_v26_apply, v25_at]
    rfl
  have eg : x5 (idx_main_v36 (ix2 R j)) = at2 x5 0 j.val := by
    refine Eq.trans (congrArg x5 ?_) (at2_val x5 0 j).symm
    funext a
    match a with
    | ⟨0, _⟩ => rfl
    | ⟨1, _⟩ => rfl
  rw [Finset.sum_congr rfl fun k _ => es k, eg]

theorem v40_at (R : Fin 16384) (n : Fin 3072) : val_main_v40 (F := Ideal) x0 x1 x2 x3 x4 x5 x6 (ix2 R n) = proj4 x0 x1 x2 x3 x4 x5 x6 R.val n.val := by
  rw [val_main_v40_apply]
  unfold proj4 mm
  refine Finset.sum_congr rfl fun k _ => ?_
  have e : lidx_main_v40 (ix2 R n) k = ix2 R k := by
    funext a
    match a with
    | ⟨0, _⟩ => rfl
    | ⟨1, _⟩ => rfl
  have e' : idx_main_v39 (ridx_main_v40 (ix2 R n) k) = ix2 n k := by
    funext a
    match a with
    | ⟨0, _⟩ => rfl
    | ⟨1, _⟩ => rfl
  rw [e, v37_at, val_main_v39_apply, e', val_main_v38_apply]
  show _ * x6 (ix2 n k) = _ * at2 x6 n.val k.val
  rw [at2_val]

/-- The rows of the result. -/
theorem h_eq : val_main_v25 (F := Ideal) x0 x1 x2 x3 x4 = next0 x0 x1 x2 x3 x4 := by
  funext y
  have ey : y = ix2 (⟨(y 0).val, (y 0).isLt⟩ : Fin 16384) (⟨(y 1).val, (y 1).isLt⟩ : Fin 1024) := by
    funext a
    match a with
    | ⟨0, _⟩ => rfl
    | ⟨1, _⟩ => rfl
  exact (congrArg _ ey).trans (v25_at x0 x1 x2 x3 x4 _ _)

/-- The queries. -/
theorem q_eq : val_main_v64 (F := Ideal) x0 x1 x2 x3 x4 x5 x6 = next1 x0 x1 x2 x3 x4 x5 x6 := by
  funext y
  have h0 : (y 0).val < 32 := (y 0).isLt
  have h1 : (y 1).val < 1024 := (y 1).isLt
  have h2 : (y 2).val < 512 := (y 2).isLt
  rw [val_main_v64_apply, val_main_v45_apply, val_main_v44_apply, val_main_v41_apply]
  have e : idx_main_v41 (idx_main_v44 (idx_main_v45 y)) = ix2 (⟨512 * (y 0).val + (y 2).val, by omega⟩ : Fin 16384) (⟨(y 1).val, by omega⟩ : Fin 3072) := by
    funext a
    match a with
    | ⟨0, _⟩ => exact Fin.ext (by show (((y 0).val * 512 + (y 2).val) * 1024 + (y 1).val) / 1024 = 512 * (y 0).val + (y 2).val; omega)
    | ⟨1, _⟩ => exact Fin.ext (by show (((y 0).val * 512 + (y 2).val) * 1024 + (y 1).val) % 1024 = (y 1).val; omega)
  rw [e, v40_at]
  rfl

/-- The keys. -/
theorem k_eq : val_main_v65 (F := Ideal) x0 x1 x2 x3 x4 x5 x6 = next2 x0 x1 x2 x3 x4 x5 x6 := by
  funext y
  have h0 : (y 0).val < 16384 := (y 0).isLt
  have h1 : (y 1).val < 1024 := (y 1).isLt
  rw [val_main_v65_apply, val_main_v42_apply]
  have e : idx_main_v42 y = ix2 (⟨(y 0).val, h0⟩ : Fin 16384) (⟨1024 + (y 1).val, by omega⟩ : Fin 3072) := by
    funext a
    match a with
    | ⟨0, _⟩ => rfl
    | ⟨1, _⟩ => rfl
  rw [e, v40_at]
  rfl

/-- The values. -/
theorem v_eq : val_main_v66 (F := Ideal) x0 x1 x2 x3 x4 x5 x6 = next3 x0 x1 x2 x3 x4 x5 x6 := by
  funext y
  have h0 : (y 0).val < 1024 := (y 0).isLt
  have h1 : (y 1).val < 16384 := (y 1).isLt
  rw [val_main_v66_apply, val_main_v63_apply, val_main_v43_apply]
  have e : idx_main_v43 (idx_main_v63 y) = ix2 (⟨(y 1).val, h1⟩ : Fin 16384) (⟨2048 + (y 0).val, by omega⟩ : Fin 3072) := by
    funext a
    match a with
    | ⟨0, _⟩ => rfl
    | ⟨1, _⟩ => rfl
  rw [e, v40_at]
  rfl

theorem w67_eq (x7 : S2x1024x1024.Idx → EReal) : val_main_v67 (F := Ideal) x7 = layer x7 0 := by
  funext y
  have h : (y 0).val < 1024 ∧ (y 1).val < 1024 := ⟨(y 0).isLt, (y 1).isLt⟩
  rw [val_main_v67_apply, val_main_v54_apply, val_main_v53_apply]
  exact layer_of x7 0 y _ rfl (by show ((y 0).val * 1024 + (y 1).val) / 1024 % 1024 = _; omega) (by show ((y 0).val * 1024 + (y 1).val) % 1024 = _; omega)

theorem w68_eq (x8 : S4x1024x5632.Idx → EReal) : val_main_v68 (F := Ideal) x8 = layer x8 1 := by
  funext y
  have h : (y 0).val < 1024 ∧ (y 1).val < 5632 := ⟨(y 0).isLt, (y 1).isLt⟩
  rw [val_main_v68_apply, val_main_v56_apply, val_main_v55_apply]
  exact layer_of x8 1 y _ rfl (by show ((y 0).val * 5632 + (y 1).val) / 5632 % 1024 = _; omega) (by show ((y 0).val * 5632 + (y 1).val) % 5632 = _; omega)

theorem w69_eq (x9 : S4x2816x1024.Idx → EReal) : val_main_v69 (F := Ideal) x9 = layer x9 1 := by
  funext y
  have h : (y 0).val < 2816 ∧ (y 1).val < 1024 := ⟨(y 0).isLt, (y 1).isLt⟩
  rw [val_main_v69_apply, val_main_v58_apply, val_main_v57_apply]
  exact layer_of x9 1 y _ rfl (by show ((y 0).val * 1024 + (y 1).val) / 1024 % 2816 = _; omega) (by show ((y 0).val * 1024 + (y 1).val) % 1024 = _; omega)

theorem w70_eq (x10 : S4x1024x1024.Idx → EReal) : val_main_v70 (F := Ideal) x10 = layer x10 1 := by
  funext y
  have h : (y 0).val < 1024 ∧ (y 1).val < 1024 := ⟨(y 0).isLt, (y 1).isLt⟩
  rw [val_main_v70_apply, val_main_v60_apply, val_main_v59_apply]
  exact layer_of x10 1 y _ rfl (by show ((y 0).val * 1024 + (y 1).val) / 1024 % 1024 = _; omega) (by show ((y 0).val * 1024 + (y 1).val) % 1024 = _; omega)

theorem w71_eq (x11 : S4x256x1024.Idx → EReal) : val_main_v71 (F := Ideal) x11 = layer x11 1 := by
  funext y
  have h : (y 0).val < 256 ∧ (y 1).val < 1024 := ⟨(y 0).isLt, (y 1).isLt⟩
  rw [val_main_v71_apply, val_main_v62_apply, val_main_v61_apply]
  exact layer_of x11 1 y _ rfl (by show ((y 0).val * 1024 + (y 1).val) / 1024 % 256 = _; omega) (by show ((y 0).val * 1024 + (y 1).val) % 1024 = _; omega)

theorem v47_at (x12 : S2x3088x1024.Idx → EReal) (r : Fin 3072) (j : Fin 1024) : val_main_v47 (F := Ideal) x12 (ix2 r j) = at3 x12 1 r.val j.val := by
  have hr := r.isLt
  have hj := j.isLt
  rw [val_main_v47_apply, val_main_v46_apply]
  show x12 _ = x12 _
  congr 1
  funext a
  match a with
  | ⟨0, _⟩ => rfl
  | ⟨1, _⟩ => exact Fin.ext (by show (r.val * 1024 + j.val) / 1024 % 3072 = r.val % 3088; omega)
  | ⟨2, _⟩ => exact Fin.ext (by show (r.val * 1024 + j.val) % 1024 = j.val % 1024; omega)

/-- The weights with the queries' rows scaled. -/
theorem w72_eq (x12 : S2x3088x1024.Idx → EReal) : val_main_v72 (F := Ideal) x12 = scaled x12 := by
  funext y
  have h0 : (y 0).val < 3072 := (y 0).isLt
  have h1 : (y 1).val < 1024 := (y 1).isLt
  rw [val_main_v72_apply]
  show val_main_v52 (F := Ideal) x12 y = _
  unfold val_main_v52 scaled
  rw [concatenate_pair_apply]
  by_cases h : (y 0).val < 1024
  · refine (dif_pos h).trans ?_
    rw [if_pos h]
    refine Eq.trans (b := val_main_v50 (F := Ideal) x12 (ix2 (⟨(y 0).val, h⟩ : Fin 1024) (⟨(y 1).val, h1⟩ : Fin 1024))) (congrArg _ ?_) ?_
    · funext a
      match a with
      | ⟨0, _⟩ => rfl
      | ⟨1, _⟩ => rfl
    · rw [val_main_v50_apply, val_main_v48_apply]
      have e : idx_main_v48 (ix2 (⟨(y 0).val, h⟩ : Fin 1024) (⟨(y 1).val, h1⟩ : Fin 1024)) = ix2 (⟨(y 0).val, h0⟩ : Fin 3072) (⟨(y 1).val, h1⟩ : Fin 1024) := by
        funext a
        match a with
        | ⟨0, _⟩ => rfl
        | ⟨1, _⟩ => rfl
      rw [e, v47_at]
      rfl
  · refine (dif_neg h).trans ?_
    rw [if_neg h]
    refine Eq.trans (b := val_main_v51 (F := Ideal) x12 (ix2 (⟨(y 0).val - 1024, by omega⟩ : Fin 2048) (⟨(y 1).val, h1⟩ : Fin 1024))) (congrArg _ ?_) ?_
    · funext a
      match a with
      | ⟨0, _⟩ => rfl
      | ⟨1, _⟩ => rfl
    · rw [val_main_v51_apply]
      have e : idx_main_v51 (ix2 (⟨(y 0).val - 1024, by omega⟩ : Fin 2048) (⟨(y 1).val, h1⟩ : Fin 1024))
          = ix2 (⟨(y 0).val, h0⟩ : Fin 3072) (⟨(y 1).val, h1⟩ : Fin 1024) := by
        funext a
        match a with
        | ⟨0, _⟩ => exact Fin.ext (by show 1024 + ((y 0).val - 1024) = (y 0).val; omega)
        | ⟨1, _⟩ => rfl
      rw [e, v47_at]

end Cert.Reference4Ideal.Dense

end
-- ==== Proof.Dense.Gates.lean ====
module

public import proofs.«01_k».proof.Proof.Dense.Next

@[expose] public section

set_option maxRecDepth 16384

noncomputable section

namespace Cert.Dense

open Idealize.ShloMosaic

/-- The embeddings with the second layer's in the first place. -/
def from1 (X : (⟨3, ![4, 16384, 256]⟩ : Shape).Idx → EReal) : (⟨3, ![4, 16384, 256]⟩ : Shape).Idx → EReal := fun i =>
  at3 X (1 + (i 0).val) (i 1).val (i 2).val

theorem from1_at (X : (⟨3, ![4, 16384, 256]⟩ : Shape).Idx → EReal) (r k : ℕ) : at3 (from1 X) 0 r k = at3 X 1 r k := by
  show at3 X (1 + 0 % 4) (r % 16384) (k % 256) = at3 X 1 r k
  unfold at3
  congr 2
  · exact Fin.ext (Nat.mod_mod _ _)
  · exact Fin.ext (Nat.mod_mod _ _)

/-- The logarithm of the logistic function. -/
def lsig (x : EReal) : EReal := min x 0 - Ideal.log1p (Ideal.exp (-max x (-x)))

/-- The logarithm of one plus the exponential of minus an absolute value is finite. -/
theorem log1p_real (x : EReal) : ∃ r : ℝ, Ideal.log1p (Ideal.exp (-max x (-x))) = r := by
  have h0 : 0 ≤ max x (-x) := by
    rcases le_total 0 x with h | h
    · exact le_max_of_le_left h
    · exact le_max_of_le_right (by rw [← neg_zero]; exact EReal.neg_le_neg_iff.2 h)
  generalize max x (-x) = a at h0
  induction a with
  | bot => exact absurd h0 (by simp)
  | top =>
    refine ⟨Real.log 1, ?_⟩
    show Ideal.log (1 + 0) = _
    rw [add_zero]
    show (if (1 : ℝ) ≤ 0 then ⊥ else (Real.log 1 : EReal)) = _
    rw [if_neg (by norm_num)]
  | coe r =>
    refine ⟨Real.log (1 + Real.exp (-r)), ?_⟩
    show Ideal.log (1 + ((Real.exp (-r) : ℝ) : EReal)) = _
    rw [← EReal.coe_one, ← EReal.coe_add]
    show (if 1 + Real.exp (-r) ≤ 0 then ⊥ else (Real.log (1 + Real.exp (-r)) : EReal)) = _
    rw [if_neg (by have := Real.exp_pos (-r); linarith)]

/-- The logarithm of the logistic function, as minus the softplus of minus the argument. -/
theorem softplus_eq (x : EReal) : -(max (-x) 0 + Ideal.log1p (Ideal.exp (-max (-x) (- -x)))) = lsig x := by
  unfold lsig
  rw [neg_neg, max_comm (-x) x]
  obtain ⟨r, hr⟩ := log1p_real x
  rw [hr, EReal.neg_add (.inr (EReal.coe_ne_top r)) (.inr (EReal.coe_ne_bot r))]
  congr 1
  rcases le_total 0 x with h | h
  · rw [min_eq_right h, max_eq_right (by rw [← neg_zero]; exact EReal.neg_le_neg_iff.2 h), neg_zero]
  · rw [min_eq_left h, max_eq_left (by rw [← neg_zero]; exact EReal.neg_le_neg_iff.2 h), neg_neg]

variable (x0 : (⟨2, ![16384, 1024]⟩ : Shape).Idx → EReal) (x1 : (⟨2, ![1, 1024]⟩ : Shape).Idx → EReal) (x2 : (⟨2, ![1024, 1024]⟩ : Shape).Idx → EReal)
  (x3 : (⟨3, ![4, 16384, 256]⟩ : Shape).Idx → EReal) (x4 : (⟨2, ![256, 1024]⟩ : Shape).Idx → EReal) (x5 : (⟨2, ![1, 1024]⟩ : Shape).Idx → EReal)
  (x7 : (⟨2, ![128, 1024]⟩ : Shape).Idx → EReal) (x8 : (⟨2, ![1, 128]⟩ : Shape).Idx → EReal)

/-- The logarithms of the forget gates. -/
def gates : (⟨2, ![16384, 128]⟩ : Shape).Idx → EReal := fun y =>
  lsig (mm 1024 (rn (emb4 x0 x1 x2 x3 x4 (y 0).val) (at2 x5 0)) (fun k j => at2 x7 j k) (y 1).val + at2 x8 0 (y 1).val)

/-- The layers transposed, with rows to spare. -/
def swap (X : (⟨3, ![2, 1024, 3072]⟩ : Shape).Idx → EReal) : (⟨3, ![2, 3088, 1024]⟩ : Shape).Idx → EReal := fun i =>
  at3 X (i 0).val (i 2).val (i 1).val

theorem swap_at (X : (⟨3, ![2, 1024, 3072]⟩ : Shape).Idx → EReal) (r : ℕ) (hr : r < 3072) (j : ℕ) : at3 (swap X) 1 r j = at3 X 1 j r := by
  show at3 X 1 (j % 1024) (r % 3088) = at3 X 1 j r
  unfold at3
  congr 2
  · exact Fin.ext (Nat.mod_mod _ _)
  · exact Fin.ext (by show r % 3088 % 3072 = r % 3072; omega)

end Cert.Dense

end
-- ==== Proof.Kernel5Ideal.Out.lean ====
module

public import proofs.«01_k».proof.Proof.Gen.Kernel5Ideal.Frame
public import proofs.«01_k».proof.Proof.Kernel4Ideal.Out
public import proofs.«01_k».proof.Proof.Dense.Gates
public import Idealize.ShloMosaic.Lib.Tactic
public import Idealize.ShloMosaic.Lib.Pipeline.ReadBack

@[expose] public section

set_option maxRecDepth 16384

noncomputable section

namespace Cert.Kernel5Ideal.Dense

open Cert.Kernel5Ideal Cert.Kernel5Ideal.Gen
open Idealize.ShloMosaic Idealize.ShloMosaic.TcCoe Cert.Dense
open Cert.Kernel4Ideal.Dense (norm piece gcols ucols ld_gcols ld_ucols ld_qrows tiles back added qrows pairs mixin mixin_at outQ outK outV tileQ tileK tileV)

theorem pay5_rw (x : Vec Ideal S512x1024 .f32) (g : Vec Ideal S1x1024 .f32) : k0_pay5 x g = norm x g := rfl
theorem pay6_rw (p : Vec Ideal S1x512x256 .f32) : k0_pay6 p = Cert.Kernel4Ideal.Gen.k0_pay3 p := rfl
theorem pay7_rw (x : Vec Ideal S512x1024 .f32) (g) (p : Vec Ideal S1x512x256 .f32) (wg wu) :
    k0_pay7 x g p wg wu = piece 0 slices_S512x1024_o0_0_S512x256 x (norm x g) (Cert.Kernel4Ideal.Gen.k0_pay3 p) wg wu := rfl
theorem pay10_rw (x : Vec Ideal S512x1024 .f32) (g) (p : Vec Ideal S1x512x256 .f32) (wg wu) :
    k0_pay10 (k0_pay8 x) (k0_pay9 x g p wg wu) = piece 256 slices_S512x1024_o0_256_S512x256 x (norm x g) (Cert.Kernel4Ideal.Gen.k0_pay3 p) wg wu := rfl
theorem pay11_rw (x : Vec Ideal S512x1024 .f32) (u : FVec Ideal S512x1024 .bf16) (p : FVec Ideal S512x256 .bf16) (wg wu) :
    k0_pay11 x u p wg wu = piece 512 slices_S512x1024_o0_512_S512x256 x u p wg wu := rfl
theorem pay12_rw (x : Vec Ideal S512x1024 .f32) (u : FVec Ideal S512x1024 .bf16) (p : FVec Ideal S512x256 .bf16) (wg wu) :
    k0_pay12 x u p wg wu = piece 768 slices_S512x1024_o0_768_S512x256 x u p wg wu := rfl
theorem pay15_rw (Y : Vec Ideal S512x1024 .f32) (g) : k0_pay15 (k0_pay13 Y) g (k0_pay14 Y) = mixin Y g := rfl
theorem pay17_rw (Y : Vec Ideal S512x1024 .f32) (g w) :
    k0_pay17 (k0_pay13 Y) g (k0_pay14 Y) w = shapeCast S1x512x512 (pairs w (mixin Y g)) shapeCasts_S512x512_S1x512x512 := rfl
theorem pay18_rw (Y : Vec Ideal S512x1024 .f32) (g w) :
    k0_pay18 (k0_pay13 Y) g (k0_pay14 Y) w = shapeCast S1x512x512 (pairs w (mixin Y g)) shapeCasts_S512x512_S1x512x512 := rfl
theorem pay20_rw (Y : Vec Ideal S512x1024 .f32) (g w) : k0_pay20 (k0_pay19 (k0_pay13 Y) g (k0_pay14 Y) w) = pairs w (mixin Y g) := rfl
theorem pay21_rw (u : FVec Ideal S512x1024 .bf16) (w) : k0_pay21 u w = pairs w u := rfl
theorem pay22_rw (u : FVec Ideal S512x1024 .bf16) (w) : k0_pay22 u w = pairs u w := rfl
theorem pay23_rw (u : FVec Ideal S512x1024 .bf16) (w) : k0_pay23 u w = pairs u w := rfl

/-- The rows' products with the gates' weights. -/
def wide (u : FVec Ideal S512x1024 .bf16) (w : Vec Ideal S128x1024 .f32) : FVec Ideal S512x128 .f32 :=
  matmul dot_S512x1024_S128x1024_S512x128_1_1_0_0_n_n none u (truncf .bf16 (φ := .f32) w bitsLt_bf16_f32) (constant S512x128 .f32 0x00000000#32)

theorem wide_at (u : FVec Ideal S512x1024 .bf16) (w : Vec Ideal S128x1024 .f32) (r : Fin 512) (n : Fin 128) :
    wide u w (ix2 r n) = ∑ k : Fin 1024, u (ix2 r k) * w (ix2 n k) := by
  pointwise [wide]

/-- The gates a grid point leaves. -/
def outF (Y : Vec Ideal S512x1024 .f32) (g : Vec Ideal S1x1024 .f32) (w : Vec Ideal S128x1024 .f32) (b : Vec Ideal S1x128 .f32) : Vec Ideal S512x128 .f32 := fun i =>
  lsig (mm 1024 (rn (at2 Y (i 0).val) (at2 g 0)) (fun k j => at2 w j k) (i 1).val + at2 b 0 (i 1).val)

theorem bias_at (b : Vec Ideal S1x128 .f32) (r : Fin 512) (n : Fin 128) :
    broadcastTo S512x128 b broadcasts_S1x128_S512x128 (ix2 r n) = b (ix2 0 n) := by pointwise

theorem pay16_eq (Y : Vec Ideal S512x1024 .f32) (g w b) : k0_pay16 (k0_pay13 Y) g (k0_pay14 Y) w b = outF Y g w b := by
  funext y
  have ey : y = ix2 (⟨(y 0).val, (y 0).isLt⟩ : Fin 512) (⟨(y 1).val, (y 1).isLt⟩ : Fin 128) := ext2 rfl rfl
  generalize hr : (⟨(y 0).val, (y 0).isLt⟩ : Fin 512) = r at ey
  generalize hn : (⟨(y 1).val, (y 1).isLt⟩ : Fin 128) = n at ey
  subst ey
  have e : wide (mixin Y g) w (ix2 r n) + broadcastTo S512x128 b broadcasts_S1x128_S512x128 (ix2 r n)
      = mm 1024 (rn (at2 Y r.val) (at2 g 0)) (fun k j => at2 w j k) n.val + at2 b 0 n.val := by
    refine congrArg₂ (· + ·) ?_ ?_
    · rw [wide_at]
      unfold mm
      refine Finset.sum_congr rfl fun k _ => ?_
      exact congrArg₂ (· * ·) (mixin_at Y g r k) (at2_val w n k).symm
    · rw [bias_at]
      exact (at2_val b 0 n).symm
  have e' : k0_pay16 (k0_pay13 Y) g (k0_pay14 Y) w b (ix2 r n)
      = (fun s : EReal => min s (Ideal.ofBits FTy.f32 0x00000000#32) - Ideal.log1p (Ideal.exp (Ideal.ofBits FTy.f32 0x00000000#32 - max s (-s))))
        (wide (mixin Y g) w (ix2 r n) + broadcastTo S512x128 b broadcasts_S1x128_S512x128 (ix2 r n)) := rfl
  rw [e', e, Ideal.ofBits_zero_f32]
  show min _ 0 - Ideal.log1p (Ideal.exp (0 - max _ _)) = _
  rw [zero_sub]
  rfl

variable (m : (ℓ : Loc nD τ sig) → Buf (Elt Ideal) ℓ)

/-- The rows a grid point leaves. -/
abbrev rows (c : Dev nD) (t : Fin cfg0.N) : Vec Ideal S512x1024 .f32 := added (iblk m c 0 t) (iblk m c 1 t) (iblk m c 3 t) (iblk m c 2 t) (iblk m c 4 t)

theorem out15_eq (c : Dev nD) (t : Fin cfg0.N) : (outsAt0 m c t).1 = rows m c t := by
  unfold outsAt0
  frame_out
  simp only [ld_qrows, ld_gcols, ld_ucols, pay5_rw, pay6_rw, pay7_rw, pay10_rw, pay11_rw, pay12_rw]
  funext j
  exact tiles (iblk m c 0 t) (iblk m c 1 t) (iblk m c 3 t) (iblk m c 2 t) (iblk m c 4 t) j

theorem out16_eq (c : Dev nD) (t : Fin cfg0.N) : (outsAt0 m c t).2.1 = outQ (rows m c t) (iblk m c 5 t) (iblk m c 6 t) := by
  unfold outsAt0
  frame_out
  simp only [ld_qrows, ld_gcols, ld_ucols, pay5_rw, pay6_rw, pay7_rw, pay10_rw, pay11_rw, pay12_rw]
  have hb := back (ms0_15 t).view (iblk m c 0 t) (iblk m c 1 t) (iblk m c 3 t) (iblk m c 2 t) (iblk m c 4 t)
  rw [hb]
  simp only [pay17_rw, pay18_rw]
  funext j
  refine View.canon_eq_of_allAt _ j _ (View.cover_of_tiled_head _ _ _ (by rfl) j) ?_
  refine View.allAt_cons_unit _ _ _ _ _ (tileQ 512 _ _ _ j) ?_
  refine View.allAt_cons_unit _ _ _ _ _ (tileQ 0 _ _ _ j) ?_
  exact View.allAt_nil _ _

theorem out17_eq (c : Dev nD) (t : Fin cfg0.N) : (outsAt0 m c t).2.2.1 = outK (rows m c t) (iblk m c 5 t) (iblk m c 6 t) := by
  unfold outsAt0
  frame_out
  simp only [ld_qrows, ld_gcols, ld_ucols, pay5_rw, pay6_rw, pay7_rw, pay10_rw, pay11_rw, pay12_rw]
  have hb := back (ms0_15 t).view (iblk m c 0 t) (iblk m c 1 t) (iblk m c 3 t) (iblk m c 2 t) (iblk m c 4 t)
  rw [hb]
  simp only [pay15_rw, pay22_rw, pay23_rw]
  funext j
  refine View.canon_eq_of_allAt _ j _ (View.cover_of_tiled_head _ _ _ (by rfl) j) ?_
  refine View.allAt_cons_unit _ _ _ _ _ (tileK 512 _ _ _ j) ?_
  refine View.allAt_cons_unit _ _ _ _ _ (tileK 0 _ _ _ j) ?_
  exact View.allAt_nil _ _

theorem out18_eq (c : Dev nD) (t : Fin cfg0.N) : (outsAt0 m c t).2.2.2.1 = outV (rows m c t) (iblk m c 5 t) (iblk m c 6 t) := by
  unfold outsAt0
  frame_out
  simp only [ld_qrows, ld_gcols, ld_ucols, pay5_rw, pay6_rw, pay7_rw, pay10_rw, pay11_rw, pay12_rw]
  have hb := back (ms0_15 t).view (iblk m c 0 t) (iblk m c 1 t) (iblk m c 3 t) (iblk m c 2 t) (iblk m c 4 t)
  rw [hb]
  simp only [pay15_rw, pay20_rw, pay21_rw]
  funext j
  refine View.canon_eq_of_allAt _ j _ (View.cover_of_tiled_head _ _ _ (by rfl) j) ?_
  refine View.allAt_cons_unit _ _ _ _ _ (tileV 512 _ _ _ j) ?_
  refine View.allAt_cons_unit _ _ _ _ _ (tileV 0 _ _ _ j) ?_
  exact View.allAt_nil _ _

theorem out19_eq (c : Dev nD) (t : Fin cfg0.N) : (outsAt0 m c t).2.2.2.2.1 = outF (rows m c t) (iblk m c 5 t) (iblk m c 7 t) (iblk m c 8 t) := by
  unfold outsAt0
  frame_out
  simp only [ld_qrows, ld_gcols, ld_ucols, pay5_rw, pay6_rw, pay7_rw, pay10_rw, pay11_rw, pay12_rw]
  have hb := back (ms0_15 t).view (iblk m c 0 t) (iblk m c 1 t) (iblk m c 3 t) (iblk m c 2 t) (iblk m c 4 t)
  rw [hb]
  exact pay16_eq _ _ _ _

theorem out20_eq (c : Dev nD) (t : Fin cfg0.N) : (outsAt0 m c t).2.2.2.2.2.1 = k0_pay24 (iblk m c 9 t) := by
  unfold outsAt0
  frame_out

theorem out21_eq (c : Dev nD) (t : Fin cfg0.N) : (outsAt0 m c t).2.2.2.2.2.2.1 = k0_pay25 (iblk m c 10 t) := by
  unfold outsAt0
  frame_out

theorem out22_eq (c : Dev nD) (t : Fin cfg0.N) : (outsAt0 m c t).2.2.2.2.2.2.2.1 = k0_pay1 (k0_pay26 (iblk m c 11 t)) := by
  unfold outsAt0
  frame_out

theorem out23_eq (c : Dev nD) (t : Fin cfg0.N) : (outsAt0 m c t).2.2.2.2.2.2.2.2.1 = k0_pay2 (iblk m c 12 t) := by
  unfold outsAt0
  frame_out

theorem out24_eq (c : Dev nD) (t : Fin cfg0.N) : (outsAt0 m c t).2.2.2.2.2.2.2.2.2.1 = k0_pay3 (iblk m c 13 t) := by
  unfold outsAt0
  frame_out

theorem out25_eq (c : Dev nD) (t : Fin cfg0.N) : (outsAt0 m c t).2.2.2.2.2.2.2.2.2.2 = k0_pay4 (iblk m c 14 t) := by
  unfold outsAt0
  frame_out

end Cert.Kernel5Ideal.Dense

end
-- ==== Proof.Kernel5Ideal.Final.lean ====
module

public import proofs.«01_k».proof.Proof.Kernel5Ideal.Out
public import proofs.«01_k».proof.Proof.Gen.Kernel5Ideal.Value
public import proofs.«01_k».proof.Proof.Gen.Kernel5Ideal.Points
public import proofs.«01_k».proof.Proof.Dense.Gates
public import Idealize.ShloMosaic.Lib.Pipeline.ValueKit.Geometry

@[expose] public section

set_option maxRecDepth 16384

noncomputable section

namespace Cert.Kernel5Ideal.Dense

open Cert.Kernel5Ideal Cert.Kernel5Ideal.Gen
open Idealize.ShloMosaic Idealize.ShloMosaic.TcCoe Idealize.SL.Sem
open Idealize.ShloMosaic.Pipeline (Dat)
open Cert.Dense
open Cert.Kernel4Ideal.Dense (added outQ outK outV proj3)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![1, t.val, 0] :=
  (by decide +kernel : ∀ t : Fin grid0.N, win0_3.index t = ![1, t.val, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![1, t.val, 0] :=
  (by decide +kernel : ∀ t : Fin grid0.N, win0_9.index t = ![1, t.val, 0])
theorem index10 : ∀ t : Fin cfg0.N, win0_10.index t = ![2, t.val, 0] :=
  (by decide +kernel : ∀ t : Fin grid0.N, win0_10.index t = ![2, t.val, 0])
theorem index11 : ∀ t : Fin cfg0.N, win0_11.index t = ![2, t.val / 2, 0] :=
  (by decide +kernel : ∀ t : Fin grid0.N, win0_11.index t = ![2, t.val / 2, 0])
theorem index12 : ∀ t : Fin cfg0.N, win0_12.index t = ![2, t.val, 0] :=
  (by decide +kernel : ∀ t : Fin grid0.N, win0_12.index t = ![2, t.val, 0])
theorem index13 : ∀ t : Fin cfg0.N, win0_13.index t = ![2, t.val / 2, 0] :=
  (by decide +kernel : ∀ t : Fin grid0.N, win0_13.index t = ![2, t.val / 2, 0])
theorem index14 : ∀ t : Fin cfg0.N, win0_14.index t = ![1, t.val / 4, 0] :=
  (by decide +kernel : ∀ t : Fin grid0.N, win0_14.index t = ![1, t.val / 4, 0])
theorem index15 : ∀ t : Fin cfg0.N, win0_15.index t = ![t.val, 0] :=
  (by decide +kernel : ∀ t : Fin grid0.N, win0_15.index t = ![t.val, 0])
theorem index16 : ∀ t : Fin cfg0.N, win0_16.index t = ![t.val, 0, 0] :=
  (by decide +kernel : ∀ t : Fin grid0.N, win0_16.index t = ![t.val, 0, 0])
theorem index17 : ∀ t : Fin cfg0.N, win0_17.index t = ![t.val, 0] :=
  (by decide +kernel : ∀ t : Fin grid0.N, win0_17.index t = ![t.val, 0])
theorem index18 : ∀ t : Fin cfg0.N, win0_18.index t = ![0, t.val] :=
  (by decide +kernel : ∀ t : Fin grid0.N, win0_18.index t = ![0, t.val])
theorem index19 : ∀ t : Fin cfg0.N, win0_19.index t = ![t.val, 0] :=
  (by decide +kernel : ∀ t : Fin grid0.N, win0_19.index t = ![t.val, 0])
theorem index20 : ∀ t : Fin cfg0.N, win0_20.index t = ![t.val, 0] :=
  (by decide +kernel : ∀ t : Fin grid0.N, win0_20.index t = ![t.val, 0])
theorem index21 : ∀ t : Fin cfg0.N, win0_21.index t = ![t.val, 0] :=
  (by decide +kernel : ∀ t : Fin grid0.N, win0_21.index t = ![t.val, 0])
theorem index22 : ∀ t : Fin cfg0.N, win0_22.index t = ![t.val / 2, 0] :=
  (by decide +kernel : ∀ t : Fin grid0.N, win0_22.index t = ![t.val / 2, 0])
theorem index23 : ∀ t : Fin cfg0.N, win0_23.index t = ![t.val, 0] :=
  (by decide +kernel : ∀ t : Fin grid0.N, win0_23.index t = ![t.val, 0])
theorem index24 : ∀ t : Fin cfg0.N, win0_24.index t = ![t.val / 2, 0] :=
  (by decide +kernel : ∀ t : Fin grid0.N, win0_24.index t = ![t.val / 2, 0])
theorem index25 : ∀ t : Fin cfg0.N, win0_25.index t = ![0, t.val / 4] :=
  (by decide +kernel : ∀ t : Fin grid0.N, win0_25.index t = ![0, t.val / 4])

theorem lt32 (t : Fin cfg0.N) : t.val < 32 := lt_of_lt_of_eq t.isLt N_0

variable (m : (ℓ : Loc nD τ sig) → Buf (Elt Ideal) ℓ)

/-- The arguments on one device. -/
abbrev arg0 (c : Dev nD) : S16384x1024.Idx → EReal := m ((c : Thread nD τ).loc main_arg0)
abbrev arg1 (c : Dev nD) : S1x1024.Idx → EReal := m ((c : Thread nD τ).loc main_arg1)
abbrev arg2 (c : Dev nD) : S1024x1024.Idx → EReal := m ((c : Thread nD τ).loc main_arg2)
abbrev arg3 (c : Dev nD) : S4x16384x256.Idx → EReal := m ((c : Thread nD τ).loc main_arg3)
abbrev arg4 (c : Dev nD) : S256x1024.Idx → EReal := m ((c : Thread nD τ).loc main_arg4)
abbrev arg5 (c : Dev nD) : S1x1024.Idx → EReal := m ((c : Thread nD τ).loc main_arg5)
abbrev arg6 (c : Dev nD) : S3072x1024.Idx → EReal := m ((c : Thread nD τ).loc main_arg6)
abbrev arg7 (c : Dev nD) : S128x1024.Idx → EReal := m ((c : Thread nD τ).loc main_arg7)
abbrev arg8 (c : Dev nD) : S1x128.Idx → EReal := m ((c : Thread nD τ).loc main_arg8)
abbrev arg9 (c : Dev nD) : S2x1024x1024.Idx → EReal := m ((c : Thread nD τ).loc main_arg9)
abbrev arg10 (c : Dev nD) : S4x1024x5632.Idx → EReal := m ((c : Thread nD τ).loc main_arg10)
abbrev arg11 (c : Dev nD) : S4x2816x1024.Idx → EReal := m ((c : Thread nD τ).loc main_arg11)
abbrev arg12 (c : Dev nD) : S4x1024x1024.Idx → EReal := m ((c : Thread nD τ).loc main_arg12)
abbrev arg13 (c : Dev nD) : S4x256x1024.Idx → EReal := m ((c : Thread nD τ).loc main_arg13)
abbrev arg14 (c : Dev nD) : S2x1024x3072.Idx → EReal := m ((c : Thread nD τ).loc main_arg14)

theorem whole1 (c : Dev nD) (t : Fin cfg0.N) : (iblk m c 1 t : S1x1024.Idx → EReal) = arg1 m c := by
  funext j
  blk_simp [iblk]
  exact congrArg (arg1 m c) (ext2 (by blk_simp [index1]) (by blk_simp [index1]))

theorem whole2 (c : Dev nD) (t : Fin cfg0.N) : (iblk m c 2 t : S1024x1024.Idx → EReal) = arg2 m c := by
  funext j
  blk_simp [iblk]
  exact congrArg (arg2 m c) (ext2 (by blk_simp [index2]) (by blk_simp [index2]))

theorem whole4 (c : Dev nD) (t : Fin cfg0.N) : (iblk m c 4 t : S256x1024.Idx → EReal) = arg4 m c := by
  funext j
  blk_simp [iblk]
  exact congrArg (arg4 m c) (ext2 (by blk_simp [index4]) (by blk_simp [index4]))

theorem whole5 (c : Dev nD) (t : Fin cfg0.N) : (iblk m c 5 t : S1x1024.Idx → EReal) = arg5 m c := by
  funext j
  blk_simp [iblk]
  exact congrArg (arg5 m c) (ext2 (by blk_simp [index5]) (by blk_simp [index5]))

theorem whole6 (c : Dev nD) (t : Fin cfg0.N) : (iblk m c 6 t : S3072x1024.Idx → EReal) = arg6 m c := by
  funext j
  blk_simp [iblk]
  exact congrArg (arg6 m c) (ext2 (by blk_simp [index6]) (by blk_simp [index6]))

theorem whole7 (c : Dev nD) (t : Fin cfg0.N) : (iblk m c 7 t : S128x1024.Idx → EReal) = arg7 m c := by
  funext j
  blk_simp [iblk]
  exact congrArg (arg7 m c) (ext2 (by blk_simp [index7]) (by blk_simp [index7]))

theorem whole8 (c : Dev nD) (t : Fin cfg0.N) : (iblk m c 8 t : S1x128.Idx → EReal) = arg8 m c := by
  funext j
  blk_simp [iblk]
  exact congrArg (arg8 m c) (ext2 (by blk_simp [index8]) (by blk_simp [index8]))

theorem rows0 (c : Dev nD) (t : Fin cfg0.N) (r : ℕ) (hr : r < 512) (k : ℕ) :
    at2 (iblk m c 0 t : S512x1024.Idx → EReal) r k = at2 (arg0 m c) (512 * t.val + r) k := by
  have hi := index0 t
  have ht := lt32 t
  unfold at2
  unfold iblk
  rw [View.read_apply]
  show V m c main_arg0 _ = m (c.tc.loc main_arg0) _
  unfold V
  congr 1
  funext a
  apply Fin.ext
  match a with
  | ⟨0, _⟩ => show win0_0.index t 0 * 512 + 1 * (r % 512) = (512 * t.val + r) % 16384; rw [hi]; show t.val * 512 + 1 * (r % 512) = _; omega
  | ⟨1, _⟩ => show win0_0.index t 1 * 1024 + 1 * (k % 1024) = k % 1024; rw [hi]; show 0 * 1024 + 1 * (k % 1024) = _; omega

theorem rows3 (c : Dev nD) (t : Fin cfg0.N) (r : ℕ) (hr : r < 512) (k : ℕ) :
    at3 (iblk m c 3 t : S1x512x256.Idx → EReal) 0 r k = at3 (from1 (arg3 m c)) 0 (512 * t.val + r) k := by
  have hi := index3 t
  have ht := lt32 t
  rw [from1_at]
  unfold at3
  unfold iblk
  rw [View.read_apply]
  show V m c main_arg3 _ = m (c.tc.loc main_arg3) _
  unfold V
  congr 1
  funext a
  apply Fin.ext
  match a with
  | ⟨0, _⟩ => show win0_3.index t 0 * 1 + 1 * 0 = 1 % 4; rw [hi]; rfl
  | ⟨1, _⟩ => show win0_3.index t 1 * 512 + 1 * (r % 512) = (512 * t.val + r) % 16384; rw [hi]; show t.val * 512 + 1 * (r % 512) = _; omega
  | ⟨2, _⟩ => show win0_3.index t 2 * 256 + 1 * (k % 256) = k % 256; rw [hi]; show 0 * 256 + 1 * (k % 256) = _; omega

theorem rows_at (c : Dev nD) (t : Fin cfg0.N) (r : ℕ) (hr : r < 512) (j : ℕ) (hj : j < 1024) :
    at2 (rows m c t) r j = emb4 (arg0 m c) (arg1 m c) (arg2 m c) (from1 (arg3 m c)) (arg4 m c) (512 * t.val + r) j := by
  refine (at2_val (rows m c t) ⟨r, hr⟩ ⟨j, hj⟩).trans ?_
  show ple (at2 (iblk m c 0 t : S512x1024.Idx → EReal) r) (at2 (iblk m c 1 t : S1x1024.Idx → EReal) 0) (at2 (iblk m c 2 t : S1024x1024.Idx → EReal))
    (fun k => at3 (iblk m c 3 t : S1x512x256.Idx → EReal) 0 r k) (at2 (iblk m c 4 t : S256x1024.Idx → EReal)) j = _
  have e0 : at2 (iblk m c 0 t : S512x1024.Idx → EReal) r = at2 (arg0 m c) (512 * t.val + r) := funext fun k => rows0 m c t r hr k
  have e3 : (fun k => at3 (iblk m c 3 t : S1x512x256.Idx → EReal) 0 r k) = fun k => at3 (from1 (arg3 m c)) 0 (512 * t.val + r) k :=
    funext fun k => rows3 m c t r hr k
  unfold emb4
  rw [e0, e3, whole1 m c t, whole2 m c t, whole4 m c t]

theorem rn_at (c : Dev nD) (t : Fin cfg0.N) (r : ℕ) (hr : r < 512) (k : ℕ) (hk : k < 1024) :
    rn (at2 (rows m c t) r) (at2 (iblk m c 5 t : S1x1024.Idx → EReal) 0) k = rn (emb4 (arg0 m c) (arg1 m c) (arg2 m c) (from1 (arg3 m c)) (arg4 m c) (512 * t.val + r)) (at2 (arg5 m c) 0) k :=
  rn_congr hk (fun a ha => rows_at m c t r hr a ha) (congrFun (congrArg (fun X : S1x1024.Idx → EReal => at2 X 0) (whole5 m c t)) k)

theorem proj_at (c : Dev nD) (t : Fin cfg0.N) (r : ℕ) (hr : r < 512) (n : ℕ) :
    proj3 (rows m c t) (iblk m c 5 t) (iblk m c 6 t) r n = proj4 (arg0 m c) (arg1 m c) (arg2 m c) (from1 (arg3 m c)) (arg4 m c) (arg5 m c) (arg6 m c) (512 * t.val + r) n := by
  unfold proj3 proj4
  exact mm_congr (fun k hk => rn_at m c t r hr k hk) fun k hk => congrArg (fun X : S3072x1024.Idx → EReal => at2 X n k) (whole6 m c t)

theorem final15 (c : Dev nD) : (dats m 0 c).arrAt 15 cfg0.N = next0 (arg0 m c) (arg1 m c) (arg2 m c) (from1 (arg3 m c)) (arg4 m c) := by
  refine (dats m 0 c).arrAt_eq_of_covers 15 _ (by decide +kernel) fun t hf y => ?_
  blk_simp
  rw [after0_15, out15_eq]
  generalize hz : (win0_15.blk t).view.emb y = z
  have e0 : (z 0).val = 512 * t.val + (y 0).val := by rw [← hz]; blk_simp [index15]; omega
  have e1 : (z 1).val = (y 1).val := by rw [← hz]; blk_simp [index15]
  have ey : y = ix2 (⟨(y 0).val, (y 0).isLt⟩ : Fin 512) (⟨(y 1).val, (y 1).isLt⟩ : Fin 1024) := ext2 rfl rfl
  unfold next0
  rw [e0, e1]
  refine Eq.trans ?_ (rows_at m c t (y 0).val (y 0).isLt (y 1).val (y 1).isLt)
  exact (congrArg _ ey).trans (at2_val (rows m c t) (⟨(y 0).val, (y 0).isLt⟩ : Fin 512) (⟨(y 1).val, (y 1).isLt⟩ : Fin 1024)).symm

theorem final16 (c : Dev nD) : (dats m 0 c).arrAt 16 cfg0.N = next1 (arg0 m c) (arg1 m c) (arg2 m c) (from1 (arg3 m c)) (arg4 m c) (arg5 m c) (arg6 m c) := by
  refine (dats m 0 c).arrAt_eq_of_covers 16 _ (by decide +kernel) fun t hf y => ?_
  blk_simp
  rw [after0_16, out16_eq]
  generalize hz : (win0_16.blk t).view.emb y = z
  have e0 : (z 0).val = t.val := by rw [← hz]; blk_simp [index16]
  have e1 : (z 1).val = (y 1).val := by rw [← hz]; blk_simp [index16]
  have e2 : (z 2).val = (y 2).val := by rw [← hz]; blk_simp [index16]
  unfold next1 outQ
  rw [e0, e1, e2]
  exact proj_at m c t (y 2).val (y 2).isLt _

theorem final17 (c : Dev nD) : (dats m 0 c).arrAt 17 cfg0.N = next2 (arg0 m c) (arg1 m c) (arg2 m c) (from1 (arg3 m c)) (arg4 m c) (arg5 m c) (arg6 m c) := by
  refine (dats m 0 c).arrAt_eq_of_covers 17 _ (by decide +kernel) fun t hf y => ?_
  blk_simp
  rw [after0_17, out17_eq]
  generalize hz : (win0_17.blk t).view.emb y = z
  have e0 : (z 0).val = 512 * t.val + (y 0).val := by rw [← hz]; blk_simp [index17]; omega
  have e1 : (z 1).val = (y 1).val := by rw [← hz]; blk_simp [index17]
  unfold next2 outK
  rw [e0, e1]
  exact proj_at m c t (y 0).val (y 0).isLt _

theorem final18 (c : Dev nD) : (dats m 0 c).arrAt 18 cfg0.N = next3 (arg0 m c) (arg1 m c) (arg2 m c) (from1 (arg3 m c)) (arg4 m c) (arg5 m c) (arg6 m c) := by
  refine (dats m 0 c).arrAt_eq_of_covers 18 _ (by decide +kernel) fun t hf y => ?_
  blk_simp
  rw [after0_18, out18_eq]
  generalize hz : (win0_18.blk t).view.emb y = z
  have e0 : (z 0).val = (y 0).val := by rw [← hz]; blk_simp [index18]
  have e1 : (z 1).val = 512 * t.val + (y 1).val := by rw [← hz]; blk_simp [index18]; omega
  unfold next3 outV
  rw [e0, e1]
  exact proj_at m c t (y 1).val (y 1).isLt _

theorem final19 (c : Dev nD) : (dats m 0 c).arrAt 19 cfg0.N = gates (arg0 m c) (arg1 m c) (arg2 m c) (from1 (arg3 m c)) (arg4 m c) (arg5 m c) (arg7 m c) (arg8 m c) := by
  refine (dats m 0 c).arrAt_eq_of_covers 19 _ (by decide +kernel) fun t hf y => ?_
  blk_simp
  rw [after0_19, out19_eq]
  generalize hz : (win0_19.blk t).view.emb y = z
  have e0 : (z 0).val = 512 * t.val + (y 0).val := by rw [← hz]; blk_simp [index19]; omega
  have e1 : (z 1).val = (y 1).val := by rw [← hz]; blk_simp [index19]
  unfold gates outF
  rw [e0, e1]
  refine congrArg lsig (congrArg₂ (· + ·) (mm_congr (fun k hk => rn_at m c t (y 0).val (y 0).isLt k hk) fun k hk => ?_) ?_)
  · exact congrArg (fun X : S128x1024.Idx → EReal => at2 X (y 1).val k) (whole7 m c t)
  · exact congrArg (fun X : S1x128.Idx → EReal => at2 X 0 (y 1).val) (whole8 m c t)

theorem final20 (c : Dev nD) : (dats m 0 c).arrAt 20 cfg0.N = layer (arg9 m c) 1 := by
  refine (dats m 0 c).arrAt_eq_of_covers 20 _ (by decide +kernel) fun t hf y => ?_
  blk_simp
  rw [after0_20, out20_eq]
  have e : k0_pay24 (iblk m c 9 t) y = iblk m c 9 t (ix3 0 (y 0) (y 1)) := by pointwise [k0_pay24]
  rw [e]
  blk_simp [iblk]
  exact layer_of (arg9 m c) 1 _ _ (by blk_simp [index9]; rfl) (by blk_simp [index9, index20]) (by blk_simp [index9, index20])

theorem final21 (c : Dev nD) : (dats m 0 c).arrAt 21 cfg0.N = layer (arg10 m c) 2 := by
  refine (dats m 0 c).arrAt_eq_of_covers 21 _ (by decide +kernel) fun t hf y => ?_
  blk_simp
  rw [after0_21, out21_eq]
  have e : k0_pay25 (iblk m c 10 t) y = iblk m c 10 t (ix3 0 (y 0) (y 1)) := by pointwise [k0_pay25]
  rw [e]
  blk_simp [iblk]
  exact layer_of (arg10 m c) 2 _ _ (by blk_simp [index10]; rfl) (by blk_simp [index10, index21]) (by blk_simp [index10, index21])

theorem final22 (c : Dev nD) : (dats m 0 c).arrAt 22 cfg0.N = layer (arg11 m c) 2 := by
  refine (dats m 0 c).arrAt_eq_of_covers 22 _ (by decide +kernel) fun t hf y => ?_
  blk_simp
  rw [after0_22, out22_eq]
  have e : k0_pay1 (k0_pay26 (iblk m c 11 t)) y = iblk m c 11 t (ix3 0 (y 0) (y 1)) := by pointwise [k0_pay1, k0_pay26]
  rw [e]
  blk_simp [iblk]
  exact layer_of (arg11 m c) 2 _ _ (by blk_simp [index11]; rfl) (by blk_simp [index11, index22]) (by blk_simp [index11, index22])

theorem final23 (c : Dev nD) : (dats m 0 c).arrAt 23 cfg0.N = layer (arg12 m c) 2 := by
  refine (dats m 0 c).arrAt_eq_of_covers 23 _ (by decide +kernel) fun t hf y => ?_
  blk_simp
  rw [after0_23, out23_eq]
  have e : k0_pay2 (iblk m c 12 t) y = iblk m c 12 t (ix3 0 (y 0) (y 1)) := by pointwise [k0_pay2]
  rw [e]
  blk_simp [iblk]
  exact layer_of (arg12 m c) 2 _ _ (by blk_simp [index12]; rfl) (by blk_simp [index12, index23]) (by blk_simp [index12, index23])

theorem final24 (c : Dev nD) : (dats m 0 c).arrAt 24 cfg0.N = layer (arg13 m c) 2 := by
  refine (dats m 0 c).arrAt_eq_of_covers 24 _ (by decide +kernel) fun t hf y => ?_
  blk_simp
  rw [after0_24, out24_eq]
  have e : k0_pay3 (iblk m c 13 t) y = iblk m c 13 t (ix3 0 (y 0) (y 1)) := by pointwise [k0_pay3]
  rw [e]
  blk_simp [iblk]
  exact layer_of (arg13 m c) 2 _ _ (by blk_simp [index13]; rfl) (by blk_simp [index13, index24]) (by blk_simp [index13, index24])

theorem pay4_at (X : Vec Ideal S1x128x3072 .f32) (r : Fin 3072) (j : Fin 128) :
    k0_pay4 X (ix2 r j) = X (ix3 0 j r) * Scalar.select (Scalar.cmpi .slt (Scalar.addi 0#32 (BitVec.ofNat 32 r.val)) 1024#32)
      (Ideal.ofBits FTy.f32 0x3E38AA3B#32) (Ideal.ofBits FTy.f32 0x3F800000#32) := by
  pointwise [k0_pay4]
  rfl

theorem row_lt : ∀ r : Fin 3072, Scalar.cmpi .slt (Scalar.addi 0#32 (BitVec.ofNat 32 r.val)) 1024#32
    = if r.val < 1024 then 1#1 else 0#1 := by decide +kernel

theorem final25 (c : Dev nD) : (dats m 0 c).arrAt 25 cfg0.N = scaled (swap (arg14 m c)) := by
  refine (dats m 0 c).arrAt_eq_of_covers 25 _ (by decide +kernel) fun t hf y => ?_
  blk_simp
  rw [after0_25, out25_eq]
  generalize hz : (win0_25.blk t).view.emb y = z
  have e0 : (z 0).val = (y 0).val := by rw [← hz]; blk_simp [index25]
  have e1 : (z 1).val = 128 * (t.val / 4) + (y 1).val := by rw [← hz]; blk_simp [index25]; omega
  have h0 : (y 0).val < 3072 := (y 0).isLt
  have hz1 : (z 1).val < 1024 := (z 1).isLt
  have ey : y = ix2 (⟨(y 0).val, (y 0).isLt⟩ : Fin 3072) (⟨(y 1).val, (y 1).isLt⟩ : Fin 128) := ext2 rfl rfl
  have ex : iblk m c 14 t (ix3 0 (⟨(y 1).val, (y 1).isLt⟩ : Fin 128) (⟨(y 0).val, (y 0).isLt⟩ : Fin 3072)) = at3 (arg14 m c) 1 (z 1).val (z 0).val := by
    blk_simp [iblk]
    refine layer_of (arg14 m c) 1 (ix2 (⟨(z 1).val, hz1⟩ : Fin 1024) (⟨(z 0).val, (z 0).isLt⟩ : Fin 3072)) _ ?_ ?_ ?_
    · blk_simp [index14]; rfl
    · blk_simp [index14]; show t.val / 4 * 128 + (y 1).val = (z 1).val; rw [e1]; omega
    · blk_simp [index14]; show (y 0).val = (z 0).val; rw [e0]
  refine (congrArg _ ey).trans ((pay4_at _ _ _).trans ?_)
  rw [ex, row_lt]
  unfold scaled
  rw [swap_at _ _ (z 0).isLt]
  show _ = if (z 0).val < 1024 then _ else _
  rw [e0]
  show _ * Scalar.select (if (y 0).val < 1024 then 1#1 else 0#1) _ _ = _
  split
  · rfl
  · show _ * Ideal.ofBits FTy.f32 0x3F800000#32 = _
    rw [Ideal.ofBits_one_f32, mul_one]

/-- The run, read: the result arrays whole, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = (next0 (arg0 m c) (arg1 m c) (arg2 m c) (from1 (arg3 m c)) (arg4 m c) : Buf (Elt Ideal) ((c : Thread nD τ).loc main_v0_0))
      ∧ r.2.mem ((c : Thread nD τ).loc main_v0_1) = (next1 (arg0 m c) (arg1 m c) (arg2 m c) (from1 (arg3 m c)) (arg4 m c) (arg5 m c) (arg6 m c) : Buf (Elt Ideal) ((c : Thread nD τ).loc main_v0_1))
      ∧ r.2.mem ((c : Thread nD τ).loc main_v0_2) = (next2 (arg0 m c) (arg1 m c) (arg2 m c) (from1 (arg3 m c)) (arg4 m c) (arg5 m c) (arg6 m c) : Buf (Elt Ideal) ((c : Thread nD τ).loc main_v0_2))
      ∧ r.2.mem ((c : Thread nD τ).loc main_v0_3) = (next3 (arg0 m c) (arg1 m c) (arg2 m c) (from1 (arg3 m c)) (arg4 m c) (arg5 m c) (arg6 m c) : Buf (Elt Ideal) ((c : Thread nD τ).loc main_v0_3))
      ∧ r.2.mem ((c : Thread nD τ).loc main_v0_4) = (gates (arg0 m c) (arg1 m c) (arg2 m c) (from1 (arg3 m c)) (arg4 m c) (arg5 m c) (arg7 m c) (arg8 m c) : Buf (Elt Ideal) ((c : Thread nD τ).loc main_v0_4))
      ∧ r.2.mem ((c : Thread nD τ).loc main_v0_5) = (layer (arg9 m c) 1 : Buf (Elt Ideal) ((c : Thread nD τ).loc main_v0_5))
      ∧ r.2.mem ((c : Thread nD τ).loc main_v0_6) = (layer (arg10 m c) 2 : Buf (Elt Ideal) ((c : Thread nD τ).loc main_v0_6))
      ∧ r.2.mem ((c : Thread nD τ).loc main_v0_7) = (layer (arg11 m c) 2 : Buf (Elt Ideal) ((c : Thread nD τ).loc main_v0_7))
      ∧ r.2.mem ((c : Thread nD τ).loc main_v0_8) = (layer (arg12 m c) 2 : Buf (Elt Ideal) ((c : Thread nD τ).loc main_v0_8))
      ∧ r.2.mem ((c : Thread nD τ).loc main_v0_9) = (layer (arg13 m c) 2 : Buf (Elt Ideal) ((c : Thread nD τ).loc main_v0_9))
      ∧ r.2.mem ((c : Thread nD τ).loc main_v0_10) = (scaled (swap (arg14 m c)) : Buf (Elt Ideal) ((c : Thread nD τ).loc main_v0_10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => by
    obtain ⟨h0, h1, h2, h3, h4, h5, h6, h7, h8, h9, h10, hr⟩ := h c
    exact ⟨h0.trans (final15 m c), h1.trans (final16 m c), h2.trans (final17 m c), h3.trans (final18 m c), h4.trans (final19 m c), h5.trans (final20 m c), h6.trans (final21 m c), h7.trans (final22 m c), h8.trans (final23 m c), h9.trans (final24 m c), h10.trans (final25 m c), hr⟩) (Cert.Kernel5Ideal.Value.run_blocks m ρ)

end Cert.Kernel5Ideal.Dense

end
-- ==== Proof.Ref5.Value.lean ====
module

public import proofs.«01_k».proof.Proof.Gen.Reference5Ideal.Run
public import proofs.«01_k».proof.Proof.Gen.Reference5Ideal.Read
public import proofs.«01_k».proof.Proof.Ref4.Value
public import proofs.«01_k».proof.Proof.Dense.Gates

@[expose] public section

set_option maxRecDepth 16384

noncomputable section

namespace Cert.Reference5Ideal.Dense

open Cert.Reference5Ideal Cert.Reference5Ideal.Gen Cert.Reference5Ideal.Read
open Idealize.ShloMosaic Cert.Dense

variable (x0 : S16384x1024.Idx → EReal) (x1 : S1x1024.Idx → EReal) (x2 : S1024x1024.Idx → EReal)
  (x3 : S4x16384x256.Idx → EReal) (x4 : S256x1024.Idx → EReal) (x5 : S1x1024.Idx → EReal) (x6 : S3072x1024.Idx → EReal)
  (x7 : S128x1024.Idx → EReal) (x8 : S1x128.Idx → EReal)

/-- The second layer's embeddings. -/
theorem v21_eq : val_main_v21 (F := Ideal) x3 = Cert.Reference4Ideal.Read.val_main_v21 (F := Ideal) (from1 x3) := by
  funext y
  have h : (y 0).val < 16384 ∧ (y 1).val < 256 := ⟨(y 0).isLt, (y 1).isLt⟩
  have ey : y = ix2 (⟨(y 0).val, (y 0).isLt⟩ : Fin 16384) (⟨(y 1).val, (y 1).isLt⟩ : Fin 256) := ext2 rfl rfl
  refine Eq.trans ?_ (congrArg _ ey).symm
  rw [Cert.Reference4Ideal.Dense.v21_at, from1_at, val_main_v21_apply, val_main_v20_apply]
  exact layer_of (d := 16384) x3 1 y _ rfl (by show ((y 0).val * 256 + (y 1).val) / 256 % 16384 = _; omega) (by show ((y 0).val * 256 + (y 1).val) % 256 = _; omega)

/-- The rows with the embeddings added are those of the first layer's reference from the second layer's embeddings. -/
theorem v25_eq : val_main_v25 (F := Ideal) x0 x1 x2 x3 x4 = Cert.Reference4Ideal.Read.val_main_v25 (F := Ideal) x0 x1 x2 (from1 x3) x4 := by
  unfold val_main_v25 val_main_v24 val_main_v23
  rw [v21_eq]
  rfl

theorem v37_eq : val_main_v37 (F := Ideal) x0 x1 x2 x3 x4 x5 = Cert.Reference4Ideal.Read.val_main_v37 (F := Ideal) x0 x1 x2 (from1 x3) x4 x5 := by
  unfold val_main_v37 val_main_v35 val_main_v34 val_main_v33 val_main_v32 val_main_v30 val_main_v28 val_main_v27 val_main_v26
  rw [v25_eq]
  rfl

theorem v40_eq : val_main_v40 (F := Ideal) x0 x1 x2 x3 x4 x5 x6 = Cert.Reference4Ideal.Read.val_main_v40 (F := Ideal) x0 x1 x2 (from1 x3) x4 x5 x6 := by
  unfold val_main_v40
  rw [v37_eq]
  rfl

/-- The rows of the result. -/
theorem h_eq : val_main_v25 (F := Ideal) x0 x1 x2 x3 x4 = next0 x0 x1 x2 (from1 x3) x4 :=
  (v25_eq x0 x1 x2 x3 x4).trans (Cert.Reference4Ideal.Dense.h_eq x0 x1 x2 (from1 x3) x4)

/-- The queries. -/
theorem q_eq : val_main_v70 (F := Ideal) x0 x1 x2 x3 x4 x5 x6 = next1 x0 x1 x2 (from1 x3) x4 x5 x6 := by
  refine Eq.trans ?_ (Cert.Reference4Ideal.Dense.q_eq x0 x1 x2 (from1 x3) x4 x5 x6)
  unfold val_main_v70 val_main_v45 val_main_v44 val_main_v41
  rw [v40_eq]
  rfl

/-- The keys. -/
theorem k_eq : val_main_v71 (F := Ideal) x0 x1 x2 x3 x4 x5 x6 = next2 x0 x1 x2 (from1 x3) x4 x5 x6 := by
  refine Eq.trans ?_ (Cert.Reference4Ideal.Dense.k_eq x0 x1 x2 (from1 x3) x4 x5 x6)
  unfold val_main_v71 val_main_v42
  rw [v40_eq]
  rfl

/-- The values. -/
theorem v_eq : val_main_v72 (F := Ideal) x0 x1 x2 x3 x4 x5 x6 = next3 x0 x1 x2 (from1 x3) x4 x5 x6 := by
  refine Eq.trans ?_ (Cert.Reference4Ideal.Dense.v_eq x0 x1 x2 (from1 x3) x4 x5 x6)
  unfold val_main_v72 val_main_v69 val_main_v43
  rw [v40_eq]
  rfl

theorem v49_at (R : Fin 16384) (n : Fin 128) : val_main_v49 (F := Ideal) x0 x1 x2 x3 x4 x5 x7 x8 (ix2 R n)
    = mm 1024 (rn (emb4 x0 x1 x2 (from1 x3) x4 R.val) (at2 x5 0)) (fun k j => at2 x7 j k) n.val + at2 x8 0 n.val := by
  rw [val_main_v49_apply, val_main_v47_apply, val_main_v48_apply]
  refine congrArg₂ (· + ·) (Finset.sum_congr rfl fun k _ => ?_) ?_
  · have e : lidx_main_v47 (ix2 R n) k = ix2 R k := ext2 rfl rfl
    have e' : idx_main_v46 (ridx_main_v47 (ix2 R n) k) = ix2 n k := ext2 rfl rfl
    rw [e, v37_eq, val_main_v46_apply, e']
    refine congrArg₂ (· * ·) (Cert.Reference4Ideal.Dense.v37_at x0 x1 x2 (from1 x3) x4 x5 R k) ?_
    exact (at2_val x7 n k).symm
  · have e8 : idx_main_v48 (ix2 R n) = ix2 (0 : Fin 1) n := ext2 rfl rfl
    rw [e8]
    exact (at2_val x8 0 n).symm

/-- The logarithms of the forget gates. -/
theorem f_eq : val_main_v50 (F := Ideal) x0 x1 x2 x3 x4 x5 x7 x8 = gates x0 x1 x2 (from1 x3) x4 x5 x7 x8 := by
  funext y
  have ey : y = ix2 (⟨(y 0).val, (y 0).isLt⟩ : Fin 16384) (⟨(y 1).val, (y 1).isLt⟩ : Fin 128) := ext2 rfl rfl
  have e := (congrArg (val_main_v49 (F := Ideal) x0 x1 x2 x3 x4 x5 x7 x8) ey).trans (v49_at x0 x1 x2 x3 x4 x5 x7 x8 _ _)
  unfold gates
  rw [val_main_v50_apply, val_main_call0_v1_apply, val_main_call0_call0_v4_apply, val_main_call0_call0_v11_apply, val_main_call0_call0_v10_apply,
    val_main_call0_call0_v9_apply, val_main_call0_call0_v8_apply, val_main_call0_call0_v7_apply, val_main_call0_call0_v1_apply,
    val_main_call0_call0_v3_apply, val_main_call0_call0_v0_apply, val_main_call0_call0_v2_apply, val_main_call0_v0_apply, e]
  generalize mm 1024 _ _ _ + _ = x
  rw [← softplus_eq x]
  have ez : (-x) - Ideal.ofBits FTy.f32 0x00000000#32 = -x := by rw [Ideal.ofBits_zero_f32, sub_zero]
  show -(Scalar.select (Ideal.cmp .une (-x - Ideal.ofBits FTy.f32 0x00000000#32) (-x - Ideal.ofBits FTy.f32 0x00000000#32)) _
    (max (-x) (Ideal.ofBits FTy.f32 0x00000000#32) + Ideal.log1p (Ideal.exp (-max (-x - Ideal.ofBits FTy.f32 0x00000000#32) (-(-x - Ideal.ofBits FTy.f32 0x00000000#32)))))) = _
  rw [ez, Ideal.ofBits_zero_f32]
  have ec : Ideal.cmp .une (-x) (-x) = 0#1 := by
    show BitVec.ofBool (decide (-x ≠ -x)) = 0#1
    rw [decide_eq_false (by simp)]
    rfl
  rw [ec]
  rfl

theorem w73_eq (x9 : S2x1024x1024.Idx → EReal) : val_main_v73 (F := Ideal) x9 = layer x9 1 := by
  funext y
  have h : (y 0).val < 1024 ∧ (y 1).val < 1024 := ⟨(y 0).isLt, (y 1).isLt⟩
  rw [val_main_v73_apply, val_main_v60_apply, val_main_v59_apply]
  exact layer_of x9 1 y _ rfl (by show ((y 0).val * 1024 + (y 1).val) / 1024 % 1024 = _; omega) (by show ((y 0).val * 1024 + (y 1).val) % 1024 = _; omega)

theorem w74_eq (x10 : S4x1024x5632.Idx → EReal) : val_main_v74 (F := Ideal) x10 = layer x10 2 := by
  funext y
  have h : (y 0).val < 1024 ∧ (y 1).val < 5632 := ⟨(y 0).isLt, (y 1).isLt⟩
  rw [val_main_v74_apply, val_main_v62_apply, val_main_v61_apply]
  exact layer_of x10 2 y _ rfl (by show ((y 0).val * 5632 + (y 1).val) / 5632 % 1024 = _; omega) (by show ((y 0).val * 5632 + (y 1).val) % 5632 = _; omega)

theorem w75_eq (x11 : S4x2816x1024.Idx → EReal) : val_main_v75 (F := Ideal) x11 = layer x11 2 := by
  funext y
  have h : (y 0).val < 2816 ∧ (y 1).val < 1024 := ⟨(y 0).isLt, (y 1).isLt⟩
  rw [val_main_v75_apply, val_main_v64_apply, val_main_v63_apply]
  exact layer_of x11 2 y _ rfl (by show ((y 0).val * 1024 + (y 1).val) / 1024 % 2816 = _; omega) (by show ((y 0).val * 1024 + (y 1).val) % 1024 = _; omega)

theorem w76_eq (x12 : S4x1024x1024.Idx → EReal) : val_main_v76 (F := Ideal) x12 = layer x12 2 := by
  funext y
  have h : (y 0).val < 1024 ∧ (y 1).val < 1024 := ⟨(y 0).isLt, (y 1).isLt⟩
  rw [val_main_v76_apply, val_main_v66_apply, val_main_v65_apply]
  exact layer_of x12 2 y _ rfl (by show ((y 0).val * 1024 + (y 1).val) / 1024 % 1024 = _; omega) (by show ((y 0).val * 1024 + (y 1).val) % 1024 = _; omega)

theorem w77_eq (x13 : S4x256x1024.Idx → EReal) : val_main_v77 (F := Ideal) x13 = layer x13 2 := by
  funext y
  have h : (y 0).val < 256 ∧ (y 1).val < 1024 := ⟨(y 0).isLt, (y 1).isLt⟩
  rw [val_main_v77_apply, val_main_v68_apply, val_main_v67_apply]
  exact layer_of x13 2 y _ rfl (by show ((y 0).val * 1024 + (y 1).val) / 1024 % 256 = _; omega) (by show ((y 0).val * 1024 + (y 1).val) % 1024 = _; omega)

theorem v53_eq (x14 : S2x1024x3072.Idx → EReal) : val_main_v53 (F := Ideal) x14 = Cert.Reference4Ideal.Read.val_main_v47 (F := Ideal) (swap x14) := by
  funext y
  have h : (y 0).val < 3072 ∧ (y 1).val < 1024 := ⟨(y 0).isLt, (y 1).isLt⟩
  have ey : y = ix2 (⟨(y 0).val, (y 0).isLt⟩ : Fin 3072) (⟨(y 1).val, (y 1).isLt⟩ : Fin 1024) := ext2 rfl rfl
  refine Eq.trans ?_ (congrArg _ ey).symm
  rw [Cert.Reference4Ideal.Dense.v47_at, swap_at _ _ h.1, val_main_v53_apply, val_main_v52_apply, val_main_v51_apply]
  exact layer_of (d := 1024) x14 1 (ix2 (⟨(y 1).val, (y 1).isLt⟩ : Fin 1024) (⟨(y 0).val, (y 0).isLt⟩ : Fin 3072)) _ rfl
    (by show ((y 1).val * 3072 + (y 0).val) / 3072 % 1024 = (y 1).val; omega) (by show ((y 1).val * 3072 + (y 0).val) % 3072 = (y 0).val; omega)

/-- The weights with the queries' rows scaled. -/
theorem w78_eq (x14 : S2x1024x3072.Idx → EReal) : val_main_v78 (F := Ideal) x14 = scaled (swap x14) := by
  refine Eq.trans ?_ (Cert.Reference4Ideal.Dense.w72_eq (swap x14))
  unfold val_main_v78 val_main_v58 val_main_v57 val_main_v56 val_main_v54
  rw [v53_eq]
  rfl

end Cert.Reference5Ideal.Dense

end
-- ==== Proof.Dense.First.lean ====
module

public import proofs.«01_k».proof.Proof.Dense.Gates

@[expose] public section

set_option maxRecDepth 16384

noncomputable section

namespace Cert.Dense

open Idealize.ShloMosaic

/-- The embeddings with the third layer's in the first place. -/
def from2 (X : (⟨3, ![4, 16384, 256]⟩ : Shape).Idx → EReal) : (⟨3, ![4, 16384, 256]⟩ : Shape).Idx → EReal := fun i =>
  at3 X (2 + (i 0).val) (i 1).val (i 2).val

theorem from2_at (X : (⟨3, ![4, 16384, 256]⟩ : Shape).Idx → EReal) (r k : ℕ) : at3 (from2 X) 0 r k = at3 X 2 r k := by
  show at3 X (2 + 0 % 4) (r % 16384) (k % 256) = at3 X 2 r k
  unfold at3
  congr 2
  · exact Fin.ext (Nat.mod_mod _ _)
  · exact Fin.ext (Nat.mod_mod _ _)

variable (x0 : (⟨2, ![16384, 1024]⟩ : Shape).Idx → EReal) (x1 : (⟨2, ![1, 1024]⟩ : Shape).Idx → EReal) (x2 : (⟨2, ![3072, 1024]⟩ : Shape).Idx → EReal)
  (x3 : (⟨2, ![128, 1024]⟩ : Shape).Idx → EReal) (x4 : (⟨2, ![1, 128]⟩ : Shape).Idx → EReal)

/-- An entry of the first three projections of a row. -/
def projF (R n : ℕ) : EReal := mm 1024 (rn (at2 x0 R) (at2 x1 0)) (fun k j => at2 x2 j k) n

/-- The first queries, a column for each row of their block. -/
def first1 : (⟨3, ![32, 1024, 512]⟩ : Shape).Idx → EReal := fun y => projF x0 x1 x2 (512 * (y 0).val + (y 2).val) (y 1).val
/-- The first keys. -/
def first2 : (⟨2, ![16384, 1024]⟩ : Shape).Idx → EReal := fun y => projF x0 x1 x2 (y 0).val (1024 + (y 1).val)
/-- The first values, a column for each row. -/
def first3 : (⟨2, ![1024, 16384]⟩ : Shape).Idx → EReal := fun y => projF x0 x1 x2 (y 1).val (2048 + (y 0).val)
/-- The logarithms of the first forget gates. -/
def firstGates : (⟨2, ![16384, 128]⟩ : Shape).Idx → EReal := fun y =>
  lsig (mm 1024 (rn (at2 x0 (y 0).val) (at2 x1 0)) (fun k j => at2 x3 j k) (y 1).val + at2 x4 0 (y 1).val)

/-- The layers transposed, with rows to spare, the first in the second place. -/
def swapNext (X : (⟨3, ![2, 1024, 3072]⟩ : Shape).Idx → EReal) : (⟨3, ![2, 3088, 1024]⟩ : Shape).Idx → EReal := fun i =>
  at3 X ((i 0).val + 1) (i 2).val (i 1).val

theorem swapNext_at (X : (⟨3, ![2, 1024, 3072]⟩ : Shape).Idx → EReal) (r : ℕ) (hr : r < 3072) (j : ℕ) : at3 (swapNext X) 1 r j = at3 X 0 j r := by
  show at3 X 2 (j % 1024) (r % 3088) = at3 X 0 j r
  unfold at3
  congr 2
  · exact Fin.ext (Nat.mod_mod _ _)
  · exact Fin.ext (by show r % 3088 % 3072 = r % 3072; omega)

end Cert.Dense

end
-- ==== Proof.Kernel6Ideal.Out.lean ====
module

public import proofs.«01_k».proof.Proof.Gen.Kernel6Ideal.Frame
public import proofs.«01_k».proof.Proof.Kernel4Ideal.Out
public import proofs.«01_k».proof.Proof.Dense.First
public import Idealize.ShloMosaic.Lib.Tactic
public import Idealize.ShloMosaic.Lib.Pipeline.ReadBack

@[expose] public section

set_option maxRecDepth 16384

noncomputable section

namespace Cert.Kernel6Ideal.Dense

open Cert.Kernel6Ideal Cert.Kernel6Ideal.Gen
open Idealize.ShloMosaic Idealize.ShloMosaic.TcCoe Cert.Dense
open Cert.Kernel4Ideal.Dense (norm piece gcols ucols ld_gcols ld_ucols ld_qrows tiles back added qrows pairs mixin mixin_at outQ outK outV tileQ tileK tileV)

theorem pay1_rw (x : Vec Ideal S512x1024 .f32) (g : Vec Ideal S1x1024 .f32) : k0_pay1 x g = norm x g := rfl
theorem pay2_rw (p : Vec Ideal S1x512x256 .f32) : k0_pay2 p = Cert.Kernel4Ideal.Gen.k0_pay3 p := rfl
theorem pay3_rw (x : Vec Ideal S512x1024 .f32) (g) (p : Vec Ideal S1x512x256 .f32) (wg wu) :
    k0_pay3 x g p wg wu = piece 0 slices_S512x1024_o0_0_S512x256 x (norm x g) (Cert.Kernel4Ideal.Gen.k0_pay3 p) wg wu := rfl
theorem pay6_rw (x : Vec Ideal S512x1024 .f32) (g) (p : Vec Ideal S1x512x256 .f32) (wg wu) :
    k0_pay6 (k0_pay4 x) (k0_pay5 x g p wg wu) = piece 256 slices_S512x1024_o0_256_S512x256 x (norm x g) (Cert.Kernel4Ideal.Gen.k0_pay3 p) wg wu := rfl
theorem pay7_rw (x : Vec Ideal S512x1024 .f32) (u : FVec Ideal S512x1024 .bf16) (p : FVec Ideal S512x256 .bf16) (wg wu) :
    k0_pay7 x u p wg wu = piece 512 slices_S512x1024_o0_512_S512x256 x u p wg wu := rfl
theorem pay8_rw (x : Vec Ideal S512x1024 .f32) (u : FVec Ideal S512x1024 .bf16) (p : FVec Ideal S512x256 .bf16) (wg wu) :
    k0_pay8 x u p wg wu = piece 768 slices_S512x1024_o0_768_S512x256 x u p wg wu := rfl
theorem pay11_rw (Y : Vec Ideal S512x1024 .f32) (g) : k0_pay11 (k0_pay9 Y) g (k0_pay10 Y) = mixin Y g := rfl
theorem pay12_rw (Y : Vec Ideal S512x1024 .f32) (g w) :
    k0_pay12 (k0_pay9 Y) g (k0_pay10 Y) w = shapeCast S1x512x512 (pairs w (mixin Y g)) shapeCasts_S512x512_S1x512x512 := rfl
theorem pay13_rw (Y : Vec Ideal S512x1024 .f32) (g w) :
    k0_pay13 (k0_pay9 Y) g (k0_pay10 Y) w = shapeCast S1x512x512 (pairs w (mixin Y g)) shapeCasts_S512x512_S1x512x512 := rfl
theorem pay14_rw (Y : Vec Ideal S512x1024 .f32) (g w) : k0_pay14 (k0_pay9 Y) g (k0_pay10 Y) w = pairs w (mixin Y g) := rfl
theorem pay15_rw (Y : Vec Ideal S512x1024 .f32) (g w) : k0_pay15 (k0_pay9 Y) g (k0_pay10 Y) w = pairs w (mixin Y g) := rfl
theorem pay16_rw (Y : Vec Ideal S512x1024 .f32) (g w) : k0_pay16 (k0_pay9 Y) g (k0_pay10 Y) w = pairs (mixin Y g) w := rfl
theorem pay17_rw (u : FVec Ideal S512x1024 .bf16) (w) : k0_pay17 u w = pairs u w := rfl

variable (m : (ℓ : Loc nD τ sig) → Buf (Elt Ideal) ℓ)

/-- The rows a grid point leaves. -/
abbrev rows (c : Dev nD) (t : Fin cfg0.N) : Vec Ideal S512x1024 .f32 := added (iblk m c 0 t) (iblk m c 1 t) (iblk m c 3 t) (iblk m c 2 t) (iblk m c 4 t)

theorem out12_eq (c : Dev nD) (t : Fin cfg0.N) : (outsAt0 m c t).1 = rows m c t := by
  unfold outsAt0
  frame_out
  simp only [ld_qrows, ld_gcols, ld_ucols, pay1_rw, pay2_rw, pay3_rw, pay6_rw, pay7_rw, pay8_rw]
  funext j
  exact tiles (iblk m c 0 t) (iblk m c 1 t) (iblk m c 3 t) (iblk m c 2 t) (iblk m c 4 t) j

theorem out13_eq (c : Dev nD) (t : Fin cfg0.N) : (outsAt0 m c t).2.1 = outQ (rows m c t) (iblk m c 5 t) (iblk m c 6 t) := by
  unfold outsAt0
  frame_out
  simp only [ld_qrows, ld_gcols, ld_ucols, pay1_rw, pay2_rw, pay3_rw, pay6_rw, pay7_rw, pay8_rw]
  have hb := back (ms0_12 t).view (iblk m c 0 t) (iblk m c 1 t) (iblk m c 3 t) (iblk m c 2 t) (iblk m c 4 t)
  rw [hb]
  simp only [pay12_rw, pay13_rw]
  funext j
  refine View.canon_eq_of_allAt _ j _ (View.cover_of_tiled_head _ _ _ (by rfl) j) ?_
  refine View.allAt_cons_unit _ _ _ _ _ (tileQ 512 _ _ _ j) ?_
  refine View.allAt_cons_unit _ _ _ _ _ (tileQ 0 _ _ _ j) ?_
  exact View.allAt_nil _ _

theorem out14_eq (c : Dev nD) (t : Fin cfg0.N) : (outsAt0 m c t).2.2.1 = outK (rows m c t) (iblk m c 5 t) (iblk m c 6 t) := by
  unfold outsAt0
  frame_out
  simp only [ld_qrows, ld_gcols, ld_ucols, pay1_rw, pay2_rw, pay3_rw, pay6_rw, pay7_rw, pay8_rw]
  have hb := back (ms0_12 t).view (iblk m c 0 t) (iblk m c 1 t) (iblk m c 3 t) (iblk m c 2 t) (iblk m c 4 t)
  rw [hb]
  simp only [pay11_rw, pay16_rw, pay17_rw]
  funext j
  refine View.canon_eq_of_allAt _ j _ (View.cover_of_tiled_head _ _ _ (by rfl) j) ?_
  refine View.allAt_cons_unit _ _ _ _ _ (tileK 512 _ _ _ j) ?_
  refine View.allAt_cons_unit _ _ _ _ _ (tileK 0 _ _ _ j) ?_
  exact View.allAt_nil _ _

theorem out15_eq (c : Dev nD) (t : Fin cfg0.N) : (outsAt0 m c t).2.2.2.1 = outV (rows m c t) (iblk m c 5 t) (iblk m c 6 t) := by
  unfold outsAt0
  frame_out
  simp only [ld_qrows, ld_gcols, ld_ucols, pay1_rw, pay2_rw, pay3_rw, pay6_rw, pay7_rw, pay8_rw]
  have hb := back (ms0_12 t).view (iblk m c 0 t) (iblk m c 1 t) (iblk m c 3 t) (iblk m c 2 t) (iblk m c 4 t)
  rw [hb]
  simp only [pay14_rw, pay15_rw]
  funext j
  refine View.canon_eq_of_allAt _ j _ (View.cover_of_tiled_head _ _ _ (by rfl) j) ?_
  refine View.allAt_cons_unit _ _ _ _ _ (tileV 512 _ _ _ j) ?_
  refine View.allAt_cons_unit _ _ _ _ _ (tileV 0 _ _ _ j) ?_
  exact View.allAt_nil _ _

theorem out16_eq (c : Dev nD) (t : Fin cfg0.N) : (outsAt0 m c t).2.2.2.2.1 = k0_pay18 (iblk m c 7 t) := by
  unfold outsAt0
  frame_out

theorem out17_eq (c : Dev nD) (t : Fin cfg0.N) : (outsAt0 m c t).2.2.2.2.2.1 = k0_pay19 (iblk m c 8 t) := by
  unfold outsAt0
  frame_out

theorem out18_eq (c : Dev nD) (t : Fin cfg0.N) : (outsAt0 m c t).2.2.2.2.2.2.1 = k0_pay20 (iblk m c 9 t) := by
  unfold outsAt0
  frame_out

theorem out19_eq (c : Dev nD) (t : Fin cfg0.N) : (outsAt0 m c t).2.2.2.2.2.2.2.1 = k0_pay21 (iblk m c 10 t) := by
  unfold outsAt0
  frame_out

theorem out20_eq (c : Dev nD) (t : Fin cfg0.N) : (outsAt0 m c t).2.2.2.2.2.2.2.2 = k0_pay22 (iblk m c 11 t) := by
  unfold outsAt0
  frame_out

end Cert.Kernel6Ideal.Dense

end
-- ==== Proof.Kernel6Ideal.Final.lean ====
module

public import proofs.«01_k».proof.Proof.Kernel6Ideal.Out
public import proofs.«01_k».proof.Proof.Gen.Kernel6Ideal.Value
public import proofs.«01_k».proof.Proof.Gen.Kernel6Ideal.Points
public import proofs.«01_k».proof.Proof.Dense.First
public import Idealize.ShloMosaic.Lib.Pipeline.ValueKit.Geometry

@[expose] public section

set_option maxRecDepth 16384

noncomputable section

namespace Cert.Kernel6Ideal.Dense

open Cert.Kernel6Ideal Cert.Kernel6Ideal.Gen
open Idealize.ShloMosaic Idealize.ShloMosaic.TcCoe Idealize.SL.Sem
open Idealize.ShloMosaic.Pipeline (Dat)
open Cert.Dense
open Cert.Kernel4Ideal.Dense (added outQ outK outV proj3)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![2, t.val, 0] :=
  (by decide +kernel : ∀ t : Fin grid0.N, win0_3.index t = ![2, t.val, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![1, t.val, 0] :=
  (by decide +kernel : ∀ t : Fin grid0.N, win0_7.index t = ![1, t.val, 0])
theorem index8 : ∀ t : Fin cfg0.N, win0_8.index t = ![3, t.val, 0] :=
  (by decide +kernel : ∀ t : Fin grid0.N, win0_8.index t = ![3, t.val, 0])
theorem index9 : ∀ t : Fin cfg0.N, win0_9.index t = ![3, t.val / 2, 0] :=
  (by decide +kernel : ∀ t : Fin grid0.N, win0_9.index t = ![3, t.val / 2, 0])
theorem index10 : ∀ t : Fin cfg0.N, win0_10.index t = ![3, t.val, 0] :=
  (by decide +kernel : ∀ t : Fin grid0.N, win0_10.index t = ![3, t.val, 0])
theorem index11 : ∀ t : Fin cfg0.N, win0_11.index t = ![3, t.val / 2, 0] :=
  (by decide +kernel : ∀ t : Fin grid0.N, win0_11.index t = ![3, t.val / 2, 0])
theorem index12 : ∀ t : Fin cfg0.N, win0_12.index t = ![t.val, 0] :=
  (by decide +kernel : ∀ t : Fin grid0.N, win0_12.index t = ![t.val, 0])
theorem index13 : ∀ t : Fin cfg0.N, win0_13.index t = ![t.val, 0, 0] :=
  (by decide +kernel : ∀ t : Fin grid0.N, win0_13.index t = ![t.val, 0, 0])
theorem index14 : ∀ t : Fin cfg0.N, win0_14.index t = ![t.val, 0] :=
  (by decide +kernel : ∀ t : Fin grid0.N, win0_14.index t = ![t.val, 0])
theorem index15 : ∀ t : Fin cfg0.N, win0_15.index t = ![0, t.val] :=
  (by decide +kernel : ∀ t : Fin grid0.N, win0_15.index t = ![0, t.val])
theorem index16 : ∀ t : Fin cfg0.N, win0_16.index t = ![t.val, 0] :=
  (by decide +kernel : ∀ t : Fin grid0.N, win0_16.index t = ![t.val, 0])
theorem index17 : ∀ t : Fin cfg0.N, win0_17.index t = ![t.val, 0] :=
  (by decide +kernel : ∀ t : Fin grid0.N, win0_17.index t = ![t.val, 0])
theorem index18 : ∀ t : Fin cfg0.N, win0_18.index t = ![t.val / 2, 0] :=
  (by decide +kernel : ∀ t : Fin grid0.N, win0_18.index t = ![t.val / 2, 0])
theorem index19 : ∀ t : Fin cfg0.N, win0_19.index t = ![t.val, 0] :=
  (by decide +kernel : ∀ t : Fin grid0.N, win0_19.index t = ![t.val, 0])
theorem index20 : ∀ t : Fin cfg0.N, win0_20.index t = ![t.val / 2, 0] :=
  (by decide +kernel : ∀ t : Fin grid0.N, win0_20.index t = ![t.val / 2, 0])

theorem lt32 (t : Fin cfg0.N) : t.val < 32 := lt_of_lt_of_eq t.isLt N_0

variable (m : (ℓ : Loc nD τ sig) → Buf (Elt Ideal) ℓ)

/-- The arguments on one device. -/
abbrev arg0 (c : Dev nD) : S16384x1024.Idx → EReal := m ((c : Thread nD τ).loc main_arg0)
abbrev arg1 (c : Dev nD) : S1x1024.Idx → EReal := m ((c : Thread nD τ).loc main_arg1)
abbrev arg2 (c : Dev nD) : S1024x1024.Idx → EReal := m ((c : Thread nD τ).loc main_arg2)
abbrev arg3 (c : Dev nD) : S4x16384x256.Idx → EReal := m ((c : Thread nD τ).loc main_arg3)
abbrev arg4 (c : Dev nD) : S256x1024.Idx → EReal := m ((c : Thread nD τ).loc main_arg4)
abbrev arg5 (c : Dev nD) : S1x1024.Idx → EReal := m ((c : Thread nD τ).loc main_arg5)
abbrev arg6 (c : Dev nD) : S3072x1024.Idx → EReal := m ((c : Thread nD τ).loc main_arg6)
abbrev arg7 (c : Dev nD) : S2x1024x1024.Idx → EReal := m ((c : Thread nD τ).loc main_arg7)
abbrev arg8 (c : Dev nD) : S4x1024x5632.Idx → EReal := m ((c : Thread nD τ).loc main_arg8)
abbrev arg9 (c : Dev nD) : S4x2816x1024.Idx → EReal := m ((c : Thread nD τ).loc main_arg9)
abbrev arg10 (c : Dev nD) : S4x1024x1024.Idx → EReal := m ((c : Thread nD τ).loc main_arg10)
abbrev arg11 (c : Dev nD) : S4x256x1024.Idx → EReal := m ((c : Thread nD τ).loc main_arg11)

theorem whole1 (c : Dev nD) (t : Fin cfg0.N) : (iblk m c 1 t : S1x1024.Idx → EReal) = arg1 m c := by
  funext j
  blk_simp [iblk]
  exact congrArg (arg1 m c) (ext2 (by blk_simp [index1]) (by blk_simp [index1]))

theorem whole2 (c : Dev nD) (t : Fin cfg0.N) : (iblk m c 2 t : S1024x1024.Idx → EReal) = arg2 m c := by
  funext j
  blk_simp [iblk]
  exact congrArg (arg2 m c) (ext2 (by blk_simp [index2]) (by blk_simp [index2]))

theorem whole4 (c : Dev nD) (t : Fin cfg0.N) : (iblk m c 4 t : S256x1024.Idx → EReal) = arg4 m c := by
  funext j
  blk_simp [iblk]
  exact congrArg (arg4 m c) (ext2 (by blk_simp [index4]) (by blk_simp [index4]))

theorem whole5 (c : Dev nD) (t : Fin cfg0.N) : (iblk m c 5 t : S1x1024.Idx → EReal) = arg5 m c := by
  funext j
  blk_simp [iblk]
  exact congrArg (arg5 m c) (ext2 (by blk_simp [index5]) (by blk_simp [index5]))

theorem whole6 (c : Dev nD) (t : Fin cfg0.N) : (iblk m c 6 t : S3072x1024.Idx → EReal) = arg6 m c := by
  funext j
  blk_simp [iblk]
  exact congrArg (arg6 m c) (ext2 (by blk_simp [index6]) (by blk_simp [index6]))

theorem rows0 (c : Dev nD) (t : Fin cfg0.N) (r : ℕ) (hr : r < 512) (k : ℕ) :
    at2 (iblk m c 0 t : S512x1024.Idx → EReal) r k = at2 (arg0 m c) (512 * t.val + r) k := by
  have hi := index0 t
  have ht := lt32 t
  unfold at2
  unfold iblk
  rw [View.read_apply]
  show V m c main_arg0 _ = m (c.tc.loc main_arg0) _
  unfold V
  congr 1
  funext a
  apply Fin.ext
  match a with
  | ⟨0, _⟩ => show win0_0.index t 0 * 512 + 1 * (r % 512) = (512 * t.val + r) % 16384; rw [hi]; show t.val * 512 + 1 * (r % 512) = _; omega
  | ⟨1, _⟩ => show win0_0.index t 1 * 1024 + 1 * (k % 1024) = k % 1024; rw [hi]; show 0 * 1024 + 1 * (k % 1024) = _; omega

theorem rows3 (c : Dev nD) (t : Fin cfg0.N) (r : ℕ) (hr : r < 512) (k : ℕ) :
    at3 (iblk m c 3 t : S1x512x256.Idx → EReal) 0 r k = at3 (from2 (arg3 m c)) 0 (512 * t.val + r) k := by
  have hi := index3 t
  have ht := lt32 t
  rw [from2_at]
  unfold at3
  unfold iblk
  rw [View.read_apply]
  show V m c main_arg3 _ = m (c.tc.loc main_arg3) _
  unfold V
  congr 1
  funext a
  apply Fin.ext
  match a with
  | ⟨0, _⟩ => show win0_3.index t 0 * 1 + 1 * 0 = 2 % 4; rw [hi]; rfl
  | ⟨1, _⟩ => show win0_3.index t 1 * 512 + 1 * (r % 512) = (512 * t.val + r) % 16384; rw [hi]; show t.val * 512 + 1 * (r % 512) = _; omega
  | ⟨2, _⟩ => show win0_3.index t 2 * 256 + 1 * (k % 256) = k % 256; rw [hi]; show 0 * 256 + 1 * (k % 256) = _; omega

theorem rows_at (c : Dev nD) (t : Fin cfg0.N) (r : ℕ) (hr : r < 512) (j : ℕ) (hj : j < 1024) :
    at2 (rows m c t) r j = emb4 (arg0 m c) (arg1 m c) (arg2 m c) (from2 (arg3 m c)) (arg4 m c) (512 * t.val + r) j := by
  refine (at2_val (rows m c t) ⟨r, hr⟩ ⟨j, hj⟩).trans ?_
  show ple (at2 (iblk m c 0 t : S512x1024.Idx → EReal) r) (at2 (iblk m c 1 t : S1x1024.Idx → EReal) 0) (at2 (iblk m c 2 t : S1024x1024.Idx → EReal))
    (fun k => at3 (iblk m c 3 t : S1x512x256.Idx → EReal) 0 r k) (at2 (iblk m c 4 t : S256x1024.Idx → EReal)) j = _
  have e0 : at2 (iblk m c 0 t : S512x1024.Idx → EReal) r = at2 (arg0 m c) (512 * t.val + r) := funext fun k => rows0 m c t r hr k
  have e3 : (fun k => at3 (iblk m c 3 t : S1x512x256.Idx → EReal) 0 r k) = fun k => at3 (from2 (arg3 m c)) 0 (512 * t.val + r) k :=
    funext fun k => rows3 m c t r hr k
  unfold emb4
  rw [e0, e3, whole1 m c t, whole2 m c t, whole4 m c t]

theorem rn_at (c : Dev nD) (t : Fin cfg0.N) (r : ℕ) (hr : r < 512) (k : ℕ) (hk : k < 1024) :
    rn (at2 (rows m c t) r) (at2 (iblk m c 5 t : S1x1024.Idx → EReal) 0) k = rn (emb4 (arg0 m c) (arg1 m c) (arg2 m c) (from2 (arg3 m c)) (arg4 m c) (512 * t.val + r)) (at2 (arg5 m c) 0) k :=
  rn_congr hk (fun a ha => rows_at m c t r hr a ha) (congrFun (congrArg (fun X : S1x1024.Idx → EReal => at2 X 0) (whole5 m c t)) k)

theorem proj_at (c : Dev nD) (t : Fin cfg0.N) (r : ℕ) (hr : r < 512) (n : ℕ) :
    proj3 (rows m c t) (iblk m c 5 t) (iblk m c 6 t) r n = proj4 (arg0 m c) (arg1 m c) (arg2 m c) (from2 (arg3 m c)) (arg4 m c) (arg5 m c) (arg6 m c) (512 * t.val + r) n := by
  unfold proj3 proj4
  exact mm_congr (fun k hk => rn_at m c t r hr k hk) fun k hk => congrArg (fun X : S3072x1024.Idx → EReal => at2 X n k) (whole6 m c t)

theorem final12 (c : Dev nD) : (dats m 0 c).arrAt 12 cfg0.N = next0 (arg0 m c) (arg1 m c) (arg2 m c) (from2 (arg3 m c)) (arg4 m c) := by
  refine (dats m 0 c).arrAt_eq_of_covers 12 _ (by decide +kernel) fun t hf y => ?_
  blk_simp
  rw [after0_12, out12_eq]
  generalize hz : (win0_12.blk t).view.emb y = z
  have e0 : (z 0).val = 512 * t.val + (y 0).val := by rw [← hz]; blk_simp [index12]; omega
  have e1 : (z 1).val = (y 1).val := by rw [← hz]; blk_simp [index12]
  have ey : y = ix2 (⟨(y 0).val, (y 0).isLt⟩ : Fin 512) (⟨(y 1).val, (y 1).isLt⟩ : Fin 1024) := ext2 rfl rfl
  unfold next0
  rw [e0, e1]
  refine Eq.trans ?_ (rows_at m c t (y 0).val (y 0).isLt (y 1).val (y 1).isLt)
  exact (congrArg _ ey).trans (at2_val (rows m c t) (⟨(y 0).val, (y 0).isLt⟩ : Fin 512) (⟨(y 1).val, (y 1).isLt⟩ : Fin 1024)).symm

theorem final13 (c : Dev nD) : (dats m 0 c).arrAt 13 cfg0.N = next1 (arg0 m c) (arg1 m c) (arg2 m c) (from2 (arg3 m c)) (arg4 m c) (arg5 m c) (arg6 m c) := by
  refine (dats m 0 c).arrAt_eq_of_covers 13 _ (by decide +kernel) fun t hf y => ?_
  blk_simp
  rw [after0_13, out13_eq]
  generalize hz : (win0_13.blk t).view.emb y = z
  have e0 : (z 0).val = t.val := by rw [← hz]; blk_simp [index13]
  have e1 : (z 1).val = (y 1).val := by rw [← hz]; blk_simp [index13]
  have e2 : (z 2).val = (y 2).val := by rw [← hz]; blk_simp [index13]
  unfold next1 outQ
  rw [e0, e1, e2]
  exact proj_at m c t (y 2).val (y 2).isLt _

theorem final14 (c : Dev nD) : (dats m 0 c).arrAt 14 cfg0.N = next2 (arg0 m c) (arg1 m c) (arg2 m c) (from2 (arg3 m c)) (arg4 m c) (arg5 m c) (arg6 m c) := by
  refine (dats m 0 c).arrAt_eq_of_covers 14 _ (by decide +kernel) fun t hf y => ?_
  blk_simp
  rw [after0_14, out14_eq]
  generalize hz : (win0_14.blk t).view.emb y = z
  have e0 : (z 0).val = 512 * t.val + (y 0).val := by rw [← hz]; blk_simp [index14]; omega
  have e1 : (z 1).val = (y 1).val := by rw [← hz]; blk_simp [index14]
  unfold next2 outK
  rw [e0, e1]
  exact proj_at m c t (y 0).val (y 0).isLt _

theorem final15 (c : Dev nD) : (dats m 0 c).arrAt 15 cfg0.N = next3 (arg0 m c) (arg1 m c) (arg2 m c) (from2 (arg3 m c)) (arg4 m c) (arg5 m c) (arg6 m c) := by
  refine (dats m 0 c).arrAt_eq_of_covers 15 _ (by decide +kernel) fun t hf y => ?_
  blk_simp
  rw [after0_15, out15_eq]
  generalize hz : (win0_15.blk t).view.emb y = z
  have e0 : (z 0).val = (y 0).val := by rw [← hz]; blk_simp [index15]
  have e1 : (z 1).val = 512 * t.val + (y 1).val := by rw [← hz]; blk_simp [index15]; omega
  unfold next3 outV
  rw [e0, e1]
  exact proj_at m c t (y 1).val (y 1).isLt _

theorem final16 (c : Dev nD) : (dats m 0 c).arrAt 16 cfg0.N = layer (arg7 m c) 1 := by
  refine (dats m 0 c).arrAt_eq_of_covers 16 _ (by decide +kernel) fun t hf y => ?_
  blk_simp
  rw [after0_16, out16_eq]
  have e : k0_pay18 (iblk m c 7 t) y = iblk m c 7 t (ix3 0 (y 0) (y 1)) := by pointwise [k0_pay18]
  rw [e]
  blk_simp [iblk]
  exact layer_of (arg7 m c) 1 _ _ (by blk_simp [index7]; rfl) (by blk_simp [index7, index16]) (by blk_simp [index7, index16])

theorem final17 (c : Dev nD) : (dats m 0 c).arrAt 17 cfg0.N = layer (arg8 m c) 3 := by
  refine (dats m 0 c).arrAt_eq_of_covers 17 _ (by decide +kernel) fun t hf y => ?_
  blk_simp
  rw [after0_17, out17_eq]
  have e : k0_pay19 (iblk m c 8 t) y = iblk m c 8 t (ix3 0 (y 0) (y 1)) := by pointwise [k0_pay19]
  rw [e]
  blk_simp [iblk]
  exact layer_of (arg8 m c) 3 _ _ (by blk_simp [index8]; rfl) (by blk_simp [index8, index17]) (by blk_simp [index8, index17])

theorem final18 (c : Dev nD) : (dats m 0 c).arrAt 18 cfg0.N = layer (arg9 m c) 3 := by
  refine (dats m 0 c).arrAt_eq_of_covers 18 _ (by decide +kernel) fun t hf y => ?_
  blk_simp
  rw [after0_18, out18_eq]
  have e : k0_pay20 (iblk m c 9 t) y = iblk m c 9 t (ix3 0 (y 0) (y 1)) := by pointwise [k0_pay20]
  rw [e]
  blk_simp [iblk]
  exact layer_of (arg9 m c) 3 _ _ (by blk_simp [index9]; rfl) (by blk_simp [index9, index18]) (by blk_simp [index9, index18])

theorem final19 (c : Dev nD) : (dats m 0 c).arrAt 19 cfg0.N = layer (arg10 m c) 3 := by
  refine (dats m 0 c).arrAt_eq_of_covers 19 _ (by decide +kernel) fun t hf y => ?_
  blk_simp
  rw [after0_19, out19_eq]
  have e : k0_pay21 (iblk m c 10 t) y = iblk m c 10 t (ix3 0 (y 0) (y 1)) := by pointwise [k0_pay21]
  rw [e]
  blk_simp [iblk]
  exact layer_of (arg10 m c) 3 _ _ (by blk_simp [index10]; rfl) (by blk_simp [index10, index19]) (by blk_simp [index10, index19])

theorem final20 (c : Dev nD) : (dats m 0 c).arrAt 20 cfg0.N = layer (arg11 m c) 3 := by
  refine (dats m 0 c).arrAt_eq_of_covers 20 _ (by decide +kernel) fun t hf y => ?_
  blk_simp
  rw [after0_20, out20_eq]
  have e : k0_pay22 (iblk m c 11 t) y = iblk m c 11 t (ix3 0 (y 0) (y 1)) := by pointwise [k0_pay22]
  rw [e]
  blk_simp [iblk]
  exact layer_of (arg11 m c) 3 _ _ (by blk_simp [index11]; rfl) (by blk_simp [index11, index20]) (by blk_simp [index11, index20])

/-- The run, read: the result arrays whole, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = (next0 (arg0 m c) (arg1 m c) (arg2 m c) (from2 (arg3 m c)) (arg4 m c) : Buf (Elt Ideal) ((c : Thread nD τ).loc main_v0_0))
      ∧ r.2.mem ((c : Thread nD τ).loc main_v0_1) = (next1 (arg0 m c) (arg1 m c) (arg2 m c) (from2 (arg3 m c)) (arg4 m c) (arg5 m c) (arg6 m c) : Buf (Elt Ideal) ((c : Thread nD τ).loc main_v0_1))
      ∧ r.2.mem ((c : Thread nD τ).loc main_v0_2) = (next2 (arg0 m c) (arg1 m c) (arg2 m c) (from2 (arg3 m c)) (arg4 m c) (arg5 m c) (arg6 m c) : Buf (Elt Ideal) ((c : Thread nD τ).loc main_v0_2))
      ∧ r.2.mem ((c : Thread nD τ).loc main_v0_3) = (next3 (arg0 m c) (arg1 m c) (arg2 m c) (from2 (arg3 m c)) (arg4 m c) (arg5 m c) (arg6 m c) : Buf (Elt Ideal) ((c : Thread nD τ).loc main_v0_3))
      ∧ r.2.mem ((c : Thread nD τ).loc main_v0_4) = (layer (arg7 m c) 1 : Buf (Elt Ideal) ((c : Thread nD τ).loc main_v0_4))
      ∧ r.2.mem ((c : Thread nD τ).loc main_v0_5) = (layer (arg8 m c) 3 : Buf (Elt Ideal) ((c : Thread nD τ).loc main_v0_5))
      ∧ r.2.mem ((c : Thread nD τ).loc main_v0_6) = (layer (arg9 m c) 3 : Buf (Elt Ideal) ((c : Thread nD τ).loc main_v0_6))
      ∧ r.2.mem ((c : Thread nD τ).loc main_v0_7) = (layer (arg10 m c) 3 : Buf (Elt Ideal) ((c : Thread nD τ).loc main_v0_7))
      ∧ r.2.mem ((c : Thread nD τ).loc main_v0_8) = (layer (arg11 m c) 3 : Buf (Elt Ideal) ((c : Thread nD τ).loc main_v0_8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => by
    obtain ⟨h0, h1, h2, h3, h4, h5, h6, h7, h8, hr⟩ := h c
    exact ⟨h0.trans (final12 m c), h1.trans (final13 m c), h2.trans (final14 m c), h3.trans (final15 m c), h4.trans (final16 m c), h5.trans (final17 m c), h6.trans (final18 m c), h7.trans (final19 m c), h8.trans (final20 m c), hr⟩) (Cert.Kernel6Ideal.Value.run_blocks m ρ)

end Cert.Kernel6Ideal.Dense

end
-- ==== Proof.Ref6.Value.lean ====
module

public import proofs.«01_k».proof.Proof.Gen.Reference6Ideal.Run
public import proofs.«01_k».proof.Proof.Gen.Reference6Ideal.Read
public import proofs.«01_k».proof.Proof.Ref4.Value
public import proofs.«01_k».proof.Proof.Dense.First

@[expose] public section

set_option maxRecDepth 16384

noncomputable section

namespace Cert.Reference6Ideal.Dense

open Cert.Reference6Ideal Cert.Reference6Ideal.Gen Cert.Reference6Ideal.Read
open Idealize.ShloMosaic Cert.Dense

variable (x0 : S16384x1024.Idx → EReal) (x1 : S1x1024.Idx → EReal) (x2 : S1024x1024.Idx → EReal)
  (x3 : S4x16384x256.Idx → EReal) (x4 : S256x1024.Idx → EReal) (x5 : S1x1024.Idx → EReal) (x6 : S3072x1024.Idx → EReal)

/-- The third layer's embeddings. -/
theorem v21_eq : val_main_v21 (F := Ideal) x3 = Cert.Reference4Ideal.Read.val_main_v21 (F := Ideal) (from2 x3) := by
  funext y
  have h : (y 0).val < 16384 ∧ (y 1).val < 256 := ⟨(y 0).isLt, (y 1).isLt⟩
  have ey : y = ix2 (⟨(y 0).val, (y 0).isLt⟩ : Fin 16384) (⟨(y 1).val, (y 1).isLt⟩ : Fin 256) := ext2 rfl rfl
  refine Eq.trans ?_ (congrArg _ ey).symm
  rw [Cert.Reference4Ideal.Dense.v21_at, from2_at, val_main_v21_apply, val_main_v20_apply]
  exact layer_of (d := 16384) x3 2 y _ rfl (by show ((y 0).val * 256 + (y 1).val) / 256 % 16384 = _; omega) (by show ((y 0).val * 256 + (y 1).val) % 256 = _; omega)

/-- The rows with the embeddings added are those of the first layer's reference from the third layer's embeddings. -/
theorem v25_eq : val_main_v25 (F := Ideal) x0 x1 x2 x3 x4 = Cert.Reference4Ideal.Read.val_main_v25 (F := Ideal) x0 x1 x2 (from2 x3) x4 := by
  unfold val_main_v25 val_main_v24 val_main_v23
  rw [v21_eq]
  rfl

theorem v37_eq : val_main_v37 (F := Ideal) x0 x1 x2 x3 x4 x5 = Cert.Reference4Ideal.Read.val_main_v37 (F := Ideal) x0 x1 x2 (from2 x3) x4 x5 := by
  unfold val_main_v37 val_main_v35 val_main_v34 val_main_v33 val_main_v32 val_main_v30 val_main_v28 val_main_v27 val_main_v26
  rw [v25_eq]
  rfl

theorem v40_eq : val_main_v40 (F := Ideal) x0 x1 x2 x3 x4 x5 x6 = Cert.Reference4Ideal.Read.val_main_v40 (F := Ideal) x0 x1 x2 (from2 x3) x4 x5 x6 := by
  unfold val_main_v40
  rw [v37_eq]
  rfl

/-- The rows of the result. -/
theorem h_eq : val_main_v25 (F := Ideal) x0 x1 x2 x3 x4 = next0 x0 x1 x2 (from2 x3) x4 :=
  (v25_eq x0 x1 x2 x3 x4).trans (Cert.Reference4Ideal.Dense.h_eq x0 x1 x2 (from2 x3) x4)

/-- The queries. -/
theorem q_eq : val_main_v57 (F := Ideal) x0 x1 x2 x3 x4 x5 x6 = next1 x0 x1 x2 (from2 x3) x4 x5 x6 := by
  refine Eq.trans ?_ (Cert.Reference4Ideal.Dense.q_eq x0 x1 x2 (from2 x3) x4 x5 x6)
  unfold val_main_v57 val_main_v45 val_main_v44 val_main_v41
  rw [v40_eq]
  rfl

/-- The keys. -/
theorem k_eq : val_main_v58 (F := Ideal) x0 x1 x2 x3 x4 x5 x6 = next2 x0 x1 x2 (from2 x3) x4 x5 x6 := by
  refine Eq.trans ?_ (Cert.Reference4Ideal.Dense.k_eq x0 x1 x2 (from2 x3) x4 x5 x6)
  unfold val_main_v58 val_main_v42
  rw [v40_eq]
  rfl

/-- The values. -/
theorem v_eq : val_main_v59 (F := Ideal) x0 x1 x2 x3 x4 x5 x6 = next3 x0 x1 x2 (from2 x3) x4 x5 x6 := by
  refine Eq.trans ?_ (Cert.Reference4Ideal.Dense.v_eq x0 x1 x2 (from2 x3) x4 x5 x6)
  unfold val_main_v59 val_main_v56 val_main_v43
  rw [v40_eq]
  rfl

theorem w60_eq (x7 : S2x1024x1024.Idx → EReal) : val_main_v60 (F := Ideal) x7 = layer x7 1 := by
  funext y
  have h : (y 0).val < 1024 ∧ (y 1).val < 1024 := ⟨(y 0).isLt, (y 1).isLt⟩
  rw [val_main_v60_apply, val_main_v47_apply, val_main_v46_apply]
  exact layer_of x7 1 y _ rfl (by show ((y 0).val * 1024 + (y 1).val) / 1024 % 1024 = _; omega) (by show ((y 0).val * 1024 + (y 1).val) % 1024 = _; omega)

theorem w61_eq (x8 : S4x1024x5632.Idx → EReal) : val_main_v61 (F := Ideal) x8 = layer x8 3 := by
  funext y
  have h : (y 0).val < 1024 ∧ (y 1).val < 5632 := ⟨(y 0).isLt, (y 1).isLt⟩
  rw [val_main_v61_apply, val_main_v49_apply, val_main_v48_apply]
  exact layer_of x8 3 y _ rfl (by show ((y 0).val * 5632 + (y 1).val) / 5632 % 1024 = _; omega) (by show ((y 0).val * 5632 + (y 1).val) % 5632 = _; omega)

theorem w62_eq (x9 : S4x2816x1024.Idx → EReal) : val_main_v62 (F := Ideal) x9 = layer x9 3 := by
  funext y
  have h : (y 0).val < 2816 ∧ (y 1).val < 1024 := ⟨(y 0).isLt, (y 1).isLt⟩
  rw [val_main_v62_apply, val_main_v51_apply, val_main_v50_apply]
  exact layer_of x9 3 y _ rfl (by show ((y 0).val * 1024 + (y 1).val) / 1024 % 2816 = _; omega) (by show ((y 0).val * 1024 + (y 1).val) % 1024 = _; omega)

theorem w63_eq (x10 : S4x1024x1024.Idx → EReal) : val_main_v63 (F := Ideal) x10 = layer x10 3 := by
  funext y
  have h : (y 0).val < 1024 ∧ (y 1).val < 1024 := ⟨(y 0).isLt, (y 1).isLt⟩
  rw [val_main_v63_apply, val_main_v53_apply, val_main_v52_apply]
  exact layer_of x10 3 y _ rfl (by show ((y 0).val * 1024 + (y 1).val) / 1024 % 1024 = _; omega) (by show ((y 0).val * 1024 + (y 1).val) % 1024 = _; omega)

theorem w64_eq (x11 : S4x256x1024.Idx → EReal) : val_main_v64 (F := Ideal) x11 = layer x11 3 := by
  funext y
  have h : (y 0).val < 256 ∧ (y 1).val < 1024 := ⟨(y 0).isLt, (y 1).isLt⟩
  rw [val_main_v64_apply, val_main_v55_apply, val_main_v54_apply]
  exact layer_of x11 3 y _ rfl (by show ((y 0).val * 1024 + (y 1).val) / 1024 % 256 = _; omega) (by show ((y 0).val * 1024 + (y 1).val) % 1024 = _; omega)

end Cert.Reference6Ideal.Dense

end
-- ==== Proof.Kernel7Ideal.Out.lean ====
module

public import proofs.«01_k».proof.Proof.Gen.Kernel7Ideal.Frame
public import proofs.«01_k».proof.Proof.Kernel5Ideal.Out
public import proofs.«01_k».proof.Proof.Dense.First
public import Idealize.ShloMosaic.Lib.Tactic
public import Idealize.ShloMosaic.Lib.Pipeline.ReadBack

@[expose] public section

set_option maxRecDepth 16384

noncomputable section

namespace Cert.Kernel7Ideal.Dense

open Cert.Kernel7Ideal Cert.Kernel7Ideal.Gen
open Idealize.ShloMosaic Idealize.ShloMosaic.TcCoe Cert.Dense
open Cert.Kernel4Ideal.Dense (norm norm_at ld_qrows qrows pairs mixin mixin_at outQ outK outV tileQ tileK tileV)
open Cert.Kernel5Ideal.Dense (wide outF pay16_eq)

theorem pay2_rw (x : Vec Ideal S512x1024 .f32) (g : Vec Ideal S1x1024 .f32) : k0_pay2 x g = mixin x g := by
  funext y
  have ey : y = ix2 (⟨(y 0).val, (y 0).isLt⟩ : Fin 512) (⟨(y 1).val, (y 1).isLt⟩ : Fin 1024) := ext2 rfl rfl
  have e : k0_pay2 x g = norm x g := rfl
  rw [e, ey]
  exact (norm_at x g _ _).trans (mixin_at x g _ _).symm
theorem pay4_rw (x : Vec Ideal S512x1024 .f32) (g w) :
    k0_pay4 x g w = shapeCast S1x512x512 (pairs w (k0_pay2 x g)) shapeCasts_S512x512_S1x512x512 := rfl
theorem pay5_rw (u : FVec Ideal S512x1024 .bf16) (w) :
    k0_pay5 u w = shapeCast S1x512x512 (pairs w u) shapeCasts_S512x512_S1x512x512 := rfl
theorem pay6_rw (u : FVec Ideal S512x1024 .bf16) (w) : k0_pay6 u w = pairs w u := rfl
theorem pay7_rw (u : FVec Ideal S512x1024 .bf16) (w) : k0_pay7 u w = pairs w u := rfl
theorem pay8_rw (u : FVec Ideal S512x1024 .bf16) (w) : k0_pay8 u w = pairs u w := rfl
theorem pay9_rw (u : FVec Ideal S512x1024 .bf16) (w) : k0_pay9 u w = pairs u w := rfl

/-- The gates from the products with their weights. -/
def gate (p : FVec Ideal S512x128 .f32) (b : Vec Ideal S1x128 .f32) : FVec Ideal S512x128 .f32 := fun i =>
  (fun s : EReal => min s (Ideal.ofBits FTy.f32 0x00000000#32) - Ideal.log1p (Ideal.exp (Ideal.ofBits FTy.f32 0x00000000#32 - max s (-s))))
    (p i + broadcastTo S512x128 b broadcasts_S1x128_S512x128 i)

theorem pay3_eq (x : Vec Ideal S512x1024 .f32) (g w b) : k0_pay3 x g w b = outF x g w b := by
  have e : k0_pay3 x g w b = gate (wide (k0_pay2 x g) w) b := rfl
  have e' : Cert.Kernel5Ideal.Gen.k0_pay16 (Cert.Kernel5Ideal.Gen.k0_pay13 x) g (Cert.Kernel5Ideal.Gen.k0_pay14 x) w b = gate (wide (mixin x g) w) b := rfl
  rw [e, pay2_rw, ← e', pay16_eq]

variable (x0 : Vec Ideal S512x1024 .f32) (x1 : Vec Ideal S1x1024 .f32) (x2 : Vec Ideal S3072x1024 .bf16) (x3 : Vec Ideal S128x1024 .f32) (x4 : Vec Ideal S1x128 .f32)
  (x5 : Vec Ideal S1x32x1024 .f32) (x6 : Vec Ideal S1x32x5632 .f32) (x7 : Vec Ideal S1x176x1024 .f32) (x8 : Vec Ideal S1x32x1024 .f32) (x9 : Vec Ideal S1x16x1024 .f32)
  (x10 : Vec Ideal S1x128x3072 .f32)

theorem out11_eq : out0_11 x0 x1 x2 x3 x4 x5 x6 x7 x8 x9 x10 = outQ x0 x1 x2 := by
  unfold out0_11 k0_pay18
  rw [View.ld_unit_lit (S := S512x1024) _ x0 (by decide), View.ld_unit_lit (S := S1x1024) _ x1 (by decide)]
  simp only [r0_5, r0_7, ld_qrows, pay4_rw, pay5_rw, pay2_rw]
  funext j
  refine View.canon_eq_of_allAt _ j _ (View.cover_of_tiled_head _ _ _ (by rfl) j) ?_
  refine View.allAt_cons_unit _ _ _ _ _ (tileQ 512 _ _ _ j) ?_
  refine View.allAt_cons_unit _ _ _ _ _ (tileQ 0 _ _ _ j) ?_
  exact View.allAt_nil _ _

theorem out12_eq : out0_12 x0 x1 x2 x3 x4 x5 x6 x7 x8 x9 x10 = outK x0 x1 x2 := by
  unfold out0_12 k0_pay18
  rw [View.ld_unit_lit (S := S512x1024) _ x0 (by decide), View.ld_unit_lit (S := S1x1024) _ x1 (by decide)]
  simp only [r0_13, r0_15, ld_qrows, pay8_rw, pay9_rw, pay2_rw]
  funext j
  refine View.canon_eq_of_allAt _ j _ (View.cover_of_tiled_head _ _ _ (by rfl) j) ?_
  refine View.allAt_cons_unit _ _ _ _ _ (tileK 512 _ _ _ j) ?_
  refine View.allAt_cons_unit _ _ _ _ _ (tileK 0 _ _ _ j) ?_
  exact View.allAt_nil _ _

theorem out13_eq : out0_13 x0 x1 x2 x3 x4 x5 x6 x7 x8 x9 x10 = outV x0 x1 x2 := by
  unfold out0_13 k0_pay18
  rw [View.ld_unit_lit (S := S512x1024) _ x0 (by decide), View.ld_unit_lit (S := S1x1024) _ x1 (by decide)]
  simp only [r0_9, r0_11, ld_qrows, pay6_rw, pay7_rw, pay2_rw]
  funext j
  refine View.canon_eq_of_allAt _ j _ (View.cover_of_tiled_head _ _ _ (by rfl) j) ?_
  refine View.allAt_cons_unit _ _ _ _ _ (tileV 512 _ _ _ j) ?_
  refine View.allAt_cons_unit _ _ _ _ _ (tileV 0 _ _ _ j) ?_
  exact View.allAt_nil _ _

theorem out14_eq : out0_14 x0 x1 x2 x3 x4 x5 x6 x7 x8 x9 x10 = outF x0 x1 x3 x4 := by
  unfold out0_14
  rw [View.canon_cons_unit_lit _ _ _ (by decide), View.ld_unit_lit (S := S512x1024) _ x0 (by decide), View.ld_unit_lit (S := S1x1024) _ x1 (by decide), View.ld_unit_lit (S := S128x1024) _ x3 (by decide), View.ld_unit_lit (S := S1x128) _ x4 (by decide)]
  exact pay3_eq x0 x1 x3 x4

theorem out15_eq : out0_15 x0 x1 x2 x3 x4 x5 x6 x7 x8 x9 x10 = k0_pay10 x5 := by
  unfold out0_15
  rw [View.canon_cons_unit_lit _ _ _ (by decide), View.ld_unit_lit (S := S1x32x1024) _ x5 (by decide)]

theorem out16_eq : out0_16 x0 x1 x2 x3 x4 x5 x6 x7 x8 x9 x10 = k0_pay11 x6 := by
  unfold out0_16
  rw [View.canon_cons_unit_lit _ _ _ (by decide), View.ld_unit_lit (S := S1x32x5632) _ x6 (by decide)]

theorem out17_eq : out0_17 x0 x1 x2 x3 x4 x5 x6 x7 x8 x9 x10 = k0_pay12 x7 := by
  unfold out0_17
  rw [View.canon_cons_unit_lit _ _ _ (by decide), View.ld_unit_lit (S := S1x176x1024) _ x7 (by decide)]

theorem out18_eq : out0_18 x0 x1 x2 x3 x4 x5 x6 x7 x8 x9 x10 = k0_pay13 x8 := by
  unfold out0_18
  rw [View.canon_cons_unit_lit _ _ _ (by decide), View.ld_unit_lit (S := S1x32x1024) _ x8 (by decide)]

theorem out19_eq : out0_19 x0 x1 x2 x3 x4 x5 x6 x7 x8 x9 x10 = k0_pay14 x9 := by
  unfold out0_19
  rw [View.canon_cons_unit_lit _ _ _ (by decide), View.ld_unit_lit (S := S1x16x1024) _ x9 (by decide)]

theorem out20_eq : out0_20 x0 x1 x2 x3 x4 x5 x6 x7 x8 x9 x10 = k0_pay1 (k0_pay15 x10) k0_pay16 (Scalar.ofBits .f32 0x3F800000#32) (k0_pay17 (F := Ideal)) := by
  unfold out0_20
  rw [View.canon_cons_unit_lit _ _ _ (by decide), View.ld_unit_lit (S := S1x128x3072) _ x10 (by decide)]

end Cert.Kernel7Ideal.Dense

end
-- ==== Proof.Kernel7Ideal.Final.lean ====
module

public import proofs.«01_k».proof.Proof.Kernel7Ideal.Out
public import proofs.«01_k».proof.Proof.Kernel5Ideal.Final
public import proofs.«01_k».proof.Proof.Gen.Kernel7Ideal.Value
public import proofs.«01_k».proof.Proof.Gen.Kernel7Ideal.Points
public import proofs.«01_k».proof.Proof.Dense.First
public import Idealize.ShloMosaic.Lib.Pipeline.ValueKit.Geometry

@[expose] public section

set_option maxRecDepth 16384

noncomputable section

namespace Cert.Kernel7Ideal.Dense

open Cert.Kernel7Ideal Cert.Kernel7Ideal.Gen
open Idealize.ShloMosaic Idealize.ShloMosaic.TcCoe Idealize.SL.Sem
open Idealize.ShloMosaic.Pipeline (Dat)
open Cert.Dense
open Cert.Kernel4Ideal.Dense (outQ outK outV proj3)
open Cert.Kernel5Ideal.Dense (outF row_lt)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, t.val, 0] :=
  (by decide +kernel : ∀ t : Fin grid0.N, win0_5.index t = ![0, t.val, 0])
theorem index6 : ∀ t : Fin cfg0.N, win0_6.index t = ![0, t.val, 0] :=
  (by decide +kernel : ∀ t : Fin grid0.N, win0_6.index t = ![0, t.val, 0])
theorem index7 : ∀ t : Fin cfg0.N, win0_7.index t = ![0, t.val / 2, 0] :=
  (by decide +kernel : ∀ t : Fin grid0.N, win0_7.index t = ![0, t.val / 2, 0])
theorem index8 : ∀ t : Fin cfg0.N, win0_8.index t = ![0, t.val, 0] :=
  (by decide +kernel : ∀ t : Fin grid0.N, win0_8.index t = ![0, t.val, 0])
theorem index9 : ∀ t : Fin cfg0.N, win0_9.index t = ![0, t.val / 2, 0] :=
  (by decide +kernel : ∀ t : Fin grid0.N, win0_9.index t = ![0, t.val / 2, 0])
theorem index10 : ∀ t : Fin cfg0.N, win0_10.index t = ![0, t.val / 4, 0] :=
  (by decide +kernel : ∀ t : Fin grid0.N, win0_10.index t = ![0, t.val / 4, 0])
theorem index11 : ∀ t : Fin cfg0.N, win0_11.index t = ![t.val, 0, 0] :=
  (by decide +kernel : ∀ t : Fin grid0.N, win0_11.index t = ![t.val, 0, 0])
theorem index12 : ∀ t : Fin cfg0.N, win0_12.index t = ![t.val, 0] :=
  (by decide +kernel : ∀ t : Fin grid0.N, win0_12.index t = ![t.val, 0])
theorem index13 : ∀ t : Fin cfg0.N, win0_13.index t = ![0, t.val] :=
  (by decide +kernel : ∀ t : Fin grid0.N, win0_13.index t = ![0, t.val])
theorem index14 : ∀ t : Fin cfg0.N, win0_14.index t = ![t.val, 0] :=
  (by decide +kernel : ∀ t : Fin grid0.N, win0_14.index t = ![t.val, 0])
theorem index15 : ∀ t : Fin cfg0.N, win0_15.index t = ![t.val, 0] :=
  (by decide +kernel : ∀ t : Fin grid0.N, win0_15.index t = ![t.val, 0])
theorem index16 : ∀ t : Fin cfg0.N, win0_16.index t = ![t.val, 0] :=
  (by decide +kernel : ∀ t : Fin grid0.N, win0_16.index t = ![t.val, 0])
theorem index17 : ∀ t : Fin cfg0.N, win0_17.index t = ![t.val / 2, 0] :=
  (by decide +kernel : ∀ t : Fin grid0.N, win0_17.index t = ![t.val / 2, 0])
theorem index18 : ∀ t : Fin cfg0.N, win0_18.index t = ![t.val, 0] :=
  (by decide +kernel : ∀ t : Fin grid0.N, win0_18.index t = ![t.val, 0])
theorem index19 : ∀ t : Fin cfg0.N, win0_19.index t = ![t.val / 2, 0] :=
  (by decide +kernel : ∀ t : Fin grid0.N, win0_19.index t = ![t.val / 2, 0])
theorem index20 : ∀ t : Fin cfg0.N, win0_20.index t = ![0, t.val / 4] :=
  (by decide +kernel : ∀ t : Fin grid0.N, win0_20.index t = ![0, t.val / 4])

theorem lt32 (t : Fin cfg0.N) : t.val < 32 := lt_of_lt_of_eq t.isLt N_0

variable (m : (ℓ : Loc nD τ sig) → Buf (Elt Ideal) ℓ)

/-- The arguments on one device. -/
abbrev arg0 (c : Dev nD) : S16384x1024.Idx → EReal := m ((c : Thread nD τ).loc main_arg0)
abbrev arg1 (c : Dev nD) : S1x1024.Idx → EReal := m ((c : Thread nD τ).loc main_arg1)
abbrev arg2 (c : Dev nD) : S3072x1024.Idx → EReal := m ((c : Thread nD τ).loc main_arg2)
abbrev arg3 (c : Dev nD) : S128x1024.Idx → EReal := m ((c : Thread nD τ).loc main_arg3)
abbrev arg4 (c : Dev nD) : S1x128.Idx → EReal := m ((c : Thread nD τ).loc main_arg4)
abbrev arg5 (c : Dev nD) : S2x1024x1024.Idx → EReal := m ((c : Thread nD τ).loc main_arg5)
abbrev arg6 (c : Dev nD) : S4x1024x5632.Idx → EReal := m ((c : Thread nD τ).loc main_arg6)
abbrev arg7 (c : Dev nD) : S4x2816x1024.Idx → EReal := m ((c : Thread nD τ).loc main_arg7)
abbrev arg8 (c : Dev nD) : S4x1024x1024.Idx → EReal := m ((c : Thread nD τ).loc main_arg8)
abbrev arg9 (c : Dev nD) : S4x256x1024.Idx → EReal := m ((c : Thread nD τ).loc main_arg9)
abbrev arg10 (c : Dev nD) : S2x1024x3072.Idx → EReal := m ((c : Thread nD τ).loc main_arg10)

theorem whole1 (c : Dev nD) (t : Fin cfg0.N) : (iblk m c 1 t : S1x1024.Idx → EReal) = arg1 m c := by
  funext j
  blk_simp [iblk]
  exact congrArg (arg1 m c) (ext2 (by blk_simp [index1]) (by blk_simp [index1]))

theorem whole2 (c : Dev nD) (t : Fin cfg0.N) : (iblk m c 2 t : S3072x1024.Idx → EReal) = arg2 m c := by
  funext j
  blk_simp [iblk]
  exact congrArg (arg2 m c) (ext2 (by blk_simp [index2]) (by blk_simp [index2]))

theorem whole3 (c : Dev nD) (t : Fin cfg0.N) : (iblk m c 3 t : S128x1024.Idx → EReal) = arg3 m c := by
  funext j
  blk_simp [iblk]
  exact congrArg (arg3 m c) (ext2 (by blk_simp [index3]) (by blk_simp [index3]))

theorem whole4 (c : Dev nD) (t : Fin cfg0.N) : (iblk m c 4 t : S1x128.Idx → EReal) = arg4 m c := by
  funext j
  blk_simp [iblk]
  exact congrArg (arg4 m c) (ext2 (by blk_simp [index4]) (by blk_simp [index4]))

theorem rows0 (c : Dev nD) (t : Fin cfg0.N) (r : ℕ) (hr : r < 512) (k : ℕ) :
    at2 (iblk m c 0 t : S512x1024.Idx → EReal) r k = at2 (arg0 m c) (512 * t.val + r) k := by
  have hi := index0 t
  have ht := lt32 t
  unfold at2
  unfold iblk
  rw [View.read_apply]
  show V m c main_arg0 _ = m (c.tc.loc main_arg0) _
  unfold V
  congr 1
  funext a
  apply Fin.ext
  match a with
  | ⟨0, _⟩ => show win0_0.index t 0 * 512 + 1 * (r % 512) = (512 * t.val + r) % 16384; rw [hi]; show t.val * 512 + 1 * (r % 512) = _; omega
  | ⟨1, _⟩ => show win0_0.index t 1 * 1024 + 1 * (k % 1024) = k % 1024; rw [hi]; show 0 * 1024 + 1 * (k % 1024) = _; omega

theorem rn_at (c : Dev nD) (t : Fin cfg0.N) (r : ℕ) (hr : r < 512) :
    rn (at2 (iblk m c 0 t : S512x1024.Idx → EReal) r) (at2 (iblk m c 1 t : S1x1024.Idx → EReal) 0) = rn (at2 (arg0 m c) (512 * t.val + r)) (at2 (arg1 m c) 0) := by
  have e0 : at2 (iblk m c 0 t : S512x1024.Idx → EReal) r = at2 (arg0 m c) (512 * t.val + r) := funext fun k => rows0 m c t r hr k
  rw [e0, whole1 m c t]

theorem proj_at (c : Dev nD) (t : Fin cfg0.N) (r : ℕ) (hr : r < 512) (n : ℕ) :
    proj3 (iblk m c 0 t) (iblk m c 1 t) (iblk m c 2 t) r n = projF (arg0 m c) (arg1 m c) (arg2 m c) (512 * t.val + r) n := by
  unfold proj3 projF
  exact mm_congr (fun k _ => congrFun (rn_at m c t r hr) k) fun k hk => congrArg (fun X : S3072x1024.Idx → EReal => at2 X n k) (whole2 m c t)

theorem final11 (c : Dev nD) : (dats m 0 c).arrAt 11 cfg0.N = first1 (arg0 m c) (arg1 m c) (arg2 m c) := by
  refine (dats m 0 c).arrAt_eq_of_covers 11 _ (by decide +kernel) fun t hf y => ?_
  blk_simp
  rw [after0_11, out11_eq]
  generalize hz : (win0_11.blk t).view.emb y = z
  have e0 : (z 0).val = t.val := by rw [← hz]; blk_simp [index11]
  have e1 : (z 1).val = (y 1).val := by rw [← hz]; blk_simp [index11]
  have e2 : (z 2).val = (y 2).val := by rw [← hz]; blk_simp [index11]
  unfold first1 outQ
  rw [e0, e1, e2]
  exact proj_at m c t (y 2).val (y 2).isLt _

theorem final12 (c : Dev nD) : (dats m 0 c).arrAt 12 cfg0.N = first2 (arg0 m c) (arg1 m c) (arg2 m c) := by
  refine (dats m 0 c).arrAt_eq_of_covers 12 _ (by decide +kernel) fun t hf y => ?_
  blk_simp
  rw [after0_12, out12_eq]
  generalize hz : (win0_12.blk t).view.emb y = z
  have e0 : (z 0).val = 512 * t.val + (y 0).val := by rw [← hz]; blk_simp [index12]; omega
  have e1 : (z 1).val = (y 1).val := by rw [← hz]; blk_simp [index12]
  unfold first2 outK
  rw [e0, e1]
  exact proj_at m c t (y 0).val (y 0).isLt _

theorem final13 (c : Dev nD) : (dats m 0 c).arrAt 13 cfg0.N = first3 (arg0 m c) (arg1 m c) (arg2 m c) := by
  refine (dats m 0 c).arrAt_eq_of_covers 13 _ (by decide +kernel) fun t hf y => ?_
  blk_simp
  rw [after0_13, out13_eq]
  generalize hz : (win0_13.blk t).view.emb y = z
  have e0 : (z 0).val = (y 0).val := by rw [← hz]; blk_simp [index13]
  have e1 : (z 1).val = 512 * t.val + (y 1).val := by rw [← hz]; blk_simp [index13]; omega
  unfold first3 outV
  rw [e0, e1]
  exact proj_at m c t (y 1).val (y 1).isLt _

theorem final14 (c : Dev nD) : (dats m 0 c).arrAt 14 cfg0.N = firstGates (arg0 m c) (arg1 m c) (arg3 m c) (arg4 m c) := by
  refine (dats m 0 c).arrAt_eq_of_covers 14 _ (by decide +kernel) fun t hf y => ?_
  blk_simp
  rw [after0_14, out14_eq]
  generalize hz : (win0_14.blk t).view.emb y = z
  have e0 : (z 0).val = 512 * t.val + (y 0).val := by rw [← hz]; blk_simp [index14]; omega
  have e1 : (z 1).val = (y 1).val := by rw [← hz]; blk_simp [index14]
  unfold firstGates outF
  rw [e0, e1]
  refine congrArg lsig (congrArg₂ (· + ·) (mm_congr (fun k _ => congrFun (rn_at m c t (y 0).val (y 0).isLt) k) fun k hk => ?_) ?_)
  · exact congrArg (fun X : S128x1024.Idx → EReal => at2 X (y 1).val k) (whole3 m c t)
  · exact congrArg (fun X : S1x128.Idx → EReal => at2 X 0 (y 1).val) (whole4 m c t)

theorem final15 (c : Dev nD) : (dats m 0 c).arrAt 15 cfg0.N = layer (arg5 m c) 0 := by
  refine (dats m 0 c).arrAt_eq_of_covers 15 _ (by decide +kernel) fun t hf y => ?_
  blk_simp
  rw [after0_15, out15_eq]
  have e : k0_pay10 (iblk m c 5 t) y = iblk m c 5 t (ix3 0 (y 0) (y 1)) := by pointwise [k0_pay10]
  rw [e]
  blk_simp [iblk]
  exact layer_of (arg5 m c) 0 _ _ (by blk_simp [index5]; rfl) (by blk_simp [index5, index15]) (by blk_simp [index5, index15])

theorem final16 (c : Dev nD) : (dats m 0 c).arrAt 16 cfg0.N = layer (arg6 m c) 0 := by
  refine (dats m 0 c).arrAt_eq_of_covers 16 _ (by decide +kernel) fun t hf y => ?_
  blk_simp
  rw [after0_16, out16_eq]
  have e : k0_pay11 (iblk m c 6 t) y = iblk m c 6 t (ix3 0 (y 0) (y 1)) := by pointwise [k0_pay11]
  rw [e]
  blk_simp [iblk]
  exact layer_of (arg6 m c) 0 _ _ (by blk_simp [index6]; rfl) (by blk_simp [index6, index16]) (by blk_simp [index6, index16])

theorem final17 (c : Dev nD) : (dats m 0 c).arrAt 17 cfg0.N = layer (arg7 m c) 0 := by
  refine (dats m 0 c).arrAt_eq_of_covers 17 _ (by decide +kernel) fun t hf y => ?_
  blk_simp
  rw [after0_17, out17_eq]
  have e : k0_pay12 (iblk m c 7 t) y = iblk m c 7 t (ix3 0 (y 0) (y 1)) := by pointwise [k0_pay12]
  rw [e]
  blk_simp [iblk]
  exact layer_of (arg7 m c) 0 _ _ (by blk_simp [index7]; rfl) (by blk_simp [index7, index17]) (by blk_simp [index7, index17])

theorem final18 (c : Dev nD) : (dats m 0 c).arrAt 18 cfg0.N = layer (arg8 m c) 0 := by
  refine (dats m 0 c).arrAt_eq_of_covers 18 _ (by decide +kernel) fun t hf y => ?_
  blk_simp
  rw [after0_18, out18_eq]
  have e : k0_pay13 (iblk m c 8 t) y = iblk m c 8 t (ix3 0 (y 0) (y 1)) := by pointwise [k0_pay13]
  rw [e]
  blk_simp [iblk]
  exact layer_of (arg8 m c) 0 _ _ (by blk_simp [index8]; rfl) (by blk_simp [index8, index18]) (by blk_simp [index8, index18])

theorem final19 (c : Dev nD) : (dats m 0 c).arrAt 19 cfg0.N = layer (arg9 m c) 0 := by
  refine (dats m 0 c).arrAt_eq_of_covers 19 _ (by decide +kernel) fun t hf y => ?_
  blk_simp
  rw [after0_19, out19_eq]
  have e : k0_pay14 (iblk m c 9 t) y = iblk m c 9 t (ix3 0 (y 0) (y 1)) := by pointwise [k0_pay14]
  rw [e]
  blk_simp [iblk]
  exact layer_of (arg9 m c) 0 _ _ (by blk_simp [index9]; rfl) (by blk_simp [index9, index19]) (by blk_simp [index9, index19])

theorem last_at (X : Vec Ideal S1x128x3072 .f32) (r : Fin 3072) (j : Fin 128) :
    k0_pay1 (k0_pay15 X) k0_pay16 (Scalar.ofBits .f32 0x3F800000#32) (k0_pay17 (F := Ideal)) (ix2 r j) = X (ix3 0 j r) * Scalar.select (Scalar.cmpi .slt (Scalar.addi 0#32 (BitVec.ofNat 32 r.val)) 1024#32)
      (Ideal.ofBits FTy.f32 0x3E38AA3B#32) (Ideal.ofBits FTy.f32 0x3F800000#32) := by
  pointwise [k0_pay1, k0_pay15, k0_pay16, k0_pay17]
  rfl

theorem final20 (c : Dev nD) : (dats m 0 c).arrAt 20 cfg0.N = scaled (swapNext (arg10 m c)) := by
  refine (dats m 0 c).arrAt_eq_of_covers 20 _ (by decide +kernel) fun t hf y => ?_
  blk_simp
  rw [after0_20, out20_eq]
  generalize hz : (win0_20.blk t).view.emb y = z
  have e0 : (z 0).val = (y 0).val := by rw [← hz]; blk_simp [index20]
  have e1 : (z 1).val = 128 * (t.val / 4) + (y 1).val := by rw [← hz]; blk_simp [index20]; omega
  have h0 : (y 0).val < 3072 := (y 0).isLt
  have hz1 : (z 1).val < 1024 := (z 1).isLt
  have ey : y = ix2 (⟨(y 0).val, (y 0).isLt⟩ : Fin 3072) (⟨(y 1).val, (y 1).isLt⟩ : Fin 128) := ext2 rfl rfl
  have ex : iblk m c 10 t (ix3 0 (⟨(y 1).val, (y 1).isLt⟩ : Fin 128) (⟨(y 0).val, (y 0).isLt⟩ : Fin 3072)) = at3 (arg10 m c) 0 (z 1).val (z 0).val := by
    blk_simp [iblk]
    refine layer_of (arg10 m c) 0 (ix2 (⟨(z 1).val, hz1⟩ : Fin 1024) (⟨(z 0).val, (z 0).isLt⟩ : Fin 3072)) _ ?_ ?_ ?_
    · blk_simp [index10]; rfl
    · blk_simp [index10]; show t.val / 4 * 128 + (y 1).val = (z 1).val; rw [e1]; omega
    · blk_simp [index10]; show (y 0).val = (z 0).val; rw [e0]
  refine (congrArg _ ey).trans ((last_at _ _ _).trans ?_)
  rw [ex, row_lt]
  unfold scaled
  rw [swapNext_at _ _ (z 0).isLt]
  show _ = if (z 0).val < 1024 then _ else _
  rw [e0]
  show _ * Scalar.select (if (y 0).val < 1024 then 1#1 else 0#1) _ _ = _
  split
  · rfl
  · show _ * Ideal.ofBits FTy.f32 0x3F800000#32 = _
    rw [Ideal.ofBits_one_f32, mul_one]

/-- The run, read: the result arrays whole, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = (first1 (arg0 m c) (arg1 m c) (arg2 m c) : Buf (Elt Ideal) ((c : Thread nD τ).loc main_v0_0))
      ∧ r.2.mem ((c : Thread nD τ).loc main_v0_1) = (first2 (arg0 m c) (arg1 m c) (arg2 m c) : Buf (Elt Ideal) ((c : Thread nD τ).loc main_v0_1))
      ∧ r.2.mem ((c : Thread nD τ).loc main_v0_2) = (first3 (arg0 m c) (arg1 m c) (arg2 m c) : Buf (Elt Ideal) ((c : Thread nD τ).loc main_v0_2))
      ∧ r.2.mem ((c : Thread nD τ).loc main_v0_3) = (firstGates (arg0 m c) (arg1 m c) (arg3 m c) (arg4 m c) : Buf (Elt Ideal) ((c : Thread nD τ).loc main_v0_3))
      ∧ r.2.mem ((c : Thread nD τ).loc main_v0_4) = (layer (arg5 m c) 0 : Buf (Elt Ideal) ((c : Thread nD τ).loc main_v0_4))
      ∧ r.2.mem ((c : Thread nD τ).loc main_v0_5) = (layer (arg6 m c) 0 : Buf (Elt Ideal) ((c : Thread nD τ).loc main_v0_5))
      ∧ r.2.mem ((c : Thread nD τ).loc main_v0_6) = (layer (arg7 m c) 0 : Buf (Elt Ideal) ((c : Thread nD τ).loc main_v0_6))
      ∧ r.2.mem ((c : Thread nD τ).loc main_v0_7) = (layer (arg8 m c) 0 : Buf (Elt Ideal) ((c : Thread nD τ).loc main_v0_7))
      ∧ r.2.mem ((c : Thread nD τ).loc main_v0_8) = (layer (arg9 m c) 0 : Buf (Elt Ideal) ((c : Thread nD τ).loc main_v0_8))
      ∧ r.2.mem ((c : Thread nD τ).loc main_v0_9) = (scaled (swapNext (arg10 m c)) : Buf (Elt Ideal) ((c : Thread nD τ).loc main_v0_9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => by
    obtain ⟨h0, h1, h2, h3, h4, h5, h6, h7, h8, h9, hr⟩ := h c
    exact ⟨h0.trans (final11 m c), h1.trans (final12 m c), h2.trans (final13 m c), h3.trans (final14 m c), h4.trans (final15 m c), h5.trans (final16 m c), h6.trans (final17 m c), h7.trans (final18 m c), h8.trans (final19 m c), h9.trans (final20 m c), hr⟩) (Cert.Kernel7Ideal.Value.run_blocks m ρ)

end Cert.Kernel7Ideal.Dense

end
-- ==== Proof.Ref7.Value.lean ====
module

public import proofs.«01_k».proof.Proof.Gen.Reference7Ideal.Run
public import proofs.«01_k».proof.Proof.Gen.Reference7Ideal.Read
public import proofs.«01_k».proof.Proof.Ref4.Value
public import proofs.«01_k».proof.Proof.Dense.First

@[expose] public section

set_option maxRecDepth 16384

noncomputable section

namespace Cert.Reference7Ideal.Dense

open Cert.Reference7Ideal Cert.Reference7Ideal.Gen Cert.Reference7Ideal.Read
open Idealize.ShloMosaic Cert.Dense

variable (x0 : S16384x1024.Idx → EReal) (x1 : S1x1024.Idx → EReal) (x2 : S3072x1024.Idx → EReal) (x3 : S128x1024.Idx → EReal) (x4 : S1x128.Idx → EReal)

theorem v11_at (R : Fin 16384) (j : Fin 1024) : val_main_v11 (F := Ideal) x0 x1 (ix2 R j) = rn (at2 x0 R.val) (at2 x1 0) j.val :=
  Cert.Reference4Ideal.Dense.v11_at x0 x1 R j

theorem v14_at (R : Fin 16384) (n : Fin 3072) : val_main_v14 (F := Ideal) x0 x1 x2 (ix2 R n) = projF x0 x1 x2 R.val n.val := by
  rw [val_main_v14_apply]
  unfold projF mm
  refine Finset.sum_congr rfl fun k _ => ?_
  have e : lidx_main_v14 (ix2 R n) k = ix2 R k := ext2 rfl rfl
  have e' : idx_main_v13 (ridx_main_v14 (ix2 R n) k) = ix2 n k := ext2 rfl rfl
  rw [e, v11_at, val_main_v13_apply, e']
  exact congrArg _ (at2_val x2 n k).symm

/-- The queries. -/
theorem q_eq : val_main_v44 (F := Ideal) x0 x1 x2 = first1 x0 x1 x2 := by
  funext y
  have h0 : (y 0).val < 32 := (y 0).isLt
  have h1 : (y 1).val < 1024 := (y 1).isLt
  have h2 : (y 2).val < 512 := (y 2).isLt
  rw [val_main_v44_apply, val_main_v19_apply, val_main_v18_apply, val_main_v15_apply]
  have e : idx_main_v15 (idx_main_v18 (idx_main_v19 y)) = ix2 (⟨512 * (y 0).val + (y 2).val, by omega⟩ : Fin 16384) (⟨(y 1).val, by omega⟩ : Fin 3072) :=
    ext2 (by show (((y 0).val * 512 + (y 2).val) * 1024 + (y 1).val) / 1024 = 512 * (y 0).val + (y 2).val; omega) (by show (((y 0).val * 512 + (y 2).val) * 1024 + (y 1).val) % 1024 = (y 1).val; omega)
  exact (congrArg _ e).trans (v14_at x0 x1 x2 _ _)

/-- The keys. -/
theorem k_eq : val_main_v45 (F := Ideal) x0 x1 x2 = first2 x0 x1 x2 := by
  funext y
  have h0 : (y 0).val < 16384 := (y 0).isLt
  have h1 : (y 1).val < 1024 := (y 1).isLt
  rw [val_main_v45_apply, val_main_v16_apply]
  have e : idx_main_v16 y = ix2 (⟨(y 0).val, h0⟩ : Fin 16384) (⟨1024 + (y 1).val, by omega⟩ : Fin 3072) := ext2 rfl rfl
  exact (congrArg _ e).trans (v14_at x0 x1 x2 _ _)

/-- The values. -/
theorem v_eq : val_main_v46 (F := Ideal) x0 x1 x2 = first3 x0 x1 x2 := by
  funext y
  have h0 : (y 0).val < 1024 := (y 0).isLt
  have h1 : (y 1).val < 16384 := (y 1).isLt
  rw [val_main_v46_apply, val_main_v43_apply, val_main_v17_apply]
  have e : idx_main_v17 (idx_main_v43 y) = ix2 (⟨(y 1).val, h1⟩ : Fin 16384) (⟨2048 + (y 0).val, by omega⟩ : Fin 3072) := ext2 rfl rfl
  exact (congrArg _ e).trans (v14_at x0 x1 x2 _ _)

theorem v23_at (R : Fin 16384) (n : Fin 128) : val_main_v23 (F := Ideal) x0 x1 x3 x4 (ix2 R n)
    = mm 1024 (rn (at2 x0 R.val) (at2 x1 0)) (fun k j => at2 x3 j k) n.val + at2 x4 0 n.val := by
  rw [val_main_v23_apply, val_main_v21_apply, val_main_v22_apply]
  refine congrArg₂ (· + ·) (Finset.sum_congr rfl fun k _ => ?_) ?_
  · have e : lidx_main_v21 (ix2 R n) k = ix2 R k := ext2 rfl rfl
    have e' : idx_main_v20 (ridx_main_v21 (ix2 R n) k) = ix2 n k := ext2 rfl rfl
    rw [e, v11_at, val_main_v20_apply, e']
    exact congrArg _ (at2_val x3 n k).symm
  · have e8 : idx_main_v22 (ix2 R n) = ix2 (0 : Fin 1) n := ext2 rfl rfl
    rw [e8]
    exact (at2_val x4 0 n).symm

/-- The logarithms of the forget gates. -/
theorem f_eq : val_main_v24 (F := Ideal) x0 x1 x3 x4 = firstGates x0 x1 x3 x4 := by
  funext y
  have ey : y = ix2 (⟨(y 0).val, (y 0).isLt⟩ : Fin 16384) (⟨(y 1).val, (y 1).isLt⟩ : Fin 128) := ext2 rfl rfl
  have e := (congrArg (val_main_v23 (F := Ideal) x0 x1 x3 x4) ey).trans (v23_at x0 x1 x3 x4 _ _)
  unfold firstGates
  rw [val_main_v24_apply, val_main_call0_v1_apply, val_main_call0_call0_v4_apply, val_main_call0_call0_v11_apply, val_main_call0_call0_v10_apply,
    val_main_call0_call0_v9_apply, val_main_call0_call0_v8_apply, val_main_call0_call0_v7_apply, val_main_call0_call0_v1_apply,
    val_main_call0_call0_v3_apply, val_main_call0_call0_v0_apply, val_main_call0_call0_v2_apply, val_main_call0_v0_apply, e]
  generalize mm 1024 _ _ _ + _ = x
  rw [← softplus_eq x]
  have ez : (-x) - Ideal.ofBits FTy.f32 0x00000000#32 = -x := by rw [Ideal.ofBits_zero_f32, sub_zero]
  show -(Scalar.select (Ideal.cmp .une (-x - Ideal.ofBits FTy.f32 0x00000000#32) (-x - Ideal.ofBits FTy.f32 0x00000000#32)) _
    (max (-x) (Ideal.ofBits FTy.f32 0x00000000#32) + Ideal.log1p (Ideal.exp (-max (-x - Ideal.ofBits FTy.f32 0x00000000#32) (-(-x - Ideal.ofBits FTy.f32 0x00000000#32)))))) = _
  rw [ez, Ideal.ofBits_zero_f32]
  have ec : Ideal.cmp .une (-x) (-x) = 0#1 := by
    show BitVec.ofBool (decide (-x ≠ -x)) = 0#1
    rw [decide_eq_false (by simp)]
    rfl
  rw [ec]
  rfl

theorem w47_eq (x5 : S2x1024x1024.Idx → EReal) : val_main_v47 (F := Ideal) x5 = layer x5 0 := by
  funext y
  have h : (y 0).val < 1024 ∧ (y 1).val < 1024 := ⟨(y 0).isLt, (y 1).isLt⟩
  rw [val_main_v47_apply, val_main_v34_apply, val_main_v33_apply]
  exact layer_of x5 0 y _ rfl (by show ((y 0).val * 1024 + (y 1).val) / 1024 % 1024 = _; omega) (by show ((y 0).val * 1024 + (y 1).val) % 1024 = _; omega)

theorem w48_eq (x6 : S4x1024x5632.Idx → EReal) : val_main_v48 (F := Ideal) x6 = layer x6 0 := by
  funext y
  have h : (y 0).val < 1024 ∧ (y 1).val < 5632 := ⟨(y 0).isLt, (y 1).isLt⟩
  rw [val_main_v48_apply, val_main_v36_apply, val_main_v35_apply]
  exact layer_of x6 0 y _ rfl (by show ((y 0).val * 5632 + (y 1).val) / 5632 % 1024 = _; omega) (by show ((y 0).val * 5632 + (y 1).val) % 5632 = _; omega)

theorem w49_eq (x7 : S4x2816x1024.Idx → EReal) : val_main_v49 (F := Ideal) x7 = layer x7 0 := by
  funext y
  have h : (y 0).val < 2816 ∧ (y 1).val < 1024 := ⟨(y 0).isLt, (y 1).isLt⟩
  rw [val_main_v49_apply, val_main_v38_apply, val_main_v37_apply]
  exact layer_of x7 0 y _ rfl (by show ((y 0).val * 1024 + (y 1).val) / 1024 % 2816 = _; omega) (by show ((y 0).val * 1024 + (y 1).val) % 1024 = _; omega)

theorem w50_eq (x8 : S4x1024x1024.Idx → EReal) : val_main_v50 (F := Ideal) x8 = layer x8 0 := by
  funext y
  have h : (y 0).val < 1024 ∧ (y 1).val < 1024 := ⟨(y 0).isLt, (y 1).isLt⟩
  rw [val_main_v50_apply, val_main_v40_apply, val_main_v39_apply]
  exact layer_of x8 0 y _ rfl (by show ((y 0).val * 1024 + (y 1).val) / 1024 % 1024 = _; omega) (by show ((y 0).val * 1024 + (y 1).val) % 1024 = _; omega)

theorem w51_eq (x9 : S4x256x1024.Idx → EReal) : val_main_v51 (F := Ideal) x9 = layer x9 0 := by
  funext y
  have h : (y 0).val < 256 ∧ (y 1).val < 1024 := ⟨(y 0).isLt, (y 1).isLt⟩
  rw [val_main_v51_apply, val_main_v42_apply, val_main_v41_apply]
  exact layer_of x9 0 y _ rfl (by show ((y 0).val * 1024 + (y 1).val) / 1024 % 256 = _; omega) (by show ((y 0).val * 1024 + (y 1).val) % 1024 = _; omega)

theorem v27_eq (x10 : S2x1024x3072.Idx → EReal) : val_main_v27 (F := Ideal) x10 = Cert.Reference4Ideal.Read.val_main_v47 (F := Ideal) (swapNext x10) := by
  funext y
  have h : (y 0).val < 3072 ∧ (y 1).val < 1024 := ⟨(y 0).isLt, (y 1).isLt⟩
  have ey : y = ix2 (⟨(y 0).val, (y 0).isLt⟩ : Fin 3072) (⟨(y 1).val, (y 1).isLt⟩ : Fin 1024) := ext2 rfl rfl
  refine Eq.trans ?_ (congrArg _ ey).symm
  rw [Cert.Reference4Ideal.Dense.v47_at, swapNext_at _ _ h.1, val_main_v27_apply, val_main_v26_apply, val_main_v25_apply]
  exact layer_of (d := 1024) x10 0 (ix2 (⟨(y 1).val, (y 1).isLt⟩ : Fin 1024) (⟨(y 0).val, (y 0).isLt⟩ : Fin 3072)) _ rfl
    (by show ((y 1).val * 3072 + (y 0).val) / 3072 % 1024 = (y 1).val; omega) (by show ((y 1).val * 3072 + (y 0).val) % 3072 = (y 0).val; omega)

/-- The weights with the queries' rows scaled. -/
theorem w52_eq (x10 : S2x1024x3072.Idx → EReal) : val_main_v52 (F := Ideal) x10 = scaled (swapNext x10) := by
  refine Eq.trans ?_ (Cert.Reference4Ideal.Dense.w72_eq (swapNext x10))
  unfold val_main_v52 val_main_v32 val_main_v31 val_main_v30 val_main_v28
  rw [v27_eq]
  rfl

end Cert.Reference7Ideal.Dense

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ref.Value
public import proofs.«01_k».proof.Proof.Ref.Pre
public import proofs.«01_k».proof.Proof.Kernel.Region
public import proofs.«01_k».proof.Proof.KernelIdeal.Final
public import proofs.«01_k».proof.Proof.Kernel2Ideal.Final
public import proofs.«01_k».proof.Proof.Ref2.Value
public import proofs.«01_k».proof.Proof.Kernel3Ideal.Final
public import proofs.«01_k».proof.Proof.Ref3.Value
public import proofs.«01_k».proof.Proof.Kernel4Ideal.Final
public import proofs.«01_k».proof.Proof.Ref4.Value
public import proofs.«01_k».proof.Proof.Kernel5Ideal.Final
public import proofs.«01_k».proof.Proof.Ref5.Value
public import proofs.«01_k».proof.Proof.Kernel6Ideal.Final
public import proofs.«01_k».proof.Proof.Ref6.Value
public import proofs.«01_k».proof.Proof.Kernel7Ideal.Final
public import proofs.«01_k».proof.Proof.Ref7.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init
public import Idealize.ShloMosaic.Lib.Quiescent

@[expose] public section

noncomputable section

namespace Cert.Proof

open Idealize.ShloMosaic Idealize.SL.Sem

section Values

open Cert.ReferenceIdeal.Fox (at3 rsc)
open Cert.KernelIdeal.Fox (argQ argK argV argAQ argAK result)

/-- A sum of products of real entries is real. -/
theorem real_sum {n : ℕ} (f g : ℕ → EReal) (hf : ∀ d, ∃ r : ℝ, f d = r) (hg : ∀ d, ∃ r : ℝ, g d = r) :
    ∃ r : ℝ, ∑ d ∈ Finset.range n, f d * g d = r := by
  choose a ha using hf
  choose b hb using hg
  refine ⟨∑ d ∈ Finset.range n, a d * b d, ?_⟩
  induction n with
  | zero => simp
  | succ n ih => rw [Finset.sum_range_succ, Finset.sum_range_succ, ih, ha, hb, ← EReal.coe_mul, ← EReal.coe_add]

/-- Over real entries every score is real. -/
theorem real_score (x0 : Cert.KernelIdeal.S32x1024x512.Idx → EReal) (x1 : Cert.KernelIdeal.S4x4096x1024.Idx → EReal)
    (x3 : Cert.KernelIdeal.S32x128x512.Idx → EReal) (x4 : Cert.KernelIdeal.S4x4096x128.Idx → EReal)
    (h0 : ∀ i, ∃ r : ℝ, x0 i = r) (h1 : ∀ i, ∃ r : ℝ, x1 i = r) (h3 : ∀ i, ∃ r : ℝ, x3 i = r) (h4 : ∀ i, ∃ r : ℝ, x4 i = r)
    (b H t k : ℕ) : ∃ r : ℝ, rsc x0 x1 x3 x4 b H t k = r := by
  obtain ⟨u, hu⟩ := real_sum (n := 64) (fun d => at3 x0 (8 * b + t / 512) (64 * H + d) (t % 512)) (fun d => at3 x1 b k (64 * H + d))
    (fun d => h0 _) (fun d => h1 _)
  obtain ⟨w, hw⟩ := real_sum (n := 8) (fun g => at3 x3 (8 * b + t / 512) (8 * H + g) (t % 512)) (fun g => at3 x4 b k (8 * H + g))
    (fun d => h3 _) (fun d => h4 _)
  refine ⟨u + w, ?_⟩
  unfold rsc
  rw [hu, hw, EReal.coe_add]

/-- The kernel's result is the reference's. -/
theorem values (m : (ℓ : Loc Cert.KernelIdeal.nD Cert.KernelIdeal.τ Cert.KernelIdeal.sig) → Buf (Elt Ideal) ℓ) (c : Dev Cert.KernelIdeal.nD)
    (h0 : ∀ i, ∃ r : ℝ, argQ m c i = r) (h1 : ∀ i, ∃ r : ℝ, argK m c i = r) (h3 : ∀ i, ∃ r : ℝ, argAQ m c i = r) (h4 : ∀ i, ∃ r : ℝ, argAK m c i = r) :
    Cert.ReferenceIdeal.Read.val_main_v46 (F := Ideal) (argQ m c) (argK m c) (argV m c) (argAQ m c) (argAK m c) = result m c := by
  funext z
  have ez : z = ix3 (⟨(z 0).val, (z 0).isLt⟩ : Fin 32) (⟨(z 1).val, (z 1).isLt⟩ : Fin 1024) (⟨(z 2).val, (z 2).isLt⟩ : Fin 512) := by
    funext a
    match a with
    | ⟨0, _⟩ => rfl
    | ⟨1, _⟩ => rfl
    | ⟨2, _⟩ => rfl
  generalize (⟨(z 0).val, (z 0).isLt⟩ : Fin 32) = i at ez
  generalize (⟨(z 1).val, (z 1).isLt⟩ : Fin 1024) = R at ez
  generalize (⟨(z 2).val, (z 2).isLt⟩ : Fin 512) = y at ez
  subst ez
  choose σ hσ using fun H k => real_score (argQ m c) (argK m c) (argAQ m c) (argAK m c) h0 h1 h3 h4 (i.val / 8) H (512 * (i.val % 8) + y.val) k
  exact (Cert.ReferenceIdeal.Fox.v46_at (argQ m c) (argK m c) (argV m c) (argAQ m c) (argAK m c) i R y (σ (R.val / 64)) (hσ (R.val / 64))).trans
    (Cert.KernelIdeal.Fox.result_at m c i R y σ hσ).symm

theorem algebraic : Cert.algebraic_KernelIdeal_ReferenceIdeal_pre_finite_logits (hKernelIdeal := Cert.KernelIdeal.Gen.facts)
    (hReferenceIdeal := Cert.ReferenceIdeal.Gen.facts) (hPre_finite_logits := Cert.Pre_finite_logits.Fox.facts) := by
  intro m g m' g' pre eq
  refine ⟨fun c => result m c, Cert.KernelIdeal.Fox.run m g, ?_⟩
  refine (θ_run Cert.ReferenceIdeal.defs _ _).mono (fun r h c => ⟨?_, (h c).2⟩) (Cert.ReferenceIdeal.Value.run m' g')
  obtain ⟨e0, e1, e2, e3, e4⟩ := eq c
  letI := Cert.Pre_finite_logits.Fox.facts
  obtain ⟨h0, h1, h3, h4⟩ := Cert.Pre_finite_logits.Fox.entries (argQ m c) (argK m c) (argV m c) (argAQ m c) (argAK m c) (pre c)
  refine (h c).1.trans ?_
  rw [Cert.ReferenceIdeal.Read.val_main_v46_eq, e0, e1, e2, e3, e4]
  exact values m c h0 h1 h3 h4

end Values

section Dense2

open Cert.Kernel2Ideal.Dense (argH argO argWo argG argWin argWout)

/-- The second kernel's result is its reference's. -/
theorem values2 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v26 (F := Ideal) (argH m c) (argO m c) (argWo m c) (argG m c) (argWin m c) (argWout m c)
      = Cert.Kernel2Ideal.Dense.result m c := by
  funext z
  have ez : z = ix2 (⟨(z 0).val, (z 0).isLt⟩ : Fin 16384) (⟨(z 1).val, (z 1).isLt⟩ : Fin 1024) := by
    funext a
    match a with
    | ⟨0, _⟩ => rfl
    | ⟨1, _⟩ => rfl
  generalize (⟨(z 0).val, (z 0).isLt⟩ : Fin 16384) = R at ez
  generalize (⟨(z 1).val, (z 1).isLt⟩ : Fin 1024) = j at ez
  subst ez
  exact Cert.Reference2Ideal.Dense.v26_at (argH m c) (argO m c) (argWo m c) (argG m c) (argWin m c) (argWout m c) R j

theorem algebraic2 : Cert.algebraic_Kernel2Ideal_Reference2Ideal (hKernel2Ideal := Cert.Kernel2Ideal.Gen.facts)
    (hReference2Ideal := Cert.Reference2Ideal.Gen.facts) := by
  intro m g m' g' _ eq
  refine ⟨fun c => Cert.Kernel2Ideal.Dense.result m c, Cert.Kernel2Ideal.Dense.run m g, ?_⟩
  refine (θ_run Cert.Reference2Ideal.defs _ _).mono (fun r h c => ⟨?_, (h c).2⟩) (Cert.Reference2Ideal.Value.run m' g')
  obtain ⟨e0, e1, e2, e3, e4, e5⟩ := eq c
  refine (h c).1.trans ?_
  rw [Cert.Reference2Ideal.Read.val_main_v26_eq, e0, e1, e2, e3, e4, e5]
  exact values2 m c

end Dense2

section Dense3

open Cert.Kernel3Ideal.Dense (argH argO argWo argG argWin argWout argPg argPw argP argPu argFg)

/-- The third kernel's result is its reference's. -/
theorem values3 (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v64 (F := Ideal) (argH m c) (argO m c) (argWo m c) (argG m c) (argWin m c) (argWout m c) (argPg m c) (argPw m c) (argP m c) (argPu m c) (argFg m c)
      = Cert.Kernel3Ideal.Dense.result m c := by
  funext z
  have ez : z = ix2 (⟨(z 0).val, (z 0).isLt⟩ : Fin 16384) (⟨(z 1).val, (z 1).isLt⟩ : Fin 1024) := by
    funext a
    match a with
    | ⟨0, _⟩ => rfl
    | ⟨1, _⟩ => rfl
  generalize (⟨(z 0).val, (z 0).isLt⟩ : Fin 16384) = R at ez
  generalize (⟨(z 1).val, (z 1).isLt⟩ : Fin 1024) = j at ez
  subst ez
  exact Cert.Reference3Ideal.Dense.v64_at (argH m c) (argO m c) (argWo m c) (argG m c) (argWin m c) (argWout m c) (argPg m c) (argPw m c) (argP m c) (argPu m c) (argFg m c) R j

theorem algebraic3 : Cert.algebraic_Kernel3Ideal_Reference3Ideal (hKernel3Ideal := Cert.Kernel3Ideal.Gen.facts)
    (hReference3Ideal := Cert.Reference3Ideal.Gen.facts) := by
  intro m g m' g' _ eq
  refine ⟨fun c => Cert.Kernel3Ideal.Dense.result m c, Cert.Kernel3Ideal.Dense.run m g, ?_⟩
  refine (θ_run Cert.Reference3Ideal.defs _ _).mono (fun r h c => ⟨?_, (h c).2⟩) (Cert.Reference3Ideal.Value.run m' g')
  obtain ⟨e0, e1, e2, e3, e4, e5, e6, e7, e8, e9, e10⟩ := eq c
  refine (h c).1.trans ?_
  rw [Cert.Reference3Ideal.Read.val_main_v64_eq, e0, e1, e2, e3, e4, e5, e6, e7, e8, e9, e10]
  exact values3 m c

end Dense3

section Dense4

/-- The fourth kernel's results are its reference's. -/
theorem algebraic4 : Cert.algebraic_Kernel4Ideal_Reference4Ideal (hKernel4Ideal := Cert.Kernel4Ideal.Gen.facts)
    (hReference4Ideal := Cert.Reference4Ideal.Gen.facts) := by
  intro m g m' g' _ eq
  refine ⟨_, _, _, _, _, _, _, _, _, _, Cert.Kernel4Ideal.Dense.run m g, ?_⟩
  refine (θ_run Cert.Reference4Ideal.defs _ _).mono (fun r h c => ?_) (Cert.Reference4Ideal.Value.run m' g')
  obtain ⟨e0, e1, e2, e3, e4, e5, e6, e7, e8, e9, e10, e11, e12⟩ := eq c
  obtain ⟨h0, h1, h2, h3, h4, h5, h6, h7, h8, h9, hr⟩ := h c
  refine ⟨h0.trans ?_, h1.trans ?_, h2.trans ?_, h3.trans ?_, h4.trans ?_, h5.trans ?_, h6.trans ?_, h7.trans ?_, h8.trans ?_, h9.trans ?_, hr⟩
  · rw [Cert.Reference4Ideal.Read.val_main_v25_eq, e0, e1, e2, e3, e4]
    exact Cert.Reference4Ideal.Dense.h_eq _ _ _ _ _
  · rw [Cert.Reference4Ideal.Read.val_main_v64_eq, e0, e1, e2, e3, e4, e5, e6]
    exact Cert.Reference4Ideal.Dense.q_eq _ _ _ _ _ _ _
  · rw [Cert.Reference4Ideal.Read.val_main_v65_eq, e0, e1, e2, e3, e4, e5, e6]
    exact Cert.Reference4Ideal.Dense.k_eq _ _ _ _ _ _ _
  · rw [Cert.Reference4Ideal.Read.val_main_v66_eq, e0, e1, e2, e3, e4, e5, e6]
    exact Cert.Reference4Ideal.Dense.v_eq _ _ _ _ _ _ _
  · rw [Cert.Reference4Ideal.Read.val_main_v67_eq, e7]
    exact Cert.Reference4Ideal.Dense.w67_eq _
  · rw [Cert.Reference4Ideal.Read.val_main_v68_eq, e8]
    exact Cert.Reference4Ideal.Dense.w68_eq _
  · rw [Cert.Reference4Ideal.Read.val_main_v69_eq, e9]
    exact Cert.Reference4Ideal.Dense.w69_eq _
  · rw [Cert.Reference4Ideal.Read.val_main_v70_eq, e10]
    exact Cert.Reference4Ideal.Dense.w70_eq _
  · rw [Cert.Reference4Ideal.Read.val_main_v71_eq, e11]
    exact Cert.Reference4Ideal.Dense.w71_eq _
  · rw [Cert.Reference4Ideal.Read.val_main_v72_eq, e12]
    exact Cert.Reference4Ideal.Dense.w72_eq _

end Dense4

section Dense5

/-- The fifth kernel's results are its reference's. -/
theorem algebraic5 : Cert.algebraic_Kernel5Ideal_Reference5Ideal (hKernel5Ideal := Cert.Kernel5Ideal.Gen.facts)
    (hReference5Ideal := Cert.Reference5Ideal.Gen.facts) := by
  intro m g m' g' _ eq
  refine ⟨_, _, _, _, _, _, _, _, _, _, _, Cert.Kernel5Ideal.Dense.run m g, ?_⟩
  refine (θ_run Cert.Reference5Ideal.defs _ _).mono (fun r h c => ?_) (Cert.Reference5Ideal.Value.run m' g')
  obtain ⟨e0, e1, e2, e3, e4, e5, e6, e7, e8, e9, e10, e11, e12, e13, e14⟩ := eq c
  obtain ⟨h0, h1, h2, h3, h4, h5, h6, h7, h8, h9, h10, hr⟩ := h c
  refine ⟨h0.trans ?_, h1.trans ?_, h2.trans ?_, h3.trans ?_, h4.trans ?_, h5.trans ?_, h6.trans ?_, h7.trans ?_, h8.trans ?_, h9.trans ?_, h10.trans ?_, hr⟩
  · rw [Cert.Reference5Ideal.Read.val_main_v25_eq, e0, e1, e2, e3, e4]
    exact Cert.Reference5Ideal.Dense.h_eq _ _ _ _ _
  · rw [Cert.Reference5Ideal.Read.val_main_v70_eq, e0, e1, e2, e3, e4, e5, e6]
    exact Cert.Reference5Ideal.Dense.q_eq _ _ _ _ _ _ _
  · rw [Cert.Reference5Ideal.Read.val_main_v71_eq, e0, e1, e2, e3, e4, e5, e6]
    exact Cert.Reference5Ideal.Dense.k_eq _ _ _ _ _ _ _
  · rw [Cert.Reference5Ideal.Read.val_main_v72_eq, e0, e1, e2, e3, e4, e5, e6]
    exact Cert.Reference5Ideal.Dense.v_eq _ _ _ _ _ _ _
  · rw [Cert.Reference5Ideal.Read.val_main_v50_eq, e0, e1, e2, e3, e4, e5, e7, e8]
    exact Cert.Reference5Ideal.Dense.f_eq _ _ _ _ _ _ _ _
  · rw [Cert.Reference5Ideal.Read.val_main_v73_eq, e9]
    exact Cert.Reference5Ideal.Dense.w73_eq _
  · rw [Cert.Reference5Ideal.Read.val_main_v74_eq, e10]
    exact Cert.Reference5Ideal.Dense.w74_eq _
  · rw [Cert.Reference5Ideal.Read.val_main_v75_eq, e11]
    exact Cert.Reference5Ideal.Dense.w75_eq _
  · rw [Cert.Reference5Ideal.Read.val_main_v76_eq, e12]
    exact Cert.Reference5Ideal.Dense.w76_eq _
  · rw [Cert.Reference5Ideal.Read.val_main_v77_eq, e13]
    exact Cert.Reference5Ideal.Dense.w77_eq _
  · rw [Cert.Reference5Ideal.Read.val_main_v78_eq, e14]
    exact Cert.Reference5Ideal.Dense.w78_eq _

end Dense5

section Dense6

/-- The sixth kernel's results are its reference's. -/
theorem algebraic6 : Cert.algebraic_Kernel6Ideal_Reference6Ideal (hKernel6Ideal := Cert.Kernel6Ideal.Gen.facts)
    (hReference6Ideal := Cert.Reference6Ideal.Gen.facts) := by
  intro m g m' g' _ eq
  refine ⟨_, _, _, _, _, _, _, _, _, Cert.Kernel6Ideal.Dense.run m g, ?_⟩
  refine (θ_run Cert.Reference6Ideal.defs _ _).mono (fun r h c => ?_) (Cert.Reference6Ideal.Value.run m' g')
  obtain ⟨e0, e1, e2, e3, e4, e5, e6, e7, e8, e9, e10, e11⟩ := eq c
  obtain ⟨h0, h1, h2, h3, h4, h5, h6, h7, h8, hr⟩ := h c
  refine ⟨h0.trans ?_, h1.trans ?_, h2.trans ?_, h3.trans ?_, h4.trans ?_, h5.trans ?_, h6.trans ?_, h7.trans ?_, h8.trans ?_, hr⟩
  · rw [Cert.Reference6Ideal.Read.val_main_v25_eq, e0, e1, e2, e3, e4]
    exact Cert.Reference6Ideal.Dense.h_eq _ _ _ _ _
  · rw [Cert.Reference6Ideal.Read.val_main_v57_eq, e0, e1, e2, e3, e4, e5, e6]
    exact Cert.Reference6Ideal.Dense.q_eq _ _ _ _ _ _ _
  · rw [Cert.Reference6Ideal.Read.val_main_v58_eq, e0, e1, e2, e3, e4, e5, e6]
    exact Cert.Reference6Ideal.Dense.k_eq _ _ _ _ _ _ _
  · rw [Cert.Reference6Ideal.Read.val_main_v59_eq, e0, e1, e2, e3, e4, e5, e6]
    exact Cert.Reference6Ideal.Dense.v_eq _ _ _ _ _ _ _
  · rw [Cert.Reference6Ideal.Read.val_main_v60_eq, e7]
    exact Cert.Reference6Ideal.Dense.w60_eq _
  · rw [Cert.Reference6Ideal.Read.val_main_v61_eq, e8]
    exact Cert.Reference6Ideal.Dense.w61_eq _
  · rw [Cert.Reference6Ideal.Read.val_main_v62_eq, e9]
    exact Cert.Reference6Ideal.Dense.w62_eq _
  · rw [Cert.Reference6Ideal.Read.val_main_v63_eq, e10]
    exact Cert.Reference6Ideal.Dense.w63_eq _
  · rw [Cert.Reference6Ideal.Read.val_main_v64_eq, e11]
    exact Cert.Reference6Ideal.Dense.w64_eq _

end Dense6

section Dense7

/-- The seventh kernel's results are its reference's. -/
theorem algebraic7 : Cert.algebraic_Kernel7Ideal_Reference7Ideal (hKernel7Ideal := Cert.Kernel7Ideal.Gen.facts)
    (hReference7Ideal := Cert.Reference7Ideal.Gen.facts) := by
  intro m g m' g' _ eq
  refine ⟨_, _, _, _, _, _, _, _, _, _, Cert.Kernel7Ideal.Dense.run m g, ?_⟩
  refine (θ_run Cert.Reference7Ideal.defs _ _).mono (fun r h c => ?_) (Cert.Reference7Ideal.Value.run m' g')
  obtain ⟨e0, e1, e2, e3, e4, e5, e6, e7, e8, e9, e10⟩ := eq c
  obtain ⟨h0, h1, h2, h3, h4, h5, h6, h7, h8, h9, hr⟩ := h c
  refine ⟨h0.trans ?_, h1.trans ?_, h2.trans ?_, h3.trans ?_, h4.trans ?_, h5.trans ?_, h6.trans ?_, h7.trans ?_, h8.trans ?_, h9.trans ?_, hr⟩
  · rw [Cert.Reference7Ideal.Read.val_main_v44_eq, e0, e1, e2]
    exact Cert.Reference7Ideal.Dense.q_eq _ _ _
  · rw [Cert.Reference7Ideal.Read.val_main_v45_eq, e0, e1, e2]
    exact Cert.Reference7Ideal.Dense.k_eq _ _ _
  · rw [Cert.Reference7Ideal.Read.val_main_v46_eq, e0, e1, e2]
    exact Cert.Reference7Ideal.Dense.v_eq _ _ _
  · rw [Cert.Reference7Ideal.Read.val_main_v24_eq, e0, e1, e3, e4]
    exact Cert.Reference7Ideal.Dense.f_eq _ _ _ _
  · rw [Cert.Reference7Ideal.Read.val_main_v47_eq, e5]
    exact Cert.Reference7Ideal.Dense.w47_eq _
  · rw [Cert.Reference7Ideal.Read.val_main_v48_eq, e6]
    exact Cert.Reference7Ideal.Dense.w48_eq _
  · rw [Cert.Reference7Ideal.Read.val_main_v49_eq, e7]
    exact Cert.Reference7Ideal.Dense.w49_eq _
  · rw [Cert.Reference7Ideal.Read.val_main_v50_eq, e8]
    exact Cert.Reference7Ideal.Dense.w50_eq _
  · rw [Cert.Reference7Ideal.Read.val_main_v51_eq, e9]
    exact Cert.Reference7Ideal.Dense.w51_eq _
  · rw [Cert.Reference7Ideal.Read.val_main_v52_eq, e10]
    exact Cert.Reference7Ideal.Dense.w52_eq _

end Dense7

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_logits.Fox.facts,
  fun m g _ => Cert.Kernel.Fox.frame_run m g,
  fun m g _ => Cert.KernelIdeal.Fox.frame_run m g,
  fun m g _ => Cert.KernelIdeal.Fox.frame_run m g,
  fun m g _ => (θ_run Cert.ReferenceIdeal.defs _ _).mono (fun r h => ⟨fun c => (h c).2,
      Idealize.ShloMosaic.sem_eq_zero_of_no_sems (by decide) r.2⟩)
    (Cert.ReferenceIdeal.Value.run m g),
  fun m g _ => (θ_run Cert.ReferenceIdeal.defs _ _).mono (fun r h => ⟨fun c => (h c).2,
      Idealize.ShloMosaic.sem_eq_zero_of_no_sems (by decide) r.2⟩)
    (Cert.ReferenceIdeal.Value.run m g),
  fun m g _ => Cert.Kernel2.Gen.frame m g,
  fun m g _ => Cert.Kernel2Ideal.Gen.frame m g,
  fun m g _ => (θ_run Cert.Reference2Ideal.defs _ _).mono (fun r h => ⟨fun c => (h c).2,
      Idealize.ShloMosaic.sem_eq_zero_of_no_sems (by decide) r.2⟩)
    (Cert.Reference2Ideal.Value.run m g),
  fun m g _ => Cert.Kernel3.Gen.frame m g,
  fun m g _ => Cert.Kernel3Ideal.Gen.frame m g,
  fun m g _ => (θ_run Cert.Reference3Ideal.defs _ _).mono (fun r h => ⟨fun c => (h c).2,
      Idealize.ShloMosaic.sem_eq_zero_of_no_sems (by decide) r.2⟩)
    (Cert.Reference3Ideal.Value.run m g),
  fun m g _ => Cert.Kernel4.Gen.frame m g,
  fun m g _ => Cert.Kernel4Ideal.Gen.frame m g,
  fun m g _ => (θ_run Cert.Reference4Ideal.defs _ _).mono (fun r h => ⟨fun c => (h c).2.2.2.2.2.2.2.2.2.2,
      Idealize.ShloMosaic.sem_eq_zero_of_no_sems (by decide) r.2⟩)
    (Cert.Reference4Ideal.Value.run m g),
  fun m g _ => Cert.Kernel5.Gen.frame m g,
  fun m g _ => Cert.Kernel5Ideal.Gen.frame m g,
  fun m g _ => (θ_run Cert.Reference5Ideal.defs _ _).mono (fun r h => ⟨fun c => (h c).2.2.2.2.2.2.2.2.2.2.2,
      Idealize.ShloMosaic.sem_eq_zero_of_no_sems (by decide) r.2⟩)
    (Cert.Reference5Ideal.Value.run m g),
  fun m g _ => Cert.Kernel6.Gen.frame m g,
  fun m g _ => Cert.Kernel6Ideal.Gen.frame m g,
  fun m g _ => (θ_run Cert.Reference6Ideal.defs _ _).mono (fun r h => ⟨fun c => (h c).2.2.2.2.2.2.2.2.2,
      Idealize.ShloMosaic.sem_eq_zero_of_no_sems (by decide) r.2⟩)
    (Cert.Reference6Ideal.Value.run m g),
  fun m g _ => Cert.Kernel7.Gen.frame m g,
  fun m g _ => Cert.Kernel7Ideal.Gen.frame m g,
  fun m g _ => (θ_run Cert.Reference7Ideal.defs _ _).mono (fun r h => ⟨fun c => (h c).2.2.2.2.2.2.2.2.2.2,
      Idealize.ShloMosaic.sem_eq_zero_of_no_sems (by decide) r.2⟩)
    (Cert.Reference7Ideal.Value.run m g),
  trivial,
  algebraic,
  trivial,
  algebraic2,
  trivial,
  algebraic3,
  trivial,
  algebraic4,
  trivial,
  algebraic5,
  trivial,
  algebraic6,
  trivial,
  algebraic7⟩

end Cert.Proof

end
